-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelExperts [hPre_named : Cert.Pre_named.Facts] (m : (ℓ : Loc Cert.KernelExperts.nD Cert.KernelExperts.τ Cert.KernelExperts.sig) → Buf (Elt Bits) ℓ) : Prop :=
  ∀ c : Dev Cert.KernelExperts.nD,
    (Cert.Pre_named.fn (F := Bits) (m ((c.tc : Thread Cert.KernelExperts.nD Cert.KernelExperts.τ).loc Cert.KernelExperts.main_arg0)) (m ((c.tc : Thread Cert.KernelExperts.nD Cert.KernelExperts.τ).loc Cert.KernelExperts.main_arg1)) (m ((c.tc : Thread Cert.KernelExperts.nD Cert.KernelExperts.τ).loc Cert.KernelExperts.main_arg2)) (m ((c.tc : Thread Cert.KernelExperts.nD Cert.KernelExperts.τ).loc Cert.KernelExperts.main_arg3)) (m ((c.tc : Thread Cert.KernelExperts.nD Cert.KernelExperts.τ).loc Cert.KernelExperts.main_arg4))) = (fun _ => 1#1)

def Pre_KernelExpertsIdeal [hPre_named : Cert.Pre_named.Facts] (m : (ℓ : Loc Cert.KernelExpertsIdeal.nD Cert.KernelExpertsIdeal.τ Cert.KernelExpertsIdeal.sig) → Buf (Elt Ideal) ℓ) : Prop :=
  ∀ c : Dev Cert.KernelExpertsIdeal.nD,
    (Cert.Pre_named.fn (F := Ideal) (m ((c.tc : Thread Cert.KernelExpertsIdeal.nD Cert.KernelExpertsIdeal.τ).loc Cert.KernelExpertsIdeal.main_arg0)) (m ((c.tc : Thread Cert.KernelExpertsIdeal.nD Cert.KernelExpertsIdeal.τ).loc Cert.KernelExpertsIdeal.main_arg1)) (m ((c.tc : Thread Cert.KernelExpertsIdeal.nD Cert.KernelExpertsIdeal.τ).loc Cert.KernelExpertsIdeal.main_arg2)) (m ((c.tc : Thread Cert.KernelExpertsIdeal.nD Cert.KernelExpertsIdeal.τ).loc Cert.KernelExpertsIdeal.main_arg3)) (m ((c.tc : Thread Cert.KernelExpertsIdeal.nD Cert.KernelExpertsIdeal.τ).loc Cert.KernelExpertsIdeal.main_arg4))) = (fun _ => 1#1)

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_ReferenceExpertsIdeal_named [hPre_named : Cert.Pre_named.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_named.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4))) = (fun _ => 1#1)

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelNa (m : (ℓ : Loc Cert.KernelNa.nD Cert.KernelNa.τ Cert.KernelNa.sig) → Buf (Elt Bits) ℓ) : Prop :=
  True

def Pre_KernelNaIdeal (m : (ℓ : Loc Cert.KernelNaIdeal.nD Cert.KernelNaIdeal.τ Cert.KernelNaIdeal.sig) → Buf (Elt Ideal) ℓ) : Prop :=
  True

def Pre_KernelNaIdeal_near [hPre_near : Cert.Pre_near.Facts] (m : (ℓ : Loc Cert.KernelNaIdeal.nD Cert.KernelNaIdeal.τ Cert.KernelNaIdeal.sig) → Buf (Elt Ideal) ℓ) : Prop :=
  ∀ c : Dev Cert.KernelNaIdeal.nD,
    (Cert.Pre_near.fn (F := Ideal) (m ((c.tc : Thread Cert.KernelNaIdeal.nD Cert.KernelNaIdeal.τ).loc Cert.KernelNaIdeal.main_arg0)) (m ((c.tc : Thread Cert.KernelNaIdeal.nD Cert.KernelNaIdeal.τ).loc Cert.KernelNaIdeal.main_arg1))).1 = (fun _ => 1#1)
    ∧ (Cert.Pre_near.fn (F := Ideal) (m ((c.tc : Thread Cert.KernelNaIdeal.nD Cert.KernelNaIdeal.τ).loc Cert.KernelNaIdeal.main_arg0)) (m ((c.tc : Thread Cert.KernelNaIdeal.nD Cert.KernelNaIdeal.τ).loc Cert.KernelNaIdeal.main_arg1))).2 = (fun _ => 1#1)

def Pre_ReferenceNaIdeal (m : (ℓ : Loc Cert.ReferenceNaIdeal.nD Cert.ReferenceNaIdeal.τ Cert.ReferenceNaIdeal.sig) → Buf (Elt Ideal) ℓ) : Prop :=
  True

def Pre_ReferenceNaIdeal_near [hPre_near : Cert.Pre_near.Facts] (m : (ℓ : Loc Cert.ReferenceNaIdeal.nD Cert.ReferenceNaIdeal.τ Cert.ReferenceNaIdeal.sig) → Buf (Elt Ideal) ℓ) : Prop :=
  ∀ c : Dev Cert.ReferenceNaIdeal.nD,
    (Cert.Pre_near.fn (F := Ideal) (m ((c.tc : Thread Cert.ReferenceNaIdeal.nD Cert.ReferenceNaIdeal.τ).loc Cert.ReferenceNaIdeal.main_arg0)) (m ((c.tc : Thread Cert.ReferenceNaIdeal.nD Cert.ReferenceNaIdeal.τ).loc Cert.ReferenceNaIdeal.main_arg1))).1 = (fun _ => 1#1)
    ∧ (Cert.Pre_near.fn (F := Ideal) (m ((c.tc : Thread Cert.ReferenceNaIdeal.nD Cert.ReferenceNaIdeal.τ).loc Cert.ReferenceNaIdeal.main_arg0)) (m ((c.tc : Thread Cert.ReferenceNaIdeal.nD Cert.ReferenceNaIdeal.τ).loc Cert.ReferenceNaIdeal.main_arg1))).2 = (fun _ => 1#1)

def Pre_KernelRoute (m : (ℓ : Loc Cert.KernelRoute.nD Cert.KernelRoute.τ Cert.KernelRoute.sig) → Buf (Elt Bits) ℓ) : Prop :=
  True

def Pre_KernelRouteIdeal (m : (ℓ : Loc Cert.KernelRouteIdeal.nD Cert.KernelRouteIdeal.τ Cert.KernelRouteIdeal.sig) → Buf (Elt Ideal) ℓ) : Prop :=
  True

def Pre_KernelRouteIdeal_sound [hPre_sound : Cert.Pre_sound.Facts] (m : (ℓ : Loc Cert.KernelRouteIdeal.nD Cert.KernelRouteIdeal.τ Cert.KernelRouteIdeal.sig) → Buf (Elt Ideal) ℓ) : Prop :=
  ∀ c : Dev Cert.KernelRouteIdeal.nD,
    (Cert.Pre_sound.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7)) (m ((c.tc : Thread Cert.KernelRouteIdeal.nD Cert.KernelRouteIdeal.τ).loc Cert.KernelRouteIdeal.main_arg8)) (m ((c.tc : Thread Cert.KernelRouteIdeal.nD Cert.KernelRouteIdeal.τ).loc Cert.KernelRouteIdeal.main_arg9)) (m ((c.tc : Thread Cert.KernelRouteIdeal.nD Cert.KernelRouteIdeal.τ).loc Cert.KernelRouteIdeal.main_arg10)) (m ((c.tc : Thread Cert.KernelRouteIdeal.nD Cert.KernelRouteIdeal.τ).loc Cert.KernelRouteIdeal.main_arg11)) (m ((c.tc : Thread Cert.KernelRouteIdeal.nD Cert.KernelRouteIdeal.τ).loc Cert.KernelRouteIdeal.main_arg12)) (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg15)) (m ((c.tc : Thread Cert.KernelRouteIdeal.nD Cert.KernelRouteIdeal.τ).loc Cert.KernelRouteIdeal.main_arg16))).1 = (fun _ => 1#1)
    ∧ (Cert.Pre_sound.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7)) (m ((c.tc : Thread Cert.KernelRouteIdeal.nD Cert.KernelRouteIdeal.τ).loc Cert.KernelRouteIdeal.main_arg8)) (m ((c.tc : Thread Cert.KernelRouteIdeal.nD Cert.KernelRouteIdeal.τ).loc Cert.KernelRouteIdeal.main_arg9)) (m ((c.tc : Thread Cert.KernelRouteIdeal.nD Cert.KernelRouteIdeal.τ).loc Cert.KernelRouteIdeal.main_arg10)) (m ((c.tc : Thread Cert.KernelRouteIdeal.nD Cert.KernelRouteIdeal.τ).loc Cert.KernelRouteIdeal.main_arg11)) (m ((c.tc : Thread Cert.KernelRouteIdeal.nD Cert.KernelRouteIdeal.τ).loc Cert.KernelRouteIdeal.main_arg12)) (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg15)) (m ((c.tc : Thread Cert.KernelRouteIdeal.nD Cert.KernelRouteIdeal.τ).loc Cert.KernelRouteIdeal.main_arg16))).2.1 = (fun _ => 1#1)
    ∧ (Cert.Pre_sound.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7)) (m ((c.tc : Thread Cert.KernelRouteIdeal.nD Cert.KernelRouteIdeal.τ).loc Cert.KernelRouteIdeal.main_arg8)) (m ((c.tc : Thread Cert.KernelRouteIdeal.nD Cert.KernelRouteIdeal.τ).loc Cert.KernelRouteIdeal.main_arg9)) (m ((c.tc : Thread Cert.KernelRouteIdeal.nD Cert.KernelRouteIdeal.τ).loc Cert.KernelRouteIdeal.main_arg10)) (m ((c.tc : Thread Cert.KernelRouteIdeal.nD Cert.KernelRouteIdeal.τ).loc Cert.KernelRouteIdeal.main_arg11)) (m ((c.tc : Thread Cert.KernelRouteIdeal.nD Cert.KernelRouteIdeal.τ).loc Cert.KernelRouteIdeal.main_arg12)) (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg15)) (m ((c.tc : Thread Cert.KernelRouteIdeal.nD Cert.KernelRouteIdeal.τ).loc Cert.KernelRouteIdeal.main_arg16))).2.2.1 = (fun _ => 1#1)
    ∧ (Cert.Pre_sound.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7)) (m ((c.tc : Thread Cert.KernelRouteIdeal.nD Cert.KernelRouteIdeal.τ).loc Cert.KernelRouteIdeal.main_arg8)) (m ((c.tc : Thread Cert.KernelRouteIdeal.nD Cert.KernelRouteIdeal.τ).loc Cert.KernelRouteIdeal.main_arg9)) (m ((c.tc : Thread Cert.KernelRouteIdeal.nD Cert.KernelRouteIdeal.τ).loc Cert.KernelRouteIdeal.main_arg10)) (m ((c.tc : Thread Cert.KernelRouteIdeal.nD Cert.KernelRouteIdeal.τ).loc Cert.KernelRouteIdeal.main_arg11)) (m ((c.tc : Thread Cert.KernelRouteIdeal.nD Cert.KernelRouteIdeal.τ).loc Cert.KernelRouteIdeal.main_arg12)) (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg15)) (m ((c.tc : Thread Cert.KernelRouteIdeal.nD Cert.KernelRouteIdeal.τ).loc Cert.KernelRouteIdeal.main_arg16))).2.2.2.1 = (fun _ => 1#1)
    ∧ (Cert.Pre_sound.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7)) (m ((c.tc : Thread Cert.KernelRouteIdeal.nD Cert.KernelRouteIdeal.τ).loc Cert.KernelRouteIdeal.main_arg8)) (m ((c.tc : Thread Cert.KernelRouteIdeal.nD Cert.KernelRouteIdeal.τ).loc Cert.KernelRouteIdeal.main_arg9)) (m ((c.tc : Thread Cert.KernelRouteIdeal.nD Cert.KernelRouteIdeal.τ).loc Cert.KernelRouteIdeal.main_arg10)) (m ((c.tc : Thread Cert.KernelRouteIdeal.nD Cert.KernelRouteIdeal.τ).loc Cert.KernelRouteIdeal.main_arg11)) (m ((c.tc : Thread Cert.KernelRouteIdeal.nD Cert.KernelRouteIdeal.τ).loc Cert.KernelRouteIdeal.main_arg12)) (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg15)) (m ((c.tc : Thread Cert.KernelRouteIdeal.nD Cert.KernelRouteIdeal.τ).loc Cert.KernelRouteIdeal.main_arg16))).2.2.2.2 = (fun _ => 1#1)

def Pre_ReferenceRouteIdeal (m : (ℓ : Loc Cert.ReferenceRouteIdeal.nD Cert.ReferenceRouteIdeal.τ Cert.ReferenceRouteIdeal.sig) → Buf (Elt Ideal) ℓ) : Prop :=
  True

def Pre_ReferenceRouteIdeal_sound [hPre_sound : Cert.Pre_sound.Facts] (m : (ℓ : Loc Cert.ReferenceRouteIdeal.nD Cert.ReferenceRouteIdeal.τ Cert.ReferenceRouteIdeal.sig) → Buf (Elt Ideal) ℓ) : Prop :=
  ∀ c : Dev Cert.ReferenceRouteIdeal.nD,
    (Cert.Pre_sound.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2)) (m ((c.tc : Thread Cert.ReferenceRouteIdeal.nD Cert.ReferenceRouteIdeal.τ).loc Cert.ReferenceRouteIdeal.main_arg3)) (m ((c.tc : Thread Cert.ReferenceRouteIdeal.nD Cert.ReferenceRouteIdeal.τ).loc Cert.ReferenceRouteIdeal.main_arg4)) (m ((c.tc : Thread Cert.ReferenceRouteIdeal.nD Cert.ReferenceRouteIdeal.τ).loc Cert.ReferenceRouteIdeal.main_arg5)) (m ((c.tc : Thread Cert.ReferenceRouteIdeal.nD Cert.ReferenceRouteIdeal.τ).loc Cert.ReferenceRouteIdeal.main_arg6)) (m ((c.tc : Thread Cert.ReferenceRouteIdeal.nD Cert.ReferenceRouteIdeal.τ).loc Cert.ReferenceRouteIdeal.main_arg7)) (m ((c.tc : Thread Cert.ReferenceRouteIdeal.nD Cert.ReferenceRouteIdeal.τ).loc Cert.ReferenceRouteIdeal.main_arg8)) (m ((c.tc : Thread Cert.ReferenceRouteIdeal.nD Cert.ReferenceRouteIdeal.τ).loc Cert.ReferenceRouteIdeal.main_arg9)) (m ((c.tc : Thread Cert.ReferenceRouteIdeal.nD Cert.ReferenceRouteIdeal.τ).loc Cert.ReferenceRouteIdeal.main_arg10)) (m ((c.tc : Thread Cert.ReferenceRouteIdeal.nD Cert.ReferenceRouteIdeal.τ).loc Cert.ReferenceRouteIdeal.main_arg11)) (m ((c.tc : Thread Cert.ReferenceRouteIdeal.nD Cert.ReferenceRouteIdeal.τ).loc Cert.ReferenceRouteIdeal.main_arg12)) (m ((c.tc : Thread Cert.ReferenceRouteIdeal.nD Cert.ReferenceRouteIdeal.τ).loc Cert.ReferenceRouteIdeal.main_arg13)) (m ((c.tc : Thread Cert.ReferenceRouteIdeal.nD Cert.ReferenceRouteIdeal.τ).loc Cert.ReferenceRouteIdeal.main_arg14)) (m ((c.tc : Thread Cert.ReferenceRouteIdeal.nD Cert.ReferenceRouteIdeal.τ).loc Cert.ReferenceRouteIdeal.main_arg15)) (m ((c.tc : Thread Cert.ReferenceRouteIdeal.nD Cert.ReferenceRouteIdeal.τ).loc Cert.ReferenceRouteIdeal.main_arg16))).1 = (fun _ => 1#1)
    ∧ (Cert.Pre_sound.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2)) (m ((c.tc : Thread Cert.ReferenceRouteIdeal.nD Cert.ReferenceRouteIdeal.τ).loc Cert.ReferenceRouteIdeal.main_arg3)) (m ((c.tc : Thread Cert.ReferenceRouteIdeal.nD Cert.ReferenceRouteIdeal.τ).loc Cert.ReferenceRouteIdeal.main_arg4)) (m ((c.tc : Thread Cert.ReferenceRouteIdeal.nD Cert.ReferenceRouteIdeal.τ).loc Cert.ReferenceRouteIdeal.main_arg5)) (m ((c.tc : Thread Cert.ReferenceRouteIdeal.nD Cert.ReferenceRouteIdeal.τ).loc Cert.ReferenceRouteIdeal.main_arg6)) (m ((c.tc : Thread Cert.ReferenceRouteIdeal.nD Cert.ReferenceRouteIdeal.τ).loc Cert.ReferenceRouteIdeal.main_arg7)) (m ((c.tc : Thread Cert.ReferenceRouteIdeal.nD Cert.ReferenceRouteIdeal.τ).loc Cert.ReferenceRouteIdeal.main_arg8)) (m ((c.tc : Thread Cert.ReferenceRouteIdeal.nD Cert.ReferenceRouteIdeal.τ).loc Cert.ReferenceRouteIdeal.main_arg9)) (m ((c.tc : Thread Cert.ReferenceRouteIdeal.nD Cert.ReferenceRouteIdeal.τ).loc Cert.ReferenceRouteIdeal.main_arg10)) (m ((c.tc : Thread Cert.ReferenceRouteIdeal.nD Cert.ReferenceRouteIdeal.τ).loc Cert.ReferenceRouteIdeal.main_arg11)) (m ((c.tc : Thread Cert.ReferenceRouteIdeal.nD Cert.ReferenceRouteIdeal.τ).loc Cert.ReferenceRouteIdeal.main_arg12)) (m ((c.tc : Thread Cert.ReferenceRouteIdeal.nD Cert.ReferenceRouteIdeal.τ).loc Cert.ReferenceRouteIdeal.main_arg13)) (m ((c.tc : Thread Cert.ReferenceRouteIdeal.nD Cert.ReferenceRouteIdeal.τ).loc Cert.ReferenceRouteIdeal.main_arg14)) (m ((c.tc : Thread Cert.ReferenceRouteIdeal.nD Cert.ReferenceRouteIdeal.τ).loc Cert.ReferenceRouteIdeal.main_arg15)) (m ((c.tc : Thread Cert.ReferenceRouteIdeal.nD Cert.ReferenceRouteIdeal.τ).loc Cert.ReferenceRouteIdeal.main_arg16))).2.1 = (fun _ => 1#1)
    ∧ (Cert.Pre_sound.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2)) (m ((c.tc : Thread Cert.ReferenceRouteIdeal.nD Cert.ReferenceRouteIdeal.τ).loc Cert.ReferenceRouteIdeal.main_arg3)) (m ((c.tc : Thread Cert.ReferenceRouteIdeal.nD Cert.ReferenceRouteIdeal.τ).loc Cert.ReferenceRouteIdeal.main_arg4)) (m ((c.tc : Thread Cert.ReferenceRouteIdeal.nD Cert.ReferenceRouteIdeal.τ).loc Cert.ReferenceRouteIdeal.main_arg5)) (m ((c.tc : Thread Cert.ReferenceRouteIdeal.nD Cert.ReferenceRouteIdeal.τ).loc Cert.ReferenceRouteIdeal.main_arg6)) (m ((c.tc : Thread Cert.ReferenceRouteIdeal.nD Cert.ReferenceRouteIdeal.τ).loc Cert.ReferenceRouteIdeal.main_arg7)) (m ((c.tc : Thread Cert.ReferenceRouteIdeal.nD Cert.ReferenceRouteIdeal.τ).loc Cert.ReferenceRouteIdeal.main_arg8)) (m ((c.tc : Thread Cert.ReferenceRouteIdeal.nD Cert.ReferenceRouteIdeal.τ).loc Cert.ReferenceRouteIdeal.main_arg9)) (m ((c.tc : Thread Cert.ReferenceRouteIdeal.nD Cert.ReferenceRouteIdeal.τ).loc Cert.ReferenceRouteIdeal.main_arg10)) (m ((c.tc : Thread Cert.ReferenceRouteIdeal.nD Cert.ReferenceRouteIdeal.τ).loc Cert.ReferenceRouteIdeal.main_arg11)) (m ((c.tc : Thread Cert.ReferenceRouteIdeal.nD Cert.ReferenceRouteIdeal.τ).loc Cert.ReferenceRouteIdeal.main_arg12)) (m ((c.tc : Thread Cert.ReferenceRouteIdeal.nD Cert.ReferenceRouteIdeal.τ).loc Cert.ReferenceRouteIdeal.main_arg13)) (m ((c.tc : Thread Cert.ReferenceRouteIdeal.nD Cert.ReferenceRouteIdeal.τ).loc Cert.ReferenceRouteIdeal.main_arg14)) (m ((c.tc : Thread Cert.ReferenceRouteIdeal.nD Cert.ReferenceRouteIdeal.τ).loc Cert.ReferenceRouteIdeal.main_arg15)) (m ((c.tc : Thread Cert.ReferenceRouteIdeal.nD Cert.ReferenceRouteIdeal.τ).loc Cert.ReferenceRouteIdeal.main_arg16))).2.2.1 = (fun _ => 1#1)
    ∧ (Cert.Pre_sound.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2)) (m ((c.tc : Thread Cert.ReferenceRouteIdeal.nD Cert.ReferenceRouteIdeal.τ).loc Cert.ReferenceRouteIdeal.main_arg3)) (m ((c.tc : Thread Cert.ReferenceRouteIdeal.nD Cert.ReferenceRouteIdeal.τ).loc Cert.ReferenceRouteIdeal.main_arg4)) (m ((c.tc : Thread Cert.ReferenceRouteIdeal.nD Cert.ReferenceRouteIdeal.τ).loc Cert.ReferenceRouteIdeal.main_arg5)) (m ((c.tc : Thread Cert.ReferenceRouteIdeal.nD Cert.ReferenceRouteIdeal.τ).loc Cert.ReferenceRouteIdeal.main_arg6)) (m ((c.tc : Thread Cert.ReferenceRouteIdeal.nD Cert.ReferenceRouteIdeal.τ).loc Cert.ReferenceRouteIdeal.main_arg7)) (m ((c.tc : Thread Cert.ReferenceRouteIdeal.nD Cert.ReferenceRouteIdeal.τ).loc Cert.ReferenceRouteIdeal.main_arg8)) (m ((c.tc : Thread Cert.ReferenceRouteIdeal.nD Cert.ReferenceRouteIdeal.τ).loc Cert.ReferenceRouteIdeal.main_arg9)) (m ((c.tc : Thread Cert.ReferenceRouteIdeal.nD Cert.ReferenceRouteIdeal.τ).loc Cert.ReferenceRouteIdeal.main_arg10)) (m ((c.tc : Thread Cert.ReferenceRouteIdeal.nD Cert.ReferenceRouteIdeal.τ).loc Cert.ReferenceRouteIdeal.main_arg11)) (m ((c.tc : Thread Cert.ReferenceRouteIdeal.nD Cert.ReferenceRouteIdeal.τ).loc Cert.ReferenceRouteIdeal.main_arg12)) (m ((c.tc : Thread Cert.ReferenceRouteIdeal.nD Cert.ReferenceRouteIdeal.τ).loc Cert.ReferenceRouteIdeal.main_arg13)) (m ((c.tc : Thread Cert.ReferenceRouteIdeal.nD Cert.ReferenceRouteIdeal.τ).loc Cert.ReferenceRouteIdeal.main_arg14)) (m ((c.tc : Thread Cert.ReferenceRouteIdeal.nD Cert.ReferenceRouteIdeal.τ).loc Cert.ReferenceRouteIdeal.main_arg15)) (m ((c.tc : Thread Cert.ReferenceRouteIdeal.nD Cert.ReferenceRouteIdeal.τ).loc Cert.ReferenceRouteIdeal.main_arg16))).2.2.2.1 = (fun _ => 1#1)
    ∧ (Cert.Pre_sound.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2)) (m ((c.tc : Thread Cert.ReferenceRouteIdeal.nD Cert.ReferenceRouteIdeal.τ).loc Cert.ReferenceRouteIdeal.main_arg3)) (m ((c.tc : Thread Cert.ReferenceRouteIdeal.nD Cert.ReferenceRouteIdeal.τ).loc Cert.ReferenceRouteIdeal.main_arg4)) (m ((c.tc : Thread Cert.ReferenceRouteIdeal.nD Cert.ReferenceRouteIdeal.τ).loc Cert.ReferenceRouteIdeal.main_arg5)) (m ((c.tc : Thread Cert.ReferenceRouteIdeal.nD Cert.ReferenceRouteIdeal.τ).loc Cert.ReferenceRouteIdeal.main_arg6)) (m ((c.tc : Thread Cert.ReferenceRouteIdeal.nD Cert.ReferenceRouteIdeal.τ).loc Cert.ReferenceRouteIdeal.main_arg7)) (m ((c.tc : Thread Cert.ReferenceRouteIdeal.nD Cert.ReferenceRouteIdeal.τ).loc Cert.ReferenceRouteIdeal.main_arg8)) (m ((c.tc : Thread Cert.ReferenceRouteIdeal.nD Cert.ReferenceRouteIdeal.τ).loc Cert.ReferenceRouteIdeal.main_arg9)) (m ((c.tc : Thread Cert.ReferenceRouteIdeal.nD Cert.ReferenceRouteIdeal.τ).loc Cert.ReferenceRouteIdeal.main_arg10)) (m ((c.tc : Thread Cert.ReferenceRouteIdeal.nD Cert.ReferenceRouteIdeal.τ).loc Cert.ReferenceRouteIdeal.main_arg11)) (m ((c.tc : Thread Cert.ReferenceRouteIdeal.nD Cert.ReferenceRouteIdeal.τ).loc Cert.ReferenceRouteIdeal.main_arg12)) (m ((c.tc : Thread Cert.ReferenceRouteIdeal.nD Cert.ReferenceRouteIdeal.τ).loc Cert.ReferenceRouteIdeal.main_arg13)) (m ((c.tc : Thread Cert.ReferenceRouteIdeal.nD Cert.ReferenceRouteIdeal.τ).loc Cert.ReferenceRouteIdeal.main_arg14)) (m ((c.tc : Thread Cert.ReferenceRouteIdeal.nD Cert.ReferenceRouteIdeal.τ).loc Cert.ReferenceRouteIdeal.main_arg15)) (m ((c.tc : Thread Cert.ReferenceRouteIdeal.nD Cert.ReferenceRouteIdeal.τ).loc Cert.ReferenceRouteIdeal.main_arg16))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11)
      ∧ r.2.mem ((c.tc : Thread Cert.KernelMerge.nD Cert.KernelMerge.τ).loc Cert.KernelMerge.main_arg12) = m ((c.tc : Thread Cert.KernelMerge.nD Cert.KernelMerge.τ).loc Cert.KernelMerge.main_arg12)
      ∧ r.2.mem ((c.tc : Thread Cert.KernelMerge.nD Cert.KernelMerge.τ).loc Cert.KernelMerge.main_arg13) = m ((c.tc : Thread Cert.KernelMerge.nD Cert.KernelMerge.τ).loc Cert.KernelMerge.main_arg13)
      ∧ r.2.mem ((c.tc : Thread Cert.KernelMerge.nD Cert.KernelMerge.τ).loc Cert.KernelMerge.main_arg14) = m ((c.tc : Thread Cert.KernelMerge.nD Cert.KernelMerge.τ).loc Cert.KernelMerge.main_arg14)
      ∧ r.2.mem ((c.tc : Thread Cert.KernelMerge.nD Cert.KernelMerge.τ).loc Cert.KernelMerge.main_arg15) = m ((c.tc : Thread Cert.KernelMerge.nD Cert.KernelMerge.τ).loc Cert.KernelMerge.main_arg15)
      ∧ r.2.mem ((c.tc : Thread Cert.KernelMerge.nD Cert.KernelMerge.τ).loc Cert.KernelMerge.main_arg16) = m ((c.tc : Thread Cert.KernelMerge.nD Cert.KernelMerge.τ).loc Cert.KernelMerge.main_arg16))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
      ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
      ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
      ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
      ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
      ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12)
      ∧ r.2.mem ((c.tc : Thread Cert.ReferenceMergeIdeal.nD Cert.ReferenceMergeIdeal.τ).loc Cert.ReferenceMergeIdeal.main_arg13) = m ((c.tc : Thread Cert.ReferenceMergeIdeal.nD Cert.ReferenceMergeIdeal.τ).loc Cert.ReferenceMergeIdeal.main_arg13)
      ∧ r.2.mem ((c.tc : Thread Cert.ReferenceMergeIdeal.nD Cert.ReferenceMergeIdeal.τ).loc Cert.ReferenceMergeIdeal.main_arg14) = m ((c.tc : Thread Cert.ReferenceMergeIdeal.nD Cert.ReferenceMergeIdeal.τ).loc Cert.ReferenceMergeIdeal.main_arg14)
      ∧ r.2.mem ((c.tc : Thread Cert.ReferenceMergeIdeal.nD Cert.ReferenceMergeIdeal.τ).loc Cert.ReferenceMergeIdeal.main_arg15) = m ((c.tc : Thread Cert.ReferenceMergeIdeal.nD Cert.ReferenceMergeIdeal.τ).loc Cert.ReferenceMergeIdeal.main_arg15)
      ∧ r.2.mem ((c.tc : Thread Cert.ReferenceMergeIdeal.nD Cert.ReferenceMergeIdeal.τ).loc Cert.ReferenceMergeIdeal.main_arg16) = m ((c.tc : Thread Cert.ReferenceMergeIdeal.nD Cert.ReferenceMergeIdeal.τ).loc Cert.ReferenceMergeIdeal.main_arg16))
      ∧ r.2.sem = fun _ => 0)

def quiescent_KernelExperts [hKernelExperts : Cert.KernelExperts.Facts] [hPre_named : Cert.Pre_named.Facts] : Prop :=
  ∀ (m : (ℓ : Loc Cert.KernelExperts.nD Cert.KernelExperts.τ Cert.KernelExperts.sig) → Buf (Elt Bits) ℓ) (g : Dev Cert.KernelExperts.nD → PrngReg), Pre_KernelExperts m →
    θ_run (Cert.KernelExperts.defs (F := Bits)) (onTc (τ := Cert.KernelExperts.τ) (Cert.KernelExperts.main (F := Bits))) ⟨m, fun _ => 0, g⟩ (fun r => (∀ c : Dev Cert.KernelExperts.nD,
      r.2.mem ((c.tc : Thread Cert.KernelExperts.nD Cert.KernelExperts.τ).loc Cert.KernelExperts.main_arg0) = m ((c.tc : Thread Cert.KernelExperts.nD Cert.KernelExperts.τ).loc Cert.KernelExperts.main_arg0)
      ∧ r.2.mem ((c.tc : Thread Cert.KernelExperts.nD Cert.KernelExperts.τ).loc Cert.KernelExperts.main_arg1) = m ((c.tc : Thread Cert.KernelExperts.nD Cert.KernelExperts.τ).loc Cert.KernelExperts.main_arg1)
      ∧ r.2.mem ((c.tc : Thread Cert.KernelExperts.nD Cert.KernelExperts.τ).loc Cert.KernelExperts.main_arg2) = m ((c.tc : Thread Cert.KernelExperts.nD Cert.KernelExperts.τ).loc Cert.KernelExperts.main_arg2)
      ∧ r.2.mem ((c.tc : Thread Cert.KernelExperts.nD Cert.KernelExperts.τ).loc Cert.KernelExperts.main_arg3) = m ((c.tc : Thread Cert.KernelExperts.nD Cert.KernelExperts.τ).loc Cert.KernelExperts.main_arg3)
      ∧ r.2.mem ((c.tc : Thread Cert.KernelExperts.nD Cert.KernelExperts.τ).loc Cert.KernelExperts.main_arg4) = m ((c.tc : Thread Cert.KernelExperts.nD Cert.KernelExperts.τ).loc Cert.KernelExperts.main_arg4))
      ∧ r.2.sem = fun _ => 0)

def quiescent_KernelExpertsIdeal [hKernelExpertsIdeal : Cert.KernelExpertsIdeal.Facts] [hPre_named : Cert.Pre_named.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg), Pre_KernelExpertsIdeal m →
    θ_run (Cert.KernelExpertsIdeal.defs (F := Ideal)) (onTc (τ := Cert.KernelExpertsIdeal.τ) (Cert.KernelExpertsIdeal.main (F := Ideal))) ⟨m, fun _ => 0, g⟩ (fun r => (∀ c : Dev Cert.KernelExpertsIdeal.nD,
      r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
      ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
      ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
      ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
      ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4))
      ∧ r.2.sem = fun _ => 0)

def quiescent_ReferenceExpertsIdeal_pre_named [hReferenceExpertsIdeal : Cert.ReferenceExpertsIdeal.Facts] [hPre_named : Cert.Pre_named.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_named m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelNa [hKernelNa : Cert.KernelNa.Facts] : Prop :=
  ∀ (m : (ℓ : Loc Cert.KernelNa.nD Cert.KernelNa.τ Cert.KernelNa.sig) → Buf (Elt Bits) ℓ) (g : Dev Cert.KernelNa.nD → PrngReg), Pre_KernelNa m →
    θ_run (Cert.KernelNa.defs (F := Bits)) (onTc (τ := Cert.KernelNa.τ) (Cert.KernelNa.main (F := Bits))) ⟨m, fun _ => 0, g⟩ (fun r => (∀ c : Dev Cert.KernelNa.nD,
      r.2.mem ((c.tc : Thread Cert.KernelNa.nD Cert.KernelNa.τ).loc Cert.KernelNa.main_arg0) = m ((c.tc : Thread Cert.KernelNa.nD Cert.KernelNa.τ).loc Cert.KernelNa.main_arg0)
      ∧ r.2.mem ((c.tc : Thread Cert.KernelNa.nD Cert.KernelNa.τ).loc Cert.KernelNa.main_arg1) = m ((c.tc : Thread Cert.KernelNa.nD Cert.KernelNa.τ).loc Cert.KernelNa.main_arg1))
      ∧ r.2.sem = fun _ => 0)

def quiescent_KernelNaIdeal [hKernelNaIdeal : Cert.KernelNaIdeal.Facts] : Prop :=
  ∀ (m : (ℓ : Loc Cert.KernelNaIdeal.nD Cert.KernelNaIdeal.τ Cert.KernelNaIdeal.sig) → Buf (Elt Ideal) ℓ) (g : Dev Cert.KernelNaIdeal.nD → PrngReg), Pre_KernelNaIdeal m →
    θ_run (Cert.KernelNaIdeal.defs (F := Ideal)) (onTc (τ := Cert.KernelNaIdeal.τ) (Cert.KernelNaIdeal.main (F := Ideal))) ⟨m, fun _ => 0, g⟩ (fun r => (∀ c : Dev Cert.KernelNaIdeal.nD,
      r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
      ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1))
      ∧ r.2.sem = fun _ => 0)

def quiescent_KernelNaIdeal_pre_near [hKernelNaIdeal : Cert.KernelNaIdeal.Facts] [hPre_near : Cert.Pre_near.Facts] : Prop :=
  ∀ (m : (ℓ : Loc Cert.KernelNaIdeal.nD Cert.KernelNaIdeal.τ Cert.KernelNaIdeal.sig) → Buf (Elt Ideal) ℓ) (g : Dev Cert.KernelNaIdeal.nD → PrngReg), Pre_KernelNaIdeal_near m →
    θ_run (Cert.KernelNaIdeal.defs (F := Ideal)) (onTc (τ := Cert.KernelNaIdeal.τ) (Cert.KernelNaIdeal.main (F := Ideal))) ⟨m, fun _ => 0, g⟩ (fun r => (∀ c : Dev Cert.KernelNaIdeal.nD,
      r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
      ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1))
      ∧ r.2.sem = fun _ => 0)

def quiescent_ReferenceNaIdeal [hReferenceNaIdeal : Cert.ReferenceNaIdeal.Facts] : Prop :=
  ∀ (m : (ℓ : Loc Cert.ReferenceNaIdeal.nD Cert.ReferenceNaIdeal.τ Cert.ReferenceNaIdeal.sig) → Buf (Elt Ideal) ℓ) (g : Dev Cert.ReferenceNaIdeal.nD → PrngReg), Pre_ReferenceNaIdeal m →
    θ_run (Cert.ReferenceNaIdeal.defs (F := Ideal)) (onTc (τ := Cert.ReferenceNaIdeal.τ) (Cert.ReferenceNaIdeal.main (F := Ideal))) ⟨m, fun _ => 0, g⟩ (fun r => (∀ c : Dev Cert.ReferenceNaIdeal.nD,
      r.2.mem ((c.tc : Thread Cert.ReferenceNaIdeal.nD Cert.ReferenceNaIdeal.τ).loc Cert.ReferenceNaIdeal.main_arg0) = m ((c.tc : Thread Cert.ReferenceNaIdeal.nD Cert.ReferenceNaIdeal.τ).loc Cert.ReferenceNaIdeal.main_arg0)
      ∧ r.2.mem ((c.tc : Thread Cert.ReferenceNaIdeal.nD Cert.ReferenceNaIdeal.τ).loc Cert.ReferenceNaIdeal.main_arg1) = m ((c.tc : Thread Cert.ReferenceNaIdeal.nD Cert.ReferenceNaIdeal.τ).loc Cert.ReferenceNaIdeal.main_arg1))
      ∧ r.2.sem = fun _ => 0)

def quiescent_ReferenceNaIdeal_pre_near [hReferenceNaIdeal : Cert.ReferenceNaIdeal.Facts] [hPre_near : Cert.Pre_near.Facts] : Prop :=
  ∀ (m : (ℓ : Loc Cert.ReferenceNaIdeal.nD Cert.ReferenceNaIdeal.τ Cert.ReferenceNaIdeal.sig) → Buf (Elt Ideal) ℓ) (g : Dev Cert.ReferenceNaIdeal.nD → PrngReg), Pre_ReferenceNaIdeal_near m →
    θ_run (Cert.ReferenceNaIdeal.defs (F := Ideal)) (onTc (τ := Cert.ReferenceNaIdeal.τ) (Cert.ReferenceNaIdeal.main (F := Ideal))) ⟨m, fun _ => 0, g⟩ (fun r => (∀ c : Dev Cert.ReferenceNaIdeal.nD,
      r.2.mem ((c.tc : Thread Cert.ReferenceNaIdeal.nD Cert.ReferenceNaIdeal.τ).loc Cert.ReferenceNaIdeal.main_arg0) = m ((c.tc : Thread Cert.ReferenceNaIdeal.nD Cert.ReferenceNaIdeal.τ).loc Cert.ReferenceNaIdeal.main_arg0)
      ∧ r.2.mem ((c.tc : Thread Cert.ReferenceNaIdeal.nD Cert.ReferenceNaIdeal.τ).loc Cert.ReferenceNaIdeal.main_arg1) = m ((c.tc : Thread Cert.ReferenceNaIdeal.nD Cert.ReferenceNaIdeal.τ).loc Cert.ReferenceNaIdeal.main_arg1))
      ∧ r.2.sem = fun _ => 0)

def quiescent_KernelRoute [hKernelRoute : Cert.KernelRoute.Facts] : Prop :=
  ∀ (m : (ℓ : Loc Cert.KernelRoute.nD Cert.KernelRoute.τ Cert.KernelRoute.sig) → Buf (Elt Bits) ℓ) (g : Dev Cert.KernelRoute.nD → PrngReg), Pre_KernelRoute m →
    θ_run (Cert.KernelRoute.defs (F := Bits)) (onTc (τ := Cert.KernelRoute.τ) (Cert.KernelRoute.main (F := Bits))) ⟨m, fun _ => 0, g⟩ (fun r => (∀ c : Dev Cert.KernelRoute.nD,
      r.2.mem ((c.tc : Thread Cert.KernelRoute.nD Cert.KernelRoute.τ).loc Cert.KernelRoute.main_arg0) = m ((c.tc : Thread Cert.KernelRoute.nD Cert.KernelRoute.τ).loc Cert.KernelRoute.main_arg0)
      ∧ r.2.mem ((c.tc : Thread Cert.KernelRoute.nD Cert.KernelRoute.τ).loc Cert.KernelRoute.main_arg1) = m ((c.tc : Thread Cert.KernelRoute.nD Cert.KernelRoute.τ).loc Cert.KernelRoute.main_arg1)
      ∧ r.2.mem ((c.tc : Thread Cert.KernelRoute.nD Cert.KernelRoute.τ).loc Cert.KernelRoute.main_arg2) = m ((c.tc : Thread Cert.KernelRoute.nD Cert.KernelRoute.τ).loc Cert.KernelRoute.main_arg2)
      ∧ r.2.mem ((c.tc : Thread Cert.KernelRoute.nD Cert.KernelRoute.τ).loc Cert.KernelRoute.main_arg3) = m ((c.tc : Thread Cert.KernelRoute.nD Cert.KernelRoute.τ).loc Cert.KernelRoute.main_arg3)
      ∧ r.2.mem ((c.tc : Thread Cert.KernelRoute.nD Cert.KernelRoute.τ).loc Cert.KernelRoute.main_arg4) = m ((c.tc : Thread Cert.KernelRoute.nD Cert.KernelRoute.τ).loc Cert.KernelRoute.main_arg4)
      ∧ r.2.mem ((c.tc : Thread Cert.KernelRoute.nD Cert.KernelRoute.τ).loc Cert.KernelRoute.main_arg5) = m ((c.tc : Thread Cert.KernelRoute.nD Cert.KernelRoute.τ).loc Cert.KernelRoute.main_arg5)
      ∧ r.2.mem ((c.tc : Thread Cert.KernelRoute.nD Cert.KernelRoute.τ).loc Cert.KernelRoute.main_arg6) = m ((c.tc : Thread Cert.KernelRoute.nD Cert.KernelRoute.τ).loc Cert.KernelRoute.main_arg6)
      ∧ r.2.mem ((c.tc : Thread Cert.KernelRoute.nD Cert.KernelRoute.τ).loc Cert.KernelRoute.main_arg7) = m ((c.tc : Thread Cert.KernelRoute.nD Cert.KernelRoute.τ).loc Cert.KernelRoute.main_arg7)
      ∧ r.2.mem ((c.tc : Thread Cert.KernelRoute.nD Cert.KernelRoute.τ).loc Cert.KernelRoute.main_arg8) = m ((c.tc : Thread Cert.KernelRoute.nD Cert.KernelRoute.τ).loc Cert.KernelRoute.main_arg8)
      ∧ r.2.mem ((c.tc : Thread Cert.KernelRoute.nD Cert.KernelRoute.τ).loc Cert.KernelRoute.main_arg9) = m ((c.tc : Thread Cert.KernelRoute.nD Cert.KernelRoute.τ).loc Cert.KernelRoute.main_arg9)
      ∧ r.2.mem ((c.tc : Thread Cert.KernelRoute.nD Cert.KernelRoute.τ).loc Cert.KernelRoute.main_arg10) = m ((c.tc : Thread Cert.KernelRoute.nD Cert.KernelRoute.τ).loc Cert.KernelRoute.main_arg10)
      ∧ r.2.mem ((c.tc : Thread Cert.KernelRoute.nD Cert.KernelRoute.τ).loc Cert.KernelRoute.main_arg11) = m ((c.tc : Thread Cert.KernelRoute.nD Cert.KernelRoute.τ).loc Cert.KernelRoute.main_arg11)
      ∧ r.2.mem ((c.tc : Thread Cert.KernelRoute.nD Cert.KernelRoute.τ).loc Cert.KernelRoute.main_arg12) = m ((c.tc : Thread Cert.KernelRoute.nD Cert.KernelRoute.τ).loc Cert.KernelRoute.main_arg12)
      ∧ r.2.mem ((c.tc : Thread Cert.KernelRoute.nD Cert.KernelRoute.τ).loc Cert.KernelRoute.main_arg13) = m ((c.tc : Thread Cert.KernelRoute.nD Cert.KernelRoute.τ).loc Cert.KernelRoute.main_arg13)
      ∧ r.2.mem ((c.tc : Thread Cert.KernelRoute.nD Cert.KernelRoute.τ).loc Cert.KernelRoute.main_arg14) = m ((c.tc : Thread Cert.KernelRoute.nD Cert.KernelRoute.τ).loc Cert.KernelRoute.main_arg14)
      ∧ r.2.mem ((c.tc : Thread Cert.KernelRoute.nD Cert.KernelRoute.τ).loc Cert.KernelRoute.main_arg15) = m ((c.tc : Thread Cert.KernelRoute.nD Cert.KernelRoute.τ).loc Cert.KernelRoute.main_arg15)
      ∧ r.2.mem ((c.tc : Thread Cert.KernelRoute.nD Cert.KernelRoute.τ).loc Cert.KernelRoute.main_arg16) = m ((c.tc : Thread Cert.KernelRoute.nD Cert.KernelRoute.τ).loc Cert.KernelRoute.main_arg16))
      ∧ r.2.sem = fun _ => 0)

def quiescent_KernelRouteIdeal [hKernelRouteIdeal : Cert.KernelRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
      ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
      ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
      ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
      ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6)
      ∧ r.2.mem ((c.tc : Thread Cert.KernelRouteIdeal.nD Cert.KernelRouteIdeal.τ).loc Cert.KernelRouteIdeal.main_arg7) = m ((c.tc : Thread Cert.KernelRouteIdeal.nD Cert.KernelRouteIdeal.τ).loc Cert.KernelRouteIdeal.main_arg7)
      ∧ r.2.mem ((c.tc : Thread Cert.KernelRouteIdeal.nD Cert.KernelRouteIdeal.τ).loc Cert.KernelRouteIdeal.main_arg8) = m ((c.tc : Thread Cert.KernelRouteIdeal.nD Cert.KernelRouteIdeal.τ).loc Cert.KernelRouteIdeal.main_arg8)
      ∧ r.2.mem ((c.tc : Thread Cert.KernelRouteIdeal.nD Cert.KernelRouteIdeal.τ).loc Cert.KernelRouteIdeal.main_arg9) = m ((c.tc : Thread Cert.KernelRouteIdeal.nD Cert.KernelRouteIdeal.τ).loc Cert.KernelRouteIdeal.main_arg9)
      ∧ r.2.mem ((c.tc : Thread Cert.KernelRouteIdeal.nD Cert.KernelRouteIdeal.τ).loc Cert.KernelRouteIdeal.main_arg10) = m ((c.tc : Thread Cert.KernelRouteIdeal.nD Cert.KernelRouteIdeal.τ).loc Cert.KernelRouteIdeal.main_arg10)
      ∧ r.2.mem ((c.tc : Thread Cert.KernelRouteIdeal.nD Cert.KernelRouteIdeal.τ).loc Cert.KernelRouteIdeal.main_arg11) = m ((c.tc : Thread Cert.KernelRouteIdeal.nD Cert.KernelRouteIdeal.τ).loc Cert.KernelRouteIdeal.main_arg11)
      ∧ r.2.mem ((c.tc : Thread Cert.KernelRouteIdeal.nD Cert.KernelRouteIdeal.τ).loc Cert.KernelRouteIdeal.main_arg12) = m ((c.tc : Thread Cert.KernelRouteIdeal.nD Cert.KernelRouteIdeal.τ).loc Cert.KernelRouteIdeal.main_arg12)
      ∧ r.2.mem ((c.tc : Thread Cert.KernelRouteIdeal.nD Cert.KernelRouteIdeal.τ).loc Cert.KernelRouteIdeal.main_arg13) = m ((c.tc : Thread Cert.KernelRouteIdeal.nD Cert.KernelRouteIdeal.τ).loc Cert.KernelRouteIdeal.main_arg13)
      ∧ r.2.mem ((c.tc : Thread Cert.KernelRouteIdeal.nD Cert.KernelRouteIdeal.τ).loc Cert.KernelRouteIdeal.main_arg14) = m ((c.tc : Thread Cert.KernelRouteIdeal.nD Cert.KernelRouteIdeal.τ).loc Cert.KernelRouteIdeal.main_arg14)
      ∧ r.2.mem ((c.tc : Thread Cert.KernelRouteIdeal.nD Cert.KernelRouteIdeal.τ).loc Cert.KernelRouteIdeal.main_arg15) = m ((c.tc : Thread Cert.KernelRouteIdeal.nD Cert.KernelRouteIdeal.τ).loc Cert.KernelRouteIdeal.main_arg15)
      ∧ r.2.mem ((c.tc : Thread Cert.KernelRouteIdeal.nD Cert.KernelRouteIdeal.τ).loc Cert.KernelRouteIdeal.main_arg16) = m ((c.tc : Thread Cert.KernelRouteIdeal.nD Cert.KernelRouteIdeal.τ).loc Cert.KernelRouteIdeal.main_arg16))
      ∧ r.2.sem = fun _ => 0)

def quiescent_KernelRouteIdeal_pre_sound [hKernelRouteIdeal : Cert.KernelRouteIdeal.Facts] [hPre_sound : Cert.Pre_sound.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal_sound m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
      ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
      ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
      ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
      ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6)
      ∧ r.2.mem ((c.tc : Thread Cert.KernelRouteIdeal.nD Cert.KernelRouteIdeal.τ).loc Cert.KernelRouteIdeal.main_arg7) = m ((c.tc : Thread Cert.KernelRouteIdeal.nD Cert.KernelRouteIdeal.τ).loc Cert.KernelRouteIdeal.main_arg7)
      ∧ r.2.mem ((c.tc : Thread Cert.KernelRouteIdeal.nD Cert.KernelRouteIdeal.τ).loc Cert.KernelRouteIdeal.main_arg8) = m ((c.tc : Thread Cert.KernelRouteIdeal.nD Cert.KernelRouteIdeal.τ).loc Cert.KernelRouteIdeal.main_arg8)
      ∧ r.2.mem ((c.tc : Thread Cert.KernelRouteIdeal.nD Cert.KernelRouteIdeal.τ).loc Cert.KernelRouteIdeal.main_arg9) = m ((c.tc : Thread Cert.KernelRouteIdeal.nD Cert.KernelRouteIdeal.τ).loc Cert.KernelRouteIdeal.main_arg9)
      ∧ r.2.mem ((c.tc : Thread Cert.KernelRouteIdeal.nD Cert.KernelRouteIdeal.τ).loc Cert.KernelRouteIdeal.main_arg10) = m ((c.tc : Thread Cert.KernelRouteIdeal.nD Cert.KernelRouteIdeal.τ).loc Cert.KernelRouteIdeal.main_arg10)
      ∧ r.2.mem ((c.tc : Thread Cert.KernelRouteIdeal.nD Cert.KernelRouteIdeal.τ).loc Cert.KernelRouteIdeal.main_arg11) = m ((c.tc : Thread Cert.KernelRouteIdeal.nD Cert.KernelRouteIdeal.τ).loc Cert.KernelRouteIdeal.main_arg11)
      ∧ r.2.mem ((c.tc : Thread Cert.KernelRouteIdeal.nD Cert.KernelRouteIdeal.τ).loc Cert.KernelRouteIdeal.main_arg12) = m ((c.tc : Thread Cert.KernelRouteIdeal.nD Cert.KernelRouteIdeal.τ).loc Cert.KernelRouteIdeal.main_arg12)
      ∧ r.2.mem ((c.tc : Thread Cert.KernelRouteIdeal.nD Cert.KernelRouteIdeal.τ).loc Cert.KernelRouteIdeal.main_arg13) = m ((c.tc : Thread Cert.KernelRouteIdeal.nD Cert.KernelRouteIdeal.τ).loc Cert.KernelRouteIdeal.main_arg13)
      ∧ r.2.mem ((c.tc : Thread Cert.KernelRouteIdeal.nD Cert.KernelRouteIdeal.τ).loc Cert.KernelRouteIdeal.main_arg14) = m ((c.tc : Thread Cert.KernelRouteIdeal.nD Cert.KernelRouteIdeal.τ).loc Cert.KernelRouteIdeal.main_arg14)
      ∧ r.2.mem ((c.tc : Thread Cert.KernelRouteIdeal.nD Cert.KernelRouteIdeal.τ).loc Cert.KernelRouteIdeal.main_arg15) = m ((c.tc : Thread Cert.KernelRouteIdeal.nD Cert.KernelRouteIdeal.τ).loc Cert.KernelRouteIdeal.main_arg15)
      ∧ r.2.mem ((c.tc : Thread Cert.KernelRouteIdeal.nD Cert.KernelRouteIdeal.τ).loc Cert.KernelRouteIdeal.main_arg16) = m ((c.tc : Thread Cert.KernelRouteIdeal.nD Cert.KernelRouteIdeal.τ).loc Cert.KernelRouteIdeal.main_arg16))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2)
      ∧ r.2.mem ((c.tc : Thread Cert.ReferenceRouteIdeal.nD Cert.ReferenceRouteIdeal.τ).loc Cert.ReferenceRouteIdeal.main_arg3) = m ((c.tc : Thread Cert.ReferenceRouteIdeal.nD Cert.ReferenceRouteIdeal.τ).loc Cert.ReferenceRouteIdeal.main_arg3)
      ∧ r.2.mem ((c.tc : Thread Cert.ReferenceRouteIdeal.nD Cert.ReferenceRouteIdeal.τ).loc Cert.ReferenceRouteIdeal.main_arg4) = m ((c.tc : Thread Cert.ReferenceRouteIdeal.nD Cert.ReferenceRouteIdeal.τ).loc Cert.ReferenceRouteIdeal.main_arg4)
      ∧ r.2.mem ((c.tc : Thread Cert.ReferenceRouteIdeal.nD Cert.ReferenceRouteIdeal.τ).loc Cert.ReferenceRouteIdeal.main_arg5) = m ((c.tc : Thread Cert.ReferenceRouteIdeal.nD Cert.ReferenceRouteIdeal.τ).loc Cert.ReferenceRouteIdeal.main_arg5)
      ∧ r.2.mem ((c.tc : Thread Cert.ReferenceRouteIdeal.nD Cert.ReferenceRouteIdeal.τ).loc Cert.ReferenceRouteIdeal.main_arg6) = m ((c.tc : Thread Cert.ReferenceRouteIdeal.nD Cert.ReferenceRouteIdeal.τ).loc Cert.ReferenceRouteIdeal.main_arg6)
      ∧ r.2.mem ((c.tc : Thread Cert.ReferenceRouteIdeal.nD Cert.ReferenceRouteIdeal.τ).loc Cert.ReferenceRouteIdeal.main_arg7) = m ((c.tc : Thread Cert.ReferenceRouteIdeal.nD Cert.ReferenceRouteIdeal.τ).loc Cert.ReferenceRouteIdeal.main_arg7)
      ∧ r.2.mem ((c.tc : Thread Cert.ReferenceRouteIdeal.nD Cert.ReferenceRouteIdeal.τ).loc Cert.ReferenceRouteIdeal.main_arg8) = m ((c.tc : Thread Cert.ReferenceRouteIdeal.nD Cert.ReferenceRouteIdeal.τ).loc Cert.ReferenceRouteIdeal.main_arg8)
      ∧ r.2.mem ((c.tc : Thread Cert.ReferenceRouteIdeal.nD Cert.ReferenceRouteIdeal.τ).loc Cert.ReferenceRouteIdeal.main_arg9) = m ((c.tc : Thread Cert.ReferenceRouteIdeal.nD Cert.ReferenceRouteIdeal.τ).loc Cert.ReferenceRouteIdeal.main_arg9)
      ∧ r.2.mem ((c.tc : Thread Cert.ReferenceRouteIdeal.nD Cert.ReferenceRouteIdeal.τ).loc Cert.ReferenceRouteIdeal.main_arg10) = m ((c.tc : Thread Cert.ReferenceRouteIdeal.nD Cert.ReferenceRouteIdeal.τ).loc Cert.ReferenceRouteIdeal.main_arg10)
      ∧ r.2.mem ((c.tc : Thread Cert.ReferenceRouteIdeal.nD Cert.ReferenceRouteIdeal.τ).loc Cert.ReferenceRouteIdeal.main_arg11) = m ((c.tc : Thread Cert.ReferenceRouteIdeal.nD Cert.ReferenceRouteIdeal.τ).loc Cert.ReferenceRouteIdeal.main_arg11)
      ∧ r.2.mem ((c.tc : Thread Cert.ReferenceRouteIdeal.nD Cert.ReferenceRouteIdeal.τ).loc Cert.ReferenceRouteIdeal.main_arg12) = m ((c.tc : Thread Cert.ReferenceRouteIdeal.nD Cert.ReferenceRouteIdeal.τ).loc Cert.ReferenceRouteIdeal.main_arg12)
      ∧ r.2.mem ((c.tc : Thread Cert.ReferenceRouteIdeal.nD Cert.ReferenceRouteIdeal.τ).loc Cert.ReferenceRouteIdeal.main_arg13) = m ((c.tc : Thread Cert.ReferenceRouteIdeal.nD Cert.ReferenceRouteIdeal.τ).loc Cert.ReferenceRouteIdeal.main_arg13)
      ∧ r.2.mem ((c.tc : Thread Cert.ReferenceRouteIdeal.nD Cert.ReferenceRouteIdeal.τ).loc Cert.ReferenceRouteIdeal.main_arg14) = m ((c.tc : Thread Cert.ReferenceRouteIdeal.nD Cert.ReferenceRouteIdeal.τ).loc Cert.ReferenceRouteIdeal.main_arg14)
      ∧ r.2.mem ((c.tc : Thread Cert.ReferenceRouteIdeal.nD Cert.ReferenceRouteIdeal.τ).loc Cert.ReferenceRouteIdeal.main_arg15) = m ((c.tc : Thread Cert.ReferenceRouteIdeal.nD Cert.ReferenceRouteIdeal.τ).loc Cert.ReferenceRouteIdeal.main_arg15)
      ∧ r.2.mem ((c.tc : Thread Cert.ReferenceRouteIdeal.nD Cert.ReferenceRouteIdeal.τ).loc Cert.ReferenceRouteIdeal.main_arg16) = m ((c.tc : Thread Cert.ReferenceRouteIdeal.nD Cert.ReferenceRouteIdeal.τ).loc Cert.ReferenceRouteIdeal.main_arg16))
      ∧ r.2.sem = fun _ => 0)

def quiescent_ReferenceRouteIdeal_pre_sound [hReferenceRouteIdeal : Cert.ReferenceRouteIdeal.Facts] [hPre_sound : Cert.Pre_sound.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal_sound m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2)
      ∧ r.2.mem ((c.tc : Thread Cert.ReferenceRouteIdeal.nD Cert.ReferenceRouteIdeal.τ).loc Cert.ReferenceRouteIdeal.main_arg3) = m ((c.tc : Thread Cert.ReferenceRouteIdeal.nD Cert.ReferenceRouteIdeal.τ).loc Cert.ReferenceRouteIdeal.main_arg3)
      ∧ r.2.mem ((c.tc : Thread Cert.ReferenceRouteIdeal.nD Cert.ReferenceRouteIdeal.τ).loc Cert.ReferenceRouteIdeal.main_arg4) = m ((c.tc : Thread Cert.ReferenceRouteIdeal.nD Cert.ReferenceRouteIdeal.τ).loc Cert.ReferenceRouteIdeal.main_arg4)
      ∧ r.2.mem ((c.tc : Thread Cert.ReferenceRouteIdeal.nD Cert.ReferenceRouteIdeal.τ).loc Cert.ReferenceRouteIdeal.main_arg5) = m ((c.tc : Thread Cert.ReferenceRouteIdeal.nD Cert.ReferenceRouteIdeal.τ).loc Cert.ReferenceRouteIdeal.main_arg5)
      ∧ r.2.mem ((c.tc : Thread Cert.ReferenceRouteIdeal.nD Cert.ReferenceRouteIdeal.τ).loc Cert.ReferenceRouteIdeal.main_arg6) = m ((c.tc : Thread Cert.ReferenceRouteIdeal.nD Cert.ReferenceRouteIdeal.τ).loc Cert.ReferenceRouteIdeal.main_arg6)
      ∧ r.2.mem ((c.tc : Thread Cert.ReferenceRouteIdeal.nD Cert.ReferenceRouteIdeal.τ).loc Cert.ReferenceRouteIdeal.main_arg7) = m ((c.tc : Thread Cert.ReferenceRouteIdeal.nD Cert.ReferenceRouteIdeal.τ).loc Cert.ReferenceRouteIdeal.main_arg7)
      ∧ r.2.mem ((c.tc : Thread Cert.ReferenceRouteIdeal.nD Cert.ReferenceRouteIdeal.τ).loc Cert.ReferenceRouteIdeal.main_arg8) = m ((c.tc : Thread Cert.ReferenceRouteIdeal.nD Cert.ReferenceRouteIdeal.τ).loc Cert.ReferenceRouteIdeal.main_arg8)
      ∧ r.2.mem ((c.tc : Thread Cert.ReferenceRouteIdeal.nD Cert.ReferenceRouteIdeal.τ).loc Cert.ReferenceRouteIdeal.main_arg9) = m ((c.tc : Thread Cert.ReferenceRouteIdeal.nD Cert.ReferenceRouteIdeal.τ).loc Cert.ReferenceRouteIdeal.main_arg9)
      ∧ r.2.mem ((c.tc : Thread Cert.ReferenceRouteIdeal.nD Cert.ReferenceRouteIdeal.τ).loc Cert.ReferenceRouteIdeal.main_arg10) = m ((c.tc : Thread Cert.ReferenceRouteIdeal.nD Cert.ReferenceRouteIdeal.τ).loc Cert.ReferenceRouteIdeal.main_arg10)
      ∧ r.2.mem ((c.tc : Thread Cert.ReferenceRouteIdeal.nD Cert.ReferenceRouteIdeal.τ).loc Cert.ReferenceRouteIdeal.main_arg11) = m ((c.tc : Thread Cert.ReferenceRouteIdeal.nD Cert.ReferenceRouteIdeal.τ).loc Cert.ReferenceRouteIdeal.main_arg11)
      ∧ r.2.mem ((c.tc : Thread Cert.ReferenceRouteIdeal.nD Cert.ReferenceRouteIdeal.τ).loc Cert.ReferenceRouteIdeal.main_arg12) = m ((c.tc : Thread Cert.ReferenceRouteIdeal.nD Cert.ReferenceRouteIdeal.τ).loc Cert.ReferenceRouteIdeal.main_arg12)
      ∧ r.2.mem ((c.tc : Thread Cert.ReferenceRouteIdeal.nD Cert.ReferenceRouteIdeal.τ).loc Cert.ReferenceRouteIdeal.main_arg13) = m ((c.tc : Thread Cert.ReferenceRouteIdeal.nD Cert.ReferenceRouteIdeal.τ).loc Cert.ReferenceRouteIdeal.main_arg13)
      ∧ r.2.mem ((c.tc : Thread Cert.ReferenceRouteIdeal.nD Cert.ReferenceRouteIdeal.τ).loc Cert.ReferenceRouteIdeal.main_arg14) = m ((c.tc : Thread Cert.ReferenceRouteIdeal.nD Cert.ReferenceRouteIdeal.τ).loc Cert.ReferenceRouteIdeal.main_arg14)
      ∧ r.2.mem ((c.tc : Thread Cert.ReferenceRouteIdeal.nD Cert.ReferenceRouteIdeal.τ).loc Cert.ReferenceRouteIdeal.main_arg15) = m ((c.tc : Thread Cert.ReferenceRouteIdeal.nD Cert.ReferenceRouteIdeal.τ).loc Cert.ReferenceRouteIdeal.main_arg15)
      ∧ r.2.mem ((c.tc : Thread Cert.ReferenceRouteIdeal.nD Cert.ReferenceRouteIdeal.τ).loc Cert.ReferenceRouteIdeal.main_arg16) = m ((c.tc : Thread Cert.ReferenceRouteIdeal.nD Cert.ReferenceRouteIdeal.τ).loc Cert.ReferenceRouteIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v16_0)) (v1 : (c : Dev Cert.KernelInIdeal.nD) → Buf (Elt Ideal) ((c.tc : Thread Cert.KernelInIdeal.nD Cert.KernelInIdeal.τ).loc Cert.KernelInIdeal.main_v16_1)) (v2 : (c : Dev Cert.KernelInIdeal.nD) → Buf (Elt Ideal) ((c.tc : Thread Cert.KernelInIdeal.nD Cert.KernelInIdeal.τ).loc Cert.KernelInIdeal.main_v16_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v16_0) = v0 c
          ∧ r.2.mem ((c.tc : Thread Cert.KernelInIdeal.nD Cert.KernelInIdeal.τ).loc Cert.KernelInIdeal.main_v16_1) = v1 c
          ∧ r.2.mem ((c.tc : Thread Cert.KernelInIdeal.nD Cert.KernelInIdeal.τ).loc Cert.KernelInIdeal.main_v16_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v47) = v0 c
          ∧ r.2.mem ((c.tc : Thread Cert.ReferenceInIdeal.nD Cert.ReferenceInIdeal.τ).loc Cert.ReferenceInIdeal.main_v46) = v1 c
          ∧ r.2.mem ((c.tc : Thread Cert.ReferenceInIdeal.nD Cert.ReferenceInIdeal.τ).loc Cert.ReferenceInIdeal.main_v49) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)
      ∧ m' ((c.tc : Thread Cert.ReferenceMergeIdeal.nD Cert.ReferenceMergeIdeal.τ).loc Cert.ReferenceMergeIdeal.main_arg12) = m ((c.tc : Thread Cert.KernelMergeIdeal.nD Cert.KernelMergeIdeal.τ).loc Cert.KernelMergeIdeal.main_arg12)
      ∧ m' ((c.tc : Thread Cert.ReferenceMergeIdeal.nD Cert.ReferenceMergeIdeal.τ).loc Cert.ReferenceMergeIdeal.main_arg13) = m ((c.tc : Thread Cert.KernelMergeIdeal.nD Cert.KernelMergeIdeal.τ).loc Cert.KernelMergeIdeal.main_arg13)
      ∧ m' ((c.tc : Thread Cert.ReferenceMergeIdeal.nD Cert.ReferenceMergeIdeal.τ).loc Cert.ReferenceMergeIdeal.main_arg14) = m ((c.tc : Thread Cert.KernelMergeIdeal.nD Cert.KernelMergeIdeal.τ).loc Cert.KernelMergeIdeal.main_arg14)
      ∧ m' ((c.tc : Thread Cert.ReferenceMergeIdeal.nD Cert.ReferenceMergeIdeal.τ).loc Cert.ReferenceMergeIdeal.main_arg15) = m ((c.tc : Thread Cert.KernelMergeIdeal.nD Cert.KernelMergeIdeal.τ).loc Cert.KernelMergeIdeal.main_arg15)
      ∧ m' ((c.tc : Thread Cert.ReferenceMergeIdeal.nD Cert.ReferenceMergeIdeal.τ).loc Cert.ReferenceMergeIdeal.main_arg16) = m ((c.tc : Thread Cert.KernelMergeIdeal.nD Cert.KernelMergeIdeal.τ).loc Cert.KernelMergeIdeal.main_arg16)) →
    ∃ (v0 : (c : Dev Cert.KernelMergeIdeal.nD) → Buf (Elt Ideal) ((c.tc : Thread Cert.KernelMergeIdeal.nD Cert.KernelMergeIdeal.τ).loc Cert.KernelMergeIdeal.main_v27_0)) (v1 : (c : Dev Cert.KernelMergeIdeal.nD) → Buf (Elt Ideal) ((c.tc : Thread Cert.KernelMergeIdeal.nD Cert.KernelMergeIdeal.τ).loc Cert.KernelMergeIdeal.main_v27_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v27_0) = v0 c
          ∧ r.2.mem ((c.tc : Thread Cert.KernelMergeIdeal.nD Cert.KernelMergeIdeal.τ).loc Cert.KernelMergeIdeal.main_v27_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
          ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
          ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
          ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
          ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
          ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v107) = v0 c
          ∧ r.2.mem ((c.tc : Thread Cert.ReferenceMergeIdeal.nD Cert.ReferenceMergeIdeal.τ).loc Cert.ReferenceMergeIdeal.main_v147) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11)
          ∧ r.2.mem ((c.tc : Thread Cert.ReferenceMergeIdeal.nD Cert.ReferenceMergeIdeal.τ).loc Cert.ReferenceMergeIdeal.main_arg12) = m' ((c.tc : Thread Cert.ReferenceMergeIdeal.nD Cert.ReferenceMergeIdeal.τ).loc Cert.ReferenceMergeIdeal.main_arg12)
          ∧ r.2.mem ((c.tc : Thread Cert.ReferenceMergeIdeal.nD Cert.ReferenceMergeIdeal.τ).loc Cert.ReferenceMergeIdeal.main_arg13) = m' ((c.tc : Thread Cert.ReferenceMergeIdeal.nD Cert.ReferenceMergeIdeal.τ).loc Cert.ReferenceMergeIdeal.main_arg13)
          ∧ r.2.mem ((c.tc : Thread Cert.ReferenceMergeIdeal.nD Cert.ReferenceMergeIdeal.τ).loc Cert.ReferenceMergeIdeal.main_arg14) = m' ((c.tc : Thread Cert.ReferenceMergeIdeal.nD Cert.ReferenceMergeIdeal.τ).loc Cert.ReferenceMergeIdeal.main_arg14)
          ∧ r.2.mem ((c.tc : Thread Cert.ReferenceMergeIdeal.nD Cert.ReferenceMergeIdeal.τ).loc Cert.ReferenceMergeIdeal.main_arg15) = m' ((c.tc : Thread Cert.ReferenceMergeIdeal.nD Cert.ReferenceMergeIdeal.τ).loc Cert.ReferenceMergeIdeal.main_arg15)
          ∧ r.2.mem ((c.tc : Thread Cert.ReferenceMergeIdeal.nD Cert.ReferenceMergeIdeal.τ).loc Cert.ReferenceMergeIdeal.main_arg16) = m' ((c.tc : Thread Cert.ReferenceMergeIdeal.nD Cert.ReferenceMergeIdeal.τ).loc Cert.ReferenceMergeIdeal.main_arg16))

def preserves_KernelExperts_KernelExpertsIdeal : Prop :=
  True

def algebraic_KernelExpertsIdeal_ReferenceExpertsIdeal [hKernelExpertsIdeal : Cert.KernelExpertsIdeal.Facts] [hReferenceExpertsIdeal : Cert.ReferenceExpertsIdeal.Facts] [hPre_named : Cert.Pre_named.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_KernelExpertsIdeal m →
    (∀ c : Dev Cert.KernelExpertsIdeal.nD,
      m' ((c.tc : Thread Cert.ReferenceExpertsIdeal.nD Cert.ReferenceExpertsIdeal.τ).loc Cert.ReferenceExpertsIdeal.main_arg0) = m ((c.tc : Thread Cert.KernelExpertsIdeal.nD Cert.KernelExpertsIdeal.τ).loc Cert.KernelExpertsIdeal.main_arg0)
      ∧ m' ((c.tc : Thread Cert.ReferenceExpertsIdeal.nD Cert.ReferenceExpertsIdeal.τ).loc Cert.ReferenceExpertsIdeal.main_arg1) = m ((c.tc : Thread Cert.KernelExpertsIdeal.nD Cert.KernelExpertsIdeal.τ).loc Cert.KernelExpertsIdeal.main_arg1)
      ∧ m' ((c.tc : Thread Cert.ReferenceExpertsIdeal.nD Cert.ReferenceExpertsIdeal.τ).loc Cert.ReferenceExpertsIdeal.main_arg2) = m ((c.tc : Thread Cert.KernelExpertsIdeal.nD Cert.KernelExpertsIdeal.τ).loc Cert.KernelExpertsIdeal.main_arg2)
      ∧ m' ((c.tc : Thread Cert.ReferenceExpertsIdeal.nD Cert.ReferenceExpertsIdeal.τ).loc Cert.ReferenceExpertsIdeal.main_arg3) = m ((c.tc : Thread Cert.KernelExpertsIdeal.nD Cert.KernelExpertsIdeal.τ).loc Cert.KernelExpertsIdeal.main_arg3)
      ∧ m' ((c.tc : Thread Cert.ReferenceExpertsIdeal.nD Cert.ReferenceExpertsIdeal.τ).loc Cert.ReferenceExpertsIdeal.main_arg4) = m ((c.tc : Thread Cert.KernelExpertsIdeal.nD Cert.KernelExpertsIdeal.τ).loc Cert.KernelExpertsIdeal.main_arg4)) →
    ∃ (v0 : (c : Dev Cert.KernelExpertsIdeal.nD) → Buf (Elt Ideal) ((c.tc : Thread Cert.KernelExpertsIdeal.nD Cert.KernelExpertsIdeal.τ).loc Cert.KernelExpertsIdeal.main_v0)),
      θ_run (Cert.KernelExpertsIdeal.defs (F := Ideal)) (onTc (τ := Cert.KernelExpertsIdeal.τ) (Cert.KernelExpertsIdeal.main (F := Ideal))) ⟨m, fun _ => 0, g⟩ (fun r => ∀ c : Dev Cert.KernelExpertsIdeal.nD,
          r.2.mem ((c.tc : Thread Cert.KernelExpertsIdeal.nD Cert.KernelExpertsIdeal.τ).loc Cert.KernelExpertsIdeal.main_v0) = v0 c
          ∧ r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
          ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
          ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
          ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
          ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v27) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v6)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v6) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v12) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelNa_KernelNaIdeal : Prop :=
  True

def algebraic_KernelNaIdeal_ReferenceNaIdeal_pre_near [hKernelNaIdeal : Cert.KernelNaIdeal.Facts] [hReferenceNaIdeal : Cert.ReferenceNaIdeal.Facts] [hPre_near : Cert.Pre_near.Facts] : Prop :=
  ∀ (m : (ℓ : Loc Cert.KernelNaIdeal.nD Cert.KernelNaIdeal.τ Cert.KernelNaIdeal.sig) → Buf (Elt Ideal) ℓ) (g : Dev Cert.KernelNaIdeal.nD → PrngReg)
    (m' : (ℓ : Loc Cert.ReferenceNaIdeal.nD Cert.ReferenceNaIdeal.τ Cert.ReferenceNaIdeal.sig) → Buf (Elt Ideal) ℓ) (g' : Dev Cert.ReferenceNaIdeal.nD → PrngReg), Pre_KernelNaIdeal_near m →
    (∀ c : Dev Cert.KernelNaIdeal.nD,
      m' ((c.tc : Thread Cert.ReferenceNaIdeal.nD Cert.ReferenceNaIdeal.τ).loc Cert.ReferenceNaIdeal.main_arg0) = m ((c.tc : Thread Cert.KernelNaIdeal.nD Cert.KernelNaIdeal.τ).loc Cert.KernelNaIdeal.main_arg0)
      ∧ m' ((c.tc : Thread Cert.ReferenceNaIdeal.nD Cert.ReferenceNaIdeal.τ).loc Cert.ReferenceNaIdeal.main_arg1) = m ((c.tc : Thread Cert.KernelNaIdeal.nD Cert.KernelNaIdeal.τ).loc Cert.KernelNaIdeal.main_arg1)) →
    ∃ (v0 : (c : Dev Cert.KernelNaIdeal.nD) → Buf (Elt Ideal) ((c.tc : Thread Cert.KernelNaIdeal.nD Cert.KernelNaIdeal.τ).loc Cert.KernelNaIdeal.main_v14)),
      θ_run (Cert.KernelNaIdeal.defs (F := Ideal)) (onTc (τ := Cert.KernelNaIdeal.τ) (Cert.KernelNaIdeal.main (F := Ideal))) ⟨m, fun _ => 0, g⟩ (fun r => ∀ c : Dev Cert.KernelNaIdeal.nD,
          r.2.mem ((c.tc : Thread Cert.KernelNaIdeal.nD Cert.KernelNaIdeal.τ).loc Cert.KernelNaIdeal.main_v14) = v0 c
          ∧ r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
          ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1))
      ∧ θ_run (Cert.ReferenceNaIdeal.defs (F := Ideal)) (onTc (τ := Cert.ReferenceNaIdeal.τ) (Cert.ReferenceNaIdeal.main (F := Ideal))) ⟨m', fun _ => 0, g'⟩ (fun r => ∀ c : Dev Cert.ReferenceNaIdeal.nD,
          r.2.mem ((c.tc : Thread Cert.ReferenceNaIdeal.nD Cert.ReferenceNaIdeal.τ).loc Cert.ReferenceNaIdeal.main_v152) = v0 c
          ∧ r.2.mem ((c.tc : Thread Cert.ReferenceNaIdeal.nD Cert.ReferenceNaIdeal.τ).loc Cert.ReferenceNaIdeal.main_arg0) = m' ((c.tc : Thread Cert.ReferenceNaIdeal.nD Cert.ReferenceNaIdeal.τ).loc Cert.ReferenceNaIdeal.main_arg0)
          ∧ r.2.mem ((c.tc : Thread Cert.ReferenceNaIdeal.nD Cert.ReferenceNaIdeal.τ).loc Cert.ReferenceNaIdeal.main_arg1) = m' ((c.tc : Thread Cert.ReferenceNaIdeal.nD Cert.ReferenceNaIdeal.τ).loc Cert.ReferenceNaIdeal.main_arg1))

def preserves_KernelRoute_KernelRouteIdeal : Prop :=
  True

def algebraic_KernelRouteIdeal_ReferenceRouteIdeal_pre_sound [hKernelRouteIdeal : Cert.KernelRouteIdeal.Facts] [hReferenceRouteIdeal : Cert.ReferenceRouteIdeal.Facts] [hPre_sound : Cert.Pre_sound.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_KernelRouteIdeal_sound m →
    (∀ c : Dev Cert.KernelRouteIdeal.nD,
      m' ((c.tc : Thread Cert.ReferenceRouteIdeal.nD Cert.ReferenceRouteIdeal.τ).loc Cert.ReferenceRouteIdeal.main_arg0) = m ((c.tc : Thread Cert.KernelRouteIdeal.nD Cert.KernelRouteIdeal.τ).loc Cert.KernelRouteIdeal.main_arg0)
      ∧ m' ((c.tc : Thread Cert.ReferenceRouteIdeal.nD Cert.ReferenceRouteIdeal.τ).loc Cert.ReferenceRouteIdeal.main_arg1) = m ((c.tc : Thread Cert.KernelRouteIdeal.nD Cert.KernelRouteIdeal.τ).loc Cert.KernelRouteIdeal.main_arg1)
      ∧ m' ((c.tc : Thread Cert.ReferenceRouteIdeal.nD Cert.ReferenceRouteIdeal.τ).loc Cert.ReferenceRouteIdeal.main_arg2) = m ((c.tc : Thread Cert.KernelRouteIdeal.nD Cert.KernelRouteIdeal.τ).loc Cert.KernelRouteIdeal.main_arg2)
      ∧ m' ((c.tc : Thread Cert.ReferenceRouteIdeal.nD Cert.ReferenceRouteIdeal.τ).loc Cert.ReferenceRouteIdeal.main_arg3) = m ((c.tc : Thread Cert.KernelRouteIdeal.nD Cert.KernelRouteIdeal.τ).loc Cert.KernelRouteIdeal.main_arg3)
      ∧ m' ((c.tc : Thread Cert.ReferenceRouteIdeal.nD Cert.ReferenceRouteIdeal.τ).loc Cert.ReferenceRouteIdeal.main_arg4) = m ((c.tc : Thread Cert.KernelRouteIdeal.nD Cert.KernelRouteIdeal.τ).loc Cert.KernelRouteIdeal.main_arg4)
      ∧ m' ((c.tc : Thread Cert.ReferenceRouteIdeal.nD Cert.ReferenceRouteIdeal.τ).loc Cert.ReferenceRouteIdeal.main_arg5) = m ((c.tc : Thread Cert.KernelRouteIdeal.nD Cert.KernelRouteIdeal.τ).loc Cert.KernelRouteIdeal.main_arg5)
      ∧ m' ((c.tc : Thread Cert.ReferenceRouteIdeal.nD Cert.ReferenceRouteIdeal.τ).loc Cert.ReferenceRouteIdeal.main_arg6) = m ((c.tc : Thread Cert.KernelRouteIdeal.nD Cert.KernelRouteIdeal.τ).loc Cert.KernelRouteIdeal.main_arg6)
      ∧ m' ((c.tc : Thread Cert.ReferenceRouteIdeal.nD Cert.ReferenceRouteIdeal.τ).loc Cert.ReferenceRouteIdeal.main_arg7) = m ((c.tc : Thread Cert.KernelRouteIdeal.nD Cert.KernelRouteIdeal.τ).loc Cert.KernelRouteIdeal.main_arg7)
      ∧ m' ((c.tc : Thread Cert.ReferenceRouteIdeal.nD Cert.ReferenceRouteIdeal.τ).loc Cert.ReferenceRouteIdeal.main_arg8) = m ((c.tc : Thread Cert.KernelRouteIdeal.nD Cert.KernelRouteIdeal.τ).loc Cert.KernelRouteIdeal.main_arg8)
      ∧ m' ((c.tc : Thread Cert.ReferenceRouteIdeal.nD Cert.ReferenceRouteIdeal.τ).loc Cert.ReferenceRouteIdeal.main_arg9) = m ((c.tc : Thread Cert.KernelRouteIdeal.nD Cert.KernelRouteIdeal.τ).loc Cert.KernelRouteIdeal.main_arg9)
      ∧ m' ((c.tc : Thread Cert.ReferenceRouteIdeal.nD Cert.ReferenceRouteIdeal.τ).loc Cert.ReferenceRouteIdeal.main_arg10) = m ((c.tc : Thread Cert.KernelRouteIdeal.nD Cert.KernelRouteIdeal.τ).loc Cert.KernelRouteIdeal.main_arg10)
      ∧ m' ((c.tc : Thread Cert.ReferenceRouteIdeal.nD Cert.ReferenceRouteIdeal.τ).loc Cert.ReferenceRouteIdeal.main_arg11) = m ((c.tc : Thread Cert.KernelRouteIdeal.nD Cert.KernelRouteIdeal.τ).loc Cert.KernelRouteIdeal.main_arg11)
      ∧ m' ((c.tc : Thread Cert.ReferenceRouteIdeal.nD Cert.ReferenceRouteIdeal.τ).loc Cert.ReferenceRouteIdeal.main_arg12) = m ((c.tc : Thread Cert.KernelRouteIdeal.nD Cert.KernelRouteIdeal.τ).loc Cert.KernelRouteIdeal.main_arg12)
      ∧ m' ((c.tc : Thread Cert.ReferenceRouteIdeal.nD Cert.ReferenceRouteIdeal.τ).loc Cert.ReferenceRouteIdeal.main_arg13) = m ((c.tc : Thread Cert.KernelRouteIdeal.nD Cert.KernelRouteIdeal.τ).loc Cert.KernelRouteIdeal.main_arg13)
      ∧ m' ((c.tc : Thread Cert.ReferenceRouteIdeal.nD Cert.ReferenceRouteIdeal.τ).loc Cert.ReferenceRouteIdeal.main_arg14) = m ((c.tc : Thread Cert.KernelRouteIdeal.nD Cert.KernelRouteIdeal.τ).loc Cert.KernelRouteIdeal.main_arg14)
      ∧ m' ((c.tc : Thread Cert.ReferenceRouteIdeal.nD Cert.ReferenceRouteIdeal.τ).loc Cert.ReferenceRouteIdeal.main_arg15) = m ((c.tc : Thread Cert.KernelRouteIdeal.nD Cert.KernelRouteIdeal.τ).loc Cert.KernelRouteIdeal.main_arg15)
      ∧ m' ((c.tc : Thread Cert.ReferenceRouteIdeal.nD Cert.ReferenceRouteIdeal.τ).loc Cert.ReferenceRouteIdeal.main_arg16) = m ((c.tc : Thread Cert.KernelRouteIdeal.nD Cert.KernelRouteIdeal.τ).loc Cert.KernelRouteIdeal.main_arg16)) →
    ∃ (v0 : (c : Dev Cert.KernelRouteIdeal.nD) → Buf (Elt Ideal) ((c.tc : Thread Cert.KernelRouteIdeal.nD Cert.KernelRouteIdeal.τ).loc Cert.KernelRouteIdeal.main_v27_2)),
      θ_run (Cert.KernelRouteIdeal.defs (F := Ideal)) (onTc (τ := Cert.KernelRouteIdeal.τ) (Cert.KernelRouteIdeal.main (F := Ideal))) ⟨m, fun _ => 0, g⟩ (fun r => ∀ c : Dev Cert.KernelRouteIdeal.nD,
          r.2.mem ((c.tc : Thread Cert.KernelRouteIdeal.nD Cert.KernelRouteIdeal.τ).loc Cert.KernelRouteIdeal.main_v27_2) = v0 c
          ∧ r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
          ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
          ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
          ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
          ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
          ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
          ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6)
          ∧ r.2.mem ((c.tc : Thread Cert.KernelRouteIdeal.nD Cert.KernelRouteIdeal.τ).loc Cert.KernelRouteIdeal.main_arg7) = m ((c.tc : Thread Cert.KernelRouteIdeal.nD Cert.KernelRouteIdeal.τ).loc Cert.KernelRouteIdeal.main_arg7)
          ∧ r.2.mem ((c.tc : Thread Cert.KernelRouteIdeal.nD Cert.KernelRouteIdeal.τ).loc Cert.KernelRouteIdeal.main_arg8) = m ((c.tc : Thread Cert.KernelRouteIdeal.nD Cert.KernelRouteIdeal.τ).loc Cert.KernelRouteIdeal.main_arg8)
          ∧ r.2.mem ((c.tc : Thread Cert.KernelRouteIdeal.nD Cert.KernelRouteIdeal.τ).loc Cert.KernelRouteIdeal.main_arg9) = m ((c.tc : Thread Cert.KernelRouteIdeal.nD Cert.KernelRouteIdeal.τ).loc Cert.KernelRouteIdeal.main_arg9)
          ∧ r.2.mem ((c.tc : Thread Cert.KernelRouteIdeal.nD Cert.KernelRouteIdeal.τ).loc Cert.KernelRouteIdeal.main_arg10) = m ((c.tc : Thread Cert.KernelRouteIdeal.nD Cert.KernelRouteIdeal.τ).loc Cert.KernelRouteIdeal.main_arg10)
          ∧ r.2.mem ((c.tc : Thread Cert.KernelRouteIdeal.nD Cert.KernelRouteIdeal.τ).loc Cert.KernelRouteIdeal.main_arg11) = m ((c.tc : Thread Cert.KernelRouteIdeal.nD Cert.KernelRouteIdeal.τ).loc Cert.KernelRouteIdeal.main_arg11)
          ∧ r.2.mem ((c.tc : Thread Cert.KernelRouteIdeal.nD Cert.KernelRouteIdeal.τ).loc Cert.KernelRouteIdeal.main_arg12) = m ((c.tc : Thread Cert.KernelRouteIdeal.nD Cert.KernelRouteIdeal.τ).loc Cert.KernelRouteIdeal.main_arg12)
          ∧ r.2.mem ((c.tc : Thread Cert.KernelRouteIdeal.nD Cert.KernelRouteIdeal.τ).loc Cert.KernelRouteIdeal.main_arg13) = m ((c.tc : Thread Cert.KernelRouteIdeal.nD Cert.KernelRouteIdeal.τ).loc Cert.KernelRouteIdeal.main_arg13)
          ∧ r.2.mem ((c.tc : Thread Cert.KernelRouteIdeal.nD Cert.KernelRouteIdeal.τ).loc Cert.KernelRouteIdeal.main_arg14) = m ((c.tc : Thread Cert.KernelRouteIdeal.nD Cert.KernelRouteIdeal.τ).loc Cert.KernelRouteIdeal.main_arg14)
          ∧ r.2.mem ((c.tc : Thread Cert.KernelRouteIdeal.nD Cert.KernelRouteIdeal.τ).loc Cert.KernelRouteIdeal.main_arg15) = m ((c.tc : Thread Cert.KernelRouteIdeal.nD Cert.KernelRouteIdeal.τ).loc Cert.KernelRouteIdeal.main_arg15)
          ∧ r.2.mem ((c.tc : Thread Cert.KernelRouteIdeal.nD Cert.KernelRouteIdeal.τ).loc Cert.KernelRouteIdeal.main_arg16) = m ((c.tc : Thread Cert.KernelRouteIdeal.nD Cert.KernelRouteIdeal.τ).loc Cert.KernelRouteIdeal.main_arg16))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_v193) = v0 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1)
          ∧ r.2.mem ((c.tc : Thread Cert.ReferenceRouteIdeal.nD Cert.ReferenceRouteIdeal.τ).loc Cert.ReferenceRouteIdeal.main_arg2) = m' ((c.tc : Thread Cert.ReferenceRouteIdeal.nD Cert.ReferenceRouteIdeal.τ).loc Cert.ReferenceRouteIdeal.main_arg2)
          ∧ r.2.mem ((c.tc : Thread Cert.ReferenceRouteIdeal.nD Cert.ReferenceRouteIdeal.τ).loc Cert.ReferenceRouteIdeal.main_arg3) = m' ((c.tc : Thread Cert.ReferenceRouteIdeal.nD Cert.ReferenceRouteIdeal.τ).loc Cert.ReferenceRouteIdeal.main_arg3)
          ∧ r.2.mem ((c.tc : Thread Cert.ReferenceRouteIdeal.nD Cert.ReferenceRouteIdeal.τ).loc Cert.ReferenceRouteIdeal.main_arg4) = m' ((c.tc : Thread Cert.ReferenceRouteIdeal.nD Cert.ReferenceRouteIdeal.τ).loc Cert.ReferenceRouteIdeal.main_arg4)
          ∧ r.2.mem ((c.tc : Thread Cert.ReferenceRouteIdeal.nD Cert.ReferenceRouteIdeal.τ).loc Cert.ReferenceRouteIdeal.main_arg5) = m' ((c.tc : Thread Cert.ReferenceRouteIdeal.nD Cert.ReferenceRouteIdeal.τ).loc Cert.ReferenceRouteIdeal.main_arg5)
          ∧ r.2.mem ((c.tc : Thread Cert.ReferenceRouteIdeal.nD Cert.ReferenceRouteIdeal.τ).loc Cert.ReferenceRouteIdeal.main_arg6) = m' ((c.tc : Thread Cert.ReferenceRouteIdeal.nD Cert.ReferenceRouteIdeal.τ).loc Cert.ReferenceRouteIdeal.main_arg6)
          ∧ r.2.mem ((c.tc : Thread Cert.ReferenceRouteIdeal.nD Cert.ReferenceRouteIdeal.τ).loc Cert.ReferenceRouteIdeal.main_arg7) = m' ((c.tc : Thread Cert.ReferenceRouteIdeal.nD Cert.ReferenceRouteIdeal.τ).loc Cert.ReferenceRouteIdeal.main_arg7)
          ∧ r.2.mem ((c.tc : Thread Cert.ReferenceRouteIdeal.nD Cert.ReferenceRouteIdeal.τ).loc Cert.ReferenceRouteIdeal.main_arg8) = m' ((c.tc : Thread Cert.ReferenceRouteIdeal.nD Cert.ReferenceRouteIdeal.τ).loc Cert.ReferenceRouteIdeal.main_arg8)
          ∧ r.2.mem ((c.tc : Thread Cert.ReferenceRouteIdeal.nD Cert.ReferenceRouteIdeal.τ).loc Cert.ReferenceRouteIdeal.main_arg9) = m' ((c.tc : Thread Cert.ReferenceRouteIdeal.nD Cert.ReferenceRouteIdeal.τ).loc Cert.ReferenceRouteIdeal.main_arg9)
          ∧ r.2.mem ((c.tc : Thread Cert.ReferenceRouteIdeal.nD Cert.ReferenceRouteIdeal.τ).loc Cert.ReferenceRouteIdeal.main_arg10) = m' ((c.tc : Thread Cert.ReferenceRouteIdeal.nD Cert.ReferenceRouteIdeal.τ).loc Cert.ReferenceRouteIdeal.main_arg10)
          ∧ r.2.mem ((c.tc : Thread Cert.ReferenceRouteIdeal.nD Cert.ReferenceRouteIdeal.τ).loc Cert.ReferenceRouteIdeal.main_arg11) = m' ((c.tc : Thread Cert.ReferenceRouteIdeal.nD Cert.ReferenceRouteIdeal.τ).loc Cert.ReferenceRouteIdeal.main_arg11)
          ∧ r.2.mem ((c.tc : Thread Cert.ReferenceRouteIdeal.nD Cert.ReferenceRouteIdeal.τ).loc Cert.ReferenceRouteIdeal.main_arg12) = m' ((c.tc : Thread Cert.ReferenceRouteIdeal.nD Cert.ReferenceRouteIdeal.τ).loc Cert.ReferenceRouteIdeal.main_arg12)
          ∧ r.2.mem ((c.tc : Thread Cert.ReferenceRouteIdeal.nD Cert.ReferenceRouteIdeal.τ).loc Cert.ReferenceRouteIdeal.main_arg13) = m' ((c.tc : Thread Cert.ReferenceRouteIdeal.nD Cert.ReferenceRouteIdeal.τ).loc Cert.ReferenceRouteIdeal.main_arg13)
          ∧ r.2.mem ((c.tc : Thread Cert.ReferenceRouteIdeal.nD Cert.ReferenceRouteIdeal.τ).loc Cert.ReferenceRouteIdeal.main_arg14) = m' ((c.tc : Thread Cert.ReferenceRouteIdeal.nD Cert.ReferenceRouteIdeal.τ).loc Cert.ReferenceRouteIdeal.main_arg14)
          ∧ r.2.mem ((c.tc : Thread Cert.ReferenceRouteIdeal.nD Cert.ReferenceRouteIdeal.τ).loc Cert.ReferenceRouteIdeal.main_arg15) = m' ((c.tc : Thread Cert.ReferenceRouteIdeal.nD Cert.ReferenceRouteIdeal.τ).loc Cert.ReferenceRouteIdeal.main_arg15)
          ∧ r.2.mem ((c.tc : Thread Cert.ReferenceRouteIdeal.nD Cert.ReferenceRouteIdeal.τ).loc Cert.ReferenceRouteIdeal.main_arg16) = m' ((c.tc : Thread Cert.ReferenceRouteIdeal.nD Cert.ReferenceRouteIdeal.τ).loc Cert.ReferenceRouteIdeal.main_arg16))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelMerge : Cert.KernelMerge.Facts) (hKernelMergeIdeal : Cert.KernelMergeIdeal.Facts) (hReferenceMergeIdeal : Cert.ReferenceMergeIdeal.Facts) (hKernelExperts : Cert.KernelExperts.Facts) (hKernelExpertsIdeal : Cert.KernelExpertsIdeal.Facts) (hReferenceExpertsIdeal : Cert.ReferenceExpertsIdeal.Facts) (hKernelMod : Cert.KernelMod.Facts) (hKernelModIdeal : Cert.KernelModIdeal.Facts) (hReferenceModIdeal : Cert.ReferenceModIdeal.Facts) (hKernelNa : Cert.KernelNa.Facts) (hKernelNaIdeal : Cert.KernelNaIdeal.Facts) (hReferenceNaIdeal : Cert.ReferenceNaIdeal.Facts) (hKernelRoute : Cert.KernelRoute.Facts) (hKernelRouteIdeal : Cert.KernelRouteIdeal.Facts) (hReferenceRouteIdeal : Cert.ReferenceRouteIdeal.Facts) (hPre_finite : Cert.Pre_finite.Facts) (hPre_named : Cert.Pre_named.Facts) (hPre_near : Cert.Pre_near.Facts) (hPre_sound : Cert.Pre_sound.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelExperts (hKernelExperts := hKernelExperts) (hPre_named := hPre_named)
    ∧ quiescent_KernelExpertsIdeal (hKernelExpertsIdeal := hKernelExpertsIdeal) (hPre_named := hPre_named)
    ∧ quiescent_ReferenceExpertsIdeal (hReferenceExpertsIdeal := hReferenceExpertsIdeal)
    ∧ quiescent_ReferenceExpertsIdeal_pre_named (hReferenceExpertsIdeal := hReferenceExpertsIdeal) (hPre_named := hPre_named)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelNa (hKernelNa := hKernelNa)
    ∧ quiescent_KernelNaIdeal (hKernelNaIdeal := hKernelNaIdeal)
    ∧ quiescent_KernelNaIdeal_pre_near (hKernelNaIdeal := hKernelNaIdeal) (hPre_near := hPre_near)
    ∧ quiescent_ReferenceNaIdeal (hReferenceNaIdeal := hReferenceNaIdeal)
    ∧ quiescent_ReferenceNaIdeal_pre_near (hReferenceNaIdeal := hReferenceNaIdeal) (hPre_near := hPre_near)
    ∧ quiescent_KernelRoute (hKernelRoute := hKernelRoute)
    ∧ quiescent_KernelRouteIdeal (hKernelRouteIdeal := hKernelRouteIdeal)
    ∧ quiescent_KernelRouteIdeal_pre_sound (hKernelRouteIdeal := hKernelRouteIdeal) (hPre_sound := hPre_sound)
    ∧ quiescent_ReferenceRouteIdeal (hReferenceRouteIdeal := hReferenceRouteIdeal)
    ∧ quiescent_ReferenceRouteIdeal_pre_sound (hReferenceRouteIdeal := hReferenceRouteIdeal) (hPre_sound := hPre_sound)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelExperts_KernelExpertsIdeal
    ∧ algebraic_KernelExpertsIdeal_ReferenceExpertsIdeal (hKernelExpertsIdeal := hKernelExpertsIdeal) (hReferenceExpertsIdeal := hReferenceExpertsIdeal) (hPre_named := hPre_named)
    ∧ preserves_KernelMod_KernelModIdeal
    ∧ algebraic_KernelModIdeal_ReferenceModIdeal (hKernelModIdeal := hKernelModIdeal) (hReferenceModIdeal := hReferenceModIdeal)
    ∧ preserves_KernelNa_KernelNaIdeal
    ∧ algebraic_KernelNaIdeal_ReferenceNaIdeal_pre_near (hKernelNaIdeal := hKernelNaIdeal) (hReferenceNaIdeal := hReferenceNaIdeal) (hPre_near := hPre_near)
    ∧ preserves_KernelRoute_KernelRouteIdeal
    ∧ algebraic_KernelRouteIdeal_ReferenceRouteIdeal_pre_sound (hKernelRouteIdeal := hKernelRouteIdeal) (hReferenceRouteIdeal := hReferenceRouteIdeal) (hPre_sound := hPre_sound)
-- ==== Pre_finite.lean ====
abbrev S17408x768 : Shape := ⟨2, ![17408, 768]⟩
abbrev S64 : Shape := ⟨1, ![64]⟩
abbrev S17408x640 : Shape := ⟨2, ![17408, 640]⟩
abbrev S_ : Shape := ⟨0, ![]⟩

class Facts : Prop where
  slices_S17408x768_S17408x640_0_0 : S17408x768.Slices ![0, 0] S17408x640
  bcast_S_S17408x640 : S_.BroadcastsInDim S17408x640 (![] : Fin 0 → Fin S17408x640.rank)
  bcast_S_S64 : S_.BroadcastsInDim S64 (![] : Fin 0 → Fin S64.rank)

variable [Facts]

def fn {F : FTy → Type} [FloatOps F] (main_arg0 : FVec F S17408x768 .f32) (main_arg1 : FVec F S64 .f32) (main_arg2 : FVec F S64 .f32) : IVec S17408x640 1 × IVec S64 1 × IVec S64 1 :=
  let main_v0 : FVec F S17408x640 .f32 := (extractStridedSlice S17408x640 ![0, 0] · slices_S17408x768_S17408x640_0_0) main_arg0
  let main_v1 : FVec F S17408x640 .f32 := Host.absf main_v0
  let main_cst : FVec F S_ .f32 := constant S_ .f32 0x7F800000#32
  let main_v2 : FVec F S17408x640 .f32 := broadcastInDim S17408x640 ![] bcast_S_S17408x640 main_cst
  let main_v3 : IVec S17408x640 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  (main_v3, main_v6, main_v9)
-- ==== Pre_named.lean ====
abbrev S168 : Shape := ⟨1, ![168]⟩
abbrev S43008x1024 : Shape := ⟨2, ![43008, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S168 : S_.BroadcastsInDim S168 (![] : Fin 0 → Fin S168.rank)

variable [Facts]

def fn {F : FTy → Type} [FloatOps F] (main_arg0 : IVec S168 32) (main_arg1 : FVec F S43008x1024 .f32) (main_arg2 : FVec F S32x1024x512 .f32) (main_arg3 : FVec F S32x1024x512 .f32) (main_arg4 : FVec F S32x512x1024 .f32) : IVec S168 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  main_v4
-- ==== Pre_near.lean ====
abbrev S17408x1536 : Shape := ⟨2, ![17408, 1536]⟩
abbrev S8x15x31 : Shape := ⟨3, ![8, 15, 31]⟩
abbrev S17408x1024 : Shape := ⟨2, ![17408, 1024]⟩
abbrev S_ : Shape := ⟨0, ![]⟩

class Facts : Prop where
  slices_S17408x1536_S17408x1024_0_0 : S17408x1536.Slices ![0, 0] S17408x1024
  bitsLt_bf16_f32 : FTy.bits .bf16 < FTy.bits .f32
  bcast_S_S17408x1024 : S_.BroadcastsInDim S17408x1024 (![] : Fin 0 → Fin S17408x1024.rank)
  bcast_S_S8x15x31 : S_.BroadcastsInDim S8x15x31 (![] : Fin 0 → Fin S8x15x31.rank)

variable [Facts]

def fn {F : FTy → Type} [FloatOps F] (main_arg0 : FVec F S17408x1536 .bf16) (main_arg1 : FVec F S8x15x31 .f32) : IVec S17408x1024 1 × IVec S8x15x31 1 :=
  let main_v0 : FVec F S17408x1024 .bf16 := (extractStridedSlice S17408x1024 ![0, 0] · slices_S17408x1536_S17408x1024_0_0) main_arg0
  let main_v1 : FVec F S17408x1024 .f32 := (extf .f32 · bitsLt_bf16_f32) main_v0
  let main_v2 : FVec F S17408x1024 .f32 := Host.absf main_v1
  let main_cst : FVec F S_ .f32 := constant S_ .f32 0x7F800000#32
  let main_v3 : FVec F S17408x1024 .f32 := broadcastInDim S17408x1024 ![] bcast_S_S17408x1024 main_cst
  let main_v4 : IVec S17408x1024 1 := cmpf .olt main_v2 main_v3
  let main_v5 : FVec F S8x15x31 .f32 := Host.absf main_arg1
  let main_cst_0 : FVec F S_ .f32 := constant S_ .f32 0x7F800000#32
  let main_v6 : FVec F S8x15x31 .f32 := broadcastInDim S8x15x31 ![] bcast_S_S8x15x31 main_cst_0
  let main_v7 : IVec S8x15x31 1 := cmpf .olt main_v5 main_v6
  (main_v4, main_v7)
-- ==== Pre_sound.lean ====
abbrev S17408x1024 : Shape := ⟨2, ![17408, 1024]⟩
abbrev S8x6x1024 : Shape := ⟨3, ![8, 6, 1024]⟩
abbrev S17408x512 : Shape := ⟨2, ![17408, 512]⟩
abbrev S1024x6944 : Shape := ⟨2, ![1024, 6944]⟩
abbrev S6944 : Shape := ⟨1, ![6944]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x2x1024 : Shape := ⟨3, ![8, 2, 1024]⟩
abbrev S_ : Shape := ⟨0, ![]⟩

class Facts : Prop where
  slices_S8x6x1024_S8x2x1024_0_3_0 : S8x6x1024.Slices ![0, 3, 0] S8x2x1024
  bcast_S_S8x2x1024 : S_.BroadcastsInDim S8x2x1024 (![] : Fin 0 → Fin S8x2x1024.rank)
  bcast_S_S1024x4 : S_.BroadcastsInDim S1024x4 (![] : Fin 0 → Fin S1024x4.rank)
  bcast_S_S4 : S_.BroadcastsInDim S4 (![] : Fin 0 → Fin S4.rank)
  bcast_S_S1024x32 : S_.BroadcastsInDim S1024x32 (![] : Fin 0 → Fin S1024x32.rank)
  bcast_S_S32 : S_.BroadcastsInDim S32 (![] : Fin 0 → Fin S32.rank)

variable [Facts]

def fn {F : FTy → Type} [FloatOps F] (main_arg0 : FVec F S17408x1024 .f32) (main_arg1 : FVec F S8x6x1024 .f32) (main_arg2 : FVec F S17408x512 .bf16) (main_arg3 : FVec F S17408x512 .bf16) (main_arg4 : FVec F S17408x512 .bf16) (main_arg5 : FVec F S1024x6944 .f32) (main_arg6 : FVec F S6944 .f32) (main_arg7 : FVec F S512x1024 .f32) (main_arg8 : FVec F S512x1024 .f32) (main_arg9 : FVec F S512x1024 .f32) (main_arg10 : FVec F S1024x1024 .f32) (main_arg11 : FVec F S1024 .f32) (main_arg12 : FVec F S1024 .f32) (main_arg13 : FVec F S1024x4 .f32) (main_arg14 : FVec F S4 .f32) (main_arg15 : FVec F S1024x32 .f32) (main_arg16 : FVec F S32 .f32) : IVec S8x2x1024 1 × IVec S1024x4 1 × IVec S4 1 × IVec S1024x32 1 × IVec S32 1 :=
  let main_v0 : FVec F S8x2x1024 .f32 := (extractStridedSlice S8x2x1024 ![0, 3, 0] · slices_S8x6x1024_S8x2x1024_0_3_0) main_arg1
  let main_v1 : FVec F S8x2x1024 .f32 := Host.absf main_v0
  let main_cst : FVec F S_ .f32 := constant S_ .f32 0x7F800000#32
  let main_v2 : FVec F S8x2x1024 .f32 := broadcastInDim S8x2x1024 ![] bcast_S_S8x2x1024 main_cst
  let main_v3 : IVec S8x2x1024 1 := cmpf .olt main_v1 main_v2
  let main_v4 : FVec F S1024x4 .f32 := Host.absf main_arg13
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_v7 : FVec F S4 .f32 := Host.absf main_arg14
  let main_cst_1 : FVec F S_ .f32 := constant S_ .f32 0x7F800000#32
  let main_v8 : FVec F S4 .f32 := broadcastInDim S4 ![] bcast_S_S4 main_cst_1
  let main_v9 : IVec S4 1 := cmpf .olt main_v7 main_v8
  let main_v10 : FVec F S1024x32 .f32 := Host.absf main_arg15
  let main_cst_2 : FVec F S_ .f32 := constant S_ .f32 0x7F800000#32
  let main_v11 : FVec F S1024x32 .f32 := broadcastInDim S1024x32 ![] bcast_S_S1024x32 main_cst_2
  let main_v12 : IVec S1024x32 1 := cmpf .olt main_v10 main_v11
  let main_v13 : FVec F S32 .f32 := Host.absf main_arg16
  let main_cst_3 : FVec F S_ .f32 := constant S_ .f32 0x7F800000#32
  let main_v14 : FVec F S32 .f32 := broadcastInDim S32 ![] bcast_S_S32 main_cst_3
  let main_v15 : IVec S32 1 := cmpf .olt main_v13 main_v14
  (main_v3, main_v6, main_v9, main_v12, main_v15)
-- ==== Kernel.lean ====
abbrev S17408x768 : Shape := ⟨2, ![17408, 768]⟩
abbrev S64 : Shape := ⟨1, ![64]⟩
abbrev S128x128 : Shape := ⟨2, ![128, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x64 : Shape := ⟨2, ![1, 64]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S4352x128 : Shape := ⟨2, ![4352, 128]⟩
abbrev S2x64 : Shape := ⟨2, ![2, 64]⟩
abbrev S128 : Shape := ⟨1, ![128]⟩
abbrev S1x128 : Shape := ⟨2, ![1, 128]⟩
abbrev S17408x512 : Shape := ⟨2, ![17408, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x4352 : Shape := ⟨2, ![256, 4352]⟩

abbrev nBuf : Space → Nat
  | .hbm => 102
  | .vmem => 22
  | .smem => 0
  | _ => 0

abbrev bufTy : (tb : Table) → Fin (tcTables nBuf tb) → BufTy
  | .hbm, ⟨0, _⟩ => ⟨S17408x768, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x128, .bf16⟩
  | .hbm, ⟨6, _⟩ => ⟨S4096, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S1x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S_, .i1⟩
  | .hbm, ⟨55, _⟩ => ⟨S4096, .i1⟩
  | .hbm, ⟨56, _⟩ => ⟨S4096, .i1⟩
  | .hbm, ⟨57, _⟩ => ⟨S4096, .i1⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096, .f32⟩
  | .hbm, ⟨62, _⟩ => ⟨S4096x1, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S1x64, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S1x64, .f32⟩
  | .hbm, ⟨75, _⟩ => ⟨S4096x64, .f32⟩
  | .hbm, ⟨76, _⟩ => ⟨S4096x64, .f32⟩
  | .hbm, ⟨77, _⟩ => ⟨S_, .f32⟩
  | .hbm, ⟨78, _⟩ => ⟨S256x64, .f32⟩
  | .hbm, ⟨79, _⟩ => ⟨S_, .f32⟩
  | .hbm, ⟨80, _⟩ => ⟨S256x64, .f32⟩
  | .hbm, ⟨81, _⟩ => ⟨S4352x64, .f32⟩
  | .hbm, ⟨82, _⟩ => ⟨S1x4352x1x64, .f32⟩
  | .hbm, ⟨83, _⟩ => ⟨S1x4352x2x64, .f32⟩
  | .hbm, ⟨84, _⟩ => ⟨S4352x128, .f32⟩
  | .hbm, ⟨85, _⟩ => ⟨S4352x64, .f32⟩
  | .hbm, ⟨86, _⟩ => ⟨S1x4352x1x64, .f32⟩
  | .hbm, ⟨87, _⟩ => ⟨S1x4352x2x64, .f32⟩
  | .hbm, ⟨88, _⟩ => ⟨S4352x128, .f32⟩
  | .hbm, ⟨89, _⟩ => ⟨S4352x64, .f32⟩
  | .hbm, ⟨90, _⟩ => ⟨S1x4352x1x64, .f32⟩
  | .hbm, ⟨91, _⟩ => ⟨S1x4352x2x64, .f32⟩
  | .hbm, ⟨92, _⟩ => ⟨S4352x128, .f32⟩
  | .hbm, ⟨93, _⟩ => ⟨S1x64, .f32⟩
  | .hbm, ⟨94, _⟩ => ⟨S2x64, .f32⟩
  | .hbm, ⟨95, _⟩ => ⟨S128, .f32⟩
  | .hbm, ⟨96, _⟩ => ⟨S1x128, .f32⟩
  | .hbm, ⟨97, _⟩ => ⟨S1x64, .f32⟩
  | .hbm, ⟨98, _⟩ => ⟨S2x64, .f32⟩
  | .hbm, ⟨99, _⟩ => ⟨S128, .f32⟩
  | .hbm, ⟨100, _⟩ => ⟨S1x128, .f32⟩
  | .hbm, ⟨101, _⟩ => ⟨S17408x512, .bf16⟩
  | .local _ .vmem, ⟨0, _⟩ => ⟨S256x256, .f32⟩
  | .local _ .vmem, ⟨1, _⟩ => ⟨S256x256, .f32⟩
  | .local _ .vmem, ⟨2, _⟩ => ⟨S4352x128, .f32⟩
  | .local _ .vmem, ⟨3, _⟩ => ⟨S4352x128, .f32⟩
  | .local _ .vmem, ⟨4, _⟩ => ⟨S4352x128, .f32⟩
  | .local _ .vmem, ⟨5, _⟩ => ⟨S4352x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4352x128, .f32⟩
  | .local _ .vmem, ⟨13, _⟩ => ⟨S4352x128, .f32⟩
  | .local _ .vmem, ⟨14, _⟩ => ⟨S4352x128, .f32⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S256x256, .bf16⟩
  | .local _ .vmem, ⟨19, _⟩ => ⟨S256x256, .bf16⟩
  | .local _ .vmem, ⟨20, _⟩ => ⟨S4352x128, .bf16⟩
  | .local _ .vmem, ⟨21, _⟩ => ⟨S4352x128, .bf16⟩
  | _, _ => ⟨S17408x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_4 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_6 : BitVec 32 := 0#32
  let c17_i32 : BitVec 32 := 17#32
  let v16 : BitVec 32 := Scalar.addi c0_i32_6 c17_i32
  let c1_i32_7 : BitVec 32 := 1#32
  ⟨c0_i32_6, v16, c1_i32_7⟩
def k0_mult1 (k0_t1 : Fin k0_t1_loop.trips) : BitVec 32 :=
  let c0_i32_6 : BitVec 32 := 0#32
  let c1_i32_7 : BitVec 32 := 1#32
  let arg18 : BitVec 32 := Scf.iv c0_i32_6 c1_i32_7 k0_t1
  let c256_i32 : BitVec 32 := 256#32
  let v17 : BitVec 32 := Scalar.muli arg18 c256_i32
  v17
def k0_off1 (k0_t1 : Fin k0_t1_loop.trips) : Fin 2 → Nat :=
  let c0_i32_6 : BitVec 32 := 0#32
  let c1_i32_7 : BitVec 32 := 1#32
  let arg18 : BitVec 32 := Scf.iv c0_i32_6 c1_i32_7 k0_t1
  let c256_i32 : BitVec 32 := 256#32
  let v17 : BitVec 32 := Scalar.muli arg18 c256_i32
  let v18 : BitVec 32 := v17
  let v19 : Index := Scalar.indexCast v18
  let c0_9 : Index := 0#32
  ![v19.toNat, 0]
def k0_cond2 (i : grid0.Coords) : BitVec 1 :=
  let arg2 : BitVec 32 := BitVec.ofNat 32 (i 2).val
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  v9

def k0_cond3 (i : grid0.Coords) : BitVec 1 :=
  let arg2 : BitVec 32 := BitVec.ofNat 32 (i 2).val
  let c0_i32_4 : BitVec 32 := 0#32
  let v10 : BitVec 1 := Scalar.cmpi .sgt arg2 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let v2 : BitVec 32 := Scalar.addi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let v2 : BitVec 32 := Scalar.addi v1 c0_i32
  let c0_i32_0 : BitVec 32 := 0#32
  ![v2.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S4352x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4352x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4352x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S17408x768 : Shape := ⟨2, ![17408, 768]⟩
abbrev S64 : Shape := ⟨1, ![64]⟩
abbrev S4x4352x768 : Shape := ⟨3, ![4, 4352, 768]⟩
abbrev S4x256x512 : Shape := ⟨3, ![4, 256, 512]⟩
abbrev S4x256x128 : Shape := ⟨3, ![4, 256, 128]⟩
abbrev S4x4096x512 : Shape := ⟨3, ![4, 4096, 512]⟩
abbrev S4x4096x128 : Shape := ⟨3, ![4, 4096, 128]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x8x16 : Shape := ⟨4, ![4, 4096, 8, 16]⟩
abbrev S4096x1x64 : Shape := ⟨3, ![4096, 1, 64]⟩
abbrev S1x4096x1x64 : Shape := ⟨4, ![1, 4096, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x16 : Shape := ⟨4, ![4, 4096, 2, 16]⟩
abbrev S4x256x2x64 : Shape := ⟨4, ![4, 256, 2, 64]⟩
abbrev S4x256x2 : Shape := ⟨3, ![4, 256, 2]⟩
abbrev S4x256x2x1 : Shape := ⟨4, ![4, 256, 2, 1]⟩
abbrev S4x4352x2x64 : Shape := ⟨4, ![4, 4352, 2, 64]⟩
abbrev S4x4096x2x4x64 : Shape := ⟨5, ![4, 4096, 2, 4, 64]⟩
abbrev S4x2x4352x4096x4 : Shape := ⟨5, ![4, 2, 4352, 4096, 4]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S4x256x2x4x64 : Shape := ⟨5, ![4, 256, 2, 4, 64]⟩
abbrev S4x256x2x4 : Shape := ⟨4, ![4, 256, 2, 4]⟩
abbrev S4x256x2x4x1 : Shape := ⟨5, ![4, 256, 2, 4, 1]⟩
abbrev S1x1x1x1x64 : Shape := ⟨5, ![1, 1, 1, 1, 64]⟩
abbrev S4x2x256x256x4 : Shape := ⟨5, ![4, 2, 256, 256, 4]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S4x4352x512 : Shape := ⟨3, ![4, 4352, 512]⟩
abbrev S17408x512 : Shape := ⟨2, ![17408, 512]⟩

abbrev nBuf : Space → Nat
  | .hbm => 226
  | .vmem => 0
  | .smem => 0
  | _ => 0

abbrev hbmTy0_0 (i : Nat) : BufTy := match i % 128 with
  | 0 => ⟨S17408x768, .f32⟩
  | 1 => ⟨S64, .f32⟩
  | 2 => ⟨S64, .f32⟩
  | 3 => ⟨S4x4352x768, .f32⟩
  | 4 => ⟨S4x256x512, .f32⟩
  | 5 => ⟨S4x256x128, .f32⟩
  | 6 => ⟨S4x256x128, .f32⟩
  | 7 => ⟨S4x4096x512, .f32⟩
  | 8 => ⟨S4x4096x128, .f32⟩
  | 9 => ⟨S4x4096x128, .f32⟩
  | 10 => ⟨S4096, .i32⟩
  | 11 => ⟨S_, .i32⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i1⟩
  | 19 => ⟨S4096, .i32⟩
  | 20 => ⟨S4096, .i32⟩
  | 21 => ⟨S_, .i32⟩
  | 22 => ⟨S4096, .i32⟩
  | 23 => ⟨S4096, .i1⟩
  | 24 => ⟨S4096, .i1⟩
  | 25 => ⟨S_, .i32⟩
  | 26 => ⟨S4096, .i32⟩
  | 27 => ⟨S4096, .i32⟩
  | 28 => ⟨S4096, .i32⟩
  | 29 => ⟨S4096, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i1⟩
  | 44 => ⟨S_, .i32⟩
  | 45 => ⟨S_, .i1⟩
  | 46 => ⟨S4096, .i1⟩
  | 47 => ⟨S4096, .i1⟩
  | 48 => ⟨S4096, .i1⟩
  | 49 => ⟨S4096, .i32⟩
  | 50 => ⟨S4096, .i32⟩
  | 51 => ⟨S4096, .i32⟩
  | 52 => ⟨S4096, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S4096x1, .f32⟩
  | 62 => ⟨S1x16, .f32⟩
  | 63 => ⟨S4096x16, .f32⟩
  | 64 => ⟨S4096x16, .f32⟩
  | 65 => ⟨S4096x16, .f32⟩
  | 66 => ⟨S4096x1, .f32⟩
  | 67 => ⟨S1x16, .f32⟩
  | 68 => ⟨S4096x16, .f32⟩
  | 69 => ⟨S4096x16, .f32⟩
  | 70 => ⟨S4096x16, .f32⟩
  | 71 => ⟨S4096x64, .f32⟩
  | 72 => ⟨S4096x64, .f32⟩
  | 73 => ⟨S4096x64, .f32⟩
  | 74 => ⟨S4x4096x8x64, .f32⟩
  | 75 => ⟨S4x4096x8x64, .f32⟩
  | 76 => ⟨S_, .f32⟩
  | 77 => ⟨S4x4096x8, .f32⟩
  | 78 => ⟨S4x4096x8x1, .f32⟩
  | 79 => ⟨S_, .f32⟩
  | 80 => ⟨S4x4096x8x1, .f32⟩
  | 81 => ⟨S4x4096x8x1, .f32⟩
  | 82 => ⟨S_, .f32⟩
  | 83 => ⟨S4x4096x8x1, .f32⟩
  | 84 => ⟨S4x4096x8x1, .f32⟩
  | 85 => ⟨S4x4096x8x1, .f32⟩
  | 86 => ⟨S4x4096x8x64, .f32⟩
  | 87 => ⟨S4x4096x8x64, .f32⟩
  | 88 => ⟨S1x1x1x64, .f32⟩
  | 89 => ⟨S4x4096x8x64, .f32⟩
  | 90 => ⟨S4x4096x8x64, .f32⟩
  | 91 => ⟨S4x4096x8x16, .f32⟩
  | 92 => ⟨S4x4096x8x16, .f32⟩
  | 93 => ⟨S4x4096x8x16, .f32⟩
  | 94 => ⟨S4x4096x8x16, .f32⟩
  | 95 => ⟨S4x4096x8x16, .f32⟩
  | 96 => ⟨S4x4096x8x16, .f32⟩
  | 97 => ⟨S4x4096x8x64, .f32⟩
  | 98 => ⟨S4096x1x64, .f32⟩
  | 99 => ⟨S1x4096x1x64, .f32⟩
  | 100 => ⟨S4x4096x8x64, .f32⟩
  | 101 => ⟨S4x4096x8x64, .f32⟩
  | 102 => ⟨S4096x1x64, .f32⟩
  | 103 => ⟨S1x4096x1x64, .f32⟩
  | 104 => ⟨S4x4096x8x64, .f32⟩
  | 105 => ⟨S4x4096x8x64, .f32⟩
  | 106 => ⟨S4x4096x8x64, .f32⟩
  | 107 => ⟨S4x4096x2x64, .f32⟩
  | 108 => ⟨S4x4096x2x64, .f32⟩
  | 109 => ⟨S_, .f32⟩
  | 110 => ⟨S4x4096x2, .f32⟩
  | 111 => ⟨S4x4096x2x1, .f32⟩
  | 112 => ⟨S_, .f32⟩
  | 113 => ⟨S4x4096x2x1, .f32⟩
  | 114 => ⟨S4x4096x2x1, .f32⟩
  | 115 => ⟨S_, .f32⟩
  | 116 => ⟨S4x4096x2x1, .f32⟩
  | 117 => ⟨S4x4096x2x1, .f32⟩
  | 118 => ⟨S4x4096x2x1, .f32⟩
  | 119 => ⟨S4x4096x2x64, .f32⟩
  | 120 => ⟨S4x4096x2x64, .f32⟩
  | 121 => ⟨S1x1x1x64, .f32⟩
  | 122 => ⟨S4x4096x2x64, .f32⟩
  | 123 => ⟨S4x4096x2x64, .f32⟩
  | 124 => ⟨S4x4096x2x16, .f32⟩
  | 125 => ⟨S4x4096x2x16, .f32⟩
  | 126 => ⟨S4x4096x2x16, .f32⟩
  | 127 => ⟨S4x4096x2x16, .f32⟩
  | _ => ⟨S17408x768, .f32⟩

abbrev hbmTy0_1 (i : Nat) : BufTy := match i % 128 with
  | 0 => ⟨S4x4096x2x16, .f32⟩
  | 1 => ⟨S4x4096x2x16, .f32⟩
  | 2 => ⟨S4x4096x2x64, .f32⟩
  | 3 => ⟨S4096x1x64, .f32⟩
  | 4 => ⟨S1x4096x1x64, .f32⟩
  | 5 => ⟨S4x4096x2x64, .f32⟩
  | 6 => ⟨S4x4096x2x64, .f32⟩
  | 7 => ⟨S4096x1x64, .f32⟩
  | 8 => ⟨S1x4096x1x64, .f32⟩
  | 9 => ⟨S4x4096x2x64, .f32⟩
  | 10 => ⟨S4x4096x2x64, .f32⟩
  | 11 => ⟨S4x4096x2x64, .f32⟩
  | 12 => ⟨S4x256x2x64, .f32⟩
  | 13 => ⟨S4x256x2x64, .f32⟩
  | 14 => ⟨S_, .f32⟩
  | 15 => ⟨S4x256x2, .f32⟩
  | 16 => ⟨S4x256x2x1, .f32⟩
  | 17 => ⟨S_, .f32⟩
  | 18 => ⟨S4x256x2x1, .f32⟩
  | 19 => ⟨S4x256x2x1, .f32⟩
  | 20 => ⟨S_, .f32⟩
  | 21 => ⟨S4x256x2x1, .f32⟩
  | 22 => ⟨S4x256x2x1, .f32⟩
  | 23 => ⟨S4x256x2x1, .f32⟩
  | 24 => ⟨S4x256x2x64, .f32⟩
  | 25 => ⟨S4x256x2x64, .f32⟩
  | 26 => ⟨S1x1x1x64, .f32⟩
  | 27 => ⟨S4x256x2x64, .f32⟩
  | 28 => ⟨S4x256x2x64, .f32⟩
  | 29 => ⟨S4x256x2x64, .f32⟩
  | 30 => ⟨S4x4352x2x64, .f32⟩
  | 31 => ⟨S4x4096x2x64, .f32⟩
  | 32 => ⟨S4x4352x2x64, .f32⟩
  | 33 => ⟨S4x4096x2x4x64, .f32⟩
  | 34 => ⟨S4x2x4352x4096x4, .f32⟩
  | 35 => ⟨S4x2x4x4096x4352, .f32⟩
  | 36 => ⟨S_, .f32⟩
  | 37 => ⟨S4x2x4x4096x4352, .f32⟩
  | 38 => ⟨S4x2x4x4096x4352, .f32⟩
  | 39 => ⟨S_, .f32⟩
  | 40 => ⟨S4x2x4x4096, .f32⟩
  | 41 => ⟨S_, .f32⟩
  | 42 => ⟨S4x2x4x4096, .f32⟩
  | 43 => ⟨S4x2x4x4096, .f32⟩
  | 44 => ⟨S4x2x4x4096x1, .f32⟩
  | 45 => ⟨S4x2x4x4096x4352, .f32⟩
  | 46 => ⟨S4x2x4x4096x4352, .f32⟩
  | 47 => ⟨S4x2x4x4096x4352, .f32⟩
  | 48 => ⟨S_, .f32⟩
  | 49 => ⟨S4x2x4x4096, .f32⟩
  | 50 => ⟨S4x2x4x4096x1, .f32⟩
  | 51 => ⟨S4x2x4x4096x4352, .f32⟩
  | 52 => ⟨S4x2x4x4096x4352, .f32⟩
  | 53 => ⟨S4x2x64x4x4096, .f32⟩
  | 54 => ⟨S4x4096x2x4x64, .f32⟩
  | 55 => ⟨S4x4096x512, .f32⟩
  | 56 => ⟨S4x256x2x4x64, .f32⟩
  | 57 => ⟨S4x256x2x4x64, .f32⟩
  | 58 => ⟨S_, .f32⟩
  | 59 => ⟨S4x256x2x4, .f32⟩
  | 60 => ⟨S4x256x2x4x1, .f32⟩
  | 61 => ⟨S_, .f32⟩
  | 62 => ⟨S4x256x2x4x1, .f32⟩
  | 63 => ⟨S4x256x2x4x1, .f32⟩
  | 64 => ⟨S_, .f32⟩
  | 65 => ⟨S4x256x2x4x1, .f32⟩
  | 66 => ⟨S4x256x2x4x1, .f32⟩
  | 67 => ⟨S4x256x2x4x1, .f32⟩
  | 68 => ⟨S4x256x2x4x64, .f32⟩
  | 69 => ⟨S4x256x2x4x64, .f32⟩
  | 70 => ⟨S1x1x1x1x64, .f32⟩
  | 71 => ⟨S4x256x2x4x64, .f32⟩
  | 72 => ⟨S4x256x2x4x64, .f32⟩
  | 73 => ⟨S4x2x256x256x4, .f32⟩
  | 74 => ⟨S4x2x4x256x256, .f32⟩
  | 75 => ⟨S_, .f32⟩
  | 76 => ⟨S4x2x4x256x256, .f32⟩
  | 77 => ⟨S4x2x4x256x256, .f32⟩
  | 78 => ⟨S_, .f32⟩
  | 79 => ⟨S4x2x4x256, .f32⟩
  | 80 => ⟨S_, .f32⟩
  | 81 => ⟨S4x2x4x256, .f32⟩
  | 82 => ⟨S4x2x4x256, .f32⟩
  | 83 => ⟨S4x2x4x256x1, .f32⟩
  | 84 => ⟨S4x2x4x256x256, .f32⟩
  | 85 => ⟨S4x2x4x256x256, .f32⟩
  | 86 => ⟨S4x2x4x256x256, .f32⟩
  | 87 => ⟨S_, .f32⟩
  | 88 => ⟨S4x2x4x256, .f32⟩
  | 89 => ⟨S4x2x4x256x1, .f32⟩
  | 90 => ⟨S4x2x4x256x256, .f32⟩
  | 91 => ⟨S4x2x4x256x256, .f32⟩
  | 92 => ⟨S4x2x64x4x256, .f32⟩
  | 93 => ⟨S4x256x2x4x64, .f32⟩
  | 94 => ⟨S4x256x512, .f32⟩
  | 95 => ⟨S4x4352x512, .f32⟩
  | 96 => ⟨S17408x512, .f32⟩
  | 97 => ⟨S17408x512, .bf16⟩
  | _ => ⟨S17408x768, .f32⟩

abbrev hbmTy (i : Nat) : BufTy := match i / 128 with
  | 0 => hbmTy0_0 i
  | 1 => hbmTy0_1 i
  | _ => ⟨S17408x768, .f32⟩

abbrev bufTy : (tb : Table) → Fin (tcTables nBuf tb) → BufTy
  | .hbm, ⟨i, _⟩ => hbmTy i
  | _, _ => ⟨S17408x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst : Ref sig .tc := ⟨.hbm, 55, rfl⟩
abbrev main_v14 : Ref sig .tc := ⟨.hbm, 56, rfl⟩
abbrev main_v15 : Ref sig .tc := ⟨.hbm, 57, rfl⟩
abbrev main_cst_1 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_2 : Ref sig .tc := ⟨.hbm, 76, rfl⟩
abbrev main_v33 : Ref sig .tc := ⟨.hbm, 77, rfl⟩
abbrev main_v34 : Ref sig .tc := ⟨.hbm, 78, rfl⟩
abbrev main_cst_3 : Ref sig .tc := ⟨.hbm, 79, rfl⟩
abbrev main_v35 : Ref sig .tc := ⟨.hbm, 80, rfl⟩
abbrev main_v36 : Ref sig .tc := ⟨.hbm, 81, rfl⟩
abbrev main_cst_4 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_5 : Ref sig .tc := ⟨.hbm, 109, rfl⟩
abbrev main_v63 : Ref sig .tc := ⟨.hbm, 110, rfl⟩
abbrev main_v64 : Ref sig .tc := ⟨.hbm, 111, rfl⟩
abbrev main_cst_6 : Ref sig .tc := ⟨.hbm, 112, rfl⟩
abbrev main_v65 : Ref sig .tc := ⟨.hbm, 113, rfl⟩
abbrev main_v66 : Ref sig .tc := ⟨.hbm, 114, rfl⟩
abbrev main_cst_7 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_8 : Ref sig .tc := ⟨.hbm, 142, rfl⟩
abbrev main_v93 : Ref sig .tc := ⟨.hbm, 143, rfl⟩
abbrev main_v94 : Ref sig .tc := ⟨.hbm, 144, rfl⟩
abbrev main_cst_9 : Ref sig .tc := ⟨.hbm, 145, rfl⟩
abbrev main_v95 : Ref sig .tc := ⟨.hbm, 146, rfl⟩
abbrev main_v96 : Ref sig .tc := ⟨.hbm, 147, rfl⟩
abbrev main_cst_10 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_11 : Ref sig .tc := ⟨.hbm, 164, rfl⟩
abbrev main_v112 : Ref sig .tc := ⟨.hbm, 165, rfl⟩
abbrev main_v113 : Ref sig .tc := ⟨.hbm, 166, rfl⟩
abbrev main_cst_12 : Ref sig .tc := ⟨.hbm, 167, rfl⟩
abbrev main_v114 : Ref sig .tc := ⟨.hbm, 168, rfl⟩
abbrev main_cst_13 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_14 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_15 : Ref sig .tc := ⟨.hbm, 186, rfl⟩
abbrev main_v130 : Ref sig .tc := ⟨.hbm, 187, rfl⟩
abbrev main_v131 : Ref sig .tc := ⟨.hbm, 188, rfl⟩
abbrev main_cst_16 : Ref sig .tc := ⟨.hbm, 189, rfl⟩
abbrev main_v132 : Ref sig .tc := ⟨.hbm, 190, rfl⟩
abbrev main_v133 : Ref sig .tc := ⟨.hbm, 191, rfl⟩
abbrev main_cst_17 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_18 : Ref sig .tc := ⟨.hbm, 203, rfl⟩
abbrev main_v144 : Ref sig .tc := ⟨.hbm, 204, rfl⟩
abbrev main_v145 : Ref sig .tc := ⟨.hbm, 205, rfl⟩
abbrev main_cst_19 : Ref sig .tc := ⟨.hbm, 206, rfl⟩
abbrev main_v146 : Ref sig .tc := ⟨.hbm, 207, rfl⟩
abbrev main_cst_20 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_21 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩

abbrev nD : Nat := 1
abbrev τ : Topo := Topo.v7x

variable {F : FTy → Type} [FloatOps F]
-- ==== KernelIn.lean ====
abbrev S17408x1024 : Shape := ⟨2, ![17408, 1024]⟩
abbrev S8x6x1024 : Shape := ⟨3, ![8, 6, 1024]⟩
abbrev S1024x6944 : Shape := ⟨2, ![1024, 6944]⟩
abbrev S6944 : Shape := ⟨1, ![6944]⟩
abbrev S_ : Shape := ⟨0, ![]⟩
abbrev S1024x96 : Shape := ⟨2, ![1024, 96]⟩
abbrev S96 : Shape := ⟨1, ![96]⟩
abbrev S1024x768 : Shape := ⟨2, ![1024, 768]⟩
abbrev S1024x1568 : Shape := ⟨2, ![1024, 1568]⟩
abbrev S1024x1536 : Shape := ⟨2, ![1024, 1536]⟩
abbrev S1024x3968 : Shape := ⟨2, ![1024, 3968]⟩
abbrev S768 : Shape := ⟨1, ![768]⟩
abbrev S1568 : Shape := ⟨1, ![1568]⟩
abbrev S1536 : Shape := ⟨1, ![1536]⟩
abbrev S3968 : Shape := ⟨1, ![3968]⟩
abbrev S1x3968 : Shape := ⟨2, ![1, 3968]⟩
abbrev S1024x3072 : Shape := ⟨2, ![1024, 3072]⟩
abbrev S3072 : Shape := ⟨1, ![3072]⟩
abbrev S1x3072 : Shape := ⟨2, ![1, 3072]⟩
abbrev S17408x768 : Shape := ⟨2, ![17408, 768]⟩
abbrev S17408x1664 : Shape := ⟨2, ![17408, 1664]⟩
abbrev S17408x1536 : Shape := ⟨2, ![17408, 1536]⟩
abbrev S256x1024 : Shape := ⟨2, ![256, 1024]⟩
abbrev S1x6x1024 : Shape := ⟨3, ![1, 6, 1024]⟩
abbrev S256x768 : Shape := ⟨2, ![256, 768]⟩
abbrev S256x1664 : Shape := ⟨2, ![256, 1664]⟩
abbrev S256x1536 : Shape := ⟨2, ![256, 1536]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1x768 : Shape := ⟨2, ![1, 768]⟩
abbrev S1024x1664 : Shape := ⟨2, ![1024, 1664]⟩
abbrev S1x1664 : Shape := ⟨2, ![1, 1664]⟩
abbrev S1x1536 : Shape := ⟨2, ![1, 1536]⟩

abbrev nBuf : Space → Nat
  | .hbm => 25
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1024x6944, .f32⟩
  | .hbm, ⟨3, _⟩ => ⟨S6944, .f32⟩
  | .hbm, ⟨4, _⟩ => ⟨S_, .f32⟩
  | .hbm, ⟨5, _⟩ => ⟨S1024x96, .f32⟩
  | .hbm, ⟨6, _⟩ => ⟨S_, .f32⟩
  | .hbm, ⟨7, _⟩ => ⟨S96, .f32⟩
  | .hbm, ⟨8, _⟩ => ⟨S1024x768, .f32⟩
  | .hbm, ⟨9, _⟩ => ⟨S1024x1568, .f32⟩
  | .hbm, ⟨10, _⟩ => ⟨S1024x1536, .f32⟩
  | .hbm, ⟨11, _⟩ => ⟨S1024x3968, .f32⟩
  | .hbm, ⟨12, _⟩ => ⟨S768, .f32⟩
  | .hbm, ⟨13, _⟩ => ⟨S1568, .f32⟩
  | .hbm, ⟨14, _⟩ => ⟨S1536, .f32⟩
  | .hbm, ⟨15, _⟩ => ⟨S3968, .f32⟩
  | .hbm, ⟨16, _⟩ => ⟨S1024x3968, .bf16⟩
  | .hbm, ⟨17, _⟩ => ⟨S1x3968, .f32⟩
  | .hbm, ⟨18, _⟩ => ⟨S1024x3072, .f32⟩
  | .hbm, ⟨19, _⟩ => ⟨S1024x3072, .bf16⟩
  | .hbm, ⟨20, _⟩ => ⟨S3072, .f32⟩
  | .hbm, ⟨21, _⟩ => ⟨S1x3072, .f32⟩
  | .hbm, ⟨22, _⟩ => ⟨S17408x768, .f32⟩
  | .hbm, ⟨23, _⟩ => ⟨S17408x1664, .f32⟩
  | .hbm, ⟨24, _⟩ => ⟨S17408x1536, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3968, .bf16⟩
  | .local _ .vmem, ⟨5, _⟩ => ⟨S1x3968, .f32⟩
  | .local _ .vmem, ⟨6, _⟩ => ⟨S256x768, .f32⟩
  | .local _ .vmem, ⟨7, _⟩ => ⟨S256x768, .f32⟩
  | .local _ .vmem, ⟨8, _⟩ => ⟨S256x1664, .f32⟩
  | .local _ .vmem, ⟨9, _⟩ => ⟨S256x1664, .f32⟩
  | .local _ .vmem, ⟨10, _⟩ => ⟨S256x1536, .bf16⟩
  | .local _ .vmem, ⟨11, _⟩ => ⟨S256x1536, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c0_i32_11 : BitVec 32 := 0#32
  let c0_i32_12 : BitVec 32 := 0#32
  let c0_i32_13 : BitVec 32 := 0#32
  ![v29.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3968 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInIdeal.lean ====
abbrev S17408x1024 : Shape := ⟨2, ![17408, 1024]⟩
abbrev S8x6x1024 : Shape := ⟨3, ![8, 6, 1024]⟩
abbrev S1024x6944 : Shape := ⟨2, ![1024, 6944]⟩
abbrev S6944 : Shape := ⟨1, ![6944]⟩
abbrev S4x2x6x1024 : Shape := ⟨4, ![4, 2, 6, 1024]⟩
abbrev S4x2x1x1024 : Shape := ⟨4, ![4, 2, 1, 1024]⟩
abbrev S4x2x1024 : Shape := ⟨3, ![4, 2, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S_ : Shape := ⟨0, ![]⟩
abbrev S17408 : Shape := ⟨1, ![17408]⟩
abbrev S17408x1 : Shape := ⟨2, ![17408, 1]⟩
abbrev S17408x6944 : Shape := ⟨2, ![17408, 6944]⟩
abbrev S1x6944 : Shape := ⟨2, ![1, 6944]⟩
abbrev S17408x1568 : Shape := ⟨2, ![17408, 1568]⟩
abbrev S17408x96 : Shape := ⟨2, ![17408, 96]⟩
abbrev S17408x1664 : Shape := ⟨2, ![17408, 1664]⟩
abbrev S17408x768 : Shape := ⟨2, ![17408, 768]⟩
abbrev S17408x1536 : Shape := ⟨2, ![17408, 1536]⟩

abbrev nBuf : Space → Nat
  | .hbm => 61
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1024x6944, .f32⟩
  | .hbm, ⟨3, _⟩ => ⟨S6944, .f32⟩
  | .hbm, ⟨4, _⟩ => ⟨S4x2x6x1024, .f32⟩
  | .hbm, ⟨5, _⟩ => ⟨S4x2x1x1024, .f32⟩
  | .hbm, ⟨6, _⟩ => ⟨S4x2x1024, .f32⟩
  | .hbm, ⟨7, _⟩ => ⟨S4x1x1024, .f32⟩
  | .hbm, ⟨8, _⟩ => ⟨S4x256x1024, .f32⟩
  | .hbm, ⟨9, _⟩ => ⟨S4x1x1024, .f32⟩
  | .hbm, ⟨10, _⟩ => ⟨S4x4096x1024, .f32⟩
  | .hbm, ⟨11, _⟩ => ⟨S4x4352x1024, .f32⟩
  | .hbm, ⟨12, _⟩ => ⟨S17408x1024, .f32⟩
  | .hbm, ⟨13, _⟩ => ⟨S4x2x6x1024, .f32⟩
  | .hbm, ⟨14, _⟩ => ⟨S4x2x1x1024, .f32⟩
  | .hbm, ⟨15, _⟩ => ⟨S4x2x1024, .f32⟩
  | .hbm, ⟨16, _⟩ => ⟨S4x1x1024, .f32⟩
  | .hbm, ⟨17, _⟩ => ⟨S4x256x1024, .f32⟩
  | .hbm, ⟨18, _⟩ => ⟨S4x1x1024, .f32⟩
  | .hbm, ⟨19, _⟩ => ⟨S4x4096x1024, .f32⟩
  | .hbm, ⟨20, _⟩ => ⟨S4x4352x1024, .f32⟩
  | .hbm, ⟨21, _⟩ => ⟨S17408x1024, .f32⟩
  | .hbm, ⟨22, _⟩ => ⟨S_, .f32⟩
  | .hbm, ⟨23, _⟩ => ⟨S17408, .f32⟩
  | .hbm, ⟨24, _⟩ => ⟨S17408x1, .f32⟩
  | .hbm, ⟨25, _⟩ => ⟨S_, .f32⟩
  | .hbm, ⟨26, _⟩ => ⟨S17408x1, .f32⟩
  | .hbm, ⟨27, _⟩ => ⟨S17408x1, .f32⟩
  | .hbm, ⟨28, _⟩ => ⟨S17408x1024, .f32⟩
  | .hbm, ⟨29, _⟩ => ⟨S17408x1024, .f32⟩
  | .hbm, ⟨30, _⟩ => ⟨S17408x1024, .f32⟩
  | .hbm, ⟨31, _⟩ => ⟨S_, .f32⟩
  | .hbm, ⟨32, _⟩ => ⟨S17408, .f32⟩
  | .hbm, ⟨33, _⟩ => ⟨S17408x1, .f32⟩
  | .hbm, ⟨34, _⟩ => ⟨S_, .f32⟩
  | .hbm, ⟨35, _⟩ => ⟨S17408x1, .f32⟩
  | .hbm, ⟨36, _⟩ => ⟨S17408x1, .f32⟩
  | .hbm, ⟨37, _⟩ => ⟨S17408x1024, .f32⟩
  | .hbm, ⟨38, _⟩ => ⟨S17408x1024, .f32⟩
  | .hbm, ⟨39, _⟩ => ⟨S_, .f32⟩
  | .hbm, ⟨40, _⟩ => ⟨S17408x1, .f32⟩
  | .hbm, ⟨41, _⟩ => ⟨S17408x1, .f32⟩
  | .hbm, ⟨42, _⟩ => ⟨S17408x1, .f32⟩
  | .hbm, ⟨43, _⟩ => ⟨S17408x1024, .f32⟩
  | .hbm, ⟨44, _⟩ => ⟨S17408x1024, .f32⟩
  | .hbm, ⟨45, _⟩ => ⟨S_, .f32⟩
  | .hbm, ⟨46, _⟩ => ⟨S17408x1024, .f32⟩
  | .hbm, ⟨47, _⟩ => ⟨S17408x1024, .f32⟩
  | .hbm, ⟨48, _⟩ => ⟨S17408x1024, .f32⟩
  | .hbm, ⟨49, _⟩ => ⟨S17408x1024, .f32⟩
  | .hbm, ⟨50, _⟩ => ⟨S17408x6944, .f32⟩
  | .hbm, ⟨51, _⟩ => ⟨S1x6944, .f32⟩
  | .hbm, ⟨52, _⟩ => ⟨S17408x6944, .f32⟩
  | .hbm, ⟨53, _⟩ => ⟨S17408x6944, .f32⟩
  | .hbm, ⟨54, _⟩ => ⟨S17408x1568, .f32⟩
  | .hbm, ⟨55, _⟩ => ⟨S_, .f32⟩
  | .hbm, ⟨56, _⟩ => ⟨S17408x96, .f32⟩
  | .hbm, ⟨57, _⟩ => ⟨S17408x1664, .f32⟩
  | .hbm, ⟨58, _⟩ => ⟨S17408x768, .f32⟩
  | .hbm, ⟨59, _⟩ => ⟨S17408x1536, .f32⟩
  | .hbm, ⟨60, _⟩ => ⟨S17408x1536, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== KernelMerge.lean ====
abbrev S17408x1024 : Shape := ⟨2, ![17408, 1024]⟩
abbrev S8x6x1024 : Shape := ⟨3, ![8, 6, 1024]⟩
abbrev S17408x512 : Shape := ⟨2, ![17408, 512]⟩
abbrev S1024x6944 : Shape := ⟨2, ![1024, 6944]⟩
abbrev S6944 : Shape := ⟨1, ![6944]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S96 : Shape := ⟨1, ![96]⟩
abbrev S1024x768 : Shape := ⟨2, ![1024, 768]⟩
abbrev S1024x1568 : Shape := ⟨2, ![1024, 1568]⟩
abbrev S1024x1536 : Shape := ⟨2, ![1024, 1536]⟩
abbrev S1024x3968 : Shape := ⟨2, ![1024, 3968]⟩
abbrev S768 : Shape := ⟨1, ![768]⟩
abbrev S1568 : Shape := ⟨1, ![1568]⟩
abbrev S1536 : Shape := ⟨1, ![1536]⟩
abbrev S3968 : Shape := ⟨1, ![3968]⟩
abbrev S1x3968 : Shape := ⟨2, ![1, 3968]⟩
abbrev S1024x3072 : Shape := ⟨2, ![1024, 3072]⟩
abbrev S3072 : Shape := ⟨1, ![3072]⟩
abbrev S1x3072 : Shape := ⟨2, ![1, 3072]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S17408x128 : Shape := ⟨2, ![17408, 128]⟩
abbrev S256x1024 : Shape := ⟨2, ![256, 1024]⟩
abbrev S1x6x1024 : Shape := ⟨3, ![1, 6, 1024]⟩
abbrev S256x512 : Shape := ⟨2, ![256, 512]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩

abbrev nBuf : Space → Nat
  | .hbm => 51
  | .vmem => 26
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S17408x512, .bf16⟩
  | .hbm, ⟨3, _⟩ => ⟨S17408x512, .bf16⟩
  | .hbm, ⟨4, _⟩ => ⟨S17408x512, .bf16⟩
  | .hbm, ⟨5, _⟩ => ⟨S1024x6944, .f32⟩
  | .hbm, ⟨6, _⟩ => ⟨S6944, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S_, .f32⟩
  | .hbm, ⟨18, _⟩ => ⟨S1024x96, .f32⟩
  | .hbm, ⟨19, _⟩ => ⟨S_, .f32⟩
  | .hbm, ⟨20, _⟩ => ⟨S96, .f32⟩
  | .hbm, ⟨21, _⟩ => ⟨S1024x768, .f32⟩
  | .hbm, ⟨22, _⟩ => ⟨S1024x1568, .f32⟩
  | .hbm, ⟨23, _⟩ => ⟨S1024x1536, .f32⟩
  | .hbm, ⟨24, _⟩ => ⟨S1024x3968, .f32⟩
  | .hbm, ⟨25, _⟩ => ⟨S768, .f32⟩
  | .hbm, ⟨26, _⟩ => ⟨S1568, .f32⟩
  | .hbm, ⟨27, _⟩ => ⟨S1536, .f32⟩
  | .hbm, ⟨28, _⟩ => ⟨S3968, .f32⟩
  | .hbm, ⟨29, _⟩ => ⟨S1024x3968, .bf16⟩
  | .hbm, ⟨30, _⟩ => ⟨S1x3968, .f32⟩
  | .hbm, ⟨31, _⟩ => ⟨S1024x3072, .f32⟩
  | .hbm, ⟨32, _⟩ => ⟨S1024x3072, .bf16⟩
  | .hbm, ⟨33, _⟩ => ⟨S3072, .f32⟩
  | .hbm, ⟨34, _⟩ => ⟨S1x3072, .f32⟩
  | .hbm, ⟨35, _⟩ => ⟨S_, .f32⟩
  | .hbm, ⟨36, _⟩ => ⟨S1024x92, .f32⟩
  | .hbm, ⟨37, _⟩ => ⟨S1024x128, .f32⟩
  | .hbm, ⟨38, _⟩ => ⟨S_, .f32⟩
  | .hbm, ⟨39, _⟩ => ⟨S92, .f32⟩
  | .hbm, ⟨40, _⟩ => ⟨S128, .f32⟩
  | .hbm, ⟨41, _⟩ => ⟨S1x128, .f32⟩
  | .hbm, ⟨42, _⟩ => ⟨S512x1024, .bf16⟩
  | .hbm, ⟨43, _⟩ => ⟨S512x1024, .bf16⟩
  | .hbm, ⟨44, _⟩ => ⟨S512x1024, .bf16⟩
  | .hbm, ⟨45, _⟩ => ⟨S1024x1024, .bf16⟩
  | .hbm, ⟨46, _⟩ => ⟨S1x1024, .f32⟩
  | .hbm, ⟨47, _⟩ => ⟨S1x1024, .f32⟩
  | .hbm, ⟨48, _⟩ => ⟨S17408x1024, .f32⟩
  | .hbm, ⟨49, _⟩ => ⟨S17408x1024, .f32⟩
  | .hbm, ⟨50, _⟩ => ⟨S17408x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x3072, .bf16⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x128, .f32⟩
  | .local _ .vmem, ⟨19, _⟩ => ⟨S1x128, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x128, .f32⟩
  | .local _ .vmem, ⟨25, _⟩ => ⟨S256x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c0_i32_11 : BitVec 32 := 0#32
  let c0_i32_12 : BitVec 32 := 0#32
  let c0_i32_13 : BitVec 32 := 0#32
  ![v29.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMergeIdeal.lean ====
abbrev S17408x1024 : Shape := ⟨2, ![17408, 1024]⟩
abbrev S8x6x1024 : Shape := ⟨3, ![8, 6, 1024]⟩
abbrev S17408x512 : Shape := ⟨2, ![17408, 512]⟩
abbrev S1024x6944 : Shape := ⟨2, ![1024, 6944]⟩
abbrev S6944 : Shape := ⟨1, ![6944]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x2x6x1024 : Shape := ⟨4, ![4, 2, 6, 1024]⟩
abbrev S4x2x1x1024 : Shape := ⟨4, ![4, 2, 1, 1024]⟩
abbrev S4x2x1024 : Shape := ⟨3, ![4, 2, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S_ : Shape := ⟨0, ![]⟩
abbrev S17408 : Shape := ⟨1, ![17408]⟩
abbrev S17408x1 : Shape := ⟨2, ![17408, 1]⟩
abbrev S1024x3072 : Shape := ⟨2, ![1024, 3072]⟩
abbrev S17408x3072 : Shape := ⟨2, ![17408, 3072]⟩
abbrev S3072 : Shape := ⟨1, ![3072]⟩
abbrev S1x3072 : Shape := ⟨2, ![1, 3072]⟩
abbrev S17408x3x1024 : Shape := ⟨3, ![17408, 3, 1024]⟩
abbrev S17408x1x1024 : Shape := ⟨3, ![17408, 1, 1024]⟩
abbrev S1x1024 : Shape := ⟨2, ![1, 1024]⟩

abbrev nBuf : Space → Nat
  | .hbm => 185
  | .vmem => 0
  | .smem => 0
  | _ => 0

abbrev hbmTy0_0 (i : Nat) : BufTy := match i % 128 with
  | 0 => ⟨S17408x1024, .f32⟩
  | 1 => ⟨S8x6x1024, .f32⟩
  | 2 => ⟨S17408x512, .bf16⟩
  | 3 => ⟨S17408x512, .bf16⟩
  | 4 => ⟨S17408x512, .bf16⟩
  | 5 => ⟨S1024x6944, .f32⟩
  | 6 => ⟨S6944, .f32⟩
  | 7 => ⟨S512x1024, .f32⟩
  | 8 => ⟨S512x1024, .f32⟩
  | 9 => ⟨S512x1024, .f32⟩
  | 10 => ⟨S1024x1024, .f32⟩
  | 11 => ⟨S1024, .f32⟩
  | 12 => ⟨S1024, .f32⟩
  | 13 => ⟨S1024x4, .f32⟩
  | 14 => ⟨S4, .f32⟩
  | 15 => ⟨S1024x32, .f32⟩
  | 16 => ⟨S32, .f32⟩
  | 17 => ⟨S4x2x6x1024, .f32⟩
  | 18 => ⟨S4x2x1x1024, .f32⟩
  | 19 => ⟨S4x2x1024, .f32⟩
  | 20 => ⟨S4x1x1024, .f32⟩
  | 21 => ⟨S4x256x1024, .f32⟩
  | 22 => ⟨S4x1x1024, .f32⟩
  | 23 => ⟨S4x4096x1024, .f32⟩
  | 24 => ⟨S4x4352x1024, .f32⟩
  | 25 => ⟨S17408x1024, .f32⟩
  | 26 => ⟨S4x2x6x1024, .f32⟩
  | 27 => ⟨S4x2x1x1024, .f32⟩
  | 28 => ⟨S4x2x1024, .f32⟩
  | 29 => ⟨S4x1x1024, .f32⟩
  | 30 => ⟨S4x256x1024, .f32⟩
  | 31 => ⟨S4x1x1024, .f32⟩
  | 32 => ⟨S4x4096x1024, .f32⟩
  | 33 => ⟨S4x4352x1024, .f32⟩
  | 34 => ⟨S17408x1024, .f32⟩
  | 35 => ⟨S_, .f32⟩
  | 36 => ⟨S17408, .f32⟩
  | 37 => ⟨S17408x1, .f32⟩
  | 38 => ⟨S_, .f32⟩
  | 39 => ⟨S17408x1, .f32⟩
  | 40 => ⟨S17408x1, .f32⟩
  | 41 => ⟨S17408x1024, .f32⟩
  | 42 => ⟨S17408x1024, .f32⟩
  | 43 => ⟨S17408x1024, .f32⟩
  | 44 => ⟨S_, .f32⟩
  | 45 => ⟨S17408, .f32⟩
  | 46 => ⟨S17408x1, .f32⟩
  | 47 => ⟨S_, .f32⟩
  | 48 => ⟨S17408x1, .f32⟩
  | 49 => ⟨S17408x1, .f32⟩
  | 50 => ⟨S17408x1024, .f32⟩
  | 51 => ⟨S17408x1024, .f32⟩
  | 52 => ⟨S_, .f32⟩
  | 53 => ⟨S17408x1, .f32⟩
  | 54 => ⟨S17408x1, .f32⟩
  | 55 => ⟨S17408x1, .f32⟩
  | 56 => ⟨S17408x1024, .f32⟩
  | 57 => ⟨S17408x1024, .f32⟩
  | 58 => ⟨S_, .f32⟩
  | 59 => ⟨S17408x1024, .f32⟩
  | 60 => ⟨S17408x1024, .f32⟩
  | 61 => ⟨S17408x1024, .f32⟩
  | 62 => ⟨S17408x1024, .f32⟩
  | 63 => ⟨S1024x3072, .f32⟩
  | 64 => ⟨S17408x3072, .f32⟩
  | 65 => ⟨S3072, .f32⟩
  | 66 => ⟨S1x3072, .f32⟩
  | 67 => ⟨S17408x3072, .f32⟩
  | 68 => ⟨S17408x3072, .f32⟩
  | 69 => ⟨S17408x3x1024, .f32⟩
  | 70 => ⟨S17408x3x1024, .f32⟩
  | 71 => ⟨S17408x3x1024, .f32⟩
  | 72 => ⟨S_, .f32⟩
  | 73 => ⟨S17408x3x1024, .f32⟩
  | 74 => ⟨S17408x3x1024, .f32⟩
  | 75 => ⟨S_, .f32⟩
  | 76 => ⟨S17408x3x1024, .f32⟩
  | 77 => ⟨S17408x3x1024, .f32⟩
  | 78 => ⟨S17408x1x1024, .f32⟩
  | 79 => ⟨S17408x1024, .f32⟩
  | 80 => ⟨S17408x512, .f32⟩
  | 81 => ⟨S17408x1024, .f32⟩
  | 82 => ⟨S17408x1024, .f32⟩
  | 83 => ⟨S17408x1x1024, .f32⟩
  | 84 => ⟨S17408x1024, .f32⟩
  | 85 => ⟨S17408x512, .f32⟩
  | 86 => ⟨S17408x1024, .f32⟩
  | 87 => ⟨S17408x1024, .f32⟩
  | 88 => ⟨S17408x1024, .f32⟩
  | 89 => ⟨S17408x1x1024, .f32⟩
  | 90 => ⟨S17408x1024, .f32⟩
  | 91 => ⟨S17408x512, .f32⟩
  | 92 => ⟨S17408x1024, .f32⟩
  | 93 => ⟨S17408x1024, .f32⟩
  | 94 => ⟨S17408x1024, .f32⟩
  | 95 => ⟨S_, .f32⟩
  | 96 => ⟨S17408x1024, .f32⟩
  | 97 => ⟨S17408x1024, .f32⟩
  | 98 => ⟨S4x2x6x1024, .f32⟩
  | 99 => ⟨S4x2x1x1024, .f32⟩
  | 100 => ⟨S4x2x1024, .f32⟩
  | 101 => ⟨S4x1x1024, .f32⟩
  | 102 => ⟨S4x256x1024, .f32⟩
  | 103 => ⟨S4x1x1024, .f32⟩
  | 104 => ⟨S4x4096x1024, .f32⟩
  | 105 => ⟨S4x4352x1024, .f32⟩
  | 106 => ⟨S17408x1024, .f32⟩
  | 107 => ⟨S17408x1024, .f32⟩
  | 108 => ⟨S17408x1024, .f32⟩
  | 109 => ⟨S17408x1024, .f32⟩
  | 110 => ⟨S_, .f32⟩
  | 111 => ⟨S17408, .f32⟩
  | 112 => ⟨S17408x1, .f32⟩
  | 113 => ⟨S_, .f32⟩
  | 114 => ⟨S17408x1, .f32⟩
  | 115 => ⟨S17408x1, .f32⟩
  | 116 => ⟨S17408x1024, .f32⟩
  | 117 => ⟨S17408x1024, .f32⟩
  | 118 => ⟨S17408x1024, .f32⟩
  | 119 => ⟨S_, .f32⟩
  | 120 => ⟨S17408, .f32⟩
  | 121 => ⟨S17408x1, .f32⟩
  | 122 => ⟨S_, .f32⟩
  | 123 => ⟨S17408x1, .f32⟩
  | 124 => ⟨S17408x1, .f32⟩
  | 125 => ⟨S17408x1024, .f32⟩
  | 126 => ⟨S17408x1024, .f32⟩
  | 127 => ⟨S_, .f32⟩
  | _ => ⟨S17408x1024, .f32⟩

abbrev hbmTy0_1 (i : Nat) : BufTy := match i % 128 with
  | 0 => ⟨S17408x1, .f32⟩
  | 1 => ⟨S17408x1, .f32⟩
  | 2 => ⟨S17408x1, .f32⟩
  | 3 => ⟨S17408x1024, .f32⟩
  | 4 => ⟨S17408x1024, .f32⟩
  | 5 => ⟨S1x1024, .f32⟩
  | 6 => ⟨S17408x1024, .f32⟩
  | 7 => ⟨S17408x1024, .f32⟩
  | 8 => ⟨S1x1024, .f32⟩
  | 9 => ⟨S17408x1024, .f32⟩
  | 10 => ⟨S17408x1024, .f32⟩
  | 11 => ⟨S4x2x6x1024, .f32⟩
  | 12 => ⟨S4x2x1x1024, .f32⟩
  | 13 => ⟨S4x2x1024, .f32⟩
  | 14 => ⟨S4x1x1024, .f32⟩
  | 15 => ⟨S4x256x1024, .f32⟩
  | 16 => ⟨S4x1x1024, .f32⟩
  | 17 => ⟨S4x4096x1024, .f32⟩
  | 18 => ⟨S4x4352x1024, .f32⟩
  | 19 => ⟨S17408x1024, .f32⟩
  | 20 => ⟨S4x2x6x1024, .f32⟩
  | 21 => ⟨S4x2x1x1024, .f32⟩
  | 22 => ⟨S4x2x1024, .f32⟩
  | 23 => ⟨S4x1x1024, .f32⟩
  | 24 => ⟨S4x256x1024, .f32⟩
  | 25 => ⟨S4x1x1024, .f32⟩
  | 26 => ⟨S4x4096x1024, .f32⟩
  | 27 => ⟨S4x4352x1024, .f32⟩
  | 28 => ⟨S17408x1024, .f32⟩
  | 29 => ⟨S_, .f32⟩
  | 30 => ⟨S17408, .f32⟩
  | 31 => ⟨S17408x1, .f32⟩
  | 32 => ⟨S_, .f32⟩
  | 33 => ⟨S17408x1, .f32⟩
  | 34 => ⟨S17408x1, .f32⟩
  | 35 => ⟨S17408x1024, .f32⟩
  | 36 => ⟨S17408x1024, .f32⟩
  | 37 => ⟨S17408x1024, .f32⟩
  | 38 => ⟨S_, .f32⟩
  | 39 => ⟨S17408, .f32⟩
  | 40 => ⟨S17408x1, .f32⟩
  | 41 => ⟨S_, .f32⟩
  | 42 => ⟨S17408x1, .f32⟩
  | 43 => ⟨S17408x1, .f32⟩
  | 44 => ⟨S17408x1024, .f32⟩
  | 45 => ⟨S17408x1024, .f32⟩
  | 46 => ⟨S_, .f32⟩
  | 47 => ⟨S17408x1, .f32⟩
  | 48 => ⟨S17408x1, .f32⟩
  | 49 => ⟨S17408x1, .f32⟩
  | 50 => ⟨S17408x1024, .f32⟩
  | 51 => ⟨S17408x1024, .f32⟩
  | 52 => ⟨S_, .f32⟩
  | 53 => ⟨S17408x1024, .f32⟩
  | 54 => ⟨S17408x1024, .f32⟩
  | 55 => ⟨S17408x1024, .f32⟩
  | 56 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_8 : Ref sig .tc := ⟨.hbm, 110, rfl⟩
abbrev main_v84 : Ref sig .tc := ⟨.hbm, 111, rfl⟩
abbrev main_v85 : Ref sig .tc := ⟨.hbm, 112, rfl⟩
abbrev main_cst_9 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_10 : Ref sig .tc := ⟨.hbm, 119, rfl⟩
abbrev main_v91 : Ref sig .tc := ⟨.hbm, 120, rfl⟩
abbrev main_v92 : Ref sig .tc := ⟨.hbm, 121, rfl⟩
abbrev main_cst_11 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_12 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_13 : Ref sig .tc := ⟨.hbm, 157, rfl⟩
abbrev main_v126 : Ref sig .tc := ⟨.hbm, 158, rfl⟩
abbrev main_v127 : Ref sig .tc := ⟨.hbm, 159, rfl⟩
abbrev main_cst_14 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_15 : Ref sig .tc := ⟨.hbm, 166, rfl⟩
abbrev main_v133 : Ref sig .tc := ⟨.hbm, 167, rfl⟩
abbrev main_v134 : Ref sig .tc := ⟨.hbm, 168, rfl⟩
abbrev main_cst_16 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_17 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_18 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩

abbrev nD : Nat := 1
abbrev τ : Topo := Topo.v7x

variable {F : FTy → Type} [FloatOps F]
-- ==== KernelExperts.lean ====
abbrev S168 : Shape := ⟨1, ![168]⟩
abbrev S43008x1024 : Shape := ⟨2, ![43008, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 1
  | _ => 0

abbrev bufTy : (tb : Table) → Fin (tcTables nBuf tb) → BufTy
  | .hbm, ⟨0, _⟩ => ⟨S43008x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S43008x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .smem, ⟨0, _⟩ => ⟨S168, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceExpertsIdeal.lean ====
abbrev S168 : Shape := ⟨1, ![168]⟩
abbrev S43008x1024 : Shape := ⟨2, ![43008, 1024]⟩
abbrev S32x1024x512 : Shape := ⟨3, ![32, 1024, 512]⟩
abbrev S32x512x1024 : Shape := ⟨3, ![32, 512, 1024]⟩
abbrev S168x256x1024 : Shape := ⟨3, ![168, 256, 1024]⟩
abbrev S_ : Shape := ⟨0, ![]⟩
abbrev S168x1 : Shape := ⟨2, ![168, 1]⟩
abbrev S168x1024x512 : Shape := ⟨3, ![168, 1024, 512]⟩
abbrev S168x256x512 : Shape := ⟨3, ![168, 256, 512]⟩
abbrev S168x512x1024 : Shape := ⟨3, ![168, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S168, .i32⟩
  | .hbm, ⟨1, _⟩ => ⟨S43008x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S168x256x1024, .f32⟩
  | .hbm, ⟨6, _⟩ => ⟨S_, .i32⟩
  | .hbm, ⟨7, _⟩ => ⟨S168, .i32⟩
  | .hbm, ⟨8, _⟩ => ⟨S168, .i1⟩
  | .hbm, ⟨9, _⟩ => ⟨S_, .i32⟩
  | .hbm, ⟨10, _⟩ => ⟨S168, .i32⟩
  | .hbm, ⟨11, _⟩ => ⟨S168, .i32⟩
  | .hbm, ⟨12, _⟩ => ⟨S168, .i32⟩
  | .hbm, ⟨13, _⟩ => ⟨S168x1, .i32⟩
  | .hbm, ⟨14, _⟩ => ⟨S168x1024x512, .f32⟩
  | .hbm, ⟨15, _⟩ => ⟨S168x256x512, .f32⟩
  | .hbm, ⟨16, _⟩ => ⟨S_, .i32⟩
  | .hbm, ⟨17, _⟩ => ⟨S168, .i32⟩
  | .hbm, ⟨18, _⟩ => ⟨S168, .i1⟩
  | .hbm, ⟨19, _⟩ => ⟨S_, .i32⟩
  | .hbm, ⟨20, _⟩ => ⟨S168, .i32⟩
  | .hbm, ⟨21, _⟩ => ⟨S168, .i32⟩
  | .hbm, ⟨22, _⟩ => ⟨S168, .i32⟩
  | .hbm, ⟨23, _⟩ => ⟨S168x1, .i32⟩
  | .hbm, ⟨24, _⟩ => ⟨S168x1024x512, .f32⟩
  | .hbm, ⟨25, _⟩ => ⟨S168x256x512, .f32⟩
  | .hbm, ⟨26, _⟩ => ⟨S168x256x512, .f32⟩
  | .hbm, ⟨27, _⟩ => ⟨S168x256x512, .f32⟩
  | .hbm, ⟨28, _⟩ => ⟨S_, .f32⟩
  | .hbm, ⟨29, _⟩ => ⟨S168x256x512, .f32⟩
  | .hbm, ⟨30, _⟩ => ⟨S168x256x512, .f32⟩
  | .hbm, ⟨31, _⟩ => ⟨S_, .f32⟩
  | .hbm, ⟨32, _⟩ => ⟨S168x256x512, .f32⟩
  | .hbm, ⟨33, _⟩ => ⟨S168x256x512, .f32⟩
  | .hbm, ⟨34, _⟩ => ⟨S168x256x512, .f32⟩
  | .hbm, ⟨35, _⟩ => ⟨S168x256x512, .f32⟩
  | .hbm, ⟨36, _⟩ => ⟨S_, .i32⟩
  | .hbm, ⟨37, _⟩ => ⟨S168, .i32⟩
  | .hbm, ⟨38, _⟩ => ⟨S168, .i1⟩
  | .hbm, ⟨39, _⟩ => ⟨S_, .i32⟩
  | .hbm, ⟨40, _⟩ => ⟨S168, .i32⟩
  | .hbm, ⟨41, _⟩ => ⟨S168, .i32⟩
  | .hbm, ⟨42, _⟩ => ⟨S168, .i32⟩
  | .hbm, ⟨43, _⟩ => ⟨S168x1, .i32⟩
  | .hbm, ⟨44, _⟩ => ⟨S168x512x1024, .f32⟩
  | .hbm, ⟨45, _⟩ => ⟨S168x256x1024, .f32⟩
  | .hbm, ⟨46, _⟩ => ⟨S43008x1024, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== KernelMod.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S2x6144x4 : Shape := ⟨3, ![2, 6144, 4]⟩
abbrev S2x4x6144 : Shape := ⟨3, ![2, 4, 6144]⟩
abbrev S2x1x6144 : Shape := ⟨3, ![2, 1, 6144]⟩
abbrev S2x3x6144 : Shape := ⟨3, ![2, 3, 6144]⟩
abbrev S2x8x6144 : Shape := ⟨3, ![2, 8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S2x6144x4, .f32⟩
  | .hbm, ⟨14, _⟩ => ⟨S2x4x6144, .f32⟩
  | .hbm, ⟨15, _⟩ => ⟨S2x1x6144, .f32⟩
  | .hbm, ⟨16, _⟩ => ⟨S2x4x6144, .f32⟩
  | .hbm, ⟨17, _⟩ => ⟨S2x4x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S2x6144, .f32⟩
  | .hbm, ⟨28, _⟩ => ⟨S2x6144, .f32⟩
  | .hbm, ⟨29, _⟩ => ⟨S2x1x6144, .f32⟩
  | .hbm, ⟨30, _⟩ => ⟨S2x1x6144, .f32⟩
  | .hbm, ⟨31, _⟩ => ⟨S2x3x6144, .f32⟩
  | .hbm, ⟨32, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== KernelNa.lean ====
abbrev S17408x1536 : Shape := ⟨2, ![17408, 1536]⟩
abbrev S8x15x31 : Shape := ⟨3, ![8, 15, 31]⟩
abbrev S8x8 : Shape := ⟨2, ![8, 8]⟩
abbrev S64x64 : Shape := ⟨2, ![64, 64]⟩
abbrev S_ : Shape := ⟨0, ![]⟩
abbrev S8x8x1 : Shape := ⟨3, ![8, 8, 1]⟩
abbrev S8x8x8x31 : Shape := ⟨4, ![8, 8, 8, 31]⟩
abbrev S64x64x1 : Shape := ⟨3, ![64, 64, 1]⟩
abbrev S8x8x8x64x64 : Shape := ⟨5, ![8, 8, 8, 64, 64]⟩
abbrev S1x1x1x64x64 : Shape := ⟨5, ![1, 1, 1, 64, 64]⟩
abbrev S8x8x64x8x64 : Shape := ⟨5, ![8, 8, 64, 8, 64]⟩
abbrev S8x512x512 : Shape := ⟨3, ![8, 512, 512]⟩
abbrev S17408x512 : Shape := ⟨2, ![17408, 512]⟩
abbrev S64x512 : Shape := ⟨2, ![64, 512]⟩
abbrev S4352x512 : Shape := ⟨2, ![4352, 512]⟩
abbrev S1x512 : Shape := ⟨2, ![1, 512]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S1x512x512 : Shape := ⟨3, ![1, 512, 512]⟩

abbrev nBuf : Space → Nat
  | .hbm => 28
  | .vmem => 9
  | .smem => 0
  | _ => 0

abbrev bufTy : (tb : Table) → Fin (tcTables nBuf tb) → BufTy
  | .hbm, ⟨0, _⟩ => ⟨S17408x1536, .bf16⟩
  | .hbm, ⟨1, _⟩ => ⟨S8x15x31, .f32⟩
  | .hbm, ⟨2, _⟩ => ⟨S8x8, .i32⟩
  | .hbm, ⟨3, _⟩ => ⟨S8x8, .i1⟩
  | .hbm, ⟨4, _⟩ => ⟨S64x64, .i32⟩
  | .hbm, ⟨5, _⟩ => ⟨S64x64, .i1⟩
  | .hbm, ⟨6, _⟩ => ⟨S64x64, .i1⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i32⟩
  | .hbm, ⟨11, _⟩ => ⟨S8x8x1, .i32⟩
  | .hbm, ⟨12, _⟩ => ⟨S8x8x8x31, .f32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S64x64x1, .i32⟩
  | .hbm, ⟨18, _⟩ => ⟨S8x8x8x64x64, .f32⟩
  | .hbm, ⟨19, _⟩ => ⟨S1x1x1x64x64, .i1⟩
  | .hbm, ⟨20, _⟩ => ⟨S_, .f32⟩
  | .hbm, ⟨21, _⟩ => ⟨S_, .f32⟩
  | .hbm, ⟨22, _⟩ => ⟨S8x8x8x64x64, .i1⟩
  | .hbm, ⟨23, _⟩ => ⟨S8x8x8x64x64, .f32⟩
  | .hbm, ⟨24, _⟩ => ⟨S8x8x8x64x64, .f32⟩
  | .hbm, ⟨25, _⟩ => ⟨S8x8x64x8x64, .f32⟩
  | .hbm, ⟨26, _⟩ => ⟨S8x512x512, .f32⟩
  | .hbm, ⟨27, _⟩ => ⟨S17408x512, .bf16⟩
  | .local _ .vmem, ⟨0, _⟩ => ⟨S64x512, .bf16⟩
  | .local _ .vmem, ⟨1, _⟩ => ⟨S64x512, .bf16⟩
  | .local _ .vmem, ⟨2, _⟩ => ⟨S4352x512, .bf16⟩
  | .local _ .vmem, ⟨3, _⟩ => ⟨S4352x512, .bf16⟩
  | .local _ .vmem, ⟨4, _⟩ => ⟨S4352x512, .bf16⟩
  | .local _ .vmem, ⟨5, _⟩ => ⟨S4352x512, .bf16⟩
  | .local _ .vmem, ⟨6, _⟩ => ⟨S8x512x512, .f32⟩
  | .local _ .vmem, ⟨7, _⟩ => ⟨S64x512, .bf16⟩
  | .local _ .vmem, ⟨8, _⟩ => ⟨S64x512, .bf16⟩
  | _, _ => ⟨S17408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_5 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 68], ![false, false]⟩

def k0_cond2 (i : grid0.Coords) : BitVec 1 :=
  let arg1 : BitVec 32 := BitVec.ofNat 32 (i 1).val
  let c4_i32_15 : BitVec 32 := 4#32
  let v76 : BitVec 1 := Scalar.cmpi .sge arg1 c4_i32_15
  let v77 : BitVec 32 := Scalar.extui v76
  let c0_i32_16 : BitVec 32 := 0#32
  let v78 : BitVec 1 := Scalar.cmpi .ne v77 c0_i32_16
  v78

def k0_mult1 (i : grid0.Coords) : BitVec 32 :=
  let c256_i32 : BitVec 32 := 256#32
  let c56_i32 : BitVec 32 := 56#32
  let c0_i32_19 : BitVec 32 := 0#32
  let arg1 : BitVec 32 := BitVec.ofNat 32 (i 1).val
  let c4_i32_17 : BitVec 32 := 4#32
  let v79 : BitVec 32 := Scalar.subi arg1 c4_i32_17
  let c4_i32_18 : BitVec 32 := 4#32
  let v80 : BitVec 32 := Scalar.subi v79 c4_i32_18
  let v81 : BitVec 32 := Scalar.maxsi c0_i32_19 v80
  let v82 : BitVec 32 := Scalar.minsi c56_i32 v81
  let c64_i32_20 : BitVec 32 := 64#32
  let v83 : BitVec 32 := Scalar.muli v82 c64_i32_20
  let v84 : BitVec 32 := Scalar.addi c256_i32 v83
  v84
def k0_off1 (i : grid0.Coords) : Fin 2 → Nat :=
  let c256_i32 : BitVec 32 := 256#32
  let c56_i32 : BitVec 32 := 56#32
  let c0_i32_19 : BitVec 32 := 0#32
  let arg1 : BitVec 32 := BitVec.ofNat 32 (i 1).val
  let c4_i32_17 : BitVec 32 := 4#32
  let v79 : BitVec 32 := Scalar.subi arg1 c4_i32_17
  let c4_i32_18 : BitVec 32 := 4#32
  let v80 : BitVec 32 := Scalar.subi v79 c4_i32_18
  let v81 : BitVec 32 := Scalar.maxsi c0_i32_19 v80
  let v82 : BitVec 32 := Scalar.minsi c56_i32 v81
  let c64_i32_20 : BitVec 32 := 64#32
  let v83 : BitVec 32 := Scalar.muli v82 c64_i32_20
  let v84 : BitVec 32 := Scalar.addi c256_i32 v83
  let v85 : BitVec 32 := v84
  let v86 : Index := Scalar.indexCast v85
  let c0_21 : Index := 0#32
  ![v86.toNat, 0]
def k0_off2 (i : grid0.Coords) : Fin 3 → Nat :=
  let arg1 : BitVec 32 := BitVec.ofNat 32 (i 1).val
  let c4_i32_17 : BitVec 32 := 4#32
  let v79 : BitVec 32 := Scalar.subi arg1 c4_i32_17
  let c56_i32 : BitVec 32 := 56#32
  let c0_i32_19 : BitVec 32 := 0#32
  let c4_i32_18 : BitVec 32 := 4#32
  let v80 : BitVec 32 := Scalar.subi v79 c4_i32_18
  let v81 : BitVec 32 := Scalar.maxsi c0_i32_19 v80
  let v82 : BitVec 32 := Scalar.minsi c56_i32 v81
  let v93 : BitVec 32 := Scalar.subi v79 v82
  let v94 : Index := Scalar.indexCast v93
  let c0_25 : Index := 0#32
  let c0_26 : Index := 0#32
  ![v94.toNat, 0, 0]
def k0_cond1 (i : grid0.Coords) : BitVec 1 :=
  let arg1 : BitVec 32 := BitVec.ofNat 32 (i 1).val
  let c4_i32_13 : BitVec 32 := 4#32
  let v73 : BitVec 1 := Scalar.cmpi .slt arg1 c4_i32_13
  let v74 : BitVec 32 := Scalar.extui v73
  let c0_i32_14 : BitVec 32 := 0#32
  let v75 : BitVec 1 := Scalar.cmpi .ne v74 c0_i32_14
  v75

def cc0_transform_0 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNaIdeal.lean ====
abbrev S17408x1536 : Shape := ⟨2, ![17408, 1536]⟩
abbrev S8x15x31 : Shape := ⟨3, ![8, 15, 31]⟩
abbrev S4x4352x3x512 : Shape := ⟨4, ![4, 4352, 3, 512]⟩
abbrev S4x256x1x512 : Shape := ⟨4, ![4, 256, 1, 512]⟩
abbrev S4x256x512 : Shape := ⟨3, ![4, 256, 512]⟩
abbrev S4x256x8x64 : Shape := ⟨4, ![4, 256, 8, 64]⟩
abbrev S4x4096x1x512 : Shape := ⟨4, ![4, 4096, 1, 512]⟩
abbrev S4x4096x512 : Shape := ⟨3, ![4, 4096, 512]⟩
abbrev S4x4096x8x64 : Shape := ⟨4, ![4, 4096, 8, 64]⟩
abbrev S64 : Shape := ⟨1, ![64]⟩
abbrev S64x1 : Shape := ⟨2, ![64, 1]⟩
abbrev S_ : Shape := ⟨0, ![]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S4x64x64x512 : Shape := ⟨4, ![4, 64, 64, 512]⟩
abbrev S512 : Shape := ⟨1, ![512]⟩
abbrev S512x1 : Shape := ⟨2, ![512, 1]⟩
abbrev S4x512x64x512 : Shape := ⟨4, ![4, 512, 64, 512]⟩
abbrev S1024 : Shape := ⟨1, ![1024]⟩
abbrev S1024x1 : Shape := ⟨2, ![1024, 1]⟩
abbrev S4x512x1024x512 : Shape := ⟨4, ![4, 512, 1024, 512]⟩
abbrev S4x64x8x64x16x512 : Shape := ⟨6, ![4, 64, 8, 64, 16, 512]⟩
abbrev S4x64x64x8x16x512 : Shape := ⟨6, ![4, 64, 64, 8, 16, 512]⟩
abbrev S4x4096x128x8x64 : Shape := ⟨5, ![4, 4096, 128, 8, 64]⟩
abbrev S8x512x31 : Shape := ⟨3, ![8, 512, 31]⟩
abbrev S8x512x1024 : Shape := ⟨3, ![8, 512, 1024]⟩
abbrev S8x64x8x64x16 : Shape := ⟨5, ![8, 64, 8, 64, 16]⟩
abbrev S8x64x64x8x16 : Shape := ⟨5, ![8, 64, 64, 8, 16]⟩
abbrev S8x4096x128 : Shape := ⟨3, ![8, 4096, 128]⟩
abbrev S4x8x4096x128 : Shape := ⟨4, ![4, 8, 4096, 128]⟩
abbrev S1x8x4096x128 : Shape := ⟨4, ![1, 8, 4096, 128]⟩
abbrev S4x8x4096x256 : Shape := ⟨4, ![4, 8, 4096, 256]⟩
abbrev S4x8x4096x384 : Shape := ⟨4, ![4, 8, 4096, 384]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x4352x512 : Shape := ⟨3, ![4, 4352, 512]⟩
abbrev S17408x512 : Shape := ⟨2, ![17408, 512]⟩

abbrev nBuf : Space → Nat
  | .hbm => 194
  | .vmem => 0
  | .smem => 0
  | _ => 0

abbrev hbmTy0_0 (i : Nat) : BufTy := match i % 128 with
  | 0 => ⟨S17408x1536, .bf16⟩
  | 1 => ⟨S8x15x31, .f32⟩
  | 2 => ⟨S17408x1536, .f32⟩
  | 3 => ⟨S4x4352x3x512, .f32⟩
  | 4 => ⟨S4x256x1x512, .f32⟩
  | 5 => ⟨S4x256x512, .f32⟩
  | 6 => ⟨S4x256x8x64, .f32⟩
  | 7 => ⟨S4x256x1x512, .f32⟩
  | 8 => ⟨S4x256x512, .f32⟩
  | 9 => ⟨S4x256x8x64, .f32⟩
  | 10 => ⟨S4x256x1x512, .f32⟩
  | 11 => ⟨S4x256x512, .f32⟩
  | 12 => ⟨S4x256x8x64, .f32⟩
  | 13 => ⟨S4x4096x1x512, .f32⟩
  | 14 => ⟨S4x4096x512, .f32⟩
  | 15 => ⟨S4x4096x8x64, .f32⟩
  | 16 => ⟨S64, .i32⟩
  | 17 => ⟨S64x1, .i32⟩
  | 18 => ⟨S64, .i32⟩
  | 19 => ⟨S64x1, .i32⟩
  | 20 => ⟨S_, .i32⟩
  | 21 => ⟨S64x1, .i32⟩
  | 22 => ⟨S64x1, .i32⟩
  | 23 => ⟨S_, .i32⟩
  | 24 => ⟨S_, .i32⟩
  | 25 => ⟨S_, .i32⟩
  | 26 => ⟨S64x1, .i32⟩
  | 27 => ⟨S64x1, .i32⟩
  | 28 => ⟨S_, .i32⟩
  | 29 => ⟨S64x1, .i32⟩
  | 30 => ⟨S64x1, .i32⟩
  | 31 => ⟨S8, .i32⟩
  | 32 => ⟨S1x8, .i32⟩
  | 33 => ⟨S64x8, .i32⟩
  | 34 => ⟨S64x8, .i32⟩
  | 35 => ⟨S64x8, .i32⟩
  | 36 => ⟨S_, .i32⟩
  | 37 => ⟨S64x1, .i32⟩
  | 38 => ⟨S64x1, .i32⟩
  | 39 => ⟨S_, .i32⟩
  | 40 => ⟨S_, .i32⟩
  | 41 => ⟨S_, .i32⟩
  | 42 => ⟨S64x1, .i32⟩
  | 43 => ⟨S64x1, .i32⟩
  | 44 => ⟨S_, .i32⟩
  | 45 => ⟨S64x1, .i32⟩
  | 46 => ⟨S64x1, .i32⟩
  | 47 => ⟨S16, .i32⟩
  | 48 => ⟨S1x16, .i32⟩
  | 49 => ⟨S64x16, .i32⟩
  | 50 => ⟨S64x16, .i32⟩
  | 51 => ⟨S64x16, .i32⟩
  | 52 => ⟨S64x8, .i32⟩
  | 53 => ⟨S64x8, .i32⟩
  | 54 => ⟨S_, .i32⟩
  | 55 => ⟨S64x8, .i32⟩
  | 56 => ⟨S64x8, .i32⟩
  | 57 => ⟨S64x16, .i32⟩
  | 58 => ⟨S64x16, .i32⟩
  | 59 => ⟨S_, .i32⟩
  | 60 => ⟨S64x16, .i32⟩
  | 61 => ⟨S64x16, .i32⟩
  | 62 => ⟨S4x4096x1x512, .f32⟩
  | 63 => ⟨S4x4096x512, .f32⟩
  | 64 => ⟨S4x64x64x512, .f32⟩
  | 65 => ⟨S512, .i32⟩
  | 66 => ⟨S_, .i32⟩
  | 67 => ⟨S512, .i32⟩
  | 68 => ⟨S512, .i1⟩
  | 69 => ⟨S_, .i32⟩
  | 70 => ⟨S512, .i32⟩
  | 71 => ⟨S512, .i32⟩
  | 72 => ⟨S512, .i32⟩
  | 73 => ⟨S512x1, .i32⟩
  | 74 => ⟨S4x512x64x512, .f32⟩
  | 75 => ⟨S1024, .i32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S4x512x1024x512, .f32⟩
  | 85 => ⟨S4x64x8x64x16x512, .f32⟩
  | 86 => ⟨S4x64x64x8x16x512, .f32⟩
  | 87 => ⟨S4x4096x128x8x64, .f32⟩
  | 88 => ⟨S4x4096x1x512, .f32⟩
  | 89 => ⟨S4x4096x512, .f32⟩
  | 90 => ⟨S4x64x64x512, .f32⟩
  | 91 => ⟨S512, .i32⟩
  | 92 => ⟨S_, .i32⟩
  | 93 => ⟨S512, .i32⟩
  | 94 => ⟨S512, .i1⟩
  | 95 => ⟨S_, .i32⟩
  | 96 => ⟨S512, .i32⟩
  | 97 => ⟨S512, .i32⟩
  | 98 => ⟨S512, .i32⟩
  | 99 => ⟨S512x1, .i32⟩
  | 100 => ⟨S4x512x64x512, .f32⟩
  | 101 => ⟨S1024, .i32⟩
  | 102 => ⟨S_, .i32⟩
  | 103 => ⟨S1024, .i32⟩
  | 104 => ⟨S1024, .i1⟩
  | 105 => ⟨S_, .i32⟩
  | 106 => ⟨S1024, .i32⟩
  | 107 => ⟨S1024, .i32⟩
  | 108 => ⟨S1024, .i32⟩
  | 109 => ⟨S1024x1, .i32⟩
  | 110 => ⟨S4x512x1024x512, .f32⟩
  | 111 => ⟨S4x64x8x64x16x512, .f32⟩
  | 112 => ⟨S4x64x64x8x16x512, .f32⟩
  | 113 => ⟨S4x4096x128x8x64, .f32⟩
  | 114 => ⟨S512, .i32⟩
  | 115 => ⟨S_, .i32⟩
  | 116 => ⟨S512, .i32⟩
  | 117 => ⟨S512, .i1⟩
  | 118 => ⟨S_, .i32⟩
  | 119 => ⟨S512, .i32⟩
  | 120 => ⟨S512, .i32⟩
  | 121 => ⟨S512, .i32⟩
  | 122 => ⟨S512x1, .i32⟩
  | 123 => ⟨S8x512x31, .f32⟩
  | 124 => ⟨S1024, .i32⟩
  | 125 => ⟨S_, .i32⟩
  | 126 => ⟨S1024, .i32⟩
  | 127 => ⟨S1024, .i1⟩
  | _ => ⟨S17408x1536, .bf16⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S8x512x1024, .f32⟩
  | 6 => ⟨S8x64x8x64x16, .f32⟩
  | 7 => ⟨S8x64x64x8x16, .f32⟩
  | 8 => ⟨S8x4096x128, .f32⟩
  | 9 => ⟨S4x8x4096x128, .f32⟩
  | 10 => ⟨S_, .f32⟩
  | 11 => ⟨S4x8x4096x128, .f32⟩
  | 12 => ⟨S4x8x4096x128, .f32⟩
  | 13 => ⟨S1x8x4096x128, .f32⟩
  | 14 => ⟨S4x8x4096x128, .f32⟩
  | 15 => ⟨S4x8x4096x128, .f32⟩
  | 16 => ⟨S4x8x4096x256, .f32⟩
  | 17 => ⟨S_, .f32⟩
  | 18 => ⟨S4x8x4096x256, .f32⟩
  | 19 => ⟨S4x8x4096x256, .f32⟩
  | 20 => ⟨S4x8x4096x384, .f32⟩
  | 21 => ⟨S_, .f32⟩
  | 22 => ⟨S4x8x4096, .f32⟩
  | 23 => ⟨S_, .f32⟩
  | 24 => ⟨S4x8x4096, .f32⟩
  | 25 => ⟨S4x8x4096, .f32⟩
  | 26 => ⟨S4x8x4096x1, .f32⟩
  | 27 => ⟨S4x8x4096x384, .f32⟩
  | 28 => ⟨S4x8x4096x384, .f32⟩
  | 29 => ⟨S4x8x4096x384, .f32⟩
  | 30 => ⟨S_, .f32⟩
  | 31 => ⟨S4x8x4096, .f32⟩
  | 32 => ⟨S4x8x4096x1, .f32⟩
  | 33 => ⟨S4x8x4096x384, .f32⟩
  | 34 => ⟨S4x8x4096x384, .f32⟩
  | 35 => ⟨S4x8x4096x128, .f32⟩
  | 36 => ⟨S4x4096x8x64, .f32⟩
  | 37 => ⟨S4x8x4096x256, .f32⟩
  | 38 => ⟨S4x8x64x4096, .f32⟩
  | 39 => ⟨S4x4096x8x64, .f32⟩
  | 40 => ⟨S4x4096x8x64, .f32⟩
  | 41 => ⟨S4x4096x512, .f32⟩
  | 42 => ⟨S4x8x256x256, .f32⟩
  | 43 => ⟨S_, .f32⟩
  | 44 => ⟨S4x8x256x256, .f32⟩
  | 45 => ⟨S4x8x256x256, .f32⟩
  | 46 => ⟨S_, .f32⟩
  | 47 => ⟨S4x8x256, .f32⟩
  | 48 => ⟨S_, .f32⟩
  | 49 => ⟨S4x8x256, .f32⟩
  | 50 => ⟨S4x8x256, .f32⟩
  | 51 => ⟨S4x8x256x1, .f32⟩
  | 52 => ⟨S4x8x256x256, .f32⟩
  | 53 => ⟨S4x8x256x256, .f32⟩
  | 54 => ⟨S4x8x256x256, .f32⟩
  | 55 => ⟨S_, .f32⟩
  | 56 => ⟨S4x8x256, .f32⟩
  | 57 => ⟨S4x8x256x1, .f32⟩
  | 58 => ⟨S4x8x256x256, .f32⟩
  | 59 => ⟨S4x8x256x256, .f32⟩
  | 60 => ⟨S4x8x64x256, .f32⟩
  | 61 => ⟨S4x256x8x64, .f32⟩
  | 62 => ⟨S4x256x512, .f32⟩
  | 63 => ⟨S4x4352x512, .f32⟩
  | 64 => ⟨S17408x512, .f32⟩
  | 65 => ⟨S17408x512, .bf16⟩
  | _ => ⟨S17408x1536, .bf16⟩

abbrev hbmTy (i : Nat) : BufTy := match i / 128 with
  | 0 => hbmTy0_0 i
  | 1 => hbmTy0_1 i
  | _ => ⟨S17408x1536, .bf16⟩

abbrev bufTy : (tb : Table) → Fin (tcTables nBuf tb) → BufTy
  | .hbm, ⟨i, _⟩ => hbmTy i
  | _, _ => ⟨S17408x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_15 : Ref sig .tc := ⟨.hbm, 115, rfl⟩
abbrev main_v87 : Ref sig .tc := ⟨.hbm, 116, rfl⟩
abbrev main_v88 : Ref sig .tc := ⟨.hbm, 117, rfl⟩
abbrev main_c_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_17 : Ref sig .tc := ⟨.hbm, 125, rfl⟩
abbrev main_v95 : Ref sig .tc := ⟨.hbm, 126, rfl⟩
abbrev main_v96 : Ref sig .tc := ⟨.hbm, 127, rfl⟩
abbrev main_c_18 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_19 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_20 : Ref sig .tc := ⟨.hbm, 149, rfl⟩
abbrev main_v115 : Ref sig .tc := ⟨.hbm, 150, rfl⟩
abbrev main_cst_21 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_22 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_23 : Ref sig .tc := ⟨.hbm, 171, rfl⟩
abbrev main_v134 : Ref sig .tc := ⟨.hbm, 172, rfl⟩
abbrev main_v135 : Ref sig .tc := ⟨.hbm, 173, rfl⟩
abbrev main_cst_24 : Ref sig .tc := ⟨.hbm, 174, rfl⟩
abbrev main_v136 : Ref sig .tc := ⟨.hbm, 175, rfl⟩
abbrev main_cst_25 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_26 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩

abbrev nD : Nat := 1
abbrev τ : Topo := Topo.v7x

variable {F : FTy → Type} [FloatOps F]
-- ==== KernelRoute.lean ====
abbrev S17408x1024 : Shape := ⟨2, ![17408, 1024]⟩
abbrev S8x6x1024 : Shape := ⟨3, ![8, 6, 1024]⟩
abbrev S17408x512 : Shape := ⟨2, ![17408, 512]⟩
abbrev S1024x6944 : Shape := ⟨2, ![1024, 6944]⟩
abbrev S6944 : Shape := ⟨1, ![6944]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S96 : Shape := ⟨1, ![96]⟩
abbrev S1024x768 : Shape := ⟨2, ![1024, 768]⟩
abbrev S1024x1568 : Shape := ⟨2, ![1024, 1568]⟩
abbrev S1024x1536 : Shape := ⟨2, ![1024, 1536]⟩
abbrev S1024x3968 : Shape := ⟨2, ![1024, 3968]⟩
abbrev S768 : Shape := ⟨1, ![768]⟩
abbrev S1568 : Shape := ⟨1, ![1568]⟩
abbrev S1536 : Shape := ⟨1, ![1536]⟩
abbrev S3968 : Shape := ⟨1, ![3968]⟩
abbrev S1x3968 : Shape := ⟨2, ![1, 3968]⟩
abbrev S1024x3072 : Shape := ⟨2, ![1024, 3072]⟩
abbrev S3072 : Shape := ⟨1, ![3072]⟩
abbrev S1x3072 : Shape := ⟨2, ![1, 3072]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S17408x128 : Shape := ⟨2, ![17408, 128]⟩
abbrev S256x1024 : Shape := ⟨2, ![256, 1024]⟩
abbrev S1x6x1024 : Shape := ⟨3, ![1, 6, 1024]⟩
abbrev S256x512 : Shape := ⟨2, ![256, 512]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩

abbrev nBuf : Space → Nat
  | .hbm => 51
  | .vmem => 26
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S17408x512, .bf16⟩
  | .hbm, ⟨3, _⟩ => ⟨S17408x512, .bf16⟩
  | .hbm, ⟨4, _⟩ => ⟨S17408x512, .bf16⟩
  | .hbm, ⟨5, _⟩ => ⟨S1024x6944, .f32⟩
  | .hbm, ⟨6, _⟩ => ⟨S6944, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S_, .f32⟩
  | .hbm, ⟨18, _⟩ => ⟨S1024x96, .f32⟩
  | .hbm, ⟨19, _⟩ => ⟨S_, .f32⟩
  | .hbm, ⟨20, _⟩ => ⟨S96, .f32⟩
  | .hbm, ⟨21, _⟩ => ⟨S1024x768, .f32⟩
  | .hbm, ⟨22, _⟩ => ⟨S1024x1568, .f32⟩
  | .hbm, ⟨23, _⟩ => ⟨S1024x1536, .f32⟩
  | .hbm, ⟨24, _⟩ => ⟨S1024x3968, .f32⟩
  | .hbm, ⟨25, _⟩ => ⟨S768, .f32⟩
  | .hbm, ⟨26, _⟩ => ⟨S1568, .f32⟩
  | .hbm, ⟨27, _⟩ => ⟨S1536, .f32⟩
  | .hbm, ⟨28, _⟩ => ⟨S3968, .f32⟩
  | .hbm, ⟨29, _⟩ => ⟨S1024x3968, .bf16⟩
  | .hbm, ⟨30, _⟩ => ⟨S1x3968, .f32⟩
  | .hbm, ⟨31, _⟩ => ⟨S1024x3072, .f32⟩
  | .hbm, ⟨32, _⟩ => ⟨S1024x3072, .bf16⟩
  | .hbm, ⟨33, _⟩ => ⟨S3072, .f32⟩
  | .hbm, ⟨34, _⟩ => ⟨S1x3072, .f32⟩
  | .hbm, ⟨35, _⟩ => ⟨S_, .f32⟩
  | .hbm, ⟨36, _⟩ => ⟨S1024x92, .f32⟩
  | .hbm, ⟨37, _⟩ => ⟨S1024x128, .f32⟩
  | .hbm, ⟨38, _⟩ => ⟨S_, .f32⟩
  | .hbm, ⟨39, _⟩ => ⟨S92, .f32⟩
  | .hbm, ⟨40, _⟩ => ⟨S128, .f32⟩
  | .hbm, ⟨41, _⟩ => ⟨S1x128, .f32⟩
  | .hbm, ⟨42, _⟩ => ⟨S512x1024, .bf16⟩
  | .hbm, ⟨43, _⟩ => ⟨S512x1024, .bf16⟩
  | .hbm, ⟨44, _⟩ => ⟨S512x1024, .bf16⟩
  | .hbm, ⟨45, _⟩ => ⟨S1024x1024, .bf16⟩
  | .hbm, ⟨46, _⟩ => ⟨S1x1024, .f32⟩
  | .hbm, ⟨47, _⟩ => ⟨S1x1024, .f32⟩
  | .hbm, ⟨48, _⟩ => ⟨S17408x1024, .f32⟩
  | .hbm, ⟨49, _⟩ => ⟨S17408x1024, .f32⟩
  | .hbm, ⟨50, _⟩ => ⟨S17408x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x3072, .bf16⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x128, .f32⟩
  | .local _ .vmem, ⟨19, _⟩ => ⟨S1x128, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x128, .f32⟩
  | .local _ .vmem, ⟨25, _⟩ => ⟨S256x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c0_i32_11 : BitVec 32 := 0#32
  let c0_i32_12 : BitVec 32 := 0#32
  let c0_i32_13 : BitVec 32 := 0#32
  ![v29.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceRouteIdeal.lean ====
abbrev S17408x1024 : Shape := ⟨2, ![17408, 1024]⟩
abbrev S8x6x1024 : Shape := ⟨3, ![8, 6, 1024]⟩
abbrev S17408x512 : Shape := ⟨2, ![17408, 512]⟩
abbrev S1024x6944 : Shape := ⟨2, ![1024, 6944]⟩
abbrev S6944 : Shape := ⟨1, ![6944]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x2x6x1024 : Shape := ⟨4, ![4, 2, 6, 1024]⟩
abbrev S4x2x1x1024 : Shape := ⟨4, ![4, 2, 1, 1024]⟩
abbrev S4x2x1024 : Shape := ⟨3, ![4, 2, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S_ : Shape := ⟨0, ![]⟩
abbrev S17408 : Shape := ⟨1, ![17408]⟩
abbrev S17408x1 : Shape := ⟨2, ![17408, 1]⟩
abbrev S1024x3072 : Shape := ⟨2, ![1024, 3072]⟩
abbrev S17408x3072 : Shape := ⟨2, ![17408, 3072]⟩
abbrev S3072 : Shape := ⟨1, ![3072]⟩
abbrev S1x3072 : Shape := ⟨2, ![1, 3072]⟩
abbrev S17408x3x1024 : Shape := ⟨3, ![17408, 3, 1024]⟩
abbrev S17408x1x1024 : Shape := ⟨3, ![17408, 1, 1024]⟩
abbrev S1x1024 : Shape := ⟨2, ![1, 1024]⟩
abbrev S17408x4 : Shape := ⟨2, ![17408, 4]⟩
abbrev S1x4 : Shape := ⟨2, ![1, 4]⟩
abbrev S17408x32 : Shape := ⟨2, ![17408, 32]⟩
abbrev S1x32 : Shape := ⟨2, ![1, 32]⟩
abbrev S17408x4x8 : Shape := ⟨3, ![17408, 4, 8]⟩
abbrev S17408x8 : Shape := ⟨2, ![17408, 8]⟩
abbrev S17408x2 : Shape := ⟨2, ![17408, 2]⟩
abbrev S17408x124 : Shape := ⟨2, ![17408, 124]⟩
abbrev S17408x128 : Shape := ⟨2, ![17408, 128]⟩

abbrev nBuf : Space → Nat
  | .hbm => 249
  | .vmem => 0
  | .smem => 0
  | _ => 0

abbrev hbmTy0_0 (i : Nat) : BufTy := match i % 128 with
  | 0 => ⟨S17408x1024, .f32⟩
  | 1 => ⟨S8x6x1024, .f32⟩
  | 2 => ⟨S17408x512, .bf16⟩
  | 3 => ⟨S17408x512, .bf16⟩
  | 4 => ⟨S17408x512, .bf16⟩
  | 5 => ⟨S1024x6944, .f32⟩
  | 6 => ⟨S6944, .f32⟩
  | 7 => ⟨S512x1024, .f32⟩
  | 8 => ⟨S512x1024, .f32⟩
  | 9 => ⟨S512x1024, .f32⟩
  | 10 => ⟨S1024x1024, .f32⟩
  | 11 => ⟨S1024, .f32⟩
  | 12 => ⟨S1024, .f32⟩
  | 13 => ⟨S1024x4, .f32⟩
  | 14 => ⟨S4, .f32⟩
  | 15 => ⟨S1024x32, .f32⟩
  | 16 => ⟨S32, .f32⟩
  | 17 => ⟨S4x2x6x1024, .f32⟩
  | 18 => ⟨S4x2x1x1024, .f32⟩
  | 19 => ⟨S4x2x1024, .f32⟩
  | 20 => ⟨S4x1x1024, .f32⟩
  | 21 => ⟨S4x256x1024, .f32⟩
  | 22 => ⟨S4x1x1024, .f32⟩
  | 23 => ⟨S4x4096x1024, .f32⟩
  | 24 => ⟨S4x4352x1024, .f32⟩
  | 25 => ⟨S17408x1024, .f32⟩
  | 26 => ⟨S4x2x6x1024, .f32⟩
  | 27 => ⟨S4x2x1x1024, .f32⟩
  | 28 => ⟨S4x2x1024, .f32⟩
  | 29 => ⟨S4x1x1024, .f32⟩
  | 30 => ⟨S4x256x1024, .f32⟩
  | 31 => ⟨S4x1x1024, .f32⟩
  | 32 => ⟨S4x4096x1024, .f32⟩
  | 33 => ⟨S4x4352x1024, .f32⟩
  | 34 => ⟨S17408x1024, .f32⟩
  | 35 => ⟨S_, .f32⟩
  | 36 => ⟨S17408, .f32⟩
  | 37 => ⟨S17408x1, .f32⟩
  | 38 => ⟨S_, .f32⟩
  | 39 => ⟨S17408x1, .f32⟩
  | 40 => ⟨S17408x1, .f32⟩
  | 41 => ⟨S17408x1024, .f32⟩
  | 42 => ⟨S17408x1024, .f32⟩
  | 43 => ⟨S17408x1024, .f32⟩
  | 44 => ⟨S_, .f32⟩
  | 45 => ⟨S17408, .f32⟩
  | 46 => ⟨S17408x1, .f32⟩
  | 47 => ⟨S_, .f32⟩
  | 48 => ⟨S17408x1, .f32⟩
  | 49 => ⟨S17408x1, .f32⟩
  | 50 => ⟨S17408x1024, .f32⟩
  | 51 => ⟨S17408x1024, .f32⟩
  | 52 => ⟨S_, .f32⟩
  | 53 => ⟨S17408x1, .f32⟩
  | 54 => ⟨S17408x1, .f32⟩
  | 55 => ⟨S17408x1, .f32⟩
  | 56 => ⟨S17408x1024, .f32⟩
  | 57 => ⟨S17408x1024, .f32⟩
  | 58 => ⟨S_, .f32⟩
  | 59 => ⟨S17408x1024, .f32⟩
  | 60 => ⟨S17408x1024, .f32⟩
  | 61 => ⟨S17408x1024, .f32⟩
  | 62 => ⟨S17408x1024, .f32⟩
  | 63 => ⟨S1024x3072, .f32⟩
  | 64 => ⟨S17408x3072, .f32⟩
  | 65 => ⟨S3072, .f32⟩
  | 66 => ⟨S1x3072, .f32⟩
  | 67 => ⟨S17408x3072, .f32⟩
  | 68 => ⟨S17408x3072, .f32⟩
  | 69 => ⟨S17408x3x1024, .f32⟩
  | 70 => ⟨S17408x3x1024, .f32⟩
  | 71 => ⟨S17408x3x1024, .f32⟩
  | 72 => ⟨S_, .f32⟩
  | 73 => ⟨S17408x3x1024, .f32⟩
  | 74 => ⟨S17408x3x1024, .f32⟩
  | 75 => ⟨S_, .f32⟩
  | 76 => ⟨S17408x3x1024, .f32⟩
  | 77 => ⟨S17408x3x1024, .f32⟩
  | 78 => ⟨S17408x1x1024, .f32⟩
  | 79 => ⟨S17408x1024, .f32⟩
  | 80 => ⟨S17408x512, .f32⟩
  | 81 => ⟨S17408x1024, .f32⟩
  | 82 => ⟨S17408x1024, .f32⟩
  | 83 => ⟨S17408x1x1024, .f32⟩
  | 84 => ⟨S17408x1024, .f32⟩
  | 85 => ⟨S17408x512, .f32⟩
  | 86 => ⟨S17408x1024, .f32⟩
  | 87 => ⟨S17408x1024, .f32⟩
  | 88 => ⟨S17408x1024, .f32⟩
  | 89 => ⟨S17408x1x1024, .f32⟩
  | 90 => ⟨S17408x1024, .f32⟩
  | 91 => ⟨S17408x512, .f32⟩
  | 92 => ⟨S17408x1024, .f32⟩
  | 93 => ⟨S17408x1024, .f32⟩
  | 94 => ⟨S17408x1024, .f32⟩
  | 95 => ⟨S_, .f32⟩
  | 96 => ⟨S17408x1024, .f32⟩
  | 97 => ⟨S17408x1024, .f32⟩
  | 98 => ⟨S4x2x6x1024, .f32⟩
  | 99 => ⟨S4x2x1x1024, .f32⟩
  | 100 => ⟨S4x2x1024, .f32⟩
  | 101 => ⟨S4x1x1024, .f32⟩
  | 102 => ⟨S4x256x1024, .f32⟩
  | 103 => ⟨S4x1x1024, .f32⟩
  | 104 => ⟨S4x4096x1024, .f32⟩
  | 105 => ⟨S4x4352x1024, .f32⟩
  | 106 => ⟨S17408x1024, .f32⟩
  | 107 => ⟨S17408x1024, .f32⟩
  | 108 => ⟨S17408x1024, .f32⟩
  | 109 => ⟨S17408x1024, .f32⟩
  | 110 => ⟨S_, .f32⟩
  | 111 => ⟨S17408, .f32⟩
  | 112 => ⟨S17408x1, .f32⟩
  | 113 => ⟨S_, .f32⟩
  | 114 => ⟨S17408x1, .f32⟩
  | 115 => ⟨S17408x1, .f32⟩
  | 116 => ⟨S17408x1024, .f32⟩
  | 117 => ⟨S17408x1024, .f32⟩
  | 118 => ⟨S17408x1024, .f32⟩
  | 119 => ⟨S_, .f32⟩
  | 120 => ⟨S17408, .f32⟩
  | 121 => ⟨S17408x1, .f32⟩
  | 122 => ⟨S_, .f32⟩
  | 123 => ⟨S17408x1, .f32⟩
  | 124 => ⟨S17408x1, .f32⟩
  | 125 => ⟨S17408x1024, .f32⟩
  | 126 => ⟨S17408x1024, .f32⟩
  | 127 => ⟨S_, .f32⟩
  | _ => ⟨S17408x1024, .f32⟩

abbrev hbmTy0_1 (i : Nat) : BufTy := match i % 128 with
  | 0 => ⟨S17408x1, .f32⟩
  | 1 => ⟨S17408x1, .f32⟩
  | 2 => ⟨S17408x1, .f32⟩
  | 3 => ⟨S17408x1024, .f32⟩
  | 4 => ⟨S17408x1024, .f32⟩
  | 5 => ⟨S1x1024, .f32⟩
  | 6 => ⟨S17408x1024, .f32⟩
  | 7 => ⟨S17408x1024, .f32⟩
  | 8 => ⟨S1x1024, .f32⟩
  | 9 => ⟨S17408x1024, .f32⟩
  | 10 => ⟨S17408x1024, .f32⟩
  | 11 => ⟨S4x2x6x1024, .f32⟩
  | 12 => ⟨S4x2x1x1024, .f32⟩
  | 13 => ⟨S4x2x1024, .f32⟩
  | 14 => ⟨S4x1x1024, .f32⟩
  | 15 => ⟨S4x256x1024, .f32⟩
  | 16 => ⟨S4x1x1024, .f32⟩
  | 17 => ⟨S4x4096x1024, .f32⟩
  | 18 => ⟨S4x4352x1024, .f32⟩
  | 19 => ⟨S17408x1024, .f32⟩
  | 20 => ⟨S4x2x6x1024, .f32⟩
  | 21 => ⟨S4x2x1x1024, .f32⟩
  | 22 => ⟨S4x2x1024, .f32⟩
  | 23 => ⟨S4x1x1024, .f32⟩
  | 24 => ⟨S4x256x1024, .f32⟩
  | 25 => ⟨S4x1x1024, .f32⟩
  | 26 => ⟨S4x4096x1024, .f32⟩
  | 27 => ⟨S4x4352x1024, .f32⟩
  | 28 => ⟨S17408x1024, .f32⟩
  | 29 => ⟨S_, .f32⟩
  | 30 => ⟨S17408, .f32⟩
  | 31 => ⟨S17408x1, .f32⟩
  | 32 => ⟨S_, .f32⟩
  | 33 => ⟨S17408x1, .f32⟩
  | 34 => ⟨S17408x1, .f32⟩
  | 35 => ⟨S17408x1024, .f32⟩
  | 36 => ⟨S17408x1024, .f32⟩
  | 37 => ⟨S17408x1024, .f32⟩
  | 38 => ⟨S_, .f32⟩
  | 39 => ⟨S17408, .f32⟩
  | 40 => ⟨S17408x1, .f32⟩
  | 41 => ⟨S_, .f32⟩
  | 42 => ⟨S17408x1, .f32⟩
  | 43 => ⟨S17408x1, .f32⟩
  | 44 => ⟨S17408x1024, .f32⟩
  | 45 => ⟨S17408x1024, .f32⟩
  | 46 => ⟨S_, .f32⟩
  | 47 => ⟨S17408x1, .f32⟩
  | 48 => ⟨S17408x1, .f32⟩
  | 49 => ⟨S17408x1, .f32⟩
  | 50 => ⟨S17408x1024, .f32⟩
  | 51 => ⟨S17408x1024, .f32⟩
  | 52 => ⟨S_, .f32⟩
  | 53 => ⟨S17408x1024, .f32⟩
  | 54 => ⟨S17408x1024, .f32⟩
  | 55 => ⟨S17408x1024, .f32⟩
  | 56 => ⟨S17408x1024, .f32⟩
  | 57 => ⟨S17408x4, .f32⟩
  | 58 => ⟨S1x4, .f32⟩
  | 59 => ⟨S17408x4, .f32⟩
  | 60 => ⟨S17408x4, .f32⟩
  | 61 => ⟨S17408x1, .f32⟩
  | 62 => ⟨S17408x1, .i32⟩
  | 63 => ⟨S17408, .i32⟩
  | 64 => ⟨S_, .f32⟩
  | 65 => ⟨S17408, .f32⟩
  | 66 => ⟨S_, .f32⟩
  | 67 => ⟨S17408, .f32⟩
  | 68 => ⟨S17408, .f32⟩
  | 69 => ⟨S17408x1, .f32⟩
  | 70 => ⟨S17408x4, .f32⟩
  | 71 => ⟨S17408x4, .f32⟩
  | 72 => ⟨S17408x4, .f32⟩
  | 73 => ⟨S_, .f32⟩
  | 74 => ⟨S17408, .f32⟩
  | 75 => ⟨S17408x1, .f32⟩
  | 76 => ⟨S17408x4, .f32⟩
  | 77 => ⟨S17408x4, .f32⟩
  | 78 => ⟨S_, .f32⟩
  | 79 => ⟨S17408, .f32⟩
  | 80 => ⟨S17408x1, .f32⟩
  | 81 => ⟨S17408x32, .f32⟩
  | 82 => ⟨S1x32, .f32⟩
  | 83 => ⟨S17408x32, .f32⟩
  | 84 => ⟨S17408x32, .f32⟩
  | 85 => ⟨S17408x4x8, .f32⟩
  | 86 => ⟨S17408x1, .i32⟩
  | 87 => ⟨S1x4, .i32⟩
  | 88 => ⟨S17408x4, .i32⟩
  | 89 => ⟨S17408x4, .i32⟩
  | 90 => ⟨S17408x4, .i1⟩
  | 91 => ⟨S17408x4, .f32⟩
  | 92 => ⟨S17408x8, .f32⟩
  | 93 => ⟨S17408x2, .f32⟩
  | 94 => ⟨S17408x2, .i32⟩
  | 95 => ⟨S_, .f32⟩
  | 96 => ⟨S17408, .f32⟩
  | 97 => ⟨S_, .f32⟩
  | 98 => ⟨S17408, .f32⟩
  | 99 => ⟨S17408, .f32⟩
  | 100 => ⟨S17408x1, .f32⟩
  | 101 => ⟨S17408x2, .f32⟩
  | 102 => ⟨S17408x2, .f32⟩
  | 103 => ⟨S17408x2, .f32⟩
  | 104 => ⟨S_, .f32⟩
  | 105 => ⟨S17408, .f32⟩
  | 106 => ⟨S17408x1, .f32⟩
  | 107 => ⟨S17408x2, .f32⟩
  | 108 => ⟨S17408x2, .f32⟩
  | 109 => ⟨S17408x2, .f32⟩
  | 110 => ⟨S17408x2, .f32⟩
  | 111 => ⟨S17408x1, .i32⟩
  | 112 => ⟨S_, .i32⟩
  | 113 => ⟨S17408x1, .i32⟩
  | 114 => ⟨S17408x1, .i32⟩
  | 115 => ⟨S17408x2, .i32⟩
  | 116 => ⟨S17408x2, .i32⟩
  | 117 => ⟨S17408x2, .f32⟩
  | 118 => ⟨S_, .f32⟩
  | 119 => ⟨S17408x124, .f32⟩
  | 120 => ⟨S17408x128, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_8 : Ref sig .tc := ⟨.hbm, 110, rfl⟩
abbrev main_v84 : Ref sig .tc := ⟨.hbm, 111, rfl⟩
abbrev main_v85 : Ref sig .tc := ⟨.hbm, 112, rfl⟩
abbrev main_cst_9 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_10 : Ref sig .tc := ⟨.hbm, 119, rfl⟩
abbrev main_v91 : Ref sig .tc := ⟨.hbm, 120, rfl⟩
abbrev main_v92 : Ref sig .tc := ⟨.hbm, 121, rfl⟩
abbrev main_cst_11 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_12 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_13 : Ref sig .tc := ⟨.hbm, 157, rfl⟩
abbrev main_v126 : Ref sig .tc := ⟨.hbm, 158, rfl⟩
abbrev main_v127 : Ref sig .tc := ⟨.hbm, 159, rfl⟩
abbrev main_cst_14 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_15 : Ref sig .tc := ⟨.hbm, 166, rfl⟩
abbrev main_v133 : Ref sig .tc := ⟨.hbm, 167, rfl⟩
abbrev main_v134 : Ref sig .tc := ⟨.hbm, 168, rfl⟩
abbrev main_cst_16 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_17 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_18 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_values : Ref sig .tc := ⟨.hbm, 189, rfl⟩
abbrev main_indices : Ref sig .tc := ⟨.hbm, 190, rfl⟩
abbrev main_v152 : Ref sig .tc := ⟨.hbm, 191, rfl⟩
abbrev main_cst_19 : Ref sig .tc := ⟨.hbm, 192, rfl⟩
abbrev main_v153 : Ref sig .tc := ⟨.hbm, 193, rfl⟩
abbrev main_cst_20 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_21 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_22 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_call0_v0 : Ref sig .tc := ⟨.hbm, 214, rfl⟩
abbrev main_call0_v1 : Ref sig .tc := ⟨.hbm, 215, rfl⟩
abbrev main_call0_v2 : Ref sig .tc := ⟨.hbm, 216, rfl⟩
abbrev main_call0_v3 : Ref sig .tc := ⟨.hbm, 217, rfl⟩
abbrev main_call0_v4 : Ref sig .tc := ⟨.hbm, 218, rfl⟩
abbrev main_v171 : Ref sig .tc := ⟨.hbm, 219, rfl⟩
abbrev main_v172 : Ref sig .tc := ⟨.hbm, 220, rfl⟩
abbrev main_values_23 : Ref sig .tc := ⟨.hbm, 221, rfl⟩
abbrev main_indices_24 : Ref sig .tc := ⟨.hbm, 222, rfl⟩
abbrev main_cst_25 : Ref sig .tc := ⟨.hbm, 223, rfl⟩
abbrev main_v173 : Ref sig .tc := ⟨.hbm, 224, rfl⟩
abbrev main_cst_26 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_27 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_c : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_28 : Ref sig .tc := ⟨.hbm, 246, rfl⟩
abbrev main_v192 : Ref sig .tc := ⟨.hbm, 247, rfl⟩
abbrev main_v193 : Ref sig .tc := ⟨.hbm, 248, rfl⟩

abbrev nD : Nat := 1
abbrev τ : Topo := Topo.v7x

variable {F : FTy → Type} [FloatOps F]
-- ==== Proof.Block.lean ====
/-
  What the attention's blocks compute, element by element: the norm over a head's lanes, the rotation of the lanes,
  one row of scores and one row of the output.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen

/-- The lane from which a rotation of 128 lanes by `n` fetches lane `j`. -/
abbrev lane (j : Fin 128) (n : ℕ) : Fin 128 := ⟨(j.val + 128 - n) % 128, Nat.mod_lt _ (by omega)⟩

/-- A row's lane divided by the root of the row's mean square over the lane's own head, times its gain. The mean square is
    taken in two parts, the squares and what their rounding dropped. -/
def nrm (x g : Fin 128 → EReal) (gm : Fin 128 → Fin 128 → EReal) (j : Fin 128) : EReal :=
  x j * Ideal.rsqrt (∑ l, x l * x l * gm l j + ∑ l, (x l * x l - x l * x l) * gm l j + Ideal.ofBits .f32 897988541#32) * g j

/-- The normalized row, rotated: the lane, and the lanes sixteen before and after it, each with its factor. -/
def turn (x g : Fin 128 → EReal) (gm : Fin 128 → Fin 128 → EReal) (c sa sb : Fin 128 → EReal) (j : Fin 128) : EReal :=
  nrm x g gm j * c j + nrm x g gm (lane j 16) * sa j + nrm x g gm (lane j 112) * sb j

/-- The largest of a row of scores. -/
def top {n : ℕ} (s : Fin n → EReal) : EReal := Finset.fold max (Ideal.ofBits .f32 4286578688#32) s Finset.univ

/-- A row of scores turned into weights and the values averaged with them, the division last. -/
def mix {n : ℕ} (s v : Fin n → EReal) : EReal :=
  Ideal.div (∑ x, Ideal.exp (s x - top s) * v x) (∑ x, Ideal.exp (s x - top s))

/-- The scores of a query against the keys over the lanes `mk` marks. -/
def marks {n : ℕ} (mk : Fin 128 → BitVec 1) (q : Fin 128 → EReal) (k : Fin n → Fin 128 → EReal) (x : Fin n) : EReal :=
  ∑ l, Scalar.select (mk l) (q l * k x l) 0

/-- One row of the block a pair of heads leaves: the lanes `mk` marks from the first head, the others from the second. -/
def pair {n : ℕ} (mk : Fin 128 → BitVec 1) (q : Fin 128 → EReal) (k v : Fin n → Fin 128 → EReal) (j : Fin 128) : EReal :=
  Scalar.select (mk j) (mix (marks mk q k) fun x => v x j)
    (mix (marks (fun l => IntOp.xori (mk l) 1#1) q k) fun x => v x j)

/-- The row of a matrix. -/
abbrev row {a b : ℕ} (x : (⟨2, ![a, b]⟩ : Shape).Idx → EReal) (i : Fin a) : Fin b → EReal := fun l => x (ix2 i l)

/-- The lanes of a mask. -/
abbrev lanes (mk : IVec S1x128 1) : Fin 128 → BitVec 1 := fun l => mk (ix2 0 l)

set_option maxHeartbeats 2000000 in
/-- The keys of one chunk, normalized and turned, then either as they lie or with the two heads exchanged. -/
theorem keys_chunk (gm : FVec Ideal S128x128 .bf16) (own : IVec S1x128 1) (x : FVec Ideal S256x128 .f32)
    (g : FVec Ideal S1x128 .f32) (c sa sb : FVec Ideal S256x128 .f32) (i : Fin 256) (j : Fin 128) :
    k0_pay6 (F := Ideal) gm own x g c sa sb (ix2 i j)
      = Scalar.select (own (ix2 0 j)) (turn (row x i) (row g 0) (row gm) (row c i) (row sa i) (row sb i) j)
          (turn (row x i) (row g 0) (row gm) (row c i) (row sa i) (row sb i) (lane j 64)) := by
  pointwise [k0_pay6]
  rfl

/-- The values of one chunk, as they lie or with the two heads exchanged. -/
theorem vals_chunk (i : grid0.Coords) (x : FVec Ideal S256x128 .f32) (r : Fin 256) (j : Fin 128) :
    k0_pay3 (F := Ideal) i x (ix2 r j) = Scalar.select (k0_pay2 i (ix2 0 j)) (x (ix2 r j)) (x (ix2 r (lane j 64))) := by
  pointwise [k0_pay3]

set_option maxHeartbeats 2000000 in
/-- The scaled query row of a pair of heads (the block of the context's rows). -/
theorem query_A (gm : FVec Ideal S128x128 .bf16) (x : FVec Ideal S256x128 .f32) (g : FVec Ideal S1x128 .f32)
    (c sa sb : FVec Ideal S256x128 .f32) (i : Fin 256) (j : Fin 128) :
    k0_pay7 (F := Ideal) gm x g c sa sb (ix2 i j)
      = turn (row x i) (row g 0) (row gm) (row c i) (row sa i) (row sb i) j * Ideal.ofBits .f32 1040187392#32 := by
  pointwise [k0_pay7]
  rfl

set_option maxHeartbeats 2000000 in
/-- The same for the blocks of the sequence's rows. -/
theorem query_B (gm : FVec Ideal S128x128 .bf16) (x : FVec Ideal S256x128 .f32) (g : FVec Ideal S1x128 .f32)
    (c sa sb : FVec Ideal S256x128 .f32) (i : Fin 256) (j : Fin 128) :
    k0_pay18 (F := Ideal) gm x g c sa sb (ix2 i j)
      = turn (row x i) (row g 0) (row gm) (row c i) (row sa i) (row sb i) j * Ideal.ofBits .f32 1040187392#32 := by
  pointwise [k0_pay18]
  rfl

set_option maxHeartbeats 2000000 in
/-- The first pair of heads, context rows. -/
theorem pair_A (mk : IVec S1x128 1) (qr : FVec Ideal S256x128 .f32) (s : FVec Ideal S256x256 .f32)
    (v k v' : FVec Ideal S256x128 .bf16) (i : Fin 256) (j : Fin 128) :
    k0_pay9 (F := Ideal) mk qr s v k v' (ix2 i j)
      = Scalar.select (mk (ix2 0 j)) (mix (row s i) fun x => v (ix2 x j))
          (mix (marks (fun l => IntOp.xori (mk (ix2 0 l)) 1#1) (row qr i) (row k)) fun x => v' (ix2 x j)) := by
  pointwise [k0_pay9]
  rfl

set_option maxHeartbeats 2000000 in
/-- The scores of the first pair's first head, context rows. -/
theorem scores_A (gm : FVec Ideal S128x128 .bf16) (x : FVec Ideal S256x128 .f32) (g : FVec Ideal S1x128 .f32)
    (c sa sb : FVec Ideal S256x128 .f32) (mk : IVec S1x128 1) (k : FVec Ideal S256x128 .bf16) (i : Fin 256) (j : Fin 256) :
    k0_pay8 (F := Ideal) mk gm x g c sa sb k (ix2 i j)
      = marks (lanes mk) (row (k0_pay7 (F := Ideal) gm x g c sa sb) i) (row k) j := by
  pointwise [k0_pay8]
  rfl

set_option maxHeartbeats 2000000 in
/-- The first pair of heads, sequence rows. -/
theorem pair_B (mk : IVec S1x128 1) (qr : FVec Ideal S256x128 .f32) (s : FVec Ideal S256x4352 .f32)
    (v k v' : FVec Ideal S4352x128 .bf16) (i : Fin 256) (j : Fin 128) :
    k0_pay20 (F := Ideal) mk qr s v k v' (ix2 i j)
      = Scalar.select (mk (ix2 0 j)) (mix (row s i) fun x => v (ix2 x j))
          (mix (marks (fun l => IntOp.xori (mk (ix2 0 l)) 1#1) (row qr i) (row k)) fun x => v' (ix2 x j)) := by
  pointwise [k0_pay20]
  rfl

set_option maxHeartbeats 2000000 in
/-- The scores of the first pair's first head, sequence rows. -/
theorem scores_B (gm : FVec Ideal S128x128 .bf16) (x : FVec Ideal S256x128 .f32) (g : FVec Ideal S1x128 .f32)
    (c sa sb : FVec Ideal S256x128 .f32) (mk : IVec S1x128 1) (k : FVec Ideal S4352x128 .bf16) (i : Fin 256) (j : Fin 4352) :
    k0_pay19 (F := Ideal) mk gm x g c sa sb k (ix2 i j)
      = marks (lanes mk) (row (k0_pay18 (F := Ideal) gm x g c sa sb) i) (row k) j := by
  pointwise [k0_pay19]
  rfl

set_option maxHeartbeats 2000000 in
/-- The scaled query row of the second pair of heads, context rows. -/
theorem query2_A (gm : FVec Ideal S128x128 .bf16) (x : FVec Ideal S256x128 .f32) (g : FVec Ideal S1x128 .f32)
    (c sa sb : FVec Ideal S256x128 .f32) (i : Fin 256) (j : Fin 128) :
    k0_pay14 (F := Ideal) gm x (k0_pay10 (F := Ideal) g) (k0_pay12 (F := Ideal) x) (k0_pay13 (F := Ideal) x) c sa sb (ix2 i j)
      = turn (row x i) (row g 0) (row gm) (row c i) (row sa i) (row sb i) j * Ideal.ofBits .f32 1040187392#32 := by
  pointwise [k0_pay14, k0_pay10, k0_pay12, k0_pay13, k0_pay11]
  rfl

set_option maxHeartbeats 2000000 in
/-- The second pair's weights, context rows. -/
theorem weights_A (gm : FVec Ideal S128x128 .bf16) (x : FVec Ideal S256x128 .f32) (g : FVec Ideal S1x128 .f32)
    (x1 x2 : FVec Ideal S256x128 .f32) (xb : FVec Ideal S256x128 .bf16)
    (c sa sb : FVec Ideal S256x128 .f32) (mk : IVec S1x128 1) (k : FVec Ideal S256x128 .bf16) (i : Fin 256) (j : Fin 256) :
    k0_pay17 (F := Ideal) mk gm x g xb x1 c sa sb k (ix2 i j)
      = Ideal.exp (marks (lanes mk) (row (k0_pay14 (F := Ideal) gm x g xb x1 c sa sb) i) (row k) j
          - top (marks (lanes mk) (row (k0_pay14 (F := Ideal) gm x g xb x1 c sa sb) i) (row k))) := by
  pointwise [k0_pay17, k0_pay15]
  rfl

set_option maxHeartbeats 2000000 in
/-- The second pair's sum of weights, context rows. -/
theorem total_A (gm : FVec Ideal S128x128 .bf16) (x : FVec Ideal S256x128 .f32) (g : FVec Ideal S1x128 .f32)
    (x1 x2 : FVec Ideal S256x128 .f32) (xb : FVec Ideal S256x128 .bf16)
    (c sa sb : FVec Ideal S256x128 .f32) (mk : IVec S1x128 1) (k : FVec Ideal S256x128 .bf16) (i : Fin 256) :
    k0_pay16 (F := Ideal) mk gm x g xb x1 c sa sb k (ix2 i 0)
      = ∑ j, Ideal.exp (marks (lanes mk) (row (k0_pay14 (F := Ideal) gm x g xb x1 c sa sb) i) (row k) j
          - top (marks (lanes mk) (row (k0_pay14 (F := Ideal) gm x g xb x1 c sa sb) i) (row k))) := by
  pointwise [k0_pay16, k0_pay15]
  rfl

set_option maxHeartbeats 2000000 in
/-- The stored block, context rows: the first pair's columns, then the second's. -/
theorem stored_A (a q : FVec Ideal S256x128 .f32) (den : FVec Ideal S256x1 .f32) (p : FVec Ideal S256x256 .bf16)
    (v k v' : FVec Ideal S256x128 .bf16) (i : Fin 256) (j : Fin 256) :
    k0_pay4 (F := Ideal) a q den p v k v' (ix2 i j)
      = if h : j.val < 128 then a (ix2 i ⟨j.val, h⟩) else
          Scalar.select (lanes k0_pay1 ⟨j.val - 128, by omega⟩)
            (Ideal.div (∑ x, p (ix2 i x) * v (ix2 x ⟨j.val - 128, by omega⟩)) (den (ix2 i 0)))
            (mix (marks (fun l => IntOp.xori (lanes k0_pay1 l) 1#1) (row q i) (row k)) fun x => v' (ix2 x ⟨j.val - 128, by omega⟩)) := by
  pointwise [k0_pay4]
  rfl

set_option maxHeartbeats 2000000 in
/-- The scaled query row of the second pair of heads, sequence rows. -/
theorem query2_B (gm : FVec Ideal S128x128 .bf16) (x : FVec Ideal S256x128 .f32) (g : FVec Ideal S1x128 .f32)
    (c sa sb : FVec Ideal S256x128 .f32) (i : Fin 256) (j : Fin 128) :
    k0_pay25 (F := Ideal) gm x (k0_pay21 (F := Ideal) g) (k0_pay23 (F := Ideal) x) (k0_pay24 (F := Ideal) x) c sa sb (ix2 i j)
      = turn (row x i) (row g 0) (row gm) (row c i) (row sa i) (row sb i) j * Ideal.ofBits .f32 1040187392#32 := by
  pointwise [k0_pay25, k0_pay21, k0_pay23, k0_pay24, k0_pay22]
  rfl

set_option maxHeartbeats 2000000 in
/-- The second pair's weights, sequence rows. -/
theorem weights_B (gm : FVec Ideal S128x128 .bf16) (x : FVec Ideal S256x128 .f32) (g : FVec Ideal S1x128 .f32)
    (x1 x2 : FVec Ideal S256x128 .f32) (xb : FVec Ideal S256x128 .bf16)
    (c sa sb : FVec Ideal S256x128 .f32) (mk : IVec S1x128 1) (k : FVec Ideal S4352x128 .bf16) (i : Fin 256) (j : Fin 4352) :
    k0_pay28 (F := Ideal) mk gm x g xb x1 c sa sb k (ix2 i j)
      = Ideal.exp (marks (lanes mk) (row (k0_pay25 (F := Ideal) gm x g xb x1 c sa sb) i) (row k) j
          - top (marks (lanes mk) (row (k0_pay25 (F := Ideal) gm x g xb x1 c sa sb) i) (row k))) := by
  pointwise [k0_pay28, k0_pay26]
  rfl

set_option maxHeartbeats 2000000 in
/-- The second pair's sum of weights, sequence rows. -/
theorem total_B (gm : FVec Ideal S128x128 .bf16) (x : FVec Ideal S256x128 .f32) (g : FVec Ideal S1x128 .f32)
    (x1 x2 : FVec Ideal S256x128 .f32) (xb : FVec Ideal S256x128 .bf16)
    (c sa sb : FVec Ideal S256x128 .f32) (mk : IVec S1x128 1) (k : FVec Ideal S4352x128 .bf16) (i : Fin 256) :
    k0_pay27 (F := Ideal) mk gm x g xb x1 c sa sb k (ix2 i 0)
      = ∑ j, Ideal.exp (marks (lanes mk) (row (k0_pay25 (F := Ideal) gm x g xb x1 c sa sb) i) (row k) j
          - top (marks (lanes mk) (row (k0_pay25 (F := Ideal) gm x g xb x1 c sa sb) i) (row k))) := by
  pointwise [k0_pay27, k0_pay26]
  rfl

set_option maxHeartbeats 2000000 in
/-- The stored block, sequence rows: the first pair's columns, then the second's. -/
theorem stored_B (a q : FVec Ideal S256x128 .f32) (den : FVec Ideal S256x1 .f32) (p : FVec Ideal S256x4352 .bf16)
    (v k v' : FVec Ideal S4352x128 .bf16) (i : Fin 256) (j : Fin 256) :
    k0_pay5 (F := Ideal) a q den p v k v' (ix2 i j)
      = if h : j.val < 128 then a (ix2 i ⟨j.val, h⟩) else
          Scalar.select (lanes k0_pay1 ⟨j.val - 128, by omega⟩)
            (Ideal.div (∑ x, p (ix2 i x) * v (ix2 x ⟨j.val - 128, by omega⟩)) (den (ix2 i 0)))
            (mix (marks (fun l => IntOp.xori (lanes k0_pay1 l) 1#1) (row q i) (row k)) fun x => v' (ix2 x ⟨j.val - 128, by omega⟩)) := by
  pointwise [k0_pay5]
  rfl

/-- A row of queries, normalized, turned and scaled. -/
def query (x g : Fin 128 → EReal) (gm : Fin 128 → Fin 128 → EReal) (c sa sb : Fin 128 → EReal) (j : Fin 128) : EReal :=
  turn x g gm c sa sb j * Ideal.ofBits .f32 1040187392#32

/-- The whole stored block, context rows: column `j` belongs to the pair of heads `j / 128`. -/
theorem block_A (gm : FVec Ideal S128x128 .bf16) (xl xh : FVec Ideal S256x128 .f32) (g : FVec Ideal S1x128 .f32)
    (c sa sb : FVec Ideal S256x128 .f32) (k v : FVec Ideal S256x128 .bf16) (i : Fin 256) (j : Fin 256) :
    k0_pay4 (F := Ideal)
        (k0_pay9 (F := Ideal) k0_pay1 (k0_pay7 (F := Ideal) gm xl g c sa sb) (k0_pay8 (F := Ideal) k0_pay1 gm xl g c sa sb k) v k v)
        (k0_pay14 (F := Ideal) gm xh (k0_pay10 (F := Ideal) g) (k0_pay12 (F := Ideal) xh) (k0_pay13 (F := Ideal) xh) c sa sb) (k0_pay16 (F := Ideal) k0_pay1 gm xh (k0_pay10 (F := Ideal) g) (k0_pay12 (F := Ideal) xh) (k0_pay13 (F := Ideal) xh) c sa sb k) (k0_pay17 (F := Ideal) k0_pay1 gm xh (k0_pay10 (F := Ideal) g) (k0_pay12 (F := Ideal) xh) (k0_pay13 (F := Ideal) xh) c sa sb k)
        v k v (ix2 i j)
      = if h : j.val < 128 then
          pair (lanes k0_pay1) (query (row xl i) (row g 0) (row gm) (row c i) (row sa i) (row sb i)) (row k) (row v) ⟨j.val, h⟩
        else
          pair (lanes k0_pay1) (query (row xh i) (row g 0) (row gm) (row c i) (row sa i) (row sb i)) (row k) (row v)
            ⟨j.val - 128, by omega⟩ := by
  have e1 : row (k0_pay7 (F := Ideal) gm xl g c sa sb) i
      = query (row xl i) (row g 0) (row gm) (row c i) (row sa i) (row sb i) := funext fun l => query_A gm xl g c sa sb i l
  have e2 : row (k0_pay14 (F := Ideal) gm xh (k0_pay10 (F := Ideal) g) (k0_pay12 (F := Ideal) xh) (k0_pay13 (F := Ideal) xh) c sa sb) i
      = query (row xh i) (row g 0) (row gm) (row c i) (row sa i) (row sb i) := funext fun l => query2_A gm xh g c sa sb i l
  have e3 : row (k0_pay8 (F := Ideal) k0_pay1 gm xl g c sa sb k) i
      = marks (lanes k0_pay1) (query (row xl i) (row g 0) (row gm) (row c i) (row sa i) (row sb i)) (row k) :=
    funext fun l => by rw [← e1]; exact scores_A gm xl g c sa sb k0_pay1 k i l
  rw [stored_A, total_A _ _ _ _ xh, e2]
  by_cases h : j.val < 128
  · rw [dif_pos h, dif_pos h, pair_A, e1, e3]; rfl
  · rw [dif_neg h, dif_neg h]
    simp only [weights_A _ _ _ _ xh, e2]; rfl

/-- The whole stored block, sequence rows: column `j` belongs to the pair of heads `j / 128`. -/
theorem block_B (gm : FVec Ideal S128x128 .bf16) (xl xh : FVec Ideal S256x128 .f32) (g : FVec Ideal S1x128 .f32)
    (c sa sb : FVec Ideal S256x128 .f32) (k v : FVec Ideal S4352x128 .bf16) (i : Fin 256) (j : Fin 256) :
    k0_pay5 (F := Ideal)
        (k0_pay20 (F := Ideal) k0_pay1 (k0_pay18 (F := Ideal) gm xl g c sa sb) (k0_pay19 (F := Ideal) k0_pay1 gm xl g c sa sb k) v k v)
        (k0_pay25 (F := Ideal) gm xh (k0_pay21 (F := Ideal) g) (k0_pay23 (F := Ideal) xh) (k0_pay24 (F := Ideal) xh) c sa sb) (k0_pay27 (F := Ideal) k0_pay1 gm xh (k0_pay21 (F := Ideal) g) (k0_pay23 (F := Ideal) xh) (k0_pay24 (F := Ideal) xh) c sa sb k) (k0_pay28 (F := Ideal) k0_pay1 gm xh (k0_pay21 (F := Ideal) g) (k0_pay23 (F := Ideal) xh) (k0_pay24 (F := Ideal) xh) c sa sb k)
        v k v (ix2 i j)
      = if h : j.val < 128 then
          pair (lanes k0_pay1) (query (row xl i) (row g 0) (row gm) (row c i) (row sa i) (row sb i)) (row k) (row v) ⟨j.val, h⟩
        else
          pair (lanes k0_pay1) (query (row xh i) (row g 0) (row gm) (row c i) (row sa i) (row sb i)) (row k) (row v)
            ⟨j.val - 128, by omega⟩ := by
  have e1 : row (k0_pay18 (F := Ideal) gm xl g c sa sb) i
      = query (row xl i) (row g 0) (row gm) (row c i) (row sa i) (row sb i) := funext fun l => query_B gm xl g c sa sb i l
  have e2 : row (k0_pay25 (F := Ideal) gm xh (k0_pay21 (F := Ideal) g) (k0_pay23 (F := Ideal) xh) (k0_pay24 (F := Ideal) xh) c sa sb) i
      = query (row xh i) (row g 0) (row gm) (row c i) (row sa i) (row sb i) := funext fun l => query2_B gm xh g c sa sb i l
  have e3 : row (k0_pay19 (F := Ideal) k0_pay1 gm xl g c sa sb k) i
      = marks (lanes k0_pay1) (query (row xl i) (row g 0) (row gm) (row c i) (row sa i) (row sb i)) (row k) :=
    funext fun l => by rw [← e1]; exact scores_B gm xl g c sa sb k0_pay1 k i l
  rw [stored_B, total_B _ _ _ _ xh, e2]
  by_cases h : j.val < 128
  · rw [dif_pos h, dif_pos h, pair_B, e1, e3]; rfl
  · rw [dif_neg h, dif_neg h]
    simp only [weights_B _ _ _ _ xh, e2]; rfl

end Cert.KernelIdeal.Block

end
-- ==== Proof.Plain.lean ====
/-
  The layer's attention in plain formulas: the norm of a head's 64 lanes, its rotation, the score of a key, the softmax average.
-/
module

public import Idealize.ShloMosaic.Lib.Pointwise

@[expose] public section

noncomputable section

open Idealize.ShloMosaic

namespace Cert.Plain

/-- A head's lane divided by the root of the head's mean square, times its gain. -/
def norm (x g : Fin 64 → EReal) (d : Fin 64) : EReal :=
  x d * Ideal.rsqrt (Ideal.div (∑ e, x e * x e) (Ideal.ofBits .f32 1115684864#32) + Ideal.ofBits .f32 897988541#32) * g d

/-- The quarters of a head exchanged in pairs, the second of each pair with its sign changed. -/
def spin (y : Fin 64 → EReal) (d : Fin 64) : EReal :=
  if _h : d.val < 16 then -y ⟨16 + d.val, by omega⟩
  else if _h : d.val - 16 < 16 then y ⟨d.val - 16, by omega⟩
  else if _h : d.val - 16 - 16 < 16 then -y ⟨48 + (d.val - 16 - 16), by omega⟩
  else y ⟨32 + (d.val - 16 - 16 - 16), by omega⟩

/-- A head's lanes rotated. -/
def rope (y c s : Fin 64 → EReal) (d : Fin 64) : EReal := y d * c d + spin y d * s d

/-- The score of a key for a query. -/
def score (k q : Fin 64 → EReal) : EReal := (∑ d, k d * q d) * Ideal.ofBits .f32 1040187392#32

/-- The greatest score. -/
def peak {n : ℕ} (s : Fin n → EReal) : EReal :=
  max (Ideal.ofBits .f32 4286578688#32) (Finset.fold max (Ideal.ofBits .f32 4286578688#32) s Finset.univ)

/-- The values averaged with the softmax of the scores. -/
def attend {n : ℕ} (s v : Fin n → EReal) : EReal :=
  ∑ t, v t * Ideal.div (Ideal.exp (s t - peak s)) (∑ u, Ideal.exp (s u - peak s))

end Cert.Plain
-- ==== Proof.Lanes.lean ====
/-
  Facts about sums, norms and softmax averages of extended reals: where the numbers are finite, two ways of writing each agree.
-/
module

public import proofs.«01_k».proof.Proof.Block
public import proofs.«01_k».proof.Proof.Plain

@[expose] public section

noncomputable section

open Idealize.ShloMosaic

namespace Cert.Lanes

open Cert.Plain Cert.KernelIdeal.Block

/-- A finite number. -/
def IsNum (x : EReal) : Prop := ∃ r : ℝ, x = (r : EReal)

theorem IsNum.mul {x y : EReal} : IsNum x → IsNum y → IsNum (x * y)
  | ⟨a, ha⟩, ⟨b, hb⟩ => ⟨a * b, by rw [ha, hb, EReal.coe_mul]⟩

theorem IsNum.add {x y : EReal} : IsNum x → IsNum y → IsNum (x + y)
  | ⟨a, ha⟩, ⟨b, hb⟩ => ⟨a + b, by rw [ha, hb, EReal.coe_add]⟩

theorem IsNum.neg {x : EReal} : IsNum x → IsNum (-x)
  | ⟨a, ha⟩ => ⟨-a, by rw [ha, EReal.coe_neg]⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsNum.sum {ι : Type} {s : Finset ι} {f : ι → EReal} (h : ∀ i, IsNum (f i)) : IsNum (∑ i ∈ s, f i) := by
  choose g hg using h
  exact ⟨∑ i ∈ s, g i, by rw [← coe_sum]; exact Finset.sum_congr rfl fun i _ => hg i⟩

theorem word_eps : ∃ e : ℝ, 0 < e ∧ Ideal.ofBits .f32 897988541#32 = (e : EReal) := by
  refine ⟨8796093 * (2 ^ 43)⁻¹, by positivity, ?_⟩
  simp [Ideal.ofBits, Ideal.ieee]

theorem word_64 : Ideal.ofBits .f32 1115684864#32 = ((64 : ℝ) : EReal) := by
  simp [Ideal.ofBits, Ideal.ieee]
  rw [← EReal.coe_mul]
  norm_num

theorem word_8th : Ideal.ofBits .f32 1040187392#32 = ((1 / 8 : ℝ) : EReal) := by
  simp [Ideal.ofBits, Ideal.ieee]
  rw [← EReal.coe_mul]
  norm_num

theorem word_bot : Ideal.ofBits .f32 4286578688#32 = ⊥ := by
  simp [Ideal.ofBits, Ideal.ieee]

/-- A nonnegative factor goes in or out of a sum. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The sum over the lanes of one half. -/
theorem sum_half (f : Fin 128 → EReal) (a : ℕ) (ha : a < 2) :
    ∑ l : Fin 128, (if l.val / 64 = a then f l else 0) = ∑ e : Fin 64, f ⟨a * 64 + e.val, by omega⟩ := by
  rw [← Finset.sum_filter]
  symm
  refine Finset.sum_nbij' (fun e : Fin 64 => (⟨a * 64 + e.val, by omega⟩ : Fin 128)) (fun l => ⟨l.val % 64, Nat.mod_lt _ (by omega)⟩)
    ?_ ?_ ?_ ?_ ?_
  · intro e _
    rw [Finset.mem_filter]
    exact ⟨Finset.mem_univ _, by dsimp only; omega⟩
  · intro l _
    exact Finset.mem_univ _
  · intro e _
    exact Fin.ext (by dsimp only; omega)
  · intro l hl
    rw [Finset.mem_filter] at hl
    exact Fin.ext (by dsimp only; omega)
  · intro e _
    rfl

/-- A lane of the half `a`. -/
abbrev at' (a : ℕ) (ha : a < 2) (e : Fin 64) : Fin 128 := ⟨a * 64 + e.val, by omega⟩

/-- A norm of finite numbers is finite. -/
theorem norm_real (x g : Fin 64 → EReal) (hx : ∀ e, IsNum (x e)) (hg : ∀ e, IsNum (g e)) (d : Fin 64) : IsNum (norm x g d) := by
  choose r hr using hx
  obtain ⟨e, he, hw⟩ := word_eps
  refine IsNum.mul (IsNum.mul ⟨_, hr d⟩ ?_) (hg d)
  rw [hw, word_64, Ideal.div_coe (by norm_num)]
  have h : (∑ e, x e * x e) = ((∑ e, r e * r e : ℝ) : EReal) := by
    rw [← coe_sum]
    exact Finset.sum_congr rfl fun i _ => by rw [hr i, EReal.coe_mul]
  rw [h, ← EReal.coe_mul, ← EReal.coe_add]
  have hp : 0 < (∑ e, r e * r e) * (1 / 64) + e :=
    add_pos_of_nonneg_of_pos (mul_nonneg (Finset.sum_nonneg fun i _ => mul_self_nonneg _) (by norm_num)) he
  refine ⟨(Real.sqrt ((∑ e, r e * r e) * (1 / 64) + e))⁻¹, ?_⟩
  show (if _ < (0:ℝ) then (⊥ : EReal) else if _ = (0:ℝ) then ⊤ else _) = _
  rw [if_neg (not_lt.mpr hp.le), if_neg hp.ne']

/-- The kernel's norm of a lane is the norm over the lane's own head. -/
theorem nrm_eq (x g : Fin 128 → EReal) (G : Fin 64 → EReal) (gm : Fin 128 → Fin 128 → EReal) (hx : ∀ l, IsNum (x l))
    (hg : ∀ l : Fin 128, g l = G ⟨l.val % 64, Nat.mod_lt _ (by omega)⟩)
    (hgm : ∀ i j : Fin 128, gm i j = if i.val / 64 = j.val / 64 then ((1 / 64 : ℝ) : EReal) else 0) (a : ℕ) (ha : a < 2) (d : Fin 64) :
    nrm x g gm (at' a ha d) = norm (fun e => x (at' a ha e)) G d := by
  have hlo : ∑ l, (x l * x l - x l * x l) * gm l (at' a ha d) = 0 := Finset.sum_eq_zero fun l _ => by
    obtain ⟨r, hr⟩ := (hx l).mul (hx l)
    rw [hr, ← EReal.coe_sub, sub_self, EReal.coe_zero, zero_mul]
  have hhi : ∑ l, x l * x l * gm l (at' a ha d)
      = Ideal.div (∑ e, x (at' a ha e) * x (at' a ha e)) (Ideal.ofBits .f32 1115684864#32) := by
    rw [word_64, Ideal.div_coe (by norm_num), ← sum_mul_coe _ _ _ (by norm_num), ← sum_half (fun l => x l * x l * ((1 / 64 : ℝ) : EReal)) a ha]
    refine Finset.sum_congr rfl fun l _ => ?_
    rw [hgm, show (at' a ha d).val / 64 = a by dsimp only; omega]
    split
    · rfl
    · rw [mul_zero]
  unfold nrm Plain.norm
  rw [hlo, hhi, add_zero, hg]
  simp only [show (⟨(at' a ha d).val % 64, Nat.mod_lt _ (by omega)⟩ : Fin 64) = d from Fin.ext (by dsimp only; omega)]

/-- Off the context, the kernel's rotation is the head's rotation. -/
theorem turn_lat (x g : Fin 128 → EReal) (G : Fin 64 → EReal) (gm : Fin 128 → Fin 128 → EReal) (hx : ∀ l, IsNum (x l))
    (hg : ∀ l : Fin 128, g l = G ⟨l.val % 64, Nat.mod_lt _ (by omega)⟩)
    (hgm : ∀ i j : Fin 128, gm i j = if i.val / 64 = j.val / 64 then ((1 / 64 : ℝ) : EReal) else 0)
    (c sa sb : Fin 128 → EReal) (C S : Fin 64 → EReal) (hc : ∀ l : Fin 128, c l = C ⟨l.val % 64, Nat.mod_lt _ (by omega)⟩)
    (hsa : ∀ l : Fin 128, sa l = if l.val % 64 / 16 % 2 = 1 then S ⟨l.val % 64, Nat.mod_lt _ (by omega)⟩ else 0)
    (hsb : ∀ l : Fin 128, sb l = if l.val % 64 / 16 % 2 = 1 then 0 else -S ⟨l.val % 64, Nat.mod_lt _ (by omega)⟩)
    (a : ℕ) (ha : a < 2) (d : Fin 64) :
    turn x g gm c sa sb (at' a ha d) = rope (norm (fun e => x (at' a ha e)) G) C S d := by
  have hd : (at' a ha d).val % 64 = d.val := by dsimp only; omega
  have hd' : (⟨(at' a ha d).val % 64, Nat.mod_lt _ (by omega)⟩ : Fin 64) = d := Fin.ext hd
  have hlt := d.isLt
  unfold turn rope
  rw [hc, hsa, hsb, hd', hd, nrm_eq x g G gm hx hg hgm]
  set Y := Cert.Plain.norm (fun e => x (at' a ha e)) G with hY
  by_cases hq : d.val / 16 % 2 = 1
  · rw [if_pos hq, if_pos hq, mul_zero, add_zero,
      show lane (at' a ha d) 16 = at' a ha ⟨d.val - 16, by omega⟩ from Fin.ext (by dsimp only; omega), nrm_eq x g G gm hx hg hgm, ← hY]
    congr 2
    unfold spin
    rw [dif_neg (by omega)]
    split
    · rfl
    · rw [dif_neg (by omega)]
      exact congrArg Y (Fin.ext (by dsimp only; omega))
  · rw [if_neg hq, if_neg hq, mul_zero, add_zero,
      show lane (at' a ha d) 112 = at' a ha ⟨d.val + 16, by omega⟩ from Fin.ext (by dsimp only; omega), nrm_eq x g G gm hx hg hgm, ← hY,
      mul_neg, ← neg_mul]
    congr 2
    unfold spin
    by_cases h1 : d.val < 16
    · rw [dif_pos h1]
      exact congrArg (-Y ·) (Fin.ext (by dsimp only; omega))
    · rw [dif_neg h1, dif_neg (by omega), dif_pos (by omega)]
      exact congrArg (-Y ·) (Fin.ext (by dsimp only; omega))

/-- In the context nothing turns. -/
theorem turn_ctx (x g : Fin 128 → EReal) (G : Fin 64 → EReal) (gm : Fin 128 → Fin 128 → EReal) (hx : ∀ l, IsNum (x l))
    (hg : ∀ l : Fin 128, g l = G ⟨l.val % 64, Nat.mod_lt _ (by omega)⟩)
    (hgm : ∀ i j : Fin 128, gm i j = if i.val / 64 = j.val / 64 then ((1 / 64 : ℝ) : EReal) else 0)
    (c sa sb : Fin 128 → EReal) (hc : ∀ l : Fin 128, c l = 1) (hsa : ∀ l : Fin 128, sa l = 0) (hsb : ∀ l : Fin 128, sb l = 0)
    (a : ℕ) (ha : a < 2) (d : Fin 64) :
    turn x g gm c sa sb (at' a ha d) = norm (fun e => x (at' a ha e)) G d := by
  unfold turn
  rw [hc, hsa, hsb, mul_one, mul_zero, mul_zero, add_zero, add_zero, nrm_eq x g G gm hx hg hgm]

theorem spin_num (y : Fin 64 → EReal) (hy : ∀ e, IsNum (y e)) (d : Fin 64) : IsNum (spin y d) := by
  unfold spin
  split
  · exact (hy _).neg
  · split
    · exact hy _
    · split
      · exact (hy _).neg
      · exact hy _

theorem rope_num (y c s : Fin 64 → EReal) (hy : ∀ e, IsNum (y e)) (hc : ∀ e, IsNum (c e)) (hs : ∀ e, IsNum (s e)) (d : Fin 64) :
    IsNum (rope y c s d) := ((hy d).mul (hc d)).add ((spin_num y hy d).mul (hs d))

theorem score_num (k q : Fin 64 → EReal) (hk : ∀ e, IsNum (k e)) (hq : ∀ e, IsNum (q e)) : IsNum (score k q) :=
  IsNum.mul (IsNum.sum fun e => (hk e).mul (hq e)) ⟨_, word_8th⟩

theorem top_num {n : ℕ} (hn : 0 < n) (s : Fin n → EReal) (hs : ∀ t, IsNum (s t)) : IsNum (top s) := by
  unfold top
  rw [word_bot]
  haveI : Nonempty (Fin n) := ⟨⟨0, hn⟩⟩
  obtain ⟨t, -, ht⟩ := Finset.exists_mem_eq_sup Finset.univ Finset.univ_nonempty s
  obtain ⟨r, hr⟩ := hs t
  exact ⟨r, Eq.trans (show Finset.fold max ⊥ s Finset.univ = Finset.univ.sup s from rfl) (ht.trans hr)⟩

/-- Dividing each weight, or the weighted sum, by the weights' total. -/
theorem mix_eq {n : ℕ} (hn : 0 < n) (s v : Fin n → EReal) (hs : ∀ t, IsNum (s t)) : mix s v = attend s v := by
  have hp : peak s = top s := by
    unfold peak
    rw [word_bot, max_eq_right bot_le, ← word_bot]
    rfl
  unfold attend mix
  rw [hp]
  obtain ⟨p, hp⟩ := top_num hn s hs
  choose r hr using hs
  have he : ∀ t, Ideal.exp (s t - top s) = ((Real.exp (r t - p) : ℝ) : EReal) := fun t => by
    rw [hr t, hp, ← EReal.coe_sub]
    rfl
  simp only [he, coe_sum]
  have hL : 0 < ∑ t : Fin n, Real.exp (r t - p) :=
    Finset.sum_pos (fun t _ => Real.exp_pos _) ⟨⟨0, hn⟩, Finset.mem_univ _⟩
  rw [Ideal.div_coe hL.ne', ← sum_mul_coe _ _ _ (by positivity)]
  refine Finset.sum_congr rfl fun t _ => ?_
  rw [Ideal.div_coe hL.ne', mul_comm (Real.exp (r t - p) : EReal) (v t), mul_assoc]

end Cert.Lanes
-- ==== Proof.Open.lean ====
/-
  What the body leaves in its staging buffers at a point, read back: the block of outputs at a run's first point and at the
  others, and the keys and values it keeps.
-/
module

public import proofs.«01_k».proof.Proof.Block
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Open

open Cert.KernelIdeal Cert.KernelIdeal.Gen Cert.KernelIdeal.Block

/-- A row with its two halves either as they lie or exchanged. -/
def keep (own : Fin 128 → BitVec 1) (f : Fin 128 → EReal) (j : Fin 128) : EReal :=
  Scalar.select (own j) (f j) (f (lane j 64))

/-- The table of keys a run keeps: every row normalized and turned, one head's lanes in both halves. -/
def keyTab (own : Fin 128 → BitVec 1) (gm : FVec Ideal S128x128 .bf16) (x c sa sb : FVec Ideal S4352x128 .f32)
    (g : FVec Ideal S1x128 .f32) : FVec Ideal S4352x128 .bf16 := fun y =>
  keep own (turn (row x (y 0)) (row g 0) (row gm) (row c (y 0)) (row sa (y 0)) (row sb (y 0))) (y 1)

/-- The table of values a run keeps. -/
def valTab (own : Fin 128 → BitVec 1) (x : FVec Ideal S4352x128 .f32) : FVec Ideal S4352x128 .bf16 := fun y =>
  keep own (row x (y 0)) (y 1)

/-- A chunk begins at its number times 256 rows. -/
theorem off (k : Fin k0_t1_loop.trips) : k0_off1 k = ![256 * k.val, 0] :=
  (by decide +kernel : ∀ k : Fin k0_t1_loop.trips, k0_off1 k = ![256 * k.val, 0]) k

/-- Chunk `k` of the table of keys, from chunk `k` of what it is made of. -/
theorem chunk_keys (own : IVec S1x128 1) (gm : FVec Ideal S128x128 .bf16) (X C SA SB : FVec Ideal S4352x128 .f32)
    (g g' : FVec Ideal S1x128 .f32) (x c sa sb : FVec Ideal S256x128 .f32) (r : Fin 256) (R : Fin 4352) (l : Fin 128)
    (hg : g' = g)
    (hx : ∀ l, x (ix2 r l) = X (ix2 R l)) (hc : ∀ l, c (ix2 r l) = C (ix2 R l))
    (ha : ∀ l, sa (ix2 r l) = SA (ix2 R l)) (hb : ∀ l, sb (ix2 r l) = SB (ix2 R l)) :
    k0_pay6 (F := Ideal) gm own x g' c sa sb (ix2 r l) = keyTab (lanes own) gm X C SA SB g (ix2 R l) := by
  subst hg
  rw [keys_chunk, show row x r = row X R from funext hx, show row c r = row C R from funext hc,
    show row sa r = row SA R from funext ha, show row sb r = row SB R from funext hb]
  rfl

/-- Chunk `k` of the table of values. -/
theorem chunk_vals (i : grid0.Coords) (X : FVec Ideal S4352x128 .f32) (x : FVec Ideal S256x128 .f32) (r : Fin 256)
    (R : Fin 4352) (l : Fin 128) (hx : ∀ l, x (ix2 r l) = X (ix2 R l)) :
    k0_pay3 (F := Ideal) i x (ix2 r l) = valTab (lanes (k0_pay2 i)) X (ix2 R l) := by
  rw [vals_chunk, hx, hx]
  rfl

/-- Row `r` of chunk `k` is row `256 k + r` of the table. -/
theorem chunk_idx (i : grid0.Coords) (k0_h1 : k0_cond1 i = 1#1) (k : Fin k0_t1_loop.trips) (r : Fin 256) (l : Fin 128)
    (h : 256 * k.val + r.val < 4352) :
    (Rect.unit (s := S4352x128) (k0_off1 k) S256x128.size (k0_off1_inb i k k0_h1)).idx (ix2 r l)
      = ix2 ⟨256 * k.val + r.val, h⟩ l := by
  funext a
  apply Fin.ext
  have e := off k
  match a with
  | ⟨0, _⟩ => show k0_off1 k 0 + 1 * r.val = 256 * k.val + r.val; rw [e]; simp
  | ⟨1, _⟩ => show k0_off1 k 1 + 1 * l.val = l.val; rw [e]; simp

theorem trips_le (k : Fin k0_t1_loop.trips) (r : Fin 256) : 256 * k.val + r.val < 4352 := by
  have := Nat.lt_of_lt_of_le k.isLt k0_t1_abs.2.1
  omega

variable (c : Dev nD) (i : grid0.Coords) (arg3 : Memref sig .tc .vmem S256x256 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S4352x128 .f32) (harg9 : arg9.IsWhole) (arg10 : Memref sig .tc .vmem S4352x128 .f32) (harg10 : arg10.IsWhole) (arg11 : Memref sig .tc .vmem S4352x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x128 .bf16) (harg14 : arg14.IsWhole) (arg15 : Memref sig .tc .vmem S256x256 .bf16) (harg15 : arg15.IsWhole) (arg16 : Memref sig .tc .vmem S4352x128 .bf16) (harg16 : arg16.IsWhole) (arg17 : Memref sig .tc .vmem S4352x128 .bf16) (harg17 : arg17.IsWhole)

set_option maxHeartbeats 2000000 in
/-- One chunk's store of keys is the chunk of the table. -/
theorem trip_keys (v3 : Vec Ideal S128x128 .bf16) (k0_h1 : k0_cond1 i = 1#1) (X4 : BufTy.Contents (Elt Ideal) arg4.view.ty) (X5 : BufTy.Contents (Elt Ideal) arg5.view.ty) (X9 : BufTy.Contents (Elt Ideal) arg9.view.ty) (X10 : BufTy.Contents (Elt Ideal) arg10.view.ty) (X11 : BufTy.Contents (Elt Ideal) arg11.view.ty) (X13 : BufTy.Contents (Elt Ideal) arg13.view.ty) (k : Fin k0_t1_loop.trips) :
    ∀ p ∈ (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 k).1, ∀ x, p.2 x = keyTab (lanes (k0_pay2 i)) v3 (arg4.view.read _ X4) (arg9.view.read _ X9) (arg10.view.read _ X10) (arg11.view.read _ X11) (arg13.view.read _ X13) (p.1.emb x) := by
  unfold tripL_k0_t1 trip_k0_t1
  dsimp only
  intro p hp
  obtain rfl := List.mem_singleton.mp hp
  intro x
  obtain ⟨r, l, rfl⟩ : ∃ (r : Fin 256) (l : Fin 128), x = ix2 r l := ⟨x 0, x 1, eq_ix2 x⟩
  have hi := fun l => chunk_idx i k0_h1 k r l (trips_le k r)
  refine Eq.trans ?_ (congrArg _ (hi l).symm)
  refine chunk_keys _ _ _ _ _ _ _ _ _ _ _ _ r _ l ?_ ?_ ?_ ?_ ?_
  · rw [View.readAt_eq_ld]
    exact View.ld_unit_zero (S := S1x128) (funext fun a => by fin_cases a <;> rfl) _ _
  all_goals
    intro l'
    exact congrArg (View.read _ _ _) (hi l')

set_option maxHeartbeats 2000000 in
/-- One chunk's store of values is the chunk of the table. -/
theorem trip_vals (v3 : Vec Ideal S128x128 .bf16) (k0_h1 : k0_cond1 i = 1#1) (X4 : BufTy.Contents (Elt Ideal) arg4.view.ty) (X5 : BufTy.Contents (Elt Ideal) arg5.view.ty) (X9 : BufTy.Contents (Elt Ideal) arg9.view.ty) (X10 : BufTy.Contents (Elt Ideal) arg10.view.ty) (X11 : BufTy.Contents (Elt Ideal) arg11.view.ty) (X13 : BufTy.Contents (Elt Ideal) arg13.view.ty) (k : Fin k0_t1_loop.trips) :
    ∀ p ∈ (tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 k).2, ∀ x, p.2 x = valTab (lanes (k0_pay2 i)) (arg5.view.read _ X5) (p.1.emb x) := by
  unfold tripL_k0_t1 trip_k0_t1
  dsimp only
  intro p hp
  obtain rfl := List.mem_singleton.mp hp
  intro x
  obtain ⟨r, l, rfl⟩ : ∃ (r : Fin 256) (l : Fin 128), x = ix2 r l := ⟨x 0, x 1, eq_ix2 x⟩
  have hi := fun l => chunk_idx i k0_h1 k r l (trips_le k r)
  refine Eq.trans ?_ (congrArg _ (hi l).symm)
  refine chunk_vals _ _ _ r _ l ?_
  intro l'
  exact congrArg (View.read _ _ _) (hi l')

/-- All the chunks' stores are chunks of the tables. -/
theorem all_trips (v3 : Vec Ideal S128x128 .bf16) (k0_h1 : k0_cond1 i = 1#1) (X4 : BufTy.Contents (Elt Ideal) arg4.view.ty) (X5 : BufTy.Contents (Elt Ideal) arg5.view.ty) (X9 : BufTy.Contents (Elt Ideal) arg9.view.ty) (X10 : BufTy.Contents (Elt Ideal) arg10.view.ty) (X11 : BufTy.Contents (Elt Ideal) arg11.view.ty) (X13 : BufTy.Contents (Elt Ideal) arg13.view.ty) : ∀ n : ℕ, n ≤ k0_t1_loop.trips →
    (∀ p ∈ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 n).1, ∀ x, p.2 x = keyTab (lanes (k0_pay2 i)) v3 (arg4.view.read _ X4) (arg9.view.read _ X9) (arg10.view.read _ X10) (arg11.view.read _ X11) (arg13.view.read _ X13) (p.1.emb x))
    ∧ ∀ p ∈ (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 n).2, ∀ x, p.2 x = valTab (lanes (k0_pay2 i)) (arg5.view.read _ X5) (p.1.emb x)
  | 0, _ => ⟨fun p hp => absurd hp (List.not_mem_nil), fun p hp => absurd hp (List.not_mem_nil)⟩
  | n + 1, h => by
    have ih := all_trips v3 k0_h1 X4 X5 X9 X10 X11 X13 n (Nat.le_of_succ_le h)
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 ⟨n, h⟩
    constructor
    · intro p hp
      rw [show n + 1 = (⟨n, h⟩ : Fin k0_t1_loop.trips).val + 1 from rfl, e] at hp
      rcases List.mem_append.mp hp with hp | hp
      · exact trip_keys c i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 ⟨n, h⟩ p hp
      · exact ih.1 p hp
    · intro p hp
      rw [show n + 1 = (⟨n, h⟩ : Fin k0_t1_loop.trips).val + 1 from rfl, e] at hp
      rcases List.mem_append.mp hp with hp | hp
      · exact trip_vals c i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_h1 X4 X5 X9 X10 X11 X13 ⟨n, h⟩ p hp
      · exact ih.2 p hp

/-- What a run's first point leaves as keys. -/
theorem keys_A (hc0 : cond0_0 i) (hc1 : cond0_1 i) (hc2 : ¬cond0_2 i)
    (x0 : Vec Ideal S256x256 .f32) (x1 : Vec Ideal S4352x128 .f32) (x2 : Vec Ideal S4352x128 .f32) (x3 : Vec Ideal S256x128 .f32) (x4 : Vec Ideal S256x128 .f32) (x5 : Vec Ideal S256x128 .f32) (x6 : Vec Ideal S4352x128 .f32) (x7 : Vec Ideal S4352x128 .f32) (x8 : Vec Ideal S4352x128 .f32) (x9 : Vec Ideal S1x128 .f32) (x10 : Vec Ideal S1x128 .f32) (x11 : Vec Ideal S128x128 .bf16) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 = keyTab (lanes (k0_pay2 i)) x11 x1 x6 x7 x8 x10 := by
  unfold sout0_A_0
  rw [View.read_writes_junk_eq_canon]
  funext y
  have hz : (![0, 0] : Fin 2 → ℕ) = fun _ => 0 := funext fun a => by fin_cases a <;> rfl
  have e14 : View.readAt (Elt Ideal) arg14.view (Rect.unit ![0, 0] ![128, 128] inb_S128x128_S128x128_0_0).toLoadRect (harg14.unread x11) = x11 := by
    rw [View.readAt_eq_ld, harg14.read_unread]; exact View.ld_unit_zero (S := S128x128) hz _ _
  refine View.canon_apply_of_pieces (keyTab (lanes (k0_pay2 i)) x11 x1 x6 x7 x8 x10) _ ?_ y
    (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 y)
  unfold kernelRun0_A
  dsimp only
  rw [e14]
  have h := (all_trips c i arg3 harg3 arg4 harg4 arg5 harg5 arg6 harg6 arg7 harg7 arg8 harg8 arg9 harg9 arg10 harg10 arg11 harg11 arg12 harg12 arg13 harg13 arg14 harg14 arg15 harg15 arg16 harg16 arg17 harg17 x11 hc0 (harg4.unread x1) (harg5.unread x2) (harg9.unread x6) (harg10.unread x7)
    (harg11.unread x8) (harg13.unread x10) _ le_rfl).1
  rw [harg4.read_unread, harg9.read_unread, harg10.read_unread, harg11.read_unread, harg13.read_unread] at h
  exact h

/-- What a run's first point leaves as values. -/
theorem vals_A (hc0 : cond0_0 i) (hc1 : cond0_1 i) (hc2 : ¬cond0_2 i)
    (x0 : Vec Ideal S256x256 .f32) (x1 : Vec Ideal S4352x128 .f32) (x2 : Vec Ideal S4352x128 .f32) (x3 : Vec Ideal S256x128 .f32) (x4 : Vec Ideal S256x128 .f32) (x5 : Vec Ideal S256x128 .f32) (x6 : Vec Ideal S4352x128 .f32) (x7 : Vec Ideal S4352x128 .f32) (x8 : Vec Ideal S4352x128 .f32) (x9 : Vec Ideal S1x128 .f32) (x10 : Vec Ideal S1x128 .f32) (x11 : Vec Ideal S128x128 .bf16) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 = valTab (lanes (k0_pay2 i)) x2 := by
  unfold sout0_A_1
  rw [View.read_writes_junk_eq_canon]
  funext y
  have hz : (![0, 0] : Fin 2 → ℕ) = fun _ => 0 := funext fun a => by fin_cases a <;> rfl
  have e14 : View.readAt (Elt Ideal) arg14.view (Rect.unit ![0, 0] ![128, 128] inb_S128x128_S128x128_0_0).toLoadRect (harg14.unread x11) = x11 := by
    rw [View.readAt_eq_ld, harg14.read_unread]; exact View.ld_unit_zero (S := S128x128) hz _ _
  refine View.canon_apply_of_pieces (valTab (lanes (k0_pay2 i)) x2) _ ?_ y
    (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 y)
  unfold kernelRun0_A
  dsimp only
  rw [e14]
  have h := (all_trips c i arg3 harg3 arg4 harg4 arg5 harg5 arg6 harg6 arg7 harg7 arg8 harg8 arg9 harg9 arg10 harg10 arg11 harg11 arg12 harg12 arg13 harg13 arg14 harg14 arg15 harg15 arg16 harg16 arg17 harg17 x11 hc0 (harg4.unread x1) (harg5.unread x2) (harg9.unread x6) (harg10.unread x7)
    (harg11.unread x8) (harg13.unread x10) _ le_rfl).2
  rw [harg5.read_unread] at h
  exact h

/-- Indices with equal coordinates. -/
theorem ix2_congr {a b : ℕ} {i i' : Fin a} {j j' : Fin b} (hi : i = i') (hj : j = j') :
    (ix2 i j : (⟨2, ![a, b]⟩ : Shape).Idx) = ix2 i' j' := by rw [hi, hj]

/-- The left half of a block, loaded. -/
theorem loadL (r : Fin 256) (l : Fin 128) :
    (Rect.unit (s := S256x256) ![0, 0] ![256, 128] inb_S256x256_S256x128_0_0).idx (ix2 r l) = ix2 r ⟨l.val, by omega⟩ := by
  funext a
  apply Fin.ext
  match a with
  | ⟨0, _⟩ => show 0 + 1 * r.val = r.val; omega
  | ⟨1, _⟩ => show 0 + 1 * l.val = l.val; omega

/-- The right half of a block, loaded. -/
theorem loadH (r : Fin 256) (l : Fin 128) :
    (Rect.unit (s := S256x256) ![0, 128] ![256, 128] inb_S256x256_S256x128_0_128).idx (ix2 r l) = ix2 r ⟨128 + l.val, by omega⟩ := by
  funext a
  apply Fin.ext
  match a with
  | ⟨0, _⟩ => show 0 + 1 * r.val = r.val; omega
  | ⟨1, _⟩ => show 128 + 1 * l.val = 128 + l.val; omega

/-- The context's rows of a kept table, loaded. -/
theorem loadCtx (r : Fin 256) (l : Fin 128) :
    (Rect.unit (s := S4352x128) ![0, 0] ![256, 128] inb_S4352x128_S256x128_0_0).idx (ix2 r l) = ix2 ⟨r.val, by omega⟩ l := by
  funext a
  apply Fin.ext
  match a with
  | ⟨0, _⟩ => show 0 + 1 * r.val = r.val; omega
  | ⟨1, _⟩ => show 0 + 1 * l.val = l.val; omega

/-- One row of a stored block: its two pairs of heads. -/
def heads {n : ℕ} (x : FVec Ideal S256x256 .f32) (g : FVec Ideal S1x128 .f32) (gm : FVec Ideal S128x128 .bf16)
    (c sa sb : FVec Ideal S256x128 .f32) (k v : Fin n → Fin 128 → EReal) (r : Fin 256) (j : Fin 256) : EReal :=
  pair (lanes k0_pay1)
    (query (fun l => x (ix2 r ⟨j.val / 128 * 128 + l.val, by omega⟩)) (row g 0) (row gm) (row c r) (row sa r) (row sb r))
    k v ⟨j.val % 128, Nat.mod_lt _ (by omega)⟩

/-- The two pairs of heads, from the two halves of the block of queries. -/
theorem halves {n : ℕ} (x : FVec Ideal S256x256 .f32) (g : FVec Ideal S1x128 .f32) (gm : FVec Ideal S128x128 .bf16)
    (c sa sb : FVec Ideal S256x128 .f32) (k v : Fin n → Fin 128 → EReal) (r : Fin 256) (j : Fin 256)
    (xl xh : FVec Ideal S256x128 .f32) (hl : ∀ l : Fin 128, xl (ix2 r l) = x (ix2 r ⟨l.val, by omega⟩))
    (hh : ∀ l : Fin 128, xh (ix2 r l) = x (ix2 r ⟨128 + l.val, by omega⟩)) :
    (if h : j.val < 128 then
          pair (lanes k0_pay1) (query (row xl r) (row g 0) (row gm) (row c r) (row sa r) (row sb r)) k v ⟨j.val, h⟩
        else
          pair (lanes k0_pay1) (query (row xh r) (row g 0) (row gm) (row c r) (row sa r) (row sb r)) k v
            ⟨j.val - 128, by omega⟩) = heads x g gm c sa sb k v r j := by
  unfold heads
  by_cases h : j.val < 128
  · rw [dif_pos h, show row xl r = fun l => x (ix2 r ⟨j.val / 128 * 128 + l.val, by omega⟩) from
      funext fun l => (hl l).trans (congrArg x (ix2_congr rfl (Fin.ext (by show l.val = j.val / 128 * 128 + l.val; omega)))),
      show (⟨j.val, h⟩ : Fin 128) = ⟨j.val % 128, Nat.mod_lt _ (by omega)⟩ from Fin.ext (by show j.val = j.val % 128; omega)]
  · rw [dif_neg h, show row xh r = fun l => x (ix2 r ⟨j.val / 128 * 128 + l.val, by omega⟩) from
      funext fun l => (hh l).trans (congrArg x (ix2_congr rfl (Fin.ext (by show 128 + l.val = j.val / 128 * 128 + l.val; omega)))),
      show (⟨j.val - 128, by omega⟩ : Fin 128) = ⟨j.val % 128, Nat.mod_lt _ (by omega)⟩ from
        Fin.ext (by show j.val - 128 = j.val % 128; omega)]

set_option maxHeartbeats 2000000 in
/-- The block of outputs at a point that is not a run's first: its rows against all the kept keys and values. -/
theorem out_B (hc0 : ¬cond0_0 i) (hc1 : ¬cond0_1 i) (hc2 : cond0_2 i)
    (x0 : Vec Ideal S256x256 .f32) (x1 : Vec Ideal S4352x128 .f32) (x2 : Vec Ideal S4352x128 .f32) (x3 : Vec Ideal S256x128 .f32) (x4 : Vec Ideal S256x128 .f32) (x5 : Vec Ideal S256x128 .f32) (x6 : Vec Ideal S4352x128 .f32) (x7 : Vec Ideal S4352x128 .f32) (x8 : Vec Ideal S4352x128 .f32) (x9 : Vec Ideal S1x128 .f32) (x10 : Vec Ideal S1x128 .f32) (x11 : Vec Ideal S128x128 .bf16)
    (xs0 xs1 : Vec Ideal S4352x128 .bf16) (r j : Fin 256) :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 xs0 xs1 (ix2 r j)
      = heads x0 x9 x11 x3 x4 x5 (row xs0) (row xs1) r j := by
  frame_out
  refine (block_B x11 _ _ x9 x3 x4 x5 xs0 xs1 r j).trans ?_
  exact halves x0 x9 x11 x3 x4 x5 (row xs0) (row xs1) r j _ _
    (fun l => congrArg x0 (loadL r l)) (fun l => congrArg x0 (loadH r l))

set_option maxHeartbeats 2000000 in
/-- The block of outputs at a run's first point: the context's rows against the context's keys and values. -/
theorem out_A (hc0 : cond0_0 i) (hc1 : cond0_1 i) (hc2 : ¬cond0_2 i)
    (x0 : Vec Ideal S256x256 .f32) (x1 : Vec Ideal S4352x128 .f32) (x2 : Vec Ideal S4352x128 .f32) (x3 : Vec Ideal S256x128 .f32) (x4 : Vec Ideal S256x128 .f32) (x5 : Vec Ideal S256x128 .f32) (x6 : Vec Ideal S4352x128 .f32) (x7 : Vec Ideal S4352x128 .f32) (x8 : Vec Ideal S4352x128 .f32) (x9 : Vec Ideal S1x128 .f32) (x10 : Vec Ideal S1x128 .f32) (x11 : Vec Ideal S128x128 .bf16) (r j : Fin 256) :
    out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 (ix2 r j)
      = heads x0 x9 x11 x3 x4 x5
          (fun t : Fin 256 => row (keyTab (lanes (k0_pay2 i)) x11 x1 x6 x7 x8 x10) ⟨t.val, by omega⟩)
          (fun t : Fin 256 => row (valTab (lanes (k0_pay2 i)) x2) ⟨t.val, by omega⟩) r j := by
  have hk := keys_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11
  have hv := vals_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11
  unfold sout0_A_0 at hk
  unfold sout0_A_1 at hv
  rw [View.read_writes_junk_eq_canon] at hk hv
  unfold kernelRun0_A at hk hv
  dsimp only at hk hv
  have hz : (![0, 0] : Fin 2 → ℕ) = fun _ => 0 := funext fun a => by fin_cases a <;> rfl
  have e14 : View.readAt (Elt Ideal) arg14.view (Rect.unit ![0, 0] ![128, 128] inb_S128x128_S128x128_0_0).toLoadRect (harg14.unread x11) = x11 := by
    rw [View.readAt_eq_ld, harg14.read_unread]; exact View.ld_unit_zero (S := S128x128) hz _ _
  rw [e14] at hk hv
  frame_out
  simp only [View.readCov_eq_canon', hk, hv]
  refine (block_A x11 _ _ x9 x3 x4 x5 _ _ r j).trans ?_
  refine (halves x0 x9 x11 x3 x4 x5 _ _ r j _ _ (fun l => congrArg x0 (loadL r l)) (fun l => congrArg x0 (loadH r l))).trans ?_
  refine congrArg₂ (fun k v => heads x0 x9 x11 x3 x4 x5 k v r j) ?_ ?_
  · funext t l
    exact congrArg (keyTab (lanes (k0_pay2 i)) x11 x1 x6 x7 x8 x10) (loadCtx t l)
  · funext t l
    exact congrArg (valTab (lanes (k0_pay2 i)) x2) (loadCtx t l)

end Cert.KernelIdeal.Open

end
-- ==== Proof.Array.lean ====
/-
  The array the kernel leaves: every element as the attention of one query row over the table of keys and values its run keeps.
-/
module

public import proofs.«01_k».proof.Proof.Open

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Cert.KernelIdeal.Open

/-- Which lanes of a pair hold the kept head `kv`: the first half for head 0, the second for head 1. -/
def own (kv : ℕ) (l : Fin 128) : BitVec 1 :=
  IntOp.xori (IntOp.cmpi .slt (BitVec.ofNat 32 l.val) 64#32) (Scalar.cmpi .eq (BitVec.ofNat 32 kv) 1#32)

theorem own_eq (i : grid0.Coords) : lanes (k0_pay2 i) = own (i 1).val := by
  funext l
  show k0_pay2 i (ix2 0 l) = _
  pointwise [k0_pay2, k0_pay1]
  rfl

/-- Batch `b`'s rows of 128 columns of the projected tokens, from column `o`. -/
def cols (Z : FVec Ideal S17408x768 .f32) (b : Fin 4) (o : ℕ) (ho : o ≤ 640) : FVec Ideal S4352x128 .f32 := fun y =>
  Z (ix2 ⟨b.val * 4352 + (y 0).val, by have := (y 0).isLt; change (y 0).val < 4352 at this; omega⟩
    ⟨o + (y 1).val, by have := (y 1).isLt; change (y 1).val < 128 at this; omega⟩)

section
variable (Z : FVec Ideal S17408x768 .f32) (C SA SB : FVec Ideal S4352x128 .f32) (QN KN : FVec Ideal S1x128 .f32)
  (GM : FVec Ideal S128x128 .bf16)

/-- The keys kept for batch `b` and head `kv`. -/
def keys (b : Fin 4) (kv : ℕ) : FVec Ideal S4352x128 .bf16 := keyTab (own kv) GM (cols Z b 512 (by omega)) C SA SB KN

/-- The values kept for batch `b` and head `kv`. -/
def vals (b : Fin 4) (kv : ℕ) : FVec Ideal S4352x128 .bf16 := valTab (own kv) (cols Z b 640 (by omega))

/-- The query row of batch `b`, position `p`, pair of heads `u`. -/
def queries (b : Fin 4) (p : Fin 4352) (u : Fin 4) : Fin 128 → EReal :=
  query (fun l => Z (ix2 ⟨b.val * 4352 + p.val, by omega⟩ ⟨u.val * 128 + l.val, by omega⟩)) (row QN 0) (row GM)
    (row C p) (row SA p) (row SB p)

/-- The attention's element for batch `b`, position `p`, column `j`. -/
def attn (b : Fin 4) (p : Fin 4352) (j : Fin 512) : EReal :=
  if p.val < 256 then
    pair (lanes k0_pay1) (queries Z C SA SB QN GM b p ⟨j.val / 128, by omega⟩)
      (fun t : Fin 256 => row (keys Z C SA SB KN GM b (j.val / 256)) ⟨t.val, by omega⟩)
      (fun t : Fin 256 => row (vals Z b (j.val / 256)) ⟨t.val, by omega⟩) ⟨j.val % 128, Nat.mod_lt _ (by omega)⟩
  else
    pair (lanes k0_pay1) (queries Z C SA SB QN GM b p ⟨j.val / 128, by omega⟩)
      (row (keys Z C SA SB KN GM b (j.val / 256))) (row (vals Z b (j.val / 256))) ⟨j.val % 128, Nat.mod_lt _ (by omega)⟩

/-- The whole array. -/
def all : FVec Ideal S17408x512 .bf16 := fun y =>
  attn Z C SA SB QN KN GM ⟨(y 0).val / 4352, by have := (y 0).isLt; change (y 0).val < 17408 at this; omega⟩
    ⟨(y 0).val % 4352, Nat.mod_lt _ (by omega)⟩ (y 1)

end

/-- Every window's block at every grid point. -/
theorem idx : ∀ t : Fin cfg0.N, win0_0.index t = ![(t.val / 34) * 17 + (t.val % 17), t.val / 17 % 2]
    ∧ win0_1.index t = ![t.val / 34, 4]
    ∧ win0_2.index t = ![t.val / 34, 5]
    ∧ win0_3.index t = ![t.val % 17, 0]
    ∧ win0_4.index t = ![t.val % 17, 0]
    ∧ win0_5.index t = ![t.val % 17, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![(t.val / 34) * 17 + (t.val % 17), t.val / 17 % 2]
    ∧ (grid0.coords t 1).val = t.val / 17 % 2 :=
  (by decide +kernel : ∀ t : Fin grid0.N, _)

variable (m : (ℓ : Loc nD τ sig) → Buf (Elt Ideal) ℓ) (c : Dev nD)

/-- The tokens, as the kernel's region finds them. -/
abbrev aZ : FVec Ideal S17408x768 .f32 := V m c main_arg0
abbrev aC : FVec Ideal S4352x128 .f32 := V m c main_v36
abbrev aSA : FVec Ideal S4352x128 .f32 := V m c main_v40
abbrev aSB : FVec Ideal S4352x128 .f32 := V m c main_v44
abbrev aQN : FVec Ideal S1x128 .f32 := V m c main_v48
abbrev aKN : FVec Ideal S1x128 .f32 := V m c main_v52
abbrev aGM : FVec Ideal S128x128 .bf16 := V m c main_cst_1

theorem lt136 (t : Fin cfg0.N) : t.val < 136 := lt_of_lt_of_eq t.isLt (show cfg0.N = 136 from N_0)

/-- The block of queries at a point. -/
theorem blk0 (t : Fin cfg0.N) (r l : Fin 256) (b : Fin 17408) (d : Fin 768)
    (hb : b.val = ((t.val / 34) * 17 + (t.val % 17)) * 256 + r.val) (hd : d.val = t.val / 17 % 2 * 256 + l.val) :
    (show FVec Ideal S256x256 .f32 from iblk m c 0 t) (ix2 r l) = aZ m c (ix2 b d) := by
  obtain ⟨e0, -⟩ := idx t
  blk_ext [iblk, e0]

/-- The batch's keys, not yet normalized. -/
theorem blk1 (t : Fin cfg0.N) (h : t.val / 34 < 4) : (iblk m c 1 t) = cols (aZ m c) ⟨t.val / 34, h⟩ 512 (by omega) := by
  obtain ⟨-, e1, -⟩ := idx t
  funext y
  unfold cols
  blk_ext [iblk, e1]

/-- The batch's values. -/
theorem blk2 (t : Fin cfg0.N) (h : t.val / 34 < 4) : (iblk m c 2 t) = cols (aZ m c) ⟨t.val / 34, h⟩ 640 (by omega) := by
  obtain ⟨-, -, e2, -⟩ := idx t
  funext y
  unfold cols
  blk_ext [iblk, e2]

theorem blk3 (t : Fin cfg0.N) (r : Fin 256) (l : Fin 128) (p : Fin 4352) (hp : p.val = (t.val % 17) * 256 + r.val) :
    (show FVec Ideal S256x128 .f32 from iblk m c 3 t) (ix2 r l) = aC m c (ix2 p l) := by
  obtain ⟨-, -, -, e3, -⟩ := idx t
  blk_ext [iblk, e3]

theorem blk4 (t : Fin cfg0.N) (r : Fin 256) (l : Fin 128) (p : Fin 4352) (hp : p.val = (t.val % 17) * 256 + r.val) :
    (show FVec Ideal S256x128 .f32 from iblk m c 4 t) (ix2 r l) = aSA m c (ix2 p l) := by
  obtain ⟨-, -, -, -, e4, -⟩ := idx t
  blk_ext [iblk, e4]

theorem blk5 (t : Fin cfg0.N) (r : Fin 256) (l : Fin 128) (p : Fin 4352) (hp : p.val = (t.val % 17) * 256 + r.val) :
    (show FVec Ideal S256x128 .f32 from iblk m c 5 t) (ix2 r l) = aSB m c (ix2 p l) := by
  obtain ⟨-, -, -, -, -, e5, -⟩ := idx t
  blk_ext [iblk, e5]

theorem blk6 (t : Fin cfg0.N) : (iblk m c 6 t) = aC m c := by
  obtain ⟨-, -, -, -, -, -, e6, -⟩ := idx t
  funext y
  blk_ext [iblk, e6]

theorem blk7 (t : Fin cfg0.N) : (iblk m c 7 t) = aSA m c := by
  obtain ⟨-, -, -, -, -, -, -, e7, -⟩ := idx t
  funext y
  blk_ext [iblk, e7]

theorem blk8 (t : Fin cfg0.N) : (iblk m c 8 t) = aSB m c := by
  obtain ⟨-, -, -, -, -, -, -, -, e8, -⟩ := idx t
  funext y
  blk_ext [iblk, e8]

theorem blk9 (t : Fin cfg0.N) : (iblk m c 9 t) = aQN m c := by
  obtain ⟨-, -, -, -, -, -, -, -, -, e9, -⟩ := idx t
  funext y
  blk_ext [iblk, e9]

theorem blk10 (t : Fin cfg0.N) : (iblk m c 10 t) = aKN m c := by
  obtain ⟨-, -, -, -, -, -, -, -, -, -, e10, -⟩ := idx t
  funext y
  blk_ext [iblk, e10]

theorem blk11 (t : Fin cfg0.N) : (iblk m c 11 t) = aGM m c := by
  obtain ⟨-, -, -, -, -, -, -, -, -, -, -, e11, -⟩ := idx t
  funext y
  blk_ext [iblk, e11]

/-- A point that is a run's first leaves its own batch's tables. -/
theorem kept_first (t : Fin cfg0.N) (h0 : t.val % 17 = 0) (h : t.val / 34 < 4) :
    (outsAt0 m c t.val t.isLt).2.1 = keys (aZ m c) (aC m c) (aSA m c) (aSB m c) (aKN m c) (aGM m c) ⟨t.val / 34, h⟩ (t.val / 17 % 2)
    ∧ (outsAt0 m c t.val t.isLt).2.2 = vals (aZ m c) ⟨t.val / 34, h⟩ (t.val / 17 % 2) := by
  have hi : (grid0.coords t 1).val = t.val / 17 % 2 := (idx t).2.2.2.2.2.2.2.2.2.2.2.2.2
  rw [outsAt0_A m c t h0 h0 (by omega)]
  dsimp only
  rw [keys_A, vals_A, own_eq, hi, blk1 m c t h, blk2 m c t h, blk6, blk7, blk8, blk10, blk11]
  exact ⟨rfl, rfl⟩

/-- Every point leaves its run's tables. -/
theorem kept : ∀ (n : ℕ) (hn : n < cfg0.N) (h : n / 34 < 4),
    (outsAt0 m c n hn).2.1 = keys (aZ m c) (aC m c) (aSA m c) (aSB m c) (aKN m c) (aGM m c) ⟨n / 34, h⟩ (n / 17 % 2)
    ∧ (outsAt0 m c n hn).2.2 = vals (aZ m c) ⟨n / 34, h⟩ (n / 17 % 2) := by
  intro n
  induction n with
  | zero => intro hn h; exact kept_first m c ⟨0, hn⟩ rfl h
  | succ n ih =>
    intro hn h
    by_cases h0 : (n + 1) % 17 = 0
    · exact kept_first m c ⟨n + 1, hn⟩ h0 h
    · have hb : n / 34 = (n + 1) / 34 := by omega
      have hk : n / 17 % 2 = (n + 1) / 17 % 2 := by omega
      have e := outsAt0_B m c ⟨n + 1, hn⟩ h0 h0 (by show 1 ≤ (n + 1) % 17; omega)
      have ihn := ih (Nat.lt_of_succ_lt hn) (by omega)
      simp only [hb, hk] at ihn
      constructor
      · exact (congrArg (fun z => z.2.1) e).trans ihn.1
      · exact (congrArg (fun z => z.2.2) e).trans ihn.2

set_option maxHeartbeats 2000000 in
/-- One row of the block a point leaves. -/
theorem point (t : Fin cfg0.N) (r j : Fin 256) (b : Fin 4) (p : Fin 4352) (d : Fin 512) (hb : b.val = t.val / 34)
    (hp : p.val = t.val % 17 * 256 + r.val) (hd : d.val = t.val / 17 % 2 * 256 + j.val) :
    (outsAt0 m c t.val t.isLt).1 (ix2 r j)
      = attn (aZ m c) (aC m c) (aSA m c) (aSB m c) (aQN m c) (aKN m c) (aGM m c) b p d := by
  have ht := lt136 t
  have h : t.val / 34 < 4 := by omega
  obtain rfl : b = ⟨t.val / 34, h⟩ := Fin.ext hb
  have hi : (grid0.coords t 1).val = t.val / 17 % 2 := (idx t).2.2.2.2.2.2.2.2.2.2.2.2.2
  have hq : query (fun l => (show FVec Ideal S256x256 .f32 from iblk m c 0 t) (ix2 r ⟨j.val / 128 * 128 + l.val, by omega⟩)) (row (aQN m c) 0) (row (aGM m c))
      (row (show FVec Ideal S256x128 .f32 from iblk m c 3 t) r) (row (show FVec Ideal S256x128 .f32 from iblk m c 4 t) r)
      (row (show FVec Ideal S256x128 .f32 from iblk m c 5 t) r)
      = queries (aZ m c) (aC m c) (aSA m c) (aSB m c) (aQN m c) (aGM m c) ⟨t.val / 34, h⟩ p ⟨d.val / 128, by omega⟩ := by
    unfold queries
    rw [show row (show FVec Ideal S256x128 .f32 from iblk m c 3 t) r = row (aC m c) p from funext fun l => blk3 m c t r l p hp,
      show row (show FVec Ideal S256x128 .f32 from iblk m c 4 t) r = row (aSA m c) p from funext fun l => blk4 m c t r l p hp,
      show row (show FVec Ideal S256x128 .f32 from iblk m c 5 t) r = row (aSB m c) p from funext fun l => blk5 m c t r l p hp]
    refine congrArg (fun x => query x _ _ _ _ _) (funext fun l => ?_)
    exact blk0 m c t r _ _ _ (by show t.val / 34 * 4352 + p.val = _; omega) (by show d.val / 128 * 128 + l.val = t.val / 17 % 2 * 256 + (j.val / 128 * 128 + l.val); omega)
  have hj : (⟨j.val % 128, Nat.mod_lt _ (by omega)⟩ : Fin 128) = ⟨d.val % 128, Nat.mod_lt _ (by omega)⟩ :=
    Fin.ext (by show j.val % 128 = d.val % 128; omega)
  have hkv : d.val / 256 = t.val / 17 % 2 := by omega
  unfold attn
  by_cases h0 : t.val % 17 = 0
  · rw [if_pos (by omega), outsAt0_A m c t h0 h0 (by omega)]
    dsimp only
    rw [out_A, own_eq, hi, blk1 m c t h, blk2 m c t h, blk6, blk7, blk8, blk9, blk10, blk11]
    unfold heads
    rw [hkv, ← hj]
    exact congrArg (fun q => pair (lanes k0_pay1) q _ _ _) hq
  · rw [if_neg (by omega), outsAt0_B m c t h0 h0 (by omega)]
    dsimp only
    rw [out_B, blk9, blk11]
    have hk := kept m c (t.val - 1) (Nat.lt_of_le_of_lt (Nat.sub_le _ _) t.isLt) (by omega)
    rw [hk.1, hk.2]
    unfold heads
    have e1 : (⟨(t.val - 1) / 34, by omega⟩ : Fin 4) = ⟨t.val / 34, h⟩ := Fin.ext (by show (t.val - 1) / 34 = t.val / 34; omega)
    have e2 : (t.val - 1) / 17 % 2 = t.val / 17 % 2 := by omega
    rw [hkv, ← hj, e1, e2]
    exact congrArg (fun q => pair (lanes k0_pay1) q _ _ _) hq

set_option maxHeartbeats 2000000 in
/-- A point's element, at the array's own index. -/
theorem placed (t : Fin cfg0.N) (r j : Fin 256) (z : S17408x512.Idx)
    (h0 : (z 0).val = (t.val / 34 * 17 + t.val % 17) * 256 + r.val) (h1 : (z 1).val = t.val / 17 % 2 * 256 + j.val) :
    (outsAt0 m c t.val t.isLt).1 (ix2 r j) = all (aZ m c) (aC m c) (aSA m c) (aSB m c) (aQN m c) (aKN m c) (aGM m c) z := by
  have ht := lt136 t
  have hr := r.isLt
  exact point m c t r j _ _ _ (by dsimp only; omega) (by dsimp only; omega) h1

/-- The array the run leaves. -/
theorem final : (dats m 0 c).arrAt 12 cfg0.N
    = all (aZ m c) (aC m c) (aSA m c) (aSB m c) (aQN m c) (aKN m c) (aGM m c) := by
  refine (dats m 0 c).arrAt_eq_of_covers 12 _ (by decide +kernel) fun t _ y => ?_
  have ht := lt136 t
  obtain ⟨-, -, -, -, -, -, -, -, -, -, -, -, e12, -⟩ := idx t
  blk_simp
  rw [after0_12]
  obtain ⟨r, j, rfl⟩ : ∃ r j : Fin 256, y = (ix2 r j : S256x256.Idx) := ⟨y 0, y 1, eq_ix2 (n0 := 256) (n1 := 256) y⟩
  have h0 : ((win0_12.blk t).view.emb (ix2 r j : S256x256.Idx) 0).val = (t.val / 34 * 17 + t.val % 17) * 256 + r.val := by
    blk_simp [e12]
  have h1 : ((win0_12.blk t).view.emb (ix2 r j : S256x256.Idx) 1).val = t.val / 17 % 2 * 256 + j.val := by
    blk_simp [e12]
  exact placed m c t r j _ h0 h1

/-- The run, with the array it leaves. -/
theorem run (ρ : Dev nD → PrngReg) : θ_run defs (onTc (τ := τ) (main (F := Ideal))) ⟨m, fun _ => 0, ρ⟩ fun r => ∀ c : Dev nD,
      r.2.mem ((c.tc : Thread nD τ).loc main_v53)
        = all (aZ m c) (aC m c) (aSA m c) (aSB m c) (aQN m c) (aKN m c) (aGM m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    have := h c
    rw [final] at this
    exact this) (Value.run_blocks m ρ)

end Cert.KernelIdeal.Array

end
-- ==== Proof.Literal.lean ====
/-
  The words of the constant the kernel averages squares with: one sixty-fourth between two lanes of the same half, else zero.
-/
module

public import proofs.«01_k».proof.Proof.Array

@[expose] public section

set_option maxRecDepth 16384

noncomputable section

open Idealize.ShloMosaic

namespace Cert.KernelIdeal.Literal

/-- The words, by row and column of the 128 × 128 matrix. -/
theorem halves_words : ∀ d : Fin 16384, lit2 d = if d.val / 128 / 64 = d.val % 128 / 64 then 15488#16 else 0#16 := by
  decide +kernel

end Cert.KernelIdeal.Literal
-- ==== Proof.Tables.lean ====
/-
  What the kernel's tables hold: the tokens, the gains laid twice, the halves of the pair, and the cosines and sines of the rotation.
-/
module

public import proofs.«01_k».proof.Proof.Literal
public import proofs.«01_k».proof.Proof.Gen.ReferenceIdeal.Read
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Tables

open Cert.KernelIdeal Cert.KernelIdeal.Gen Cert.KernelIdeal.Array

variable (m : (ℓ : Loc nD τ sig) → Buf (Elt Ideal) ℓ) (c : Dev nD)

/-- The host operations before the kernel, as one line. -/
abbrev line : List (HloOp τ sig (Elt Ideal)) := hostOps0 ++ (hostOps0_1 ++ (hostOps0_2 ++ (hostOps0_3 ++ hostOps0_4)))

theorem row_angle : (StableHlo.upto line (fun b => m (c, b)) 64 (Proc.devRef .tc main_v13) : FVec Ideal S4096x16 .f32)
    = Cert.ReferenceIdeal.Read.val_main_v22 (F := Ideal) := by
  after_reads_simp
  rfl

theorem col_angle : (StableHlo.upto line (fun b => m (c, b)) 64 (Proc.devRef .tc main_v20) : FVec Ideal S4096x16 .f32)
    = Cert.ReferenceIdeal.Read.val_main_v27 (F := Ideal) := by
  after_reads_simp
  rfl

/-- The angles of the four quarters of a head's lanes, from a row's and a column's. -/
def angles (a b : FVec Ideal S4096x16 .f32) : FVec Ideal S4096x64 .f32 :=
  concatenate S4096x64 1 [⟨S4096x16, a⟩, ⟨S4096x16, a⟩, ⟨S4096x16, b⟩, ⟨S4096x16, b⟩] concatenates_S4096x16_S4096x16_S4096x16_S4096x16_S4096x64_d1

/-- The context's rows over the latent rows, each row's 64 lanes twice. -/
def twice (a : FVec Ideal S256x64 .f32) (b : FVec Ideal S4096x64 .f32) : FVec Ideal S4352x128 .f32 :=
  shapeCast S4352x128 (broadcastInDim S1x4352x2x64 ![0, 1, 2, 3] bcast_S1x4352x1x64_S1x4352x2x64_0_1_2_3
    (shapeCast S1x4352x1x64 (concatenate S4352x64 0 [⟨S256x64, a⟩, ⟨S4096x64, b⟩] concatenates_S256x64_S4096x64_S4352x64_d0)
      shapeCasts_S4352x64_S1x4352x1x64)) shapeCasts_S1x4352x2x64_S4352x128

theorem twice_ctx (a : FVec Ideal S256x64 .f32) (b : FVec Ideal S4096x64 .f32) (p : Fin 4352) (l : Fin 128) (h : p.val < 256) :
    twice a b (ix2 p l) = a (ix2 ⟨p.val, h⟩ ⟨l.val % 64, Nat.mod_lt _ (by omega)⟩) := by
  pointwise [twice]
  simp only [h, dif_pos]

theorem twice_lat (a : FVec Ideal S256x64 .f32) (b : FVec Ideal S4096x64 .f32) (p : Fin 4352) (l : Fin 128) (h : 256 ≤ p.val) :
    twice a b (ix2 p l) = b (ix2 ⟨p.val - 256, by omega⟩ ⟨l.val % 64, Nat.mod_lt _ (by omega)⟩) := by
  pointwise [twice]
  rw [dif_neg (by omega)]

theorem word0 : ∀ d : Fin 64, lit0 d = if d.val / 16 % 2 = 1 then 1065353216#32 else 0#32 := by decide +kernel
theorem word1 : ∀ d : Fin 64, lit1 d = if d.val / 16 % 2 = 1 then 0#32 else 1065353216#32 := by decide +kernel

/-- The lanes of a head, marked by a literal's words. -/
def marked (w : Fin 64 → BitVec 32) : FVec Ideal S4096x64 .f32 :=
  broadcastInDim S4096x64 ![0, 1] bcast_S1x64_S4096x64_0_1 (broadcastInDim S1x64 ![1] bcast_S64_S1x64_1
    (fun i => FloatOps.ofBits .f32 (w (S64.rowMajor i))))

theorem cos_host : (StableHlo.upto line (fun b => m (c, b)) 78 (Proc.devRef .tc main_v22) : FVec Ideal S4096x64 .f32)
    = Cert.ReferenceIdeal.Read.val_main_v29 (F := Ideal) := by
  after_reads_simp
  show Host.cos (angles (StableHlo.upto line (fun b => m (c, b)) 64 (Proc.devRef .tc main_v13))
    (StableHlo.upto line (fun b => m (c, b)) 64 (Proc.devRef .tc main_v20))) = _
  rw [row_angle, col_angle]
  rfl

theorem sinA_host : (StableHlo.upto line (fun b => m (c, b)) 82 (Proc.devRef .tc main_v26) : FVec Ideal S4096x64 .f32)
    = mulf (Cert.ReferenceIdeal.Read.val_main_v30 (F := Ideal)) (marked lit0) := by
  after_reads_simp
  show mulf (Host.sin (angles (StableHlo.upto line (fun b => m (c, b)) 64 (Proc.devRef .tc main_v13))
    (StableHlo.upto line (fun b => m (c, b)) 64 (Proc.devRef .tc main_v20)))) (marked lit0) = _
  rw [row_angle, col_angle]
  rfl

theorem sinB_host : (StableHlo.upto line (fun b => m (c, b)) 86 (Proc.devRef .tc main_v30) : FVec Ideal S4096x64 .f32)
    = mulf (Host.negf (Cert.ReferenceIdeal.Read.val_main_v30 (F := Ideal))) (marked lit1) := by
  after_reads_simp
  show mulf (Host.negf (Host.sin (angles (StableHlo.upto line (fun b => m (c, b)) 64 (Proc.devRef .tc main_v13))
    (StableHlo.upto line (fun b => m (c, b)) 64 (Proc.devRef .tc main_v20))))) (marked lit1) = _
  rw [row_angle, col_angle]
  rfl

/-- A word's value at every context row. -/
def plain (w : BitVec 32) : FVec Ideal S256x64 .f32 := broadcastInDim S256x64 ![] bcast_S_S256x64 (constant S_ .f32 w)

theorem plain_at (w : BitVec 32) (y : S256x64.Idx) : plain w y = Ideal.ofBits .f32 w := by
  pointwise [plain]

theorem ones_host : (StableHlo.upto line (fun b => m (c, b)) 78 (Proc.devRef .tc main_v31) : FVec Ideal S256x64 .f32)
    = plain 1065353216#32 := by
  after_reads_simp
  rfl

theorem zerosA_host : (StableHlo.upto line (fun b => m (c, b)) 82 (Proc.devRef .tc main_v32) : FVec Ideal S256x64 .f32)
    = plain 0#32 := by
  after_reads_simp
  rfl

theorem zerosB_host : (StableHlo.upto line (fun b => m (c, b)) 86 (Proc.devRef .tc main_v32) : FVec Ideal S256x64 .f32)
    = plain 0#32 := by
  after_reads_simp
  rfl

theorem cos_table : aC m c = twice (plain 1065353216#32)
    (Cert.ReferenceIdeal.Read.val_main_v29 (F := Ideal)) := by
  rw [← cos_host m c, ← ones_host m c]
  show StableHlo.after line (fun b => m (c, b)) (Proc.devRef .tc main_v36) = _
  generalize hr : twice _ _ = r
  after_reads_simp
  exact hr

theorem sinA_table : aSA m c = twice (plain 0#32)
    (mulf (Cert.ReferenceIdeal.Read.val_main_v30 (F := Ideal)) (marked lit0)) := by
  rw [← sinA_host m c, ← zerosA_host m c]
  show StableHlo.after line (fun b => m (c, b)) (Proc.devRef .tc main_v40) = _
  generalize hr : twice _ _ = r
  after_reads_simp
  exact hr

theorem sinB_table : aSB m c = twice (plain 0#32)
    (mulf (Host.negf (Cert.ReferenceIdeal.Read.val_main_v30 (F := Ideal))) (marked lit1)) := by
  rw [← sinB_host m c, ← zerosB_host m c]
  show StableHlo.after line (fun b => m (c, b)) (Proc.devRef .tc main_v44) = _
  generalize hr : twice _ _ = r
  after_reads_simp
  exact hr

theorem marked_at (w : Fin 64 → BitVec 32) (t : Fin 4096) (d : Fin 64) : marked w (ix2 t d) = Ideal.ofBits .f32 (w d) := by
  pointwise [marked]
  rw [show S64.rowMajor (ix1 d) = d from Fin.ext (Shape.rowMajor_val_one _)]

/-- A norm's 64 gains, twice. -/
def gains (g : FVec Ideal S64 .f32) : FVec Ideal S1x128 .f32 :=
  shapeCast S1x128 (shapeCast S128 (broadcastInDim S2x64 ![0, 1] bcast_S1x64_S2x64_0_1 (shapeCast S1x64 g shapeCasts_S64_S1x64))
    shapeCasts_S2x64_S128) shapeCasts_S128_S1x128

theorem gains_at (g : FVec Ideal S64 .f32) (l : Fin 128) : gains g (ix2 0 l) = g (ix1 ⟨l.val % 64, Nat.mod_lt _ (by omega)⟩) := by
  pointwise [gains]

theorem gainQ_table : aQN m c = gains (m ((c.tc : Thread nD τ).loc main_arg1)) := by
  show StableHlo.after line (fun b => m (c, b)) (Proc.devRef .tc main_v48) = _
  after_reads_simp
  rfl

theorem gainK_table : aKN m c = gains (m ((c.tc : Thread nD τ).loc main_arg2)) := by
  show StableHlo.after line (fun b => m (c, b)) (Proc.devRef .tc main_v52) = _
  after_reads_simp
  rfl

theorem token_table : aZ m c = m ((c.tc : Thread nD τ).loc main_arg0) := by
  show StableHlo.after line (fun b => m (c, b)) (Proc.devRef .tc main_arg0) = _
  after_reads_simp

theorem halves_table : aGM m c = fun i => FloatOps.ofBits .bf16 (lit2 (S128x128.rowMajor i)) := by
  show StableHlo.after line (fun b => m (c, b)) (Proc.devRef .tc main_cst_1) = _
  after_reads_simp
  rfl

/-! ## The tables, element by element -/

theorem halves_at (i j : Fin 128) : aGM m c (ix2 i j) = if i.val / 64 = j.val / 64 then ((1 / 64 : ℝ) : EReal) else 0 := by
  rw [halves_table]
  have h : (S128x128.rowMajor (ix2 i j)).val = i.val * 128 + j.val := Shape.rowMajor_val_two _
  have hi := i.isLt
  have hj := j.isLt
  have hw : lit2 (S128x128.rowMajor (ix2 i j)) = if i.val / 64 = j.val / 64 then 15488#16 else 0#16 := by
    refine (Literal.halves_words (S128x128.rowMajor (ix2 i j))).trans ?_
    rw [h, show (i.val * 128 + j.val) / 128 = i.val by omega, show (i.val * 128 + j.val) % 128 = j.val by omega]
  refine (congrArg (Ideal.ofBits .bf16) hw).trans ?_
  split
  · simp [Ideal.ofBits, Ideal.ieee]
    norm_num
    rw [← EReal.coe_mul]
    norm_num
  · exact Ideal.ofBits_zero_bf16

theorem cos_ctx (p : Fin 4352) (l : Fin 128) (h : p.val < 256) : aC m c (ix2 p l) = 1 := by
  rw [cos_table, twice_ctx _ _ p l h, plain_at, Ideal.ofBits_one_f32]

theorem sinA_ctx (p : Fin 4352) (l : Fin 128) (h : p.val < 256) : aSA m c (ix2 p l) = 0 := by
  rw [sinA_table, twice_ctx _ _ p l h, plain_at, Ideal.ofBits_zero_f32]

theorem sinB_ctx (p : Fin 4352) (l : Fin 128) (h : p.val < 256) : aSB m c (ix2 p l) = 0 := by
  rw [sinB_table, twice_ctx _ _ p l h, plain_at, Ideal.ofBits_zero_f32]

/-- The reference's cosines and sines, by position and lane of a head. -/
abbrev cosT (t : Fin 4096) (d : Fin 64) : EReal := Cert.ReferenceIdeal.Read.val_main_v29 (F := Ideal) (ix2 t d)
abbrev sinT (t : Fin 4096) (d : Fin 64) : EReal := Cert.ReferenceIdeal.Read.val_main_v30 (F := Ideal) (ix2 t d)

/-- A lane's place in its head. -/
abbrev half (l : Fin 128) : Fin 64 := ⟨l.val % 64, Nat.mod_lt _ (by omega)⟩

theorem cos_lat (p : Fin 4352) (l : Fin 128) (h : 256 ≤ p.val) : aC m c (ix2 p l) = cosT ⟨p.val - 256, by omega⟩ (half l) := by
  rw [cos_table, twice_lat _ _ p l h]

theorem sinA_lat (p : Fin 4352) (l : Fin 128) (h : 256 ≤ p.val) :
    aSA m c (ix2 p l) = if l.val % 64 / 16 % 2 = 1 then sinT ⟨p.val - 256, by omega⟩ (half l) else 0 := by
  rw [sinA_table, twice_lat _ _ p l h]
  show sinT _ _ * marked lit0 _ = _
  rw [marked_at, word0]
  split
  · rw [Ideal.ofBits_one_f32, mul_one]
  · rw [Ideal.ofBits_zero_f32, mul_zero]

theorem sinB_lat (p : Fin 4352) (l : Fin 128) (h : 256 ≤ p.val) :
    aSB m c (ix2 p l) = if l.val % 64 / 16 % 2 = 1 then 0 else -sinT ⟨p.val - 256, by omega⟩ (half l) := by
  rw [sinB_table, twice_lat _ _ p l h]
  show (-sinT _ _) * marked lit1 _ = _
  rw [marked_at, word1]
  split
  · rw [Ideal.ofBits_zero_f32, mul_zero]
  · rw [Ideal.ofBits_one_f32, mul_one]

end Cert.KernelIdeal.Tables
-- ==== Proof.RefRead.lean ====
/-
  The reference's result, element by element, in plain formulas.
-/
module

public import proofs.«01_k».proof.Proof.Gen.ReferenceIdeal.Read
public import proofs.«01_k».proof.Proof.Plain
public import Idealize.ShloMosaic.Lib.Pointwise

@[expose] public section

set_option maxRecDepth 16384

noncomputable section

open Idealize.ShloMosaic Idealize.ShloMosaic.TcCoe Idealize.SL.Sem

namespace Cert.ReferenceIdeal.Result

open Cert.ReferenceIdeal Cert.ReferenceIdeal.Read Cert.Plain

variable (x0 : FVec Ideal S17408x768 .f32) (x1 x2 : FVec Ideal S64 .f32)

/-- A token's lanes of one head: batch `b`, position `p`, the columns from `o`. -/
def part (b : Fin 4) (p : Fin 4352) (o : ℕ) (ho : o ≤ 704) : Fin 64 → EReal := fun d =>
  x0 (ix2 ⟨b.val * 4352 + p.val, by omega⟩ ⟨o + d.val, by omega⟩)

/-- A norm's gains. -/
def gain (x : FVec Ideal S64 .f32) : Fin 64 → EReal := fun d => x (ix1 d)

/-- The cosines and sines of a position's rotation. -/
def cosines (t : Fin 4096) : Fin 64 → EReal := fun d => val_main_v29 (F := Ideal) (ix2 t d)
def sines (t : Fin 4096) : Fin 64 → EReal := fun d => val_main_v30 (F := Ideal) (ix2 t d)

/-- A token's head normalized, and rotated where the token is not of the context. -/
def head (g : FVec Ideal S64 .f32) (b : Fin 4) (p : Fin 4352) (o : ℕ) (ho : o ≤ 704) : Fin 64 → EReal :=
  if h : p.val < 256 then norm (part x0 b p o ho) (gain g)
  else rope (norm (part x0 b p o ho) (gain g)) (cosines ⟨p.val - 256, by omega⟩) (sines ⟨p.val - 256, by omega⟩)

/-- The attention's element for batch `b`, position `p`, column `j`. -/
def plain (b : Fin 4) (p : Fin 4352) (j : Fin 512) : EReal :=
  if p.val < 256 then
    attend (fun t : Fin 256 => score (head x0 x2 b ⟨t.val, by omega⟩ (512 + j.val / 256 * 64) (by omega))
        (head x0 x1 b p (j.val / 64 * 64) (by omega)))
      (fun t => part x0 b ⟨t.val, by omega⟩ (640 + j.val / 256 * 64) (by omega) ⟨j.val % 64, by omega⟩)
  else
    attend (fun t : Fin 4352 => score (head x0 x2 b t (512 + j.val / 256 * 64) (by omega))
        (head x0 x1 b p (j.val / 64 * 64) (by omega)))
      (fun t => part x0 b t (640 + j.val / 256 * 64) (by omega) ⟨j.val % 64, by omega⟩)

theorem part_eq (b : Fin 4) (p : Fin 4352) (o : ℕ) (ho : o ≤ 704) (d : Fin 64) (r : Fin 17408) (n : Fin 768)
    (h0 : r.val = b.val * 4352 + p.val) (h1 : n.val = o + d.val) : x0 (ix2 r n) = part x0 b p o ho d := by
  obtain ⟨r, hr⟩ := r
  obtain ⟨n, hn⟩ := n
  subst h0
  subst h1
  rfl

theorem raw_q (b : Fin 4) (t : Fin 4096) (h : Fin 8) (d : Fin 64) :
    val_main_v31 (F := Ideal) x0 (ix4 b t h d) = part x0 b ⟨t.val + 256, by omega⟩ (h.val * 64) (by omega) d := by
  pointwise [val_main_v31, val_main_v4, val_main_v0]
  exact part_eq x0 _ _ _ _ _ _ _ (by dsimp only <;> omega) (by dsimp only <;> omega)

theorem raw_k (b : Fin 4) (t : Fin 4096) (h : Fin 2) (d : Fin 64) :
    val_main_v61 (F := Ideal) x0 (ix4 b t h d) = part x0 b ⟨t.val + 256, by omega⟩ (512 + h.val * 64) (by omega) d := by
  pointwise [val_main_v61, val_main_v5, val_main_v0]
  exact part_eq x0 _ _ _ _ _ _ _ (by dsimp only <;> omega) (by dsimp only <;> omega)

theorem raw_v (b : Fin 4) (t : Fin 4096) (h : Fin 2) (d : Fin 64) :
    val_main_v107 (F := Ideal) x0 (ix4 b t h d) = part x0 b ⟨t.val + 256, by omega⟩ (640 + h.val * 64) (by omega) d := by
  pointwise [val_main_v107, val_main_v6, val_main_v0]
  exact part_eq x0 _ _ _ _ _ _ _ (by dsimp only <;> omega) (by dsimp only <;> omega)

theorem raw_kc (b : Fin 4) (t : Fin 256) (h : Fin 2) (d : Fin 64) :
    val_main_v91 (F := Ideal) x0 (ix4 b t h d) = part x0 b ⟨t.val, by omega⟩ (512 + h.val * 64) (by omega) d := by
  pointwise [val_main_v91, val_main_v2, val_main_v0]
  exact part_eq x0 _ _ _ _ _ _ _ (by dsimp only <;> omega) (by dsimp only <;> omega)

theorem raw_vc (b : Fin 4) (t : Fin 256) (h : Fin 2) (d : Fin 64) :
    val_main_v105 (F := Ideal) x0 (ix4 b t h d) = part x0 b ⟨t.val, by omega⟩ (640 + h.val * 64) (by omega) d := by
  pointwise [val_main_v105, val_main_v3, val_main_v0]
  exact part_eq x0 _ _ _ _ _ _ _ (by dsimp only <;> omega) (by dsimp only <;> omega)

theorem raw_qc (b : Fin 4) (t : Fin 256) (k : Fin 2) (g : Fin 4) (d : Fin 64) :
    val_main_v128 (F := Ideal) x0 (ix5 b t k g d) = part x0 b ⟨t.val, by omega⟩ ((k.val * 4 + g.val) * 64) (by omega) d := by
  pointwise [val_main_v128, val_main_v1, val_main_v0]
  exact part_eq x0 _ _ _ _ _ _ _ (by dsimp only <;> omega) (by dsimp only <;> omega)

theorem norm_q (b : Fin 4) (t : Fin 4096) (h : Fin 8) (d : Fin 64) :
    val_main_v44 (F := Ideal) x0 x1 (ix4 b t h d) = norm (fun e => val_main_v31 (F := Ideal) x0 (ix4 b t h e)) (gain x1) d := by
  unfold val_main_v44 val_main_v43 val_main_v42 val_main_v41 val_main_v40 val_main_v39 val_main_v38 val_main_v37 val_main_v36 val_main_v35 val_main_v34 val_main_v33 val_main_v32
  generalize val_main_v31 (F := Ideal) x0 = y
  pointwise [val_main_cst_2, val_main_cst_3, val_main_cst_4]
  rfl

theorem norm_k (b : Fin 4) (t : Fin 4096) (h : Fin 2) (d : Fin 64) :
    val_main_v74 (F := Ideal) x0 x2 (ix4 b t h d) = norm (fun e => val_main_v61 (F := Ideal) x0 (ix4 b t h e)) (gain x2) d := by
  unfold val_main_v74 val_main_v73 val_main_v72 val_main_v71 val_main_v70 val_main_v69 val_main_v68 val_main_v67 val_main_v66 val_main_v65 val_main_v64 val_main_v63 val_main_v62
  generalize val_main_v61 (F := Ideal) x0 = y
  pointwise [val_main_cst_5, val_main_cst_6, val_main_cst_7]
  rfl

theorem norm_kc (b : Fin 4) (t : Fin 256) (h : Fin 2) (d : Fin 64) :
    val_main_v104 (F := Ideal) x0 x2 (ix4 b t h d) = norm (fun e => val_main_v91 (F := Ideal) x0 (ix4 b t h e)) (gain x2) d := by
  unfold val_main_v104 val_main_v103 val_main_v102 val_main_v101 val_main_v100 val_main_v99 val_main_v98 val_main_v97 val_main_v96 val_main_v95 val_main_v94 val_main_v93 val_main_v92
  generalize val_main_v91 (F := Ideal) x0 = y
  pointwise [val_main_cst_8, val_main_cst_9, val_main_cst_10]
  rfl

theorem norm_qc (b : Fin 4) (t : Fin 256) (k : Fin 2) (g : Fin 4) (d : Fin 64) :
    val_main_v141 (F := Ideal) x0 x1 (ix5 b t k g d) = norm (fun e => val_main_v128 (F := Ideal) x0 (ix5 b t k g e)) (gain x1) d := by
  unfold val_main_v141 val_main_v140 val_main_v139 val_main_v138 val_main_v137 val_main_v136 val_main_v135 val_main_v134 val_main_v133 val_main_v132 val_main_v131 val_main_v130 val_main_v129
  generalize val_main_v128 (F := Ideal) x0 = y
  pointwise [val_main_cst_15, val_main_cst_16, val_main_cst_17]
  rfl

theorem rope_q (b : Fin 4) (t : Fin 4096) (h : Fin 8) (d : Fin 64) :
    val_main_v60 (F := Ideal) x0 x1 (ix4 b t h d)
      = rope (fun e => val_main_v44 (F := Ideal) x0 x1 (ix4 b t h e)) (cosines t) (sines t) d := by
  unfold val_main_v60 val_main_v59 val_main_v58 val_main_v57 val_main_v56 val_main_v55 val_main_v54 val_main_v53 val_main_v52 val_main_v51 val_main_v50 val_main_v49 val_main_v48 val_main_v47 val_main_v46 val_main_v45 cosines sines
  generalize val_main_v44 (F := Ideal) x0 x1 = y
  generalize val_main_v29 (F := Ideal) = c
  generalize val_main_v30 (F := Ideal) = s
  pointwise
  rfl

theorem rope_k (b : Fin 4) (t : Fin 4096) (h : Fin 2) (d : Fin 64) :
    val_main_v90 (F := Ideal) x0 x2 (ix4 b t h d)
      = rope (fun e => val_main_v74 (F := Ideal) x0 x2 (ix4 b t h e)) (cosines t) (sines t) d := by
  unfold val_main_v90 val_main_v89 val_main_v88 val_main_v87 val_main_v86 val_main_v85 val_main_v84 val_main_v83 val_main_v82 val_main_v81 val_main_v80 val_main_v79 val_main_v78 val_main_v77 val_main_v76 val_main_v75 cosines sines
  generalize val_main_v74 (F := Ideal) x0 x2 = y
  generalize val_main_v29 (F := Ideal) = c
  generalize val_main_v30 (F := Ideal) = s
  pointwise
  rfl

theorem keys (b : Fin 4) (t : Fin 4352) (h : Fin 2) (d : Fin 64) :
    val_main_v106 (F := Ideal) x0 x2 (ix4 b t h d) = head x0 x2 b t (512 + h.val * 64) (by omega) d := by
  have e : val_main_v106 (F := Ideal) x0 x2 (ix4 b t h d)
      = if h' : t.val < 256 then val_main_v104 (F := Ideal) x0 x2 (ix4 b ⟨t.val, h'⟩ h d)
        else val_main_v90 (F := Ideal) x0 x2 (ix4 b ⟨t.val - 256, by omega⟩ h d) := by
    unfold val_main_v106
    generalize val_main_v104 (F := Ideal) x0 x2 = y
    generalize val_main_v90 (F := Ideal) x0 x2 = z
    pointwise
  rw [e]
  unfold head
  split
  · next hlt =>
    rw [norm_kc]
    simp only [raw_kc]
  · next hge =>
    rw [rope_k]
    simp only [norm_k, raw_k]
    simp only [show (⟨t.val - 256 + 256, by omega⟩ : Fin 4352) = t from Fin.ext (by dsimp only; omega)]

theorem vals (b : Fin 4) (t : Fin 4352) (h : Fin 2) (d : Fin 64) :
    val_main_v108 (F := Ideal) x0 (ix4 b t h d) = part x0 b t (640 + h.val * 64) (by omega) d := by
  have e : val_main_v108 (F := Ideal) x0 (ix4 b t h d)
      = if h' : t.val < 256 then val_main_v105 (F := Ideal) x0 (ix4 b ⟨t.val, h'⟩ h d)
        else val_main_v107 (F := Ideal) x0 (ix4 b ⟨t.val - 256, by omega⟩ h d) := by
    unfold val_main_v108
    generalize val_main_v105 (F := Ideal) x0 = y
    generalize val_main_v107 (F := Ideal) x0 = z
    pointwise
  rw [e]
  split
  · rw [raw_vc]
  · rw [raw_v]
    simp only [show (⟨t.val - 256 + 256, by omega⟩ : Fin 4352) = t from Fin.ext (by dsimp only; omega)]

theorem score_lat (b : Fin 4) (h : Fin 2) (g : Fin 4) (q : Fin 4096) (t : Fin 4352) :
    val_main_v113 (F := Ideal) x0 x1 x2 (ix5 b h g q t)
      = score (fun d => val_main_v106 (F := Ideal) x0 x2 (ix4 b t h d))
          (fun d => val_main_v60 (F := Ideal) x0 x1 (ix4 b q ⟨h.val * 4 + g.val, by omega⟩ d)) := by
  unfold val_main_v113 val_main_v112 val_main_v111 val_main_v110 val_main_v109
  generalize val_main_v106 (F := Ideal) x0 x2 = y
  generalize val_main_v60 (F := Ideal) x0 x1 = z
  pointwise [val_main_cst_11]
  rfl

theorem score_ctx (b : Fin 4) (h : Fin 2) (g : Fin 4) (q : Fin 256) (t : Fin 256) :
    val_main_v145 (F := Ideal) x0 x1 x2 (ix5 b h g q t)
      = score (fun d => val_main_v104 (F := Ideal) x0 x2 (ix4 b t h d))
          (fun d => val_main_v141 (F := Ideal) x0 x1 (ix5 b q h g d)) := by
  unfold val_main_v145 val_main_v144 val_main_v143 val_main_v142
  generalize val_main_v104 (F := Ideal) x0 x2 = y
  generalize val_main_v141 (F := Ideal) x0 x1 = z
  pointwise [val_main_cst_18]
  rfl

theorem top_lat (b : Fin 4) (h : Fin 2) (g : Fin 4) (q : Fin 4096) :
    val_main_v114 (F := Ideal) x0 x1 x2 (ix4 b h g q)
      = Finset.fold max (Ideal.ofBits .f32 4286578688#32) (fun t => val_main_v113 (F := Ideal) x0 x1 x2 (ix5 b h g q t)) Finset.univ := by
  unfold val_main_v114
  generalize val_main_v113 (F := Ideal) x0 x1 x2 = y
  pointwise [val_main_cst_12]

theorem gap_lat (b : Fin 4) (h : Fin 2) (g : Fin 4) (q : Fin 4096) (t : Fin 4352) :
    val_main_v120 (F := Ideal) x0 x1 x2 (ix5 b h g q t)
      = Ideal.exp (val_main_v113 (F := Ideal) x0 x1 x2 (ix5 b h g q t) - peak fun t => val_main_v113 (F := Ideal) x0 x1 x2 (ix5 b h g q t)) := by
  rw [val_main_v120_apply, val_main_v119_apply, val_main_v118_apply, val_main_v117_apply, val_main_v116_apply, val_main_v115_apply,
    show idx_main_v117 (idx_main_v118 (ix5 b h g q t)) = ix4 b h g q from
      funext fun a => match a with | ⟨0, _⟩ => rfl | ⟨1, _⟩ => rfl | ⟨2, _⟩ => rfl | ⟨3, _⟩ => rfl,
    top_lat]
  unfold peak
  generalize (Finset.fold max (Ideal.ofBits .f32 4286578688#32) _ _ : EReal) = z
  generalize val_main_v113 (F := Ideal) x0 x1 x2 (ix5 b h g q t) = y
  rfl

theorem weight_lat (b : Fin 4) (h : Fin 2) (g : Fin 4) (q : Fin 4096) (t : Fin 4352) :
    val_main_v124 (F := Ideal) x0 x1 x2 (ix5 b h g q t) = Ideal.div (val_main_v120 (F := Ideal) x0 x1 x2 (ix5 b h g q t))
      (∑ t, val_main_v120 (F := Ideal) x0 x1 x2 (ix5 b h g q t)) := by
  unfold val_main_v124 val_main_v123 val_main_v122 val_main_v121
  generalize val_main_v120 (F := Ideal) x0 x1 x2 = y
  pointwise [val_main_cst_14]

theorem top_ctx (b : Fin 4) (h : Fin 2) (g : Fin 4) (q : Fin 256) :
    val_main_v146 (F := Ideal) x0 x1 x2 (ix4 b h g q)
      = Finset.fold max (Ideal.ofBits .f32 4286578688#32) (fun t => val_main_v145 (F := Ideal) x0 x1 x2 (ix5 b h g q t)) Finset.univ := by
  unfold val_main_v146
  generalize val_main_v145 (F := Ideal) x0 x1 x2 = y
  pointwise [val_main_cst_19]

theorem gap_ctx (b : Fin 4) (h : Fin 2) (g : Fin 4) (q : Fin 256) (t : Fin 256) :
    val_main_v152 (F := Ideal) x0 x1 x2 (ix5 b h g q t)
      = Ideal.exp (val_main_v145 (F := Ideal) x0 x1 x2 (ix5 b h g q t) - peak fun t => val_main_v145 (F := Ideal) x0 x1 x2 (ix5 b h g q t)) := by
  rw [val_main_v152_apply, val_main_v151_apply, val_main_v150_apply, val_main_v149_apply, val_main_v148_apply, val_main_v147_apply,
    show idx_main_v149 (idx_main_v150 (ix5 b h g q t)) = ix4 b h g q from
      funext fun a => match a with | ⟨0, _⟩ => rfl | ⟨1, _⟩ => rfl | ⟨2, _⟩ => rfl | ⟨3, _⟩ => rfl,
    top_ctx]
  unfold peak
  generalize (Finset.fold max (Ideal.ofBits .f32 4286578688#32) _ _ : EReal) = z
  generalize val_main_v145 (F := Ideal) x0 x1 x2 (ix5 b h g q t) = y
  rfl

theorem weight_ctx (b : Fin 4) (h : Fin 2) (g : Fin 4) (q : Fin 256) (t : Fin 256) :
    val_main_v156 (F := Ideal) x0 x1 x2 (ix5 b h g q t) = Ideal.div (val_main_v152 (F := Ideal) x0 x1 x2 (ix5 b h g q t))
      (∑ t, val_main_v152 (F := Ideal) x0 x1 x2 (ix5 b h g q t)) := by
  unfold val_main_v156 val_main_v155 val_main_v154 val_main_v153
  generalize val_main_v152 (F := Ideal) x0 x1 x2 = y
  pointwise [val_main_cst_21]

theorem out_lat (b : Fin 4) (q : Fin 4096) (j : Fin 512) :
    val_main_v127 (F := Ideal) x0 x1 x2 (ix3 b q j)
      = ∑ t, val_main_v108 (F := Ideal) x0 (ix4 b t ⟨j.val / 256, by omega⟩ ⟨j.val % 64, by omega⟩)
          * val_main_v124 (F := Ideal) x0 x1 x2 (ix5 b ⟨j.val / 256, by omega⟩ ⟨j.val / 64 % 4, by omega⟩ q t) := by
  unfold val_main_v127 val_main_v126 val_main_v125
  generalize val_main_v124 (F := Ideal) x0 x1 x2 = y
  generalize val_main_v108 (F := Ideal) x0 = z
  pointwise

theorem out_ctx (b : Fin 4) (q : Fin 256) (j : Fin 512) :
    val_main_v159 (F := Ideal) x0 x1 x2 (ix3 b q j)
      = ∑ t, val_main_v105 (F := Ideal) x0 (ix4 b t ⟨j.val / 256, by omega⟩ ⟨j.val % 64, by omega⟩)
          * val_main_v156 (F := Ideal) x0 x1 x2 (ix5 b ⟨j.val / 256, by omega⟩ ⟨j.val / 64 % 4, by omega⟩ q t) := by
  unfold val_main_v159 val_main_v158 val_main_v157
  generalize val_main_v156 (F := Ideal) x0 x1 x2 = y
  generalize val_main_v105 (F := Ideal) x0 = z
  pointwise

theorem whole (r : Fin 17408) (j : Fin 512) :
    val_main_v162 (F := Ideal) x0 x1 x2 (ix2 r j)
      = if h : r.val % 4352 < 256 then val_main_v159 (F := Ideal) x0 x1 x2 (ix3 ⟨r.val / 4352, by omega⟩ ⟨r.val % 4352, h⟩ j)
        else val_main_v127 (F := Ideal) x0 x1 x2 (ix3 ⟨r.val / 4352, by omega⟩ ⟨r.val % 4352 - 256, by omega⟩ j) := by
  unfold val_main_v162 val_main_v161 val_main_v160
  generalize val_main_v127 (F := Ideal) x0 x1 x2 = y
  generalize val_main_v159 (F := Ideal) x0 x1 x2 = z
  pointwise

theorem head_congr (g : FVec Ideal S64 .f32) (b : Fin 4) (p p' : Fin 4352) (o o' : ℕ) (ho : o ≤ 704) (ho' : o' ≤ 704)
    (hp : p = p') (h : o = o') : head x0 g b p o ho = head x0 g b p' o' ho' := by
  subst hp; subst h; rfl

theorem query_lat (b : Fin 4) (q : Fin 4096) (h : Fin 8) (p : Fin 4352) (hp : p.val = q.val + 256) (o : ℕ) (ho : o ≤ 704)
    (h' : o = h.val * 64) : (fun d => val_main_v60 (F := Ideal) x0 x1 (ix4 b q h d)) = head x0 x1 b p o ho := by
  subst h'
  funext d
  rw [rope_q]
  simp only [norm_q, raw_q]
  unfold head
  rw [dif_neg (by omega)]
  simp only [show (⟨q.val + 256, by omega⟩ : Fin 4352) = p from Fin.ext hp.symm,
    show (⟨p.val - 256, by omega⟩ : Fin 4096) = q from Fin.ext (by dsimp only; omega)]

theorem query_ctx (b : Fin 4) (q : Fin 256) (k : Fin 2) (g : Fin 4) (p : Fin 4352) (hp : p.val = q.val) (o : ℕ) (ho : o ≤ 704)
    (h' : o = (k.val * 4 + g.val) * 64) : (fun d => val_main_v141 (F := Ideal) x0 x1 (ix5 b q k g d)) = head x0 x1 b p o ho := by
  subst h'
  funext d
  rw [norm_qc]
  simp only [raw_qc]
  unfold head
  rw [dif_pos (by omega)]
  simp only [show (⟨q.val, by omega⟩ : Fin 4352) = p from Fin.ext hp.symm]

theorem key_ctx (b : Fin 4) (t : Fin 256) (h : Fin 2) :
    (fun d => val_main_v104 (F := Ideal) x0 x2 (ix4 b t h d)) = head x0 x2 b ⟨t.val, by omega⟩ (512 + h.val * 64) (by omega) := by
  funext d
  rw [norm_kc]
  simp only [raw_kc]
  unfold head
  rw [dif_pos t.isLt]

/-- The reference's result at a token's row and a column. -/
theorem result (r : Fin 17408) (j : Fin 512) :
    val_main_v162 (F := Ideal) x0 x1 x2 (ix2 r j) = plain x0 x1 x2 ⟨r.val / 4352, by omega⟩ ⟨r.val % 4352, by omega⟩ j := by
  rw [whole]
  unfold plain
  split
  · next h =>
    rw [out_ctx]
    simp only [weight_ctx, gap_ctx, score_ctx, key_ctx, raw_vc]
    rw [query_ctx x0 x1 _ _ _ _ ⟨r.val % 4352, by omega⟩ rfl (j.val / 64 * 64) (by omega) (by dsimp only; omega)]
    rfl
  · next h =>
    rw [out_lat]
    simp only [weight_lat, gap_lat, score_lat, keys, vals]
    rw [query_lat x0 x1 _ _ _ ⟨r.val % 4352, by omega⟩ (by dsimp only; omega) (j.val / 64 * 64) (by omega) (by dsimp only; omega)]
    rfl

end Cert.ReferenceIdeal.Result
-- ==== Proof.Equation.lean ====
/-
  The kernel's element is the reference's element, where the queries, the keys and the norms' gains are finite.
-/
module

public import proofs.«01_k».proof.Proof.Lanes
public import proofs.«01_k».proof.Proof.Tables
public import proofs.«01_k».proof.Proof.RefRead

@[expose] public section

set_option maxRecDepth 16384

noncomputable section

open Idealize.ShloMosaic Idealize.ShloMosaic.TcCoe Idealize.SL.Sem

namespace Cert.Equation

open Cert.KernelIdeal Cert.KernelIdeal.Gen Cert.KernelIdeal.Block Cert.KernelIdeal.Open Cert.KernelIdeal.Array Cert.KernelIdeal.Tables
open Cert.Plain Cert.Lanes Cert.ReferenceIdeal.Result

theorem own_at : ∀ (kv : Fin 2) (l : Fin 128), own kv.val l = if l.val / 64 = kv.val then 1#1 else 0#1 := by decide +kernel

/-- The kept half, at any lane. -/
theorem keep_own (kv : ℕ) (h : kv < 2) (f : Fin 128 → EReal) (j : Fin 128) :
    keep (own kv) f j = f (at' kv h ⟨j.val % 64, Nat.mod_lt _ (by omega)⟩) := by
  unfold keep
  rw [own_at ⟨kv, h⟩ j]
  by_cases hj : j.val / 64 = kv
  · rw [if_pos hj]
    exact congrArg f (Fin.ext (by dsimp only; omega))
  · rw [if_neg hj]
    exact congrArg f (Fin.ext (by dsimp only; omega))

theorem first_word : ∀ l : Fin 128, IntOp.cmpi .slt (BitVec.ofNat 32 l.val) 64#32 = if l.val / 64 = 0 then 1#1 else 0#1 := by decide +kernel

theorem first_at (l : Fin 128) : lanes k0_pay1 l = if l.val / 64 = 0 then 1#1 else 0#1 := by
  rw [← first_word]
  show k0_pay1 (ix2 0 l) = _
  pointwise [k0_pay1]

theorem second_at (l : Fin 128) : IntOp.xori (lanes k0_pay1 l) 1#1 = if l.val / 64 = 1 then 1#1 else 0#1 := by
  rw [first_at]
  by_cases h : l.val / 64 = 0
  · rw [if_pos h, if_neg (by omega)]
    rfl
  · rw [if_neg h, if_pos (by omega)]
    rfl

/-- Scores over the marked half. -/
theorem marks_eq {n : ℕ} (mk : Fin 128 → BitVec 1) (a : ℕ) (ha : a < 2) (hmk : ∀ l : Fin 128, mk l = if l.val / 64 = a then 1#1 else 0#1)
    (q : Fin 128 → EReal) (k : Fin n → Fin 128 → EReal) (H : Fin 64 → EReal) (K : Fin n → Fin 64 → EReal)
    (hq : ∀ e, q (at' a ha e) = H e * Ideal.ofBits .f32 1040187392#32) (hk : ∀ x e, k x (at' a ha e) = K x e) :
    marks mk q k = fun x => score (K x) H := by
  funext x
  unfold marks score
  rw [word_8th, ← sum_mul_coe _ _ _ (by norm_num)]
  refine Eq.trans (Finset.sum_congr rfl fun l _ => ?_) ((sum_half (fun l => q l * k x l) a ha).trans (Finset.sum_congr rfl fun e _ => ?_))
  · rw [hmk]
    by_cases h : l.val / 64 = a
    · rw [if_pos h, if_pos h]
      rfl
    · rw [if_neg h, if_neg h]
      rfl
  · show q (at' a ha e) * k x (at' a ha e) = _
    rw [hq, hk, word_8th, mul_right_comm, mul_comm (H e)]

theorem half_congr {α : Type} (H : (a : ℕ) → a < 2 → α) {a b : ℕ} (h : a = b) (ha : a < 2) (hb : b < 2) : H a ha = H b hb := by
  subst h
  rfl

/-- A pair of heads, each lane by its own head's attention. -/
theorem pair_eq {n : ℕ} (hn : 0 < n) (q : Fin 128 → EReal) (k v : Fin n → Fin 128 → EReal) (H : (a : ℕ) → a < 2 → Fin 64 → EReal)
    (K : Fin n → Fin 64 → EReal) (hq : ∀ a ha e, q (at' a ha e) = H a ha e * Ideal.ofBits .f32 1040187392#32)
    (hk : ∀ x a ha e, k x (at' a ha e) = K x e) (hH : ∀ a ha e, IsNum (H a ha e)) (hK : ∀ x e, IsNum (K x e)) (j : Fin 128) :
    pair (lanes k0_pay1) q k v j = attend (fun x => score (K x) (H (j.val / 64) (by omega))) (fun x => v x j) := by
  unfold pair
  rw [first_at, marks_eq _ 0 (by omega) first_at q k (H 0 (by omega)) K (hq 0 _) (fun x => hk x 0 _),
    marks_eq _ 1 (by omega) second_at q k (H 1 (by omega)) K (hq 1 _) (fun x => hk x 1 _),
    mix_eq hn _ _ fun t => score_num _ _ (hK t) (hH _ _), mix_eq hn _ _ fun t => score_num _ _ (hK t) (hH _ _)]
  by_cases h : j.val / 64 = 0
  · rw [if_pos h, half_congr H h _ (by omega)]
    rfl
  · have h1 : j.val / 64 = 1 := by omega
    rw [if_neg h, half_congr H h1 _ (by omega)]
    rfl

theorem word_16 : Ideal.ofBits .f32 1098907648#32 = ((16 : ℝ) : EReal) := by
  simp [Ideal.ofBits, Ideal.ieee]
  rw [← EReal.coe_mul]
  norm_num

theorem word_1e4 : IsNum (Ideal.ofBits .f32 1176256512#32) := ⟨_, rfl⟩

open Cert.ReferenceIdeal.Read in
theorem freq_num (d : Fin 16) : IsNum (val_main_v17 (F := Ideal) (ix1 d)) := by
  pointwise [val_main_v17, val_main_v16, val_main_v15, val_main_v14, val_main_v13, val_main_v12, val_main_cst, val_main_cst_1]
  obtain ⟨a, ha⟩ := word_1e4
  rw [ha, word_16, Ideal.div_coe (by norm_num)]
  exact ⟨Real.rpow a (-((BitVec.ofNat 32 d.val).toInt : ℝ) * (1 / 16)), rfl⟩

open Cert.ReferenceIdeal.Read in
theorem angle_num (t : Fin 4096) (d : Fin 64) : IsNum (val_main_v28 (F := Ideal) (ix2 t d)) := by
  pointwise [val_main_v28, val_main_v27, val_main_v22, val_main_v26, val_main_v25, val_main_v24, val_main_v23, val_main_v21, val_main_v20, val_main_v19, val_main_v18, val_main_v11, val_main_v9]
  split
  · exact IsNum.mul ⟨_, rfl⟩ (freq_num _)
  split
  · exact IsNum.mul ⟨_, rfl⟩ (freq_num _)
  split
  · exact IsNum.mul ⟨_, rfl⟩ (freq_num _)
  · exact IsNum.mul ⟨_, rfl⟩ (freq_num _)

open Cert.ReferenceIdeal.Read in
theorem cos_num (t : Fin 4096) (d : Fin 64) : IsNum (cosines t d) := by
  obtain ⟨r, hr⟩ := angle_num t d
  unfold cosines
  rw [val_main_v29_apply, hr]
  exact ⟨Real.cos r, rfl⟩

open Cert.ReferenceIdeal.Read in
theorem sin_num (t : Fin 4096) (d : Fin 64) : IsNum (sines t d) := by
  obtain ⟨r, hr⟩ := angle_num t d
  unfold sines
  rw [val_main_v30_apply, hr]
  exact ⟨Real.sin r, rfl⟩

/-- A head of finite numbers is finite. -/
theorem head_num (Z : FVec Ideal S17408x768 .f32) (g : FVec Ideal S64 .f32) (b : Fin 4) (p : Fin 4352) (o : ℕ) (ho : o ≤ 704)
    (hZ : ∀ d, IsNum (part Z b p o ho d)) (hg : ∀ d, IsNum (gain g d)) (d : Fin 64) : IsNum (head Z g b p o ho d) := by
  unfold head
  split
  · exact norm_real _ _ hZ hg d
  · exact rope_num _ _ _ (norm_real _ _ hZ hg) (cos_num _) (sin_num _) d

variable (m : (ℓ : Loc nD τ sig) → Buf (Elt Ideal) ℓ) (c : Dev nD)

/-- The kernel's normalized and turned pair of heads, a head at a time. -/
theorem turned (Z : FVec Ideal S17408x768 .f32) (g : FVec Ideal S64 .f32) (b : Fin 4) (p : Fin 4352) (o : ℕ) (ho : o ≤ 512)
    (x : Fin 128 → EReal) (hx : ∀ l : Fin 128, x l = Z (ix2 ⟨b.val * 4352 + p.val, by omega⟩ ⟨o + l.val, by omega⟩))
    (hZ : ∀ l, IsNum (x l)) (a : ℕ) (ha : a < 2) (d : Fin 64) :
    turn x (row (gains g) 0) (row (aGM m c)) (row (aC m c) p) (row (aSA m c) p) (row (aSB m c) p) (at' a ha d)
      = head Z g b p (o + a * 64) (by omega) d := by
  have hp : (fun e => x (at' a ha e)) = part Z b p (o + a * 64) (by omega) := by
    funext e
    rw [hx]
    exact part_eq Z _ _ _ _ _ _ _ rfl (by dsimp only; omega)
  unfold head
  split
  · rename_i h
    rw [turn_ctx x (row (gains g) 0) (gain g) (row (aGM m c)) hZ (gains_at g) (halves_at m c) _ _ _
      (fun l => cos_ctx m c p l h) (fun l => sinA_ctx m c p l h) (fun l => sinB_ctx m c p l h) a ha d, hp]
  · rename_i h
    rw [turn_lat x (row (gains g) 0) (gain g) (row (aGM m c)) hZ (gains_at g) (halves_at m c) _ _ _ (cosines ⟨p.val - 256, by omega⟩)
      (sines ⟨p.val - 256, by omega⟩) (fun l => cos_lat m c p l (by omega)) (fun l => sinA_lat m c p l (by omega))
      (fun l => sinB_lat m c p l (by omega)) a ha d, hp]

section
variable (Z : FVec Ideal S17408x768 .f32) (g : FVec Ideal S64 .f32)
  (hZ : ∀ (r : Fin 17408) (l : Fin 768), l.val < 640 → IsNum (Z (ix2 r l)))
include hZ

theorem part_num (b : Fin 4) (p : Fin 4352) (o : ℕ) (ho : o ≤ 576) (d : Fin 64) : IsNum (part Z b p o (by omega) d) :=
  hZ _ _ (by dsimp only; omega)

theorem queries_at (b : Fin 4) (p : Fin 4352) (u : Fin 4) (a : ℕ) (ha : a < 2) (e : Fin 64) :
    queries Z (aC m c) (aSA m c) (aSB m c) (gains g) (aGM m c) b p u (at' a ha e)
      = head Z g b p (u.val * 128 + a * 64) (by omega) e * Ideal.ofBits .f32 1040187392#32 := by
  unfold queries query
  rw [turned m c Z g b p (u.val * 128) (by omega) _ (fun l => rfl) (fun l => hZ _ _ (by dsimp only; omega)) a ha e]

theorem keys_at (b : Fin 4) (kv : ℕ) (hkv : kv < 2) (t : Fin 4352) (l : Fin 128) :
    row (keys Z (aC m c) (aSA m c) (aSB m c) (gains g) (aGM m c) b kv) t l
      = head Z g b t (512 + kv * 64) (by omega) ⟨l.val % 64, Nat.mod_lt _ (by omega)⟩ := by
  show keep (own kv) _ l = _
  rw [keep_own kv hkv]
  exact turned m c Z g b t 512 (by omega) _ (fun l => rfl) (fun l => hZ _ _ (by dsimp only; omega)) kv hkv _

omit hZ in
theorem vals_at (b : Fin 4) (kv : ℕ) (hkv : kv < 2) (t : Fin 4352) (l : Fin 128) :
    row (vals Z b kv) t l = part Z b t (640 + kv * 64) (by omega) ⟨l.val % 64, Nat.mod_lt _ (by omega)⟩ := by
  show keep (own kv) _ l = _
  rw [keep_own kv hkv]
  exact part_eq Z _ _ _ _ _ _ _ rfl (by show 640 + (kv * 64 + l.val % 64) = _; dsimp only; omega)

/-- The kernel's element is the reference's. -/
theorem attn_eq (gq gk : FVec Ideal S64 .f32) (hq : ∀ d, IsNum (gain gq d)) (hk : ∀ d, IsNum (gain gk d)) (b : Fin 4) (p : Fin 4352)
    (j : Fin 512) : attn Z (aC m c) (aSA m c) (aSB m c) (gains gq) (gains gk) (aGM m c) b p j = ReferenceIdeal.Result.plain Z gq gk b p j := by
  have hj := j.isLt
  unfold attn ReferenceIdeal.Result.plain
  have hd : ∀ (n : ℕ) (hn : 0 < n) (T : Fin n → Fin 4352),
      pair (lanes k0_pay1) (queries Z (aC m c) (aSA m c) (aSB m c) (gains gq) (aGM m c) b p ⟨j.val / 128, by omega⟩)
        (fun t => row (keys Z (aC m c) (aSA m c) (aSB m c) (gains gk) (aGM m c) b (j.val / 256)) (T t))
        (fun t => row (vals Z b (j.val / 256)) (T t)) ⟨j.val % 128, Nat.mod_lt _ (by omega)⟩
      = attend (fun t => score (head Z gk b (T t) (512 + j.val / 256 * 64) (by omega))
          (head Z gq b p (j.val / 64 * 64) (by omega)))
        (fun t => part Z b (T t) (640 + j.val / 256 * 64) (by omega) ⟨j.val % 64, by omega⟩) := by
    intro n hn T
    refine (pair_eq hn _ _ _ (fun a ha => head Z gq b p (j.val / 128 * 128 + a * 64) (by omega))
      (fun t => head Z gk b (T t) (512 + j.val / 256 * 64) (by omega)) ?_ ?_ ?_ ?_ _).trans ?_
    · intro a ha e
      exact queries_at m c Z gq hZ b p ⟨j.val / 128, by omega⟩ a ha e
    · intro x a ha e
      rw [keys_at m c Z gk hZ b _ (by omega)]
      exact congrArg _ (Fin.ext (by dsimp only; omega))
    · exact fun a ha e => head_num _ _ _ _ _ _ (part_num Z hZ _ _ _ (by omega)) hq _
    · exact fun x e => head_num _ _ _ _ _ _ (part_num Z hZ _ _ _ (by omega)) hk _
    congr 1
    · funext t
      congr 1
      exact head_congr _ _ _ _ _ _ _ _ _ rfl (by dsimp only; omega)
    · funext t
      rw [vals_at Z b _ (by omega)]
      exact congrArg _ (Fin.ext (by dsimp only; omega))
  split
  · exact hd 256 (by omega) _
  · exact hd 4352 (by omega) (fun t => t)

end

end Cert.Equation
-- ==== Proof.Finite.lean ====
/-
  The precondition, decoded: queries and keys, and the gains of the two norms, are finite.
-/
module

public import proofs.«01_k».proof.Defs
public import proofs.«01_k».proof.Proof.Lanes
public import proofs.«01_k».proof.Proof.Gen.Pre_finite
public import Idealize.ShloMosaic.Lib.Pointwise

@[expose] public section

noncomputable section

open Idealize.ShloMosaic

namespace Cert.Finite

open Cert.Lanes

theorem word_top : Ideal.ofBits .f32 0x7F800000#32 = ⊤ := by
  simp [Ideal.ofBits, Ideal.ieee]

/-- Below infinity in absolute value: finite. -/
theorem num_of_lt (x : EReal) (h : Ideal.cmp .olt (max x (-x)) (Ideal.ofBits .f32 0x7F800000#32) = 1#1) : IsNum x := by
  rw [word_top] at h
  induction x with
  | bot => simp [Ideal.cmp] at h
  | top => simp [Ideal.cmp] at h
  | coe r => exact ⟨r, rfl⟩

variable (Z : FVec Ideal Cert.Pre_finite.S17408x768 .f32) (a b : FVec Ideal Cert.Pre_finite.S64 .f32)

theorem tokens (h : (Cert.Pre_finite.fn (F := Ideal) Z a b).1 = fun _ => 1#1) (r : Fin 17408) (l : Fin 768) (hl : l.val < 640) :
    IsNum (Z (ix2 r l)) := by
  have e := congrFun h (ix2 r ⟨l.val, hl⟩)
  refine num_of_lt _ (Eq.trans ?_ e)
  pointwise [Cert.Pre_finite.fn]
  rfl

theorem gains1 (h : (Cert.Pre_finite.fn (F := Ideal) Z a b).2.1 = fun _ => 1#1) (d : Fin 64) : IsNum (a (ix1 d)) := by
  have e := congrFun h (ix1 d)
  refine num_of_lt _ (Eq.trans ?_ e)
  pointwise [Cert.Pre_finite.fn]
  rfl

theorem gains2 (h : (Cert.Pre_finite.fn (F := Ideal) Z a b).2.2 = fun _ => 1#1) (d : Fin 64) : IsNum (b (ix1 d)) := by
  have e := congrFun h (ix1 d)
  refine num_of_lt _ (Eq.trans ?_ e)
  pointwise [Cert.Pre_finite.fn]
  rfl

end Cert.Finite
-- ==== Proof.Attention.lean ====
/-
  The claims about the attention.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import proofs.«01_k».proof.Proof.Finite

@[expose] public section

set_option maxRecDepth 16384

noncomputable section

open Idealize.ShloMosaic Idealize.ShloMosaic.TcCoe Idealize.SL.Sem

namespace Cert.Attention

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

theorem frame_ri_pre : Cert.quiescent_ReferenceIdeal_pre_finite := fun m ρ _ => frame_ri m ρ trivial

theorem preserves : Cert.preserves_Kernel_KernelIdeal := trivial

section
open Cert.KernelIdeal Cert.KernelIdeal.Array

/-- What the kernel leaves, from its arguments alone. -/
theorem whole (m : (ℓ : Loc nD τ sig) → Buf (Elt Ideal) ℓ) (c : Dev nD) (hpre : Cert.Pre_KernelIdeal_finite m) (r : Fin 17408) (j : Fin 512) :
    all (aZ m c) (aC m c) (aSA m c) (aSB m c) (aQN m c) (aKN m c) (aGM m c) (ix2 r j)
      = Cert.ReferenceIdeal.Read.val_main_v162 (F := Ideal) (m ((c.tc : Thread nD τ).loc main_arg0)) (m ((c.tc : Thread nD τ).loc main_arg1))
          (m ((c.tc : Thread nD τ).loc main_arg2)) (ix2 r j) := by
  rw [Cert.ReferenceIdeal.Result.result, Tables.token_table, Tables.gainQ_table, Tables.gainK_table]
  exact Cert.Equation.attn_eq m c _ (fun r l hl => Cert.Finite.tokens _ _ _ (hpre c).1 r l hl) _ _
    (fun d => Cert.Finite.gains1 _ _ _ (hpre c).2.1 d) (fun d => Cert.Finite.gains2 _ _ _ (hpre c).2.2 d) _ _ _

end

theorem algebraic : Cert.algebraic_KernelIdeal_ReferenceIdeal_pre_finite := by
  intro m ρ m' ρ' hpre hagree
  refine ⟨_, Cert.KernelIdeal.Array.run m ρ, ?_⟩
  refine (θ_run Cert.ReferenceIdeal.defs _ _).mono (fun r h c => ⟨(h c).1.trans ?_, (h c).2⟩) (Cert.ReferenceIdeal.Value.run m' ρ')
  refine (Cert.ReferenceIdeal.Read.val_main_v162_eq (F := Ideal) _).trans ?_
  obtain ⟨h0, h1, h2⟩ := hagree c
  show Cert.ReferenceIdeal.Read.val_main_v162 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
  rw [h0, h1, h2]
  funext y
  obtain ⟨r, j, rfl⟩ : ∃ (r : Fin 17408) (j : Fin 512), y = ix2 r j := ⟨y 0, y 1, eq_ix2 (n0 := 17408) (n1 := 512) y⟩
  exact (whole m c hpre r j).symm

end Cert.Attention
-- ==== Proof.Rows.lean ====
/-
  The layer's token rows in plain formulas: the layer norm without a gain, its modulation, and a dense product with a bias.
-/
module

public import Idealize.ShloMosaic.Lib.Pointwise

@[expose] public section

noncomputable section

open Idealize.ShloMosaic

namespace Cert.Rows

/-- A row's mean. -/
def mean (x : Fin 1024 → EReal) : EReal := Ideal.div (∑ l, x l) (Ideal.ofBits .f32 0x44800000#32)

/-- A row less its mean, over the root of its variance. -/
def center (x : Fin 1024 → EReal) (j : Fin 1024) : EReal :=
  (x j - mean x) * Ideal.rsqrt (Ideal.div (∑ l, (x l - mean x) * (x l - mean x)) (Ideal.ofBits .f32 0x44800000#32)
    + Ideal.ofBits .f32 0x358637BD#32)

/-- A row centered, scaled by one more than `scale` and shifted. -/
def modulate (x shift scale : Fin 1024 → EReal) (j : Fin 1024) : EReal :=
  center x j * (1 + scale j) + shift j

/-- A row times one column of weights, and the column's bias. -/
def dense {n : ℕ} (h w : Fin n → EReal) (b : EReal) : EReal := (∑ l, h l * w l) + b

/-- Which rows of modulation a token takes: two to a batch, the context's and the others'. -/
def group (r : Fin 17408) : Fin 8 := ⟨r.val / 4352 * 2 + min (r.val % 4352 / 256) 1, by omega⟩

/-- A token's row before the projection. -/
def tokenRow (x : Fin 17408 → Fin 1024 → EReal) (m : Fin 8 → Fin 6 → Fin 1024 → EReal) (r : Fin 17408) : Fin 1024 → EReal :=
  modulate (x r) (m (group r) 0) (m (group r) 1)

/-- Three branches' outputs, each through its own matrix and under its own gate. -/
def gated (h : Fin 1024 → EReal) (oa ob oc : Fin 512 → EReal) (wg : Fin 1024 → Fin 3072 → EReal) (bg : Fin 3072 → EReal)
    (wa wb wc : Fin 512 → Fin 1024 → EReal) (j : Fin 1024) : EReal :=
  Ideal.logistic (dense h (fun l => wg l ⟨j.val, by omega⟩) (bg ⟨j.val, by omega⟩)) * (∑ l, oa l * wa l j)
    + Ideal.logistic (dense h (fun l => wg l ⟨1024 + j.val, by omega⟩) (bg ⟨1024 + j.val, by omega⟩)) * (∑ l, ob l * wb l j)
    + Ideal.logistic (dense h (fun l => wg l ⟨2048 + j.val, by omega⟩) (bg ⟨2048 + j.val, by omega⟩)) * (∑ l, oc l * wc l j)

/-- A row scaled, plus the output projection of `y` under a gate. -/
def residual (x gate y : Fin 1024 → EReal) (wo : Fin 1024 → Fin 1024 → EReal) (j : Fin 1024) : EReal :=
  Ideal.ofBits .f32 0x3FB504F3#32 * x j + gate j * (∑ l, y l * wo l j)

/-- The layer norm with a gain and a bias. -/
def normed (u gain bias : Fin 1024 → EReal) (j : Fin 1024) : EReal := center u j * gain j + bias j

/-- A token's row after the branches are merged. -/
def merged (x : Fin 1024 → EReal) (md : Fin 6 → Fin 1024 → EReal) (oa ob oc : Fin 512 → EReal)
    (wg : Fin 1024 → Fin 3072 → EReal) (bg : Fin 3072 → EReal) (wa wb wc : Fin 512 → Fin 1024 → EReal)
    (wo : Fin 1024 → Fin 1024 → EReal) (gain bias : Fin 1024 → EReal) : Fin 1024 → EReal :=
  normed (residual x (md 2) (gated (modulate x (md 0) (md 1)) oa ob oc wg bg wa wb wc) wo) gain bias

end Cert.Rows
-- ==== Proof.InBlock.lean ====
/-
  The projection's block: what one grid point leaves in each of its three outputs, row by row.
-/
module

public import proofs.«01_k».proof.Proof.Gen.KernelInIdeal.Frame
public import proofs.«01_k».proof.Proof.Gen.KernelInIdeal.Value
public import proofs.«01_k».proof.Proof.Rows

@[expose] public section

set_option maxRecDepth 16384

noncomputable section

open Idealize.ShloMosaic Idealize.ShloMosaic.TcCoe Idealize.SL.Sem

namespace Cert.KernelInIdeal.Block

open Cert.KernelInIdeal Cert.KernelInIdeal.Gen Cert.Rows

theorem hidden (x : FVec Ideal S256x1024 .f32) (sh sc : FVec Ideal S1x1x1024 .f32) (r : Fin 256) (l : Fin 1024) :
    k0_pay3 (F := Ideal) x sh sc (ix2 r l)
      = modulate (fun e => x (ix2 r e)) (fun e => sh (ix3 0 0 e)) (fun e => sc (ix3 0 0 e)) l := by
  pointwise [k0_pay3]
  rfl

theorem first (x : FVec Ideal S256x1024 .f32) (sh sc : FVec Ideal S1x1x1024 .f32) (w : FVec Ideal S1024x768 .bf16)
    (b : FVec Ideal S1x768 .f32) (r : Fin 256) (j : Fin 768) :
    k0_pay4 (F := Ideal) x sh sc w b (ix2 r j)
      = dense (fun l => k0_pay3 (F := Ideal) x sh sc (ix2 r l)) (fun l => w (ix2 l j)) (b (ix2 0 j)) := by
  unfold k0_pay4
  generalize k0_pay3 (F := Ideal) x sh sc = h
  pointwise
  rfl

theorem second (h : FVec Ideal S256x1024 .bf16) (w : FVec Ideal S1024x1664 .bf16) (b : FVec Ideal S1x1664 .f32)
    (r : Fin 256) (j : Fin 1664) :
    k0_pay1 (F := Ideal) h w b (ix2 r j) = dense (fun l => h (ix2 r l)) (fun l => w (ix2 l j)) (b (ix2 0 j)) := by
  pointwise [k0_pay1]
  rfl

theorem third (h : FVec Ideal S256x1024 .bf16) (w : FVec Ideal S1024x1536 .bf16) (b : FVec Ideal S1x1536 .f32)
    (r : Fin 256) (j : Fin 1536) :
    k0_pay2 (F := Ideal) h w b (ix2 r j) = dense (fun l => h (ix2 r l)) (fun l => w (ix2 l j)) (b (ix2 0 j)) := by
  pointwise [k0_pay2]
  rfl

variable (x0 : FVec Ideal S256x1024 .f32) (x1 : FVec Ideal S1x6x1024 .f32) (x2 : FVec Ideal S1024x3968 .bf16)
  (x3 : FVec Ideal S1x3968 .f32)

theorem ld0 : View.ld (Val := Elt Ideal) (e' := .f32) x0 r0_0 = x0 := View.ld_unit_zero (S := S256x1024) (funext fun a => by fin_cases a <;> rfl) _ _

theorem ld1 (e : Fin 1024) : View.ld (Val := Elt Ideal) (e' := .f32) x1 r0_1 (ix3 0 0 e) = x1 (ix3 0 0 e) :=
  congrArg x1 (funext fun a => Fin.ext (match a with
    | ⟨0, _⟩ => rfl
    | ⟨1, _⟩ => rfl
    | ⟨2, _⟩ => by show 0 + 1 * e.val = e.val; omega))

theorem ld2 (e : Fin 1024) : View.ld (Val := Elt Ideal) (e' := .f32) x1 r0_2 (ix3 0 0 e) = x1 (ix3 0 1 e) :=
  congrArg x1 (funext fun a => Fin.ext (match a with
    | ⟨0, _⟩ => rfl
    | ⟨1, _⟩ => rfl
    | ⟨2, _⟩ => by show 0 + 1 * e.val = e.val; omega))

theorem ldw {n : ℕ} (o : ℕ) (inb) (l : Fin 1024) (j : Fin n) (d : Fin 3968) (h : d.val = o + j.val) :
    View.ld (Val := Elt Ideal) (e' := .bf16) x2 (Rect.unit (s := S1024x3968) ![0, o] ![1024, n] inb) (ix2 l j) = x2 (ix2 l d) :=
  congrArg x2 (funext fun a => Fin.ext (match a with
    | ⟨0, _⟩ => by show 0 + 1 * l.val = l.val; omega
    | ⟨1, _⟩ => by show o + 1 * j.val = d.val; omega))

theorem ldb {n : ℕ} (o : ℕ) (inb) (j : Fin n) (d : Fin 3968) (h : d.val = o + j.val) :
    View.ld (Val := Elt Ideal) (e' := .f32) x3 (Rect.unit (s := S1x3968) ![0, o] ![1, n] inb) (ix2 0 j) = x3 (ix2 0 d) :=
  congrArg x3 (funext fun a => Fin.ext (match a with
    | ⟨0, _⟩ => rfl
    | ⟨1, _⟩ => by show o + 1 * j.val = d.val; omega))

/-- One row's column `d` of the product, from the point's blocks. -/
def cell (r : Fin 256) (d : Fin 3968) : EReal :=
  dense (modulate (fun e => x0 (ix2 r e)) (fun e => x1 (ix3 0 0 e)) (fun e => x1 (ix3 0 1 e)))
    (fun l => x2 (ix2 l d)) (x3 (ix2 0 d))

theorem loaded (r : Fin 256) :
    (fun l => k0_pay3 (F := Ideal) (View.ld (Val := Elt Ideal) (e' := .f32) x0 r0_0) (View.ld (Val := Elt Ideal) (e' := .f32) x1 r0_1) (View.ld (Val := Elt Ideal) (e' := .f32) x1 r0_2) (ix2 r l))
      = modulate (fun e => x0 (ix2 r e)) (fun e => x1 (ix3 0 0 e)) (fun e => x1 (ix3 0 1 e)) := by
  funext l
  rw [hidden, ld0]
  exact congrArg₂ (fun a b => modulate _ a b l) (funext (ld1 x1)) (funext (ld2 x1))

theorem out4 (r : Fin 256) (j : Fin 768) (d : Fin 3968) (h : d.val = j.val) :
    out0_4 (F := Ideal) x0 x1 x2 x3 (ix2 r j) = cell x0 x1 x2 x3 r d := by
  unfold out0_4
  rw [View.canon_unit_zero (S := S256x768) (funext fun a => by fin_cases a <;> rfl), first, loaded]
  exact congrArg₂ (dense _) (funext fun l => ldw x2 0 _ l j d (by omega)) (ldb x3 0 _ j d (by omega))

theorem out5 (r : Fin 256) (j : Fin 1664) (d : Fin 3968) (h : d.val = 768 + j.val) :
    out0_5 (F := Ideal) x0 x1 x2 x3 (ix2 r j) = cell x0 x1 x2 x3 r d := by
  unfold out0_5 k0_pay5
  rw [View.canon_unit_zero (S := S256x1664) (funext fun a => by fin_cases a <;> rfl), second, loaded]
  exact congrArg₂ (dense _) (funext fun l => ldw x2 768 _ l j d h) (ldb x3 768 _ j d h)

theorem out6 (r : Fin 256) (j : Fin 1536) (d : Fin 3968) (h : d.val = 2432 + j.val) :
    out0_6 (F := Ideal) x0 x1 x2 x3 (ix2 r j) = cell x0 x1 x2 x3 r d := by
  unfold out0_6 k0_pay5
  rw [View.canon_unit_zero (S := S256x1536) (funext fun a => by fin_cases a <;> rfl), third, loaded]
  exact congrArg₂ (dense _) (funext fun l => ldw x2 2432 _ l j d h) (ldb x3 2432 _ j d h)

end Cert.KernelInIdeal.Block

end
-- ==== Proof.InArray.lean ====
/-
  The arrays the projection leaves: every element as one column of the product of its token's row.
-/
module

public import proofs.«01_k».proof.Proof.InBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInIdeal.Array

open Cert.KernelInIdeal Cert.KernelInIdeal.Gen Cert.KernelInIdeal.Block Cert.Rows

section
variable (X : FVec Ideal S17408x1024 .f32) (M : FVec Ideal S8x6x1024 .f32) (W : FVec Ideal S1024x3968 .bf16)
  (B : FVec Ideal S1x3968 .f32)

/-- Column `d` of the product of token `b`'s row. -/
def product (b : Fin 17408) (d : Fin 3968) : EReal :=
  dense (tokenRow (fun b e => X (ix2 b e)) (fun g k e => M (ix3 g k e)) b) (fun l => W (ix2 l d)) (B (ix2 0 d))

def all4 : FVec Ideal S17408x768 .f32 := fun y => product X M W B (y 0) ⟨(y 1).val, by have := (y 1).isLt; change (y 1).val < 768 at this; omega⟩
def all5 : FVec Ideal S17408x1664 .f32 := fun y => product X M W B (y 0) ⟨768 + (y 1).val, by have := (y 1).isLt; change (y 1).val < 1664 at this; omega⟩
def all6 : FVec Ideal S17408x1536 .bf16 := fun y => product X M W B (y 0) ⟨2432 + (y 1).val, by have := (y 1).isLt; change (y 1).val < 1536 at this; omega⟩

end

/-- Every window's block at every grid point. -/
theorem idx : ∀ t : Fin cfg0.N, win0_0.index t = ![t.val, 0]
    ∧ win0_1.index t = ![t.val / 17 * 2 + min (t.val % 17) 1, 0, 0]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

variable (m : (ℓ : Loc nD τ sig) → Buf (Elt Ideal) ℓ) (c : Dev nD)

abbrev aX : FVec Ideal S17408x1024 .f32 := V m c main_arg0
abbrev aM : FVec Ideal S8x6x1024 .f32 := V m c main_arg1
abbrev aW : FVec Ideal S1024x3968 .bf16 := V m c main_v10
abbrev aB : FVec Ideal S1x3968 .f32 := V m c main_v11

theorem lt68 (t : Fin cfg0.N) : t.val < 68 := lt_of_lt_of_eq t.isLt (show cfg0.N = 68 from N_0)

theorem blk0 (t : Fin cfg0.N) (r : Fin 256) (l : Fin 1024) (b : Fin 17408) (hb : b.val = t.val * 256 + r.val) :
    (show FVec Ideal S256x1024 .f32 from iblk m c 0 t) (ix2 r l) = aX m c (ix2 b l) := by
  obtain ⟨e0, -⟩ := idx t
  blk_ext [iblk, e0]

theorem blk1 (t : Fin cfg0.N) (k : Fin 6) (l : Fin 1024) (g : Fin 8) (hg : g.val = t.val / 17 * 2 + min (t.val % 17) 1) :
    (show FVec Ideal S1x6x1024 .f32 from iblk m c 1 t) (ix3 0 k l) = aM m c (ix3 g k l) := by
  obtain ⟨-, e1, -⟩ := idx t
  blk_ext [iblk, e1]

theorem blk2 (t : Fin cfg0.N) : (iblk m c 2 t) = aW m c := by
  obtain ⟨-, -, e2, -⟩ := idx t
  funext y
  blk_ext [iblk, e2]

theorem blk3 (t : Fin cfg0.N) : (iblk m c 3 t) = aB m c := by
  obtain ⟨-, -, -, e3, -⟩ := idx t
  funext y
  blk_ext [iblk, e3]

/-- A point's element, at its token and column. -/
theorem point (t : Fin cfg0.N) (r : Fin 256) (d : Fin 3968) (b : Fin 17408) (hb : b.val = t.val * 256 + r.val) :
    cell (iblk m c 0 t) (iblk m c 1 t) (iblk m c 2 t) (iblk m c 3 t) r d
      = product (aX m c) (aM m c) (aW m c) (aB m c) b d := by
  have ht := lt68 t
  have hr := r.isLt
  have hg : (group b).val = t.val / 17 * 2 + min (t.val % 17) 1 := by
    show b.val / 4352 * 2 + min (b.val % 4352 / 256) 1 = _
    omega
  unfold cell product tokenRow
  rw [blk2, blk3]
  refine congrArg (fun h => dense h _ _) ?_
  rw [show (fun e => (show FVec Ideal S256x1024 .f32 from iblk m c 0 t) (ix2 r e)) = (fun e => aX m c (ix2 b e)) from
      funext fun l => blk0 m c t r l b hb,
    show (fun e => (show FVec Ideal S1x6x1024 .f32 from iblk m c 1 t) (ix3 0 0 e)) = (fun e => aM m c (ix3 (group b) 0 e)) from
      funext fun l => blk1 m c t 0 l _ hg,
    show (fun e => (show FVec Ideal S1x6x1024 .f32 from iblk m c 1 t) (ix3 0 1 e)) = (fun e => aM m c (ix3 (group b) 1 e)) from
      funext fun l => blk1 m c t 1 l _ hg]

theorem placed4 (t : Fin cfg0.N) (r : Fin 256) (j : Fin 768) (z : S17408x768.Idx)
    (h0 : (z 0).val = t.val * 256 + r.val) (h1 : (z 1).val = j.val) :
    out0_4 (F := Ideal) (iblk m c 0 t) (iblk m c 1 t) (iblk m c 2 t) (iblk m c 3 t) (ix2 r j)
      = all4 (aX m c) (aM m c) (aW m c) (aB m c) z :=
  (out4 _ _ _ _ r j ⟨(z 1).val, by omega⟩ h1).trans (point m c t r _ _ h0)

theorem placed5 (t : Fin cfg0.N) (r : Fin 256) (j : Fin 1664) (z : S17408x1664.Idx)
    (h0 : (z 0).val = t.val * 256 + r.val) (h1 : (z 1).val = j.val) :
    out0_5 (F := Ideal) (iblk m c 0 t) (iblk m c 1 t) (iblk m c 2 t) (iblk m c 3 t) (ix2 r j)
      = all5 (aX m c) (aM m c) (aW m c) (aB m c) z :=
  (out5 _ _ _ _ r j ⟨768 + (z 1).val, by omega⟩ (by dsimp only; omega)).trans (point m c t r _ _ h0)

theorem placed6 (t : Fin cfg0.N) (r : Fin 256) (j : Fin 1536) (z : S17408x1536.Idx)
    (h0 : (z 0).val = t.val * 256 + r.val) (h1 : (z 1).val = j.val) :
    out0_6 (F := Ideal) (iblk m c 0 t) (iblk m c 1 t) (iblk m c 2 t) (iblk m c 3 t) (ix2 r j)
      = all6 (aX m c) (aM m c) (aW m c) (aB m c) z :=
  (out6 _ _ _ _ r j ⟨2432 + (z 1).val, by omega⟩ (by dsimp only; omega)).trans (point m c t r _ _ h0)

theorem final4 : (dats m 0 c).arrAt 4 cfg0.N = all4 (aX m c) (aM m c) (aW m c) (aB m c) := by
  refine (dats m 0 c).arrAt_eq_of_covers 4 _ (by decide +kernel) fun t _ y => ?_
  obtain ⟨-, -, -, -, e4, -, -⟩ := idx t
  blk_simp
  rw [after0_4]
  obtain ⟨r, j, rfl⟩ : ∃ (r : Fin 256) (j : Fin 768), y = (ix2 r j : S256x768.Idx) := ⟨y 0, y 1, eq_ix2 (n0 := 256) (n1 := 768) y⟩
  have h0 : ((win0_4.blk t).view.emb (ix2 r j : S256x768.Idx) 0).val = t.val * 256 + r.val := by
    blk_simp [e4]
  have h1 : ((win0_4.blk t).view.emb (ix2 r j : S256x768.Idx) 1).val = j.val := by
    blk_simp [e4]
  exact placed4 m c t r j _ h0 h1

theorem final5 : (dats m 0 c).arrAt 5 cfg0.N = all5 (aX m c) (aM m c) (aW m c) (aB m c) := by
  refine (dats m 0 c).arrAt_eq_of_covers 5 _ (by decide +kernel) fun t _ y => ?_
  obtain ⟨-, -, -, -, -, e5, -⟩ := idx t
  blk_simp
  rw [after0_5]
  obtain ⟨r, j, rfl⟩ : ∃ (r : Fin 256) (j : Fin 1664), y = (ix2 r j : S256x1664.Idx) := ⟨y 0, y 1, eq_ix2 (n0 := 256) (n1 := 1664) y⟩
  have h0 : ((win0_5.blk t).view.emb (ix2 r j : S256x1664.Idx) 0).val = t.val * 256 + r.val := by
    blk_simp [e5]
  have h1 : ((win0_5.blk t).view.emb (ix2 r j : S256x1664.Idx) 1).val = j.val := by
    blk_simp [e5]
  exact placed5 m c t r j _ h0 h1

theorem final6 : (dats m 0 c).arrAt 6 cfg0.N = all6 (aX m c) (aM m c) (aW m c) (aB m c) := by
  refine (dats m 0 c).arrAt_eq_of_covers 6 _ (by decide +kernel) fun t _ y => ?_
  obtain ⟨-, -, -, -, -, -, e6⟩ := idx t
  blk_simp
  rw [after0_6]
  obtain ⟨r, j, rfl⟩ : ∃ (r : Fin 256) (j : Fin 1536), y = (ix2 r j : S256x1536.Idx) := ⟨y 0, y 1, eq_ix2 (n0 := 256) (n1 := 1536) y⟩
  have h0 : ((win0_6.blk t).view.emb (ix2 r j : S256x1536.Idx) 0).val = t.val * 256 + r.val := by
    blk_simp [e6]
  have h1 : ((win0_6.blk t).view.emb (ix2 r j : S256x1536.Idx) 1).val = j.val := by
    blk_simp [e6]
  exact placed6 m c t r j _ h0 h1

end Cert.KernelInIdeal.Array

end
-- ==== Proof.InTables.lean ====
/-
  What the projection's packed weights and biases hold: the given columns, with 96 columns of zeros between.
-/
module

public import proofs.«01_k».proof.Proof.InArray
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelInIdeal.Tables

open Cert.KernelInIdeal Cert.KernelInIdeal.Gen Cert.KernelInIdeal.Array Cert.Rows

/-- The columns of the weights laid as the kernel takes them. -/
def packW (w : FVec Ideal S1024x6944 .f32) : FVec Ideal S1024x3968 .bf16 :=
  truncf .bf16 (concatenate S1024x3968 1 [⟨S1024x768, extractStridedSlice S1024x768 ![0, 0] w slices_S1024x6944_S1024x768_0_0⟩,
    ⟨S1024x1568, extractStridedSlice S1024x1568 ![0, 768] w slices_S1024x6944_S1024x1568_0_768⟩,
    ⟨S1024x96, broadcastInDim S1024x96 ![] bcast_S_S1024x96 (constant S_ .f32 0x00000000#32)⟩,
    ⟨S1024x1536, extractStridedSlice S1024x1536 ![0, 2336] w slices_S1024x6944_S1024x1536_0_2336⟩]
    concatenates_S1024x768_S1024x1568_S1024x96_S1024x1536_S1024x3968_d1) bitsLt_bf16_f32

/-- The biases laid alike. -/
def packB (w : FVec Ideal S6944 .f32) : FVec Ideal S1x3968 .f32 :=
  shapeCast S1x3968 (concatenate S3968 0 [⟨S768, extractStridedSlice S768 ![0] w slices_S6944_S768_0⟩,
    ⟨S1568, extractStridedSlice S1568 ![768] w slices_S6944_S1568_768⟩,
    ⟨S96, broadcastInDim S96 ![] bcast_S_S96 (constant S_ .f32 0x00000000#32)⟩,
    ⟨S1536, extractStridedSlice S1536 ![2336] w slices_S6944_S1536_2336⟩]
    concatenates_S768_S1568_S96_S1536_S3968_d0) shapeCasts_S3968_S1x3968

/-- Where a packed column lies in the given weights. -/
def source (d : Fin 3968) : Fin 6944 := if d.val < 2336 then ⟨d.val, by omega⟩ else ⟨d.val - 96, by omega⟩

theorem source_lo (d : Fin 3968) (s : Fin 6944) (h : d.val < 2336) (hs : s.val = d.val) : source d = s := by
  unfold source
  rw [if_pos h]
  exact Fin.ext hs.symm

theorem source_hi (d : Fin 3968) (s : Fin 6944) (h : 2336 ≤ d.val) (hs : s.val = d.val - 96) : source d = s := by
  unfold source
  rw [if_neg (by omega)]
  exact Fin.ext hs.symm

theorem packW_at (w : FVec Ideal S1024x6944 .f32) (l : Fin 1024) (d : Fin 3968) :
    packW w (ix2 l d) = if 2336 ≤ d.val ∧ d.val < 2432 then 0 else w (ix2 l (source d)) := by
  pointwise [packW]
  split
  · exact ((if_neg (by omega)).trans (congrArg (fun s => w (ix2 l s)) (source_lo d _ (by omega) (by dsimp only)))).symm
  · split
    · exact ((if_neg (by omega)).trans (congrArg (fun s => w (ix2 l s)) (source_lo d _ (by omega) (by dsimp only; omega)))).symm
    · split
      · exact (if_pos (by omega)).symm
      · exact ((if_neg (by omega)).trans (congrArg (fun s => w (ix2 l s)) (source_hi d _ (by omega) (by dsimp only; omega)))).symm

theorem packB_at (w : FVec Ideal S6944 .f32) (d : Fin 3968) :
    packB w (ix2 0 d) = if 2336 ≤ d.val ∧ d.val < 2432 then 0 else w (ix1 (source d)) := by
  pointwise [packB]
  split
  · exact ((if_neg (by omega)).trans (congrArg (fun s => w (ix1 s)) (source_lo d _ (by omega) (by dsimp only)))).symm
  · split
    · exact ((if_neg (by omega)).trans (congrArg (fun s => w (ix1 s)) (source_lo d _ (by omega) (by dsimp only; omega)))).symm
    · split
      · exact (if_pos (by omega)).symm
      · exact ((if_neg (by omega)).trans (congrArg (fun s => w (ix1 s)) (source_hi d _ (by omega) (by dsimp only; omega)))).symm

variable (m : (ℓ : Loc nD τ sig) → Buf (Elt Ideal) ℓ) (c : Dev nD)

theorem weights : aW m c = packW (m ((c : Thread nD τ).loc main_arg2)) := by
  show StableHlo.after hostOps0 (fun b => m (c, b)) (Proc.devRef .tc main_v10) = _
  generalize hr : packW _ = r
  after_reads_simp
  exact hr

theorem biases : aB m c = packB (m ((c : Thread nD τ).loc main_arg3)) := by
  show StableHlo.after hostOps0 (fun b => m (c, b)) (Proc.devRef .tc main_v11) = _
  generalize hr : packB _ = r
  after_reads_simp
  exact hr

end Cert.KernelInIdeal.Tables

end
-- ==== Proof.InRef.lean ====
/-
  The projection's reference, element by element, in plain formulas.
-/
module

public import proofs.«01_k».proof.Proof.Gen.ReferenceInIdeal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.ReferenceInIdeal.Result

open Cert.ReferenceInIdeal Cert.ReferenceInIdeal.Read Cert.Rows

variable (x0 : FVec Ideal S17408x1024 .f32) (x1 : FVec Ideal S8x6x1024 .f32) (x2 : FVec Ideal S1024x6944 .f32)
  (x3 : FVec Ideal S6944 .f32)

theorem at_group (k : Fin 6) (e : Fin 1024) (r : Fin 17408) (g : Fin 8)
    (h : g.val = r.val / 4352 * 2 + min (r.val % 4352 / 256) 1) : x1 (ix3 g k e) = x1 (ix3 (group r) k e) := by
  rw [show g = group r from Fin.ext h]

theorem shift (r : Fin 17408) (e : Fin 1024) : val_main_v8 (F := Ideal) x1 (ix2 r e) = x1 (ix3 (group r) 0 e) := by
  pointwise [val_main_v8, val_main_v7, val_main_v6, val_main_v5, val_main_v4, val_main_v3, val_main_v2, val_main_v1, val_main_v0]
  split
  · exact at_group x1 0 e r _ (by dsimp only; omega)
  · exact at_group x1 0 e r _ (by dsimp only; omega)

theorem scale (r : Fin 17408) (e : Fin 1024) : val_main_v17 (F := Ideal) x1 (ix2 r e) = x1 (ix3 (group r) 1 e) := by
  pointwise [val_main_v17, val_main_v16, val_main_v15, val_main_v14, val_main_v13, val_main_v12, val_main_v11, val_main_v10, val_main_v9]
  split
  · exact at_group x1 1 e r _ (by dsimp only; omega)
  · exact at_group x1 1 e r _ (by dsimp only; omega)

theorem hidden (r : Fin 17408) (l : Fin 1024) :
    val_main_v39 (F := Ideal) x0 x1 (ix2 r l) = tokenRow (fun b e => x0 (ix2 b e)) (fun g k e => x1 (ix3 g k e)) r l := by
  have e : val_main_v39 (F := Ideal) x0 x1 (ix2 r l)
      = modulate (fun e => x0 (ix2 r e)) (fun e => val_main_v8 (F := Ideal) x1 (ix2 r e)) (fun e => val_main_v17 (F := Ideal) x1 (ix2 r e)) l := by
    unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18
    generalize val_main_v8 (F := Ideal) x1 = u
    generalize val_main_v17 (F := Ideal) x1 = v
    pointwise [val_main_cst, val_main_cst_0, val_main_cst_1, val_main_cst_2, val_main_cst_3, val_main_cst_4]
    rfl
  rw [e]
  unfold tokenRow
  exact congrArg₂ (fun a b => modulate _ a b l) (funext (shift x1 r)) (funext (scale x1 r))

/-- Column `d` of the product of token `b`'s row. -/
def product (b : Fin 17408) (d : Fin 6944) : EReal :=
  dense (tokenRow (fun b e => x0 (ix2 b e)) (fun g k e => x1 (ix3 g k e)) b) (fun l => x2 (ix2 l d)) (x3 (ix1 d))

theorem whole (r : Fin 17408) (d : Fin 6944) : val_main_v43 (F := Ideal) x0 x1 x2 x3 (ix2 r d) = product x0 x1 x2 x3 r d := by
  have e : val_main_v43 (F := Ideal) x0 x1 x2 x3 (ix2 r d)
      = dense (fun l => val_main_v39 (F := Ideal) x0 x1 (ix2 r l)) (fun l => x2 (ix2 l d)) (x3 (ix1 d)) := by
    unfold val_main_v43 val_main_v42 val_main_v41 val_main_v40
    generalize val_main_v39 (F := Ideal) x0 x1 = h
    pointwise
    rfl
  rw [e]
  unfold product
  exact congrArg (fun h => dense h _ _) (funext (hidden x0 x1 r))

theorem first (r : Fin 17408) (j : Fin 768) :
    val_main_v47 (F := Ideal) x0 x1 x2 x3 (ix2 r j) = product x0 x1 x2 x3 r ⟨j.val, by omega⟩ := by
  rw [← whole]
  unfold val_main_v47
  generalize val_main_v43 (F := Ideal) x0 x1 x2 x3 = h
  pointwise

theorem second (r : Fin 17408) (j : Fin 1664) :
    val_main_v46 (F := Ideal) x0 x1 x2 x3 (ix2 r j)
      = if h : j.val < 1568 then product x0 x1 x2 x3 r ⟨768 + j.val, by omega⟩ else Ideal.ofBits .f32 0#32 := by
  have e : val_main_v46 (F := Ideal) x0 x1 x2 x3 (ix2 r j)
      = if h : j.val < 1568 then val_main_v43 (F := Ideal) x0 x1 x2 x3 (ix2 r ⟨768 + j.val, by omega⟩) else Ideal.ofBits .f32 0#32 := by
    unfold val_main_v46 val_main_v45 val_main_v44
    generalize val_main_v43 (F := Ideal) x0 x1 x2 x3 = h
    pointwise [val_main_cst_5]
  rw [e]
  split
  · exact whole x0 x1 x2 x3 _ _
  · rfl

theorem third (r : Fin 17408) (j : Fin 1536) :
    val_main_v49 (F := Ideal) x0 x1 x2 x3 (ix2 r j) = product x0 x1 x2 x3 r ⟨2336 + j.val, by omega⟩ := by
  rw [← whole]
  unfold val_main_v49 val_main_v48
  generalize val_main_v43 (F := Ideal) x0 x1 x2 x3 = h
  pointwise

end Cert.ReferenceInIdeal.Result

end
-- ==== Proof.In.lean ====
/-
  The projection's claims.
-/
module

public import proofs.«01_k».proof.Defs
public import proofs.«01_k».proof.Proof.InTables
public import proofs.«01_k».proof.Proof.InRef
public import proofs.«01_k».proof.Proof.Gen.KernelIn.Frame
public import proofs.«01_k».proof.Proof.Gen.ReferenceInIdeal.Run

@[expose] public section

set_option maxRecDepth 16384

noncomputable section

open Idealize.ShloMosaic Idealize.ShloMosaic.TcCoe Idealize.SL.Sem

namespace Cert.In

open Cert.Rows Cert.KernelInIdeal.Array Cert.KernelInIdeal.Tables

section
variable (X : FVec Ideal KernelInIdeal.S17408x1024 .f32) (M : FVec Ideal KernelInIdeal.S8x6x1024 .f32)
  (W : FVec Ideal KernelInIdeal.S1024x6944 .f32) (B : FVec Ideal KernelInIdeal.S6944 .f32)

/-- A column the packing keeps. -/
theorem kept (r : Fin 17408) (d : Fin 3968) (s : Fin 6944) (h : ¬ (2336 ≤ d.val ∧ d.val < 2432)) (hs : source d = s) :
    product X M (packW W) (packB B) r d = ReferenceInIdeal.Result.product X M W B r s := by
  subst hs
  unfold product ReferenceInIdeal.Result.product
  rw [packB_at, if_neg h]
  refine congrArg (fun w => dense (tokenRow (fun b e => X (ix2 b e)) (fun g k e => M (ix3 g k e)) r) w (B (ix1 (source d)))) (funext fun l => ?_)
  rw [packW_at, if_neg h]

/-- A column of zeros. -/
theorem blank (r : Fin 17408) (d : Fin 3968) (h : 2336 ≤ d.val ∧ d.val < 2432) :
    product X M (packW W) (packB B) r d = 0 := by
  unfold product dense
  rw [packB_at, if_pos h, add_zero]
  refine Finset.sum_eq_zero fun l _ => ?_
  show _ * packW W (ix2 l d) = 0
  rw [packW_at, if_pos h, mul_zero]

end

theorem frame_p : Cert.quiescent_KernelIn := fun m ρ _ => Cert.KernelIn.Gen.frame m ρ

theorem frame_pi : Cert.quiescent_KernelInIdeal := fun m ρ _ => Cert.KernelInIdeal.Gen.frame m ρ

theorem frame_ri : Cert.quiescent_ReferenceInIdeal := fun m ρ _ =>
  (θ_run Cert.ReferenceInIdeal.defs _ _).mono (fun r h => ⟨fun c => (h c).2.2.2,
    Idealize.ShloMosaic.sem_eq_zero_of_no_sems (by decide) r.2⟩) (Cert.ReferenceInIdeal.Value.run m ρ)

theorem preserves : Cert.preserves_KernelIn_KernelInIdeal := trivial

theorem algebraic : Cert.algebraic_KernelInIdeal_ReferenceInIdeal := by
  intro m ρ m' ρ' _ hagree
  refine ⟨_, _, _, Cert.KernelInIdeal.Value.run_blocks m ρ, ?_⟩
  refine (θ_run Cert.ReferenceInIdeal.defs _ _).mono (fun r h c => ⟨(h c).1.trans ?_, (h c).2.1.trans ?_, (h c).2.2.1.trans ?_, (h c).2.2.2⟩)
    (Cert.ReferenceInIdeal.Value.run m' ρ')
  · refine (Cert.ReferenceInIdeal.Read.val_main_v47_eq (F := Ideal) _ _ _ _).trans ?_
    obtain ⟨h0, h1, h2, h3⟩ := hagree c
    show Cert.ReferenceInIdeal.Read.val_main_v47 (F := Ideal) (m' ((c.tc : Thread Cert.ReferenceInIdeal.nD Cert.ReferenceInIdeal.τ).loc Cert.ReferenceInIdeal.main_arg0))
      (m' ((c.tc : Thread Cert.ReferenceInIdeal.nD Cert.ReferenceInIdeal.τ).loc Cert.ReferenceInIdeal.main_arg1))
      (m' ((c.tc : Thread Cert.ReferenceInIdeal.nD Cert.ReferenceInIdeal.τ).loc Cert.ReferenceInIdeal.main_arg2))
      (m' ((c.tc : Thread Cert.ReferenceInIdeal.nD Cert.ReferenceInIdeal.τ).loc Cert.ReferenceInIdeal.main_arg3)) = _
    rw [h0, h1, h2, h3, final4, weights, biases]
    funext y
    obtain ⟨r, j, rfl⟩ : ∃ (r : Fin 17408) (j : Fin 768), y = ix2 r j := ⟨y 0, y 1, eq_ix2 (n0 := 17408) (n1 := 768) y⟩
    refine (Cert.ReferenceInIdeal.Result.first _ _ _ _ r j).trans ?_
    unfold all4 aX aM
    rw [Cert.KernelInIdeal.Gen.V_main_arg0, Cert.KernelInIdeal.Gen.V_main_arg1]
    refine (kept _ _ _ _ r ⟨j.val, by omega⟩ _ (by dsimp only; omega) ?_).symm
    unfold source
    rw [if_pos (by dsimp only; omega)]
  · obtain ⟨h0, h1, h2, h3⟩ := hagree c
    refine (Cert.ReferenceInIdeal.Read.val_main_v46_eq (F := Ideal) _ _).trans ?_
    rw [h0, h1, h2, h3, final5, weights, biases]
    funext y
    obtain ⟨r, j, rfl⟩ : ∃ (r : Fin 17408) (j : Fin 1664), y = ix2 r j := ⟨y 0, y 1, eq_ix2 (n0 := 17408) (n1 := 1664) y⟩
    refine (Cert.ReferenceInIdeal.Result.second _ _ _ _ r j).trans ?_
    unfold all5 aX aM
    rw [Cert.KernelInIdeal.Gen.V_main_arg0, Cert.KernelInIdeal.Gen.V_main_arg1]
    split
    · refine (kept _ _ _ _ r ⟨768 + j.val, by omega⟩ _ (by dsimp only; omega) ?_).symm
      unfold source
      rw [if_pos (by dsimp only; omega)]
    · rw [show Ideal.ofBits .f32 0#32 = 0 by simp [Ideal.ofBits, Ideal.ieee]]
      exact (blank _ _ _ _ r ⟨768 + j.val, by omega⟩ (by dsimp only; omega)).symm
  · refine (Cert.ReferenceInIdeal.Read.val_main_v49_eq (F := Ideal) _ _ _ _).trans ?_
    obtain ⟨h0, h1, h2, h3⟩ := hagree c
    show Cert.ReferenceInIdeal.Read.val_main_v49 (F := Ideal) (m' ((c.tc : Thread Cert.ReferenceInIdeal.nD Cert.ReferenceInIdeal.τ).loc Cert.ReferenceInIdeal.main_arg0))
      (m' ((c.tc : Thread Cert.ReferenceInIdeal.nD Cert.ReferenceInIdeal.τ).loc Cert.ReferenceInIdeal.main_arg1))
      (m' ((c.tc : Thread Cert.ReferenceInIdeal.nD Cert.ReferenceInIdeal.τ).loc Cert.ReferenceInIdeal.main_arg2))
      (m' ((c.tc : Thread Cert.ReferenceInIdeal.nD Cert.ReferenceInIdeal.τ).loc Cert.ReferenceInIdeal.main_arg3)) = _
    rw [h0, h1, h2, h3, final6, weights, biases]
    funext y
    obtain ⟨r, j, rfl⟩ : ∃ (r : Fin 17408) (j : Fin 1536), y = ix2 r j := ⟨y 0, y 1, eq_ix2 (n0 := 17408) (n1 := 1536) y⟩
    refine (Cert.ReferenceInIdeal.Result.third _ _ _ _ r j).trans ?_
    unfold all6 aX aM
    rw [Cert.KernelInIdeal.Gen.V_main_arg0, Cert.KernelInIdeal.Gen.V_main_arg1]
    refine (kept _ _ _ _ r ⟨2432 + j.val, by omega⟩ _ (by dsimp only; omega) ?_).symm
    unfold source
    rw [if_neg (by dsimp only; omega)]
    exact Fin.ext (by dsimp only; omega)

end Cert.In

end
-- ==== Proof.MergeBlock.lean ====
/-
  The merge's block: what one grid point leaves in its first two outputs, row by row.
-/
module

public import proofs.«01_k».proof.Proof.Gen.KernelMergeIdeal.Frame
public import proofs.«01_k».proof.Proof.Gen.KernelMergeIdeal.Value
public import proofs.«01_k».proof.Proof.Rows

@[expose] public section

set_option maxRecDepth 16384

noncomputable section

open Idealize.ShloMosaic Idealize.ShloMosaic.TcCoe Idealize.SL.Sem

namespace Cert.KernelMergeIdeal.Block

open Cert.KernelMergeIdeal Cert.KernelMergeIdeal.Gen Cert.Rows

theorem hidden (x : FVec Ideal S256x1024 .f32) (sh sc : FVec Ideal S1x1x1024 .f32) (r : Fin 256) (l : Fin 1024) :
    k0_pay2 (F := Ideal) x sh sc (ix2 r l)
      = modulate (fun e => x (ix2 r e)) (fun e => sh (ix3 0 0 e)) (fun e => sc (ix3 0 0 e)) l := by
  pointwise [k0_pay2]
  rfl

theorem gate (x : FVec Ideal S256x1024 .f32) (sh sc : FVec Ideal S1x1x1024 .f32) (w : FVec Ideal S1024x1024 .bf16)
    (b : FVec Ideal S1x1024 .f32) (r : Fin 256) (j : Fin 1024) :
    k0_pay4 (F := Ideal) x sh sc w b (ix2 r j)
      = Ideal.logistic (dense (fun l => k0_pay2 (F := Ideal) x sh sc (ix2 r l)) (fun l => w (ix2 l j)) (b (ix2 0 j))) := by
  unfold k0_pay4
  generalize k0_pay2 (F := Ideal) x sh sc = h
  pointwise
  rfl

theorem branches (h : FVec Ideal S256x1024 .bf16) (g : FVec Ideal S256x1024 .f32) (oa ob oc : FVec Ideal S256x512 .bf16)
    (wa wb wc : FVec Ideal S512x1024 .bf16) (w1 w2 : FVec Ideal S1024x1024 .bf16) (b1 b2 : FVec Ideal S1x1024 .f32)
    (r : Fin 256) (j : Fin 1024) :
    k0_pay5 (F := Ideal) h (k0_pay3 (F := Ideal)) g oa wa w1 b1 ob wb w2 b2 oc wc (ix2 r j)
      = g (ix2 r j) * (∑ l, oa (ix2 r l) * wa (ix2 l j))
        + Ideal.logistic (dense (fun l => h (ix2 r l)) (fun l => w1 (ix2 l j)) (b1 (ix2 0 j))) * (∑ l, ob (ix2 r l) * wb (ix2 l j))
        + Ideal.logistic (dense (fun l => h (ix2 r l)) (fun l => w2 (ix2 l j)) (b2 (ix2 0 j))) * (∑ l, oc (ix2 r l) * wc (ix2 l j)) := by
  pointwise [k0_pay5, k0_pay3]
  rfl

theorem rejoin (x : FVec Ideal S256x1024 .f32) (y : FVec Ideal S256x1024 .bf16) (w : FVec Ideal S1024x1024 .bf16)
    (g : FVec Ideal S1x1x1024 .f32) (gain bias : FVec Ideal S1x1024 .f32) (r : Fin 256) (j : Fin 1024) :
    k0_pay6 (F := Ideal) x y w g gain bias (ix2 r j)
      = normed (residual (fun e => x (ix2 r e)) (fun e => g (ix3 0 0 e)) (fun e => y (ix2 r e)) (fun l e => w (ix2 l e)))
          (fun e => gain (ix2 0 e)) (fun e => bias (ix2 0 e)) j := by
  pointwise [k0_pay6]
  rfl

theorem again (x : FVec Ideal S256x1024 .f32) (sh sc : FVec Ideal S1x1x1024 .f32) (r : Fin 256) (j : Fin 1024) :
    k0_pay8 (F := Ideal) x (k0_pay7 (F := Ideal) sh) sc (ix2 r j)
      = modulate (fun e => x (ix2 r e)) (fun e => sh (ix3 0 0 e)) (fun e => sc (ix3 0 0 e)) j := by
  pointwise [k0_pay8, k0_pay7]
  rfl

section
variable (x1 : FVec Ideal S1x6x1024 .f32) (x5 : FVec Ideal S1024x3072 .bf16) (x6 : FVec Ideal S1x3072 .f32)

theorem ldm (k : ℕ) (hk : k < 6) (inb) (e : Fin 1024) :
    View.ld (Val := Elt Ideal) (e' := .f32) x1 (Rect.unit (s := S1x6x1024) ![0, k, 0] S1x1x1024.size inb) (ix3 0 0 e) = x1 (ix3 0 ⟨k, hk⟩ e) :=
  congrArg x1 (funext fun a => Fin.ext (match a with
    | ⟨0, _⟩ => rfl
    | ⟨1, _⟩ => by show k + 1 * 0 = k; omega
    | ⟨2, _⟩ => by show 0 + 1 * e.val = e.val; omega))

theorem ldw (o : ℕ) (inb) (l j : Fin 1024) (d : Fin 3072) (h : d.val = o + j.val) :
    View.ld (Val := Elt Ideal) (e' := .bf16) x5 (Rect.unit (s := S1024x3072) ![0, o] S1024x1024.size inb) (ix2 l j) = x5 (ix2 l d) :=
  congrArg x5 (funext fun a => Fin.ext (match a with
    | ⟨0, _⟩ => by show 0 + 1 * l.val = l.val; omega
    | ⟨1, _⟩ => by show o + 1 * j.val = d.val; omega))

theorem ldb (o : ℕ) (inb) (j : Fin 1024) (d : Fin 3072) (h : d.val = o + j.val) :
    View.ld (Val := Elt Ideal) (e' := .f32) x6 (Rect.unit (s := S1x3072) ![0, o] S1x1024.size inb) (ix2 0 j) = x6 (ix2 0 d) :=
  congrArg x6 (funext fun a => Fin.ext (match a with
    | ⟨0, _⟩ => rfl
    | ⟨1, _⟩ => by show o + 1 * j.val = d.val; omega))

theorem hz : (![0, 0] : Fin 2 → ℕ) = fun _ => 0 := funext fun a => by fin_cases a <;> rfl

end

variable (x0 : FVec Ideal S256x1024 .f32) (x1 : FVec Ideal S1x6x1024 .f32) (x2 x3 x4 : FVec Ideal S256x512 .bf16)
  (x5 : FVec Ideal S1024x3072 .bf16) (x6 : FVec Ideal S1x3072 .f32) (x7 x8 x9 : FVec Ideal S512x1024 .bf16)
  (x10 : FVec Ideal S1024x1024 .bf16) (x11 x12 : FVec Ideal S1x1024 .f32) (x13 : FVec Ideal S1024x128 .f32) (x14 : FVec Ideal S1x128 .f32)

/-- One row of the first output, from the point's blocks. -/
def cell (r : Fin 256) : Fin 1024 → EReal :=
  merged (fun e => x0 (ix2 r e)) (fun k e => x1 (ix3 0 k e)) (fun l => x2 (ix2 r l)) (fun l => x3 (ix2 r l)) (fun l => x4 (ix2 r l))
    (fun l d => x5 (ix2 l d)) (fun d => x6 (ix2 0 d)) (fun l j => x7 (ix2 l j)) (fun l j => x8 (ix2 l j)) (fun l j => x9 (ix2 l j))
    (fun l j => x10 (ix2 l j)) (fun e => x11 (ix2 0 e)) (fun e => x12 (ix2 0 e))

theorem hidden_ld (r : Fin 256) :
    (fun l => k0_pay2 (F := Ideal) x0 (View.ld (Val := Elt Ideal) (e' := .f32) x1 r0_1) (View.ld (Val := Elt Ideal) (e' := .f32) x1 r0_2) (ix2 r l))
      = modulate (fun e => x0 (ix2 r e)) (fun e => x1 (ix3 0 0 e)) (fun e => x1 (ix3 0 1 e)) := by
  funext l
  rw [hidden]
  exact congrArg₂ (fun a b => modulate _ a b l) (funext (ldm x1 0 (by omega) _)) (funext (ldm x1 1 (by omega) _))

theorem mixed (r : Fin 256) (j : Fin 1024) :
    k0_pay22 (F := Ideal) x0 x1 x2 x3 x4 x5 x6 x7 x8 x9 x10 x11 x12 x13 x14 (ix2 r j)
      = gated (modulate (fun e => x0 (ix2 r e)) (fun e => x1 (ix3 0 0 e)) (fun e => x1 (ix3 0 1 e)))
          (fun l => x2 (ix2 r l)) (fun l => x3 (ix2 r l)) (fun l => x4 (ix2 r l))
          (fun l d => x5 (ix2 l d)) (fun d => x6 (ix2 0 d)) (fun l j => x7 (ix2 l j)) (fun l j => x8 (ix2 l j)) (fun l j => x9 (ix2 l j)) j := by
  unfold k0_pay22
  rw [branches, gate, View.ld_unit_zero (S := S256x1024) hz, View.ld_unit_zero (S := S256x512) hz, View.ld_unit_zero (S := S256x512) hz,
    View.ld_unit_zero (S := S256x512) hz, View.ld_unit_zero (S := S512x1024) hz, View.ld_unit_zero (S := S512x1024) hz,
    View.ld_unit_zero (S := S512x1024) hz, hidden_ld]
  unfold gated
  refine congrArg₂ (· + ·) (congrArg₂ (· + ·) ?_ ?_) ?_
  · exact congrArg₂ (fun w b => Ideal.logistic (dense _ w b) * _) (funext fun l => ldw x5 0 _ l j _ (by dsimp only; omega)) (ldb x6 0 _ j _ (by dsimp only; omega))
  · exact congrArg₂ (fun w b => Ideal.logistic (dense _ w b) * _) (funext fun l => ldw x5 1024 _ l j _ rfl) (ldb x6 1024 _ j _ rfl)
  · exact congrArg₂ (fun w b => Ideal.logistic (dense _ w b) * _) (funext fun l => ldw x5 2048 _ l j _ rfl) (ldb x6 2048 _ j _ rfl)

theorem joined (r : Fin 256) (j : Fin 1024) :
    k0_pay23 (F := Ideal) x0 x1 x2 x3 x4 x5 x6 x7 x8 x9 x10 x11 x12 x13 x14 (ix2 r j)
      = cell x0 x1 x2 x3 x4 x5 x6 x7 x8 x9 x10 x11 x12 r j := by
  unfold k0_pay23
  rw [rejoin, View.ld_unit_zero (S := S256x1024) hz, View.ld_unit_zero (S := S1024x1024) hz, View.ld_unit_zero (S := S1x1024) hz,
    View.ld_unit_zero (S := S1x1024) hz]
  unfold cell merged
  exact congrArg₂ (fun g y => normed (residual _ g y _) _ _ j) (funext (ldm x1 2 (by omega) _))
    (funext (mixed x0 x1 x2 x3 x4 x5 x6 x7 x8 x9 x10 x11 x12 x13 x14 r))

theorem out15 (r : Fin 256) (j : Fin 1024) :
    out0_15 (F := Ideal) x0 x1 x2 x3 x4 x5 x6 x7 x8 x9 x10 x11 x12 x13 x14 (ix2 r j)
      = cell x0 x1 x2 x3 x4 x5 x6 x7 x8 x9 x10 x11 x12 r j := by
  unfold out0_15
  rw [View.canon_unit_zero (S := S256x1024) hz]
  exact joined x0 x1 x2 x3 x4 x5 x6 x7 x8 x9 x10 x11 x12 x13 x14 r j

theorem out16 (r : Fin 256) (j : Fin 1024) :
    out0_16 (F := Ideal) x0 x1 x2 x3 x4 x5 x6 x7 x8 x9 x10 x11 x12 x13 x14 (ix2 r j)
      = modulate (cell x0 x1 x2 x3 x4 x5 x6 x7 x8 x9 x10 x11 x12 r) (fun e => x1 (ix3 0 3 e)) (fun e => x1 (ix3 0 4 e)) j := by
  unfold out0_16 k0_pay24
  rw [View.canon_unit_zero (S := S256x1024) hz, again,
    show (fun e => k0_pay23 (F := Ideal) x0 x1 x2 x3 x4 x5 x6 x7 x8 x9 x10 x11 x12 x13 x14 (ix2 r e)) = cell x0 x1 x2 x3 x4 x5 x6 x7 x8 x9 x10 x11 x12 r from
      funext (joined x0 x1 x2 x3 x4 x5 x6 x7 x8 x9 x10 x11 x12 x13 x14 r)]
  exact congrArg₂ (fun a b => modulate _ a b j) (funext (ldm x1 3 (by omega) _)) (funext (ldm x1 4 (by omega) _))

end Cert.KernelMergeIdeal.Block

end
-- ==== Proof.MergeArray.lean ====
/-
  The arrays the merge leaves: every row as the merged row of its token.
-/
module

public import proofs.«01_k».proof.Proof.MergeBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMergeIdeal.Array

open Cert.KernelMergeIdeal Cert.KernelMergeIdeal.Gen Cert.KernelMergeIdeal.Block Cert.Rows

section
variable (X : FVec Ideal S17408x1024 .f32) (M : FVec Ideal S8x6x1024 .f32) (OA OB OC : FVec Ideal S17408x512 .bf16)
  (WG : FVec Ideal S1024x3072 .bf16) (BG : FVec Ideal S1x3072 .f32) (WA WB WC : FVec Ideal S512x1024 .bf16)
  (WO : FVec Ideal S1024x1024 .bf16) (LG LB : FVec Ideal S1x1024 .f32)

/-- Token `b`'s merged row. -/
def row (b : Fin 17408) : Fin 1024 → EReal :=
  merged (fun e => X (ix2 b e)) (fun k e => M (ix3 (group b) k e)) (fun l => OA (ix2 b l)) (fun l => OB (ix2 b l)) (fun l => OC (ix2 b l))
    (fun l d => WG (ix2 l d)) (fun d => BG (ix2 0 d)) (fun l j => WA (ix2 l j)) (fun l j => WB (ix2 l j)) (fun l j => WC (ix2 l j))
    (fun l j => WO (ix2 l j)) (fun e => LG (ix2 0 e)) (fun e => LB (ix2 0 e))

def all15 : FVec Ideal S17408x1024 .f32 := fun y => row X M OA OB OC WG BG WA WB WC WO LG LB (y 0) (y 1)
def all16 : FVec Ideal S17408x1024 .bf16 := fun y =>
  modulate (row X M OA OB OC WG BG WA WB WC WO LG LB (y 0)) (fun e => M (ix3 (group (y 0)) 3 e)) (fun e => M (ix3 (group (y 0)) 4 e)) (y 1)

end

/-- Every window's block at every grid point. -/
theorem idx : ∀ t : Fin cfg0.N, win0_0.index t = ![t.val, 0]
    ∧ win0_1.index t = ![t.val / 17 * 2 + min (t.val % 17) 1, 0, 0]
    ∧ win0_2.index t = ![t.val, 0] ∧ win0_3.index t = ![t.val, 0] ∧ win0_4.index t = ![t.val, 0]
    ∧ win0_15.index t = ![t.val, 0] ∧ win0_16.index t = ![t.val, 0] :=
  (by decide +kernel : ∀ t : Fin grid0.N, _)

/-- The windows that hold a whole array. -/
theorem fixed : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, _)

variable (m : (ℓ : Loc nD τ sig) → Buf (Elt Ideal) ℓ) (c : Dev nD)

abbrev a0 : FVec Ideal S17408x1024 .f32 := V m c main_arg0
abbrev a1 : FVec Ideal S8x6x1024 .f32 := V m c main_arg1
abbrev a2 : FVec Ideal S17408x512 .bf16 := V m c main_arg2
abbrev a3 : FVec Ideal S17408x512 .bf16 := V m c main_arg3
abbrev a4 : FVec Ideal S17408x512 .bf16 := V m c main_arg4
abbrev a5 : FVec Ideal S1024x3072 .bf16 := V m c main_v13
abbrev a6 : FVec Ideal S1x3072 .f32 := V m c main_v15
abbrev a7 : FVec Ideal S512x1024 .bf16 := V m c main_v21
abbrev a8 : FVec Ideal S512x1024 .bf16 := V m c main_v22
abbrev a9 : FVec Ideal S512x1024 .bf16 := V m c main_v23
abbrev a10 : FVec Ideal S1024x1024 .bf16 := V m c main_v24
abbrev a11 : FVec Ideal S1x1024 .f32 := V m c main_v25
abbrev a12 : FVec Ideal S1x1024 .f32 := V m c main_v26

theorem lt68 (t : Fin cfg0.N) : t.val < 68 := lt_of_lt_of_eq t.isLt (show cfg0.N = 68 from N_0)

theorem blk0 (t : Fin cfg0.N) (r : Fin 256) (l : Fin 1024) (b : Fin 17408) (hb : b.val = t.val * 256 + r.val) :
    (show FVec Ideal S256x1024 .f32 from iblk m c 0 t) (ix2 r l) = a0 m c (ix2 b l) := by
  obtain ⟨e0, -⟩ := idx t
  blk_ext [iblk, e0]

theorem blk1 (t : Fin cfg0.N) (k : Fin 6) (l : Fin 1024) (g : Fin 8) (hg : g.val = t.val / 17 * 2 + min (t.val % 17) 1) :
    (show FVec Ideal S1x6x1024 .f32 from iblk m c 1 t) (ix3 0 k l) = a1 m c (ix3 g k l) := by
  obtain ⟨-, e1, -⟩ := idx t
  blk_ext [iblk, e1]

theorem blk2 (t : Fin cfg0.N) (r : Fin 256) (l : Fin 512) (b : Fin 17408) (hb : b.val = t.val * 256 + r.val) :
    (show FVec Ideal S256x512 .bf16 from iblk m c 2 t) (ix2 r l) = a2 m c (ix2 b l) := by
  obtain ⟨-, -, e, -⟩ := idx t
  blk_ext [iblk, e]

theorem blk3 (t : Fin cfg0.N) (r : Fin 256) (l : Fin 512) (b : Fin 17408) (hb : b.val = t.val * 256 + r.val) :
    (show FVec Ideal S256x512 .bf16 from iblk m c 3 t) (ix2 r l) = a3 m c (ix2 b l) := by
  obtain ⟨-, -, -, e, -⟩ := idx t
  blk_ext [iblk, e]

theorem blk4 (t : Fin cfg0.N) (r : Fin 256) (l : Fin 512) (b : Fin 17408) (hb : b.val = t.val * 256 + r.val) :
    (show FVec Ideal S256x512 .bf16 from iblk m c 4 t) (ix2 r l) = a4 m c (ix2 b l) := by
  obtain ⟨-, -, -, -, e, -⟩ := idx t
  blk_ext [iblk, e]

theorem blk5 (t : Fin cfg0.N) : (iblk m c 5 t) = a5 m c := by
  obtain ⟨e, -⟩ := fixed t
  funext y
  blk_ext [iblk, e]

theorem blk6 (t : Fin cfg0.N) : (iblk m c 6 t) = a6 m c := by
  obtain ⟨-, e, -⟩ := fixed t
  funext y
  blk_ext [iblk, e]

theorem blk7 (t : Fin cfg0.N) : (iblk m c 7 t) = a7 m c := by
  obtain ⟨-, -, e, -⟩ := fixed t
  funext y
  blk_ext [iblk, e]

theorem blk8 (t : Fin cfg0.N) : (iblk m c 8 t) = a8 m c := by
  obtain ⟨-, -, -, e, -⟩ := fixed t
  funext y
  blk_ext [iblk, e]

theorem blk9 (t : Fin cfg0.N) : (iblk m c 9 t) = a9 m c := by
  obtain ⟨-, -, -, -, e, -⟩ := fixed t
  funext y
  blk_ext [iblk, e]

theorem blk10 (t : Fin cfg0.N) : (iblk m c 10 t) = a10 m c := by
  obtain ⟨-, -, -, -, -, e, -⟩ := fixed t
  funext y
  blk_ext [iblk, e]

theorem blk11 (t : Fin cfg0.N) : (iblk m c 11 t) = a11 m c := by
  obtain ⟨-, -, -, -, -, -, e, -⟩ := fixed t
  funext y
  blk_ext [iblk, e]

theorem blk12 (t : Fin cfg0.N) : (iblk m c 12 t) = a12 m c := by
  obtain ⟨-, -, -, -, -, -, -, e⟩ := fixed t
  funext y
  blk_ext [iblk, e]

theorem group_eq (t : Fin cfg0.N) (r : Fin 256) (b : Fin 17408) (hb : b.val = t.val * 256 + r.val) :
    (group b).val = t.val / 17 * 2 + min (t.val % 17) 1 := by
  have ht := lt68 t
  have hr := r.isLt
  show b.val / 4352 * 2 + min (b.val % 4352 / 256) 1 = _
  omega

theorem mods (t : Fin cfg0.N) (r : Fin 256) (b : Fin 17408) (hb : b.val = t.val * 256 + r.val) (k : Fin 6) :
    (fun e => (show FVec Ideal S1x6x1024 .f32 from iblk m c 1 t) (ix3 0 k e)) = (fun e => a1 m c (ix3 (group b) k e)) :=
  funext fun l => blk1 m c t k l _ (group_eq t r b hb)

/-- A point's row, at its token. -/
theorem point (t : Fin cfg0.N) (r : Fin 256) (b : Fin 17408) (hb : b.val = t.val * 256 + r.val) :
    cell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
      = row (a0 m c) (a1 m c) (a2 m c) (a3 m c) (a4 m c) (a5 m c) (a6 m c) (a7 m c) (a8 m c) (a9 m c) (a10 m c) (a11 m c) (a12 m c) b := by
  unfold cell row
  rw [blk5, blk6, blk7, blk8, blk9, blk10, blk11, blk12,
    show (fun e => (show FVec Ideal S256x1024 .f32 from iblk m c 0 t) (ix2 r e)) = (fun e => a0 m c (ix2 b e)) from
      funext fun l => blk0 m c t r l b hb,
    show (fun k e => (show FVec Ideal S1x6x1024 .f32 from iblk m c 1 t) (ix3 0 k e)) = (fun k e => a1 m c (ix3 (group b) k e)) from
      funext fun k => mods m c t r b hb k,
    show (fun e => (show FVec Ideal S256x512 .bf16 from iblk m c 2 t) (ix2 r e)) = (fun e => a2 m c (ix2 b e)) from
      funext fun l => blk2 m c t r l b hb,
    show (fun e => (show FVec Ideal S256x512 .bf16 from iblk m c 3 t) (ix2 r e)) = (fun e => a3 m c (ix2 b e)) from
      funext fun l => blk3 m c t r l b hb,
    show (fun e => (show FVec Ideal S256x512 .bf16 from iblk m c 4 t) (ix2 r e)) = (fun e => a4 m c (ix2 b e)) from
      funext fun l => blk4 m c t r l b hb]

theorem placed15 (t : Fin cfg0.N) (r : Fin 256) (j : Fin 1024) (z : S17408x1024.Idx)
    (h0 : (z 0).val = t.val * 256 + r.val) (h1 : (z 1).val = j.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j)
      = all15 (a0 m c) (a1 m c) (a2 m c) (a3 m c) (a4 m c) (a5 m c) (a6 m c) (a7 m c) (a8 m c) (a9 m c) (a10 m c) (a11 m c) (a12 m c) z := by
  refine (out15 _ _ _ _ _ _ _ _ _ _ _ _ _ _ _ r j).trans ?_
  rw [point m c t r (z 0) h0, show j = z 1 from Fin.ext h1.symm]
  rfl

theorem placed16 (t : Fin cfg0.N) (r : Fin 256) (j : Fin 1024) (z : S17408x1024.Idx)
    (h0 : (z 0).val = t.val * 256 + r.val) (h1 : (z 1).val = j.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j)
      = all16 (a0 m c) (a1 m c) (a2 m c) (a3 m c) (a4 m c) (a5 m c) (a6 m c) (a7 m c) (a8 m c) (a9 m c) (a10 m c) (a11 m c) (a12 m c) z := by
  refine (out16 _ _ _ _ _ _ _ _ _ _ _ _ _ _ _ r j).trans ?_
  rw [point m c t r (z 0) h0, show j = z 1 from Fin.ext h1.symm]
  have e3 : (fun e => (show FVec Ideal S1x6x1024 .f32 from iblk m c 1 t) (ix3 0 3 e)) = (fun e => a1 m c (ix3 (group (z 0)) 3 e)) :=
    mods m c t r (z 0) h0 3
  have e4 : (fun e => (show FVec Ideal S1x6x1024 .f32 from iblk m c 1 t) (ix3 0 4 e)) = (fun e => a1 m c (ix3 (group (z 0)) 4 e)) :=
    mods m c t r (z 0) h0 4
  rw [e3, e4]
  rfl

theorem final15 : (dats m 0 c).arrAt 15 cfg0.N = all15 (a0 m c) (a1 m c) (a2 m c) (a3 m c) (a4 m c) (a5 m c) (a6 m c) (a7 m c) (a8 m c) (a9 m c) (a10 m c) (a11 m c) (a12 m c) := by
  refine (dats m 0 c).arrAt_eq_of_covers 15 _ (by decide +kernel) fun t _ y => ?_
  obtain ⟨-, -, -, -, -, e, -⟩ := idx t
  blk_simp
  rw [after0_15]
  obtain ⟨r, j, rfl⟩ : ∃ (r : Fin 256) (j : Fin 1024), y = (ix2 r j : S256x1024.Idx) := ⟨y 0, y 1, eq_ix2 (n0 := 256) (n1 := 1024) y⟩
  have h0 : ((win0_15.blk t).view.emb (ix2 r j : S256x1024.Idx) 0).val = t.val * 256 + r.val := by
    blk_simp [e]
  have h1 : ((win0_15.blk t).view.emb (ix2 r j : S256x1024.Idx) 1).val = j.val := by
    blk_simp [e]
  exact placed15 m c t r j _ h0 h1

theorem final16 : (dats m 0 c).arrAt 16 cfg0.N = all16 (a0 m c) (a1 m c) (a2 m c) (a3 m c) (a4 m c) (a5 m c) (a6 m c) (a7 m c) (a8 m c) (a9 m c) (a10 m c) (a11 m c) (a12 m c) := by
  refine (dats m 0 c).arrAt_eq_of_covers 16 _ (by decide +kernel) fun t _ y => ?_
  obtain ⟨-, -, -, -, -, -, e⟩ := idx t
  blk_simp
  rw [after0_16]
  obtain ⟨r, j, rfl⟩ : ∃ (r : Fin 256) (j : Fin 1024), y = (ix2 r j : S256x1024.Idx) := ⟨y 0, y 1, eq_ix2 (n0 := 256) (n1 := 1024) y⟩
  have h0 : ((win0_16.blk t).view.emb (ix2 r j : S256x1024.Idx) 0).val = t.val * 256 + r.val := by
    blk_simp [e]
  have h1 : ((win0_16.blk t).view.emb (ix2 r j : S256x1024.Idx) 1).val = j.val := by
    blk_simp [e]
  exact placed16 m c t r j _ h0 h1

end Cert.KernelMergeIdeal.Array

end
-- ==== Proof.MergeTables.lean ====
/-
  What the merge's prepared weights hold.
-/
module

public import proofs.«01_k».proof.Proof.MergeArray
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.KernelMergeIdeal.Tables

open Cert.KernelMergeIdeal Cert.KernelMergeIdeal.Gen Cert.KernelMergeIdeal.Array Cert.Rows

/-- The gates' columns of the weights. -/
def packG (w : FVec Ideal S1024x6944 .f32) : FVec Ideal S1024x3072 .bf16 :=
  truncf .bf16 (extractStridedSlice S1024x3072 ![0, 3872] w slices_S1024x6944_S1024x3072_0_3872) bitsLt_bf16_f32

/-- The gates' biases. -/
def packH (w : FVec Ideal S6944 .f32) : FVec Ideal S1x3072 .f32 :=
  shapeCast S1x3072 (extractStridedSlice S3072 ![3872] w slices_S6944_S3072_3872) shapeCasts_S3072_S1x3072

/-- A branch's matrix. -/
def packM (w : FVec Ideal S512x1024 .f32) : FVec Ideal S512x1024 .bf16 := truncf .bf16 w bitsLt_bf16_f32

/-- The output matrix. -/
def packO (w : FVec Ideal S1024x1024 .f32) : FVec Ideal S1024x1024 .bf16 := truncf .bf16 w bitsLt_bf16_f32

/-- A vector as one row. -/
def packV (w : FVec Ideal S1024 .f32) : FVec Ideal S1x1024 .f32 := shapeCast S1x1024 w shapeCasts_S1024_S1x1024

theorem packG_at (w : FVec Ideal S1024x6944 .f32) (l : Fin 1024) (d : Fin 3072) :
    packG w (ix2 l d) = w (ix2 l ⟨3872 + d.val, by omega⟩) := by
  pointwise [packG]

theorem packH_at (w : FVec Ideal S6944 .f32) (d : Fin 3072) : packH w (ix2 0 d) = w (ix1 ⟨3872 + d.val, by omega⟩) := by
  pointwise [packH]

theorem packM_at (w : FVec Ideal S512x1024 .f32) (l : Fin 512) (d : Fin 1024) : packM w (ix2 l d) = w (ix2 l d) := by
  pointwise [packM]

theorem packO_at (w : FVec Ideal S1024x1024 .f32) (l d : Fin 1024) : packO w (ix2 l d) = w (ix2 l d) := by
  pointwise [packO]

theorem packV_at (w : FVec Ideal S1024 .f32) (d : Fin 1024) : packV w (ix2 0 d) = w (ix1 d) := by
  pointwise [packV]

variable (m : (ℓ : Loc nD τ sig) → Buf (Elt Ideal) ℓ) (c : Dev nD)

theorem held5 : a5 m c = packG (m ((c : Thread nD τ).loc main_arg5)) := by
  show StableHlo.after hostOps0 (fun b => m (c, b)) (Proc.devRef .tc main_v13) = _
  generalize hr : packG _ = r
  after_reads_simp
  exact hr

theorem held6 : a6 m c = packH (m ((c : Thread nD τ).loc main_arg6)) := by
  show StableHlo.after hostOps0 (fun b => m (c, b)) (Proc.devRef .tc main_v15) = _
  generalize hr : packH _ = r
  after_reads_simp
  exact hr

theorem held7 : a7 m c = packM (m ((c : Thread nD τ).loc main_arg7)) := by
  show StableHlo.after hostOps0 (fun b => m (c, b)) (Proc.devRef .tc main_v21) = _
  generalize hr : packM _ = r
  after_reads_simp
  exact hr

theorem held8 : a8 m c = packM (m ((c : Thread nD τ).loc main_arg8)) := by
  show StableHlo.after hostOps0 (fun b => m (c, b)) (Proc.devRef .tc main_v22) = _
  generalize hr : packM _ = r
  after_reads_simp
  exact hr

theorem held9 : a9 m c = packM (m ((c : Thread nD τ).loc main_arg9)) := by
  show StableHlo.after hostOps0 (fun b => m (c, b)) (Proc.devRef .tc main_v23) = _
  generalize hr : packM _ = r
  after_reads_simp
  exact hr

theorem held10 : a10 m c = packO (m ((c : Thread nD τ).loc main_arg10)) := by
  show StableHlo.after hostOps0 (fun b => m (c, b)) (Proc.devRef .tc main_v24) = _
  generalize hr : packO _ = r
  after_reads_simp
  exact hr

theorem held11 : a11 m c = packV (m ((c : Thread nD τ).loc main_arg11)) := by
  show StableHlo.after hostOps0 (fun b => m (c, b)) (Proc.devRef .tc main_v25) = _
  generalize hr : packV _ = r
  after_reads_simp
  exact hr

theorem held12 : a12 m c = packV (m ((c : Thread nD τ).loc main_arg12)) := by
  show StableHlo.after hostOps0 (fun b => m (c, b)) (Proc.devRef .tc main_v26) = _
  generalize hr : packV _ = r
  after_reads_simp
  exact hr

end Cert.KernelMergeIdeal.Tables

end
-- ==== Proof.MergeRef.lean ====
/-
  The merge's reference, element by element, in plain formulas.
-/
module

public import proofs.«01_k».proof.Proof.Gen.ReferenceMergeIdeal.Read
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.ReferenceMergeIdeal.Result

open Cert.ReferenceMergeIdeal Cert.ReferenceMergeIdeal.Read Cert.Rows

variable (x0 : FVec Ideal S17408x1024 .f32) (x1 : FVec Ideal S8x6x1024 .f32) (x2 x3 x4 : FVec Ideal S17408x512 .bf16)
  (x5 : FVec Ideal S1024x6944 .f32) (x6 : FVec Ideal S6944 .f32) (x7 x8 x9 : FVec Ideal S512x1024 .f32)
  (x10 : FVec Ideal S1024x1024 .f32) (x11 x12 : FVec Ideal S1024 .f32)

theorem at_group (k : Fin 6) (e : Fin 1024) (r : Fin 17408) (g : Fin 8)
    (h : g.val = r.val / 4352 * 2 + min (r.val % 4352 / 256) 1) : x1 (ix3 g k e) = x1 (ix3 (group r) k e) := by
  rw [show g = group r from Fin.ext h]

theorem shift (r : Fin 17408) (e : Fin 1024) : val_main_v8 (F := Ideal) x1 (ix2 r e) = x1 (ix3 (group r) 0 e) := by
  pointwise [val_main_v8, val_main_v7, val_main_v6, val_main_v5, val_main_v4, val_main_v3, val_main_v2, val_main_v1, val_main_v0]
  split
  · exact at_group x1 0 e r _ (by dsimp only; omega)
  · exact at_group x1 0 e r _ (by dsimp only; omega)

theorem scale (r : Fin 17408) (e : Fin 1024) : val_main_v17 (F := Ideal) x1 (ix2 r e) = x1 (ix3 (group r) 1 e) := by
  pointwise [val_main_v17, val_main_v16, val_main_v15, val_main_v14, val_main_v13, val_main_v12, val_main_v11, val_main_v10, val_main_v9]
  split
  · exact at_group x1 1 e r _ (by dsimp only; omega)
  · exact at_group x1 1 e r _ (by dsimp only; omega)

theorem gate (r : Fin 17408) (e : Fin 1024) : val_main_v80 (F := Ideal) x1 (ix2 r e) = x1 (ix3 (group r) 2 e) := by
  pointwise [val_main_v80, val_main_v79, val_main_v78, val_main_v77, val_main_v76, val_main_v75, val_main_v74, val_main_v73, val_main_v72]
  split
  · exact at_group x1 2 e r _ (by dsimp only; omega)
  · exact at_group x1 2 e r _ (by dsimp only; omega)

theorem shift_again (r : Fin 17408) (e : Fin 1024) : val_main_v116 (F := Ideal) x1 (ix2 r e) = x1 (ix3 (group r) 3 e) := by
  pointwise [val_main_v116, val_main_v115, val_main_v114, val_main_v113, val_main_v112, val_main_v111, val_main_v110, val_main_v109, val_main_v108]
  split
  · exact at_group x1 3 e r _ (by dsimp only; omega)
  · exact at_group x1 3 e r _ (by dsimp only; omega)

theorem scale_again (r : Fin 17408) (e : Fin 1024) : val_main_v125 (F := Ideal) x1 (ix2 r e) = x1 (ix3 (group r) 4 e) := by
  pointwise [val_main_v125, val_main_v124, val_main_v123, val_main_v122, val_main_v121, val_main_v120, val_main_v119, val_main_v118, val_main_v117]
  split
  · exact at_group x1 4 e r _ (by dsimp only; omega)
  · exact at_group x1 4 e r _ (by dsimp only; omega)

theorem hidden (r : Fin 17408) (l : Fin 1024) :
    val_main_v39 (F := Ideal) x0 x1 (ix2 r l) = tokenRow (fun b e => x0 (ix2 b e)) (fun g k e => x1 (ix3 g k e)) r l := by
  have e : val_main_v39 (F := Ideal) x0 x1 (ix2 r l)
      = modulate (fun e => x0 (ix2 r e)) (fun e => val_main_v8 (F := Ideal) x1 (ix2 r e)) (fun e => val_main_v17 (F := Ideal) x1 (ix2 r e)) l := by
    unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18
    generalize val_main_v8 (F := Ideal) x1 = u
    generalize val_main_v17 (F := Ideal) x1 = v
    pointwise [val_main_cst, val_main_cst_0, val_main_cst_1, val_main_cst_2, val_main_cst_3, val_main_cst_4]
    rfl
  rw [e]
  unfold tokenRow
  exact congrArg₂ (fun a b => modulate _ a b l) (funext (shift x1 r)) (funext (scale x1 r))

theorem gates (r : Fin 17408) (k : Fin 3) (j : Fin 1024) :
    val_main_v52 (F := Ideal) x0 x1 x5 x6 (ix3 r k j)
      = Ideal.logistic (dense (tokenRow (fun b e => x0 (ix2 b e)) (fun g k e => x1 (ix3 g k e)) r)
          (fun l => x5 (ix2 l ⟨3872 + (k.val * 1024 + j.val), by omega⟩)) (x6 (ix1 ⟨3872 + (k.val * 1024 + j.val), by omega⟩))) := by
  have e : val_main_v45 (F := Ideal) x0 x1 x5 x6 (ix2 r ⟨k.val * 1024 + j.val, by omega⟩)
      = dense (fun l => val_main_v39 (F := Ideal) x0 x1 (ix2 r l))
          (fun l => x5 (ix2 l ⟨3872 + (k.val * 1024 + j.val), by omega⟩)) (x6 (ix1 ⟨3872 + (k.val * 1024 + j.val), by omega⟩)) := by
    unfold val_main_v45 val_main_v44 val_main_v43 val_main_v42 val_main_v41 val_main_v40
    generalize val_main_v39 (F := Ideal) x0 x1 = h
    pointwise
    rfl
  rw [← show _ = tokenRow (fun b e => x0 (ix2 b e)) (fun g k e => x1 (ix3 g k e)) r from funext (hidden x0 x1 r), ← e]
  unfold val_main_v52 val_main_v51 val_main_v50 val_main_v49 val_main_v48 val_main_v47 val_main_v46
  generalize val_main_v45 (F := Ideal) x0 x1 x5 x6 = h
  pointwise [val_main_cst_5, val_main_cst_6]
  rfl

theorem mixed (r : Fin 17408) (j : Fin 1024) :
    val_main_v69 (F := Ideal) x0 x1 x2 x3 x4 x5 x6 x7 x8 x9 (ix2 r j)
      = gated (tokenRow (fun b e => x0 (ix2 b e)) (fun g k e => x1 (ix3 g k e)) r)
          (fun l => x2 (ix2 r l)) (fun l => x3 (ix2 r l)) (fun l => x4 (ix2 r l))
          (fun l d => x5 (ix2 l ⟨3872 + d.val, by omega⟩)) (fun d => x6 (ix1 ⟨3872 + d.val, by omega⟩))
          (fun l j => x7 (ix2 l j)) (fun l j => x8 (ix2 l j)) (fun l j => x9 (ix2 l j)) j := by
  have e : val_main_v69 (F := Ideal) x0 x1 x2 x3 x4 x5 x6 x7 x8 x9 (ix2 r j)
      = val_main_v52 (F := Ideal) x0 x1 x5 x6 (ix3 r 0 j) * (∑ l, x2 (ix2 r l) * x7 (ix2 l j))
        + val_main_v52 (F := Ideal) x0 x1 x5 x6 (ix3 r 1 j) * (∑ l, x3 (ix2 r l) * x8 (ix2 l j))
        + val_main_v52 (F := Ideal) x0 x1 x5 x6 (ix3 r 2 j) * (∑ l, x4 (ix2 r l) * x9 (ix2 l j)) := by
    unfold val_main_v69 val_main_v68 val_main_v67 val_main_v66 val_main_v65 val_main_v64 val_main_v63 val_main_v62 val_main_v61 val_main_v60 val_main_v59 val_main_v58 val_main_v57 val_main_v56 val_main_v55 val_main_v54 val_main_v53
    generalize val_main_v52 (F := Ideal) x0 x1 x5 x6 = h
    pointwise
  rw [e, gates, gates, gates]
  unfold gated
  simp only [Fin.val_zero, Fin.val_one, Fin.val_two, zero_mul, zero_add, one_mul]

theorem joined (r : Fin 17408) (j : Fin 1024) :
    val_main_v83 (F := Ideal) x0 x1 x2 x3 x4 x5 x6 x7 x8 x9 x10 (ix2 r j)
      = residual (fun e => x0 (ix2 r e)) (fun e => x1 (ix3 (group r) 2 e))
          (fun e => val_main_v69 (F := Ideal) x0 x1 x2 x3 x4 x5 x6 x7 x8 x9 (ix2 r e)) (fun l e => x10 (ix2 l e)) j := by
  have e : val_main_v83 (F := Ideal) x0 x1 x2 x3 x4 x5 x6 x7 x8 x9 x10 (ix2 r j)
      = residual (fun e => x0 (ix2 r e)) (fun e => val_main_v80 (F := Ideal) x1 (ix2 r e))
          (fun e => val_main_v69 (F := Ideal) x0 x1 x2 x3 x4 x5 x6 x7 x8 x9 (ix2 r e)) (fun l e => x10 (ix2 l e)) j := by
    unfold val_main_v83 val_main_v82 val_main_v81 val_main_v71 val_main_v70
    generalize val_main_v69 (F := Ideal) x0 x1 x2 x3 x4 x5 x6 x7 x8 x9 = h
    generalize val_main_v80 (F := Ideal) x1 = g
    pointwise [val_main_cst_7]
    rfl
  rw [e]
  exact congrArg (fun g => residual _ g _ _ j) (funext (gate x1 r))

/-- Token `b`'s merged row. -/
def row (b : Fin 17408) : Fin 1024 → EReal :=
  merged (fun e => x0 (ix2 b e)) (fun k e => x1 (ix3 (group b) k e)) (fun l => x2 (ix2 b l)) (fun l => x3 (ix2 b l)) (fun l => x4 (ix2 b l))
    (fun l d => x5 (ix2 l ⟨3872 + d.val, by omega⟩)) (fun d => x6 (ix1 ⟨3872 + d.val, by omega⟩)) (fun l j => x7 (ix2 l j)) (fun l j => x8 (ix2 l j))
    (fun l j => x9 (ix2 l j)) (fun l j => x10 (ix2 l j)) (fun e => x11 (ix1 e)) (fun e => x12 (ix1 e))

theorem first (r : Fin 17408) (j : Fin 1024) :
    val_main_v107 (F := Ideal) x0 x1 x2 x3 x4 x5 x6 x7 x8 x9 x10 x11 x12 (ix2 r j) = row x0 x1 x2 x3 x4 x5 x6 x7 x8 x9 x10 x11 x12 r j := by
  have e : val_main_v107 (F := Ideal) x0 x1 x2 x3 x4 x5 x6 x7 x8 x9 x10 x11 x12 (ix2 r j)
      = normed (fun e => val_main_v83 (F := Ideal) x0 x1 x2 x3 x4 x5 x6 x7 x8 x9 x10 (ix2 r e)) (fun e => x11 (ix1 e)) (fun e => x12 (ix1 e)) j := by
    unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84
    generalize val_main_v83 (F := Ideal) x0 x1 x2 x3 x4 x5 x6 x7 x8 x9 x10 = h
    pointwise [val_main_cst_8, val_main_cst_9, val_main_cst_10, val_main_cst_11, val_main_cst_12]
    rfl
  rw [e]
  unfold row merged
  refine congrArg (fun u => normed u _ _ j) (funext fun d => (joined x0 x1 x2 x3 x4 x5 x6 x7 x8 x9 x10 r d).trans ?_)
  exact congrArg (fun y => residual _ _ y _ d) (funext (mixed x0 x1 x2 x3 x4 x5 x6 x7 x8 x9 r))

theorem second (r : Fin 17408) (j : Fin 1024) :
    val_main_v147 (F := Ideal) x0 x1 x2 x3 x4 x5 x6 x7 x8 x9 x10 x11 x12 (ix2 r j)
      = modulate (row x0 x1 x2 x3 x4 x5 x6 x7 x8 x9 x10 x11 x12 r) (fun e => x1 (ix3 (group r) 3 e)) (fun e => x1 (ix3 (group r) 4 e)) j := by
  have e : val_main_v147 (F := Ideal) x0 x1 x2 x3 x4 x5 x6 x7 x8 x9 x10 x11 x12 (ix2 r j)
      = modulate (fun e => val_main_v107 (F := Ideal) x0 x1 x2 x3 x4 x5 x6 x7 x8 x9 x10 x11 x12 (ix2 r e)) (fun e => val_main_v116 (F := Ideal) x1 (ix2 r e))
          (fun e => val_main_v125 (F := Ideal) x1 (ix2 r e)) j := by
    unfold val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126
    generalize val_main_v107 (F := Ideal) x0 x1 x2 x3 x4 x5 x6 x7 x8 x9 x10 x11 x12 = h
    generalize val_main_v116 (F := Ideal) x1 = u
    generalize val_main_v125 (F := Ideal) x1 = v
    pointwise [val_main_cst_13, val_main_cst_14, val_main_cst_15, val_main_cst_16, val_main_cst_17, val_main_cst_18]
    rfl
  rw [e, show (fun e => val_main_v107 (F := Ideal) x0 x1 x2 x3 x4 x5 x6 x7 x8 x9 x10 x11 x12 (ix2 r e)) = row x0 x1 x2 x3 x4 x5 x6 x7 x8 x9 x10 x11 x12 r from funext (first x0 x1 x2 x3 x4 x5 x6 x7 x8 x9 x10 x11 x12 r)]
  exact congrArg₂ (fun u v => modulate _ u v j) (funext (shift_again x1 r)) (funext (scale_again x1 r))

end Cert.ReferenceMergeIdeal.Result

end
-- ==== Proof.Merge.lean ====
/-
  The merge's claims.
-/
module

public import proofs.«01_k».proof.Defs
public import proofs.«01_k».proof.Proof.MergeTables
public import proofs.«01_k».proof.Proof.MergeRef
public import proofs.«01_k».proof.Proof.Gen.KernelMerge.Frame
public import proofs.«01_k».proof.Proof.Gen.ReferenceMergeIdeal.Run

@[expose] public section

set_option maxRecDepth 16384

noncomputable section

open Idealize.ShloMosaic Idealize.ShloMosaic.TcCoe Idealize.SL.Sem

namespace Cert.Merge

open Cert.Rows Cert.KernelMergeIdeal.Array Cert.KernelMergeIdeal.Tables

section
variable (X : FVec Ideal KernelMergeIdeal.S17408x1024 .f32) (M : FVec Ideal KernelMergeIdeal.S8x6x1024 .f32)
  (OA OB OC : FVec Ideal KernelMergeIdeal.S17408x512 .bf16) (W : FVec Ideal KernelMergeIdeal.S1024x6944 .f32)
  (B : FVec Ideal KernelMergeIdeal.S6944 .f32) (WA WB WC : FVec Ideal KernelMergeIdeal.S512x1024 .f32)
  (WO : FVec Ideal KernelMergeIdeal.S1024x1024 .f32) (LG LB : FVec Ideal KernelMergeIdeal.S1024 .f32)

/-- The two rows are one, through the prepared weights. -/
theorem rows (b : Fin 17408) :
    row X M OA OB OC (packG W) (packH B) (packM WA) (packM WB) (packM WC) (packO WO) (packV LG) (packV LB) b
      = ReferenceMergeIdeal.Result.row X M OA OB OC W B WA WB WC WO LG LB b := by
  unfold row ReferenceMergeIdeal.Result.row
  simp only [packG_at, packH_at, packM_at, packO_at, packV_at]

theorem first (r : Fin 17408) (j : Fin 1024) :
    all15 X M OA OB OC (packG W) (packH B) (packM WA) (packM WB) (packM WC) (packO WO) (packV LG) (packV LB) (ix2 r j) = ReferenceMergeIdeal.Result.row X M OA OB OC W B WA WB WC WO LG LB r j :=
  congrFun (rows X M OA OB OC W B WA WB WC WO LG LB r) j

theorem second (r : Fin 17408) (j : Fin 1024) :
    all16 X M OA OB OC (packG W) (packH B) (packM WA) (packM WB) (packM WC) (packO WO) (packV LG) (packV LB) (ix2 r j)
      = modulate (ReferenceMergeIdeal.Result.row X M OA OB OC W B WA WB WC WO LG LB r) (fun e => M (ix3 (group r) 3 e)) (fun e => M (ix3 (group r) 4 e)) j := by
  unfold all16
  show modulate (row X M OA OB OC (packG W) (packH B) (packM WA) (packM WB) (packM WC) (packO WO) (packV LG) (packV LB) r) (fun e => M (ix3 (group r) 3 e)) (fun e => M (ix3 (group r) 4 e)) j = _
  rw [rows]

end

/-- The arguments the run leaves alone until the kernel starts. -/
theorem given (m : (ℓ : Loc KernelMergeIdeal.nD KernelMergeIdeal.τ KernelMergeIdeal.sig) → Buf (Elt Ideal) ℓ) (c : Dev KernelMergeIdeal.nD) :
    a0 m c = m ((c.tc : Thread KernelMergeIdeal.nD KernelMergeIdeal.τ).loc KernelMergeIdeal.main_arg0)
    ∧ a1 m c = m ((c.tc : Thread KernelMergeIdeal.nD KernelMergeIdeal.τ).loc KernelMergeIdeal.main_arg1)
    ∧ a2 m c = m ((c.tc : Thread KernelMergeIdeal.nD KernelMergeIdeal.τ).loc KernelMergeIdeal.main_arg2)
    ∧ a3 m c = m ((c.tc : Thread KernelMergeIdeal.nD KernelMergeIdeal.τ).loc KernelMergeIdeal.main_arg3)
    ∧ a4 m c = m ((c.tc : Thread KernelMergeIdeal.nD KernelMergeIdeal.τ).loc KernelMergeIdeal.main_arg4) :=
  ⟨KernelMergeIdeal.Gen.V_main_arg0 m c, KernelMergeIdeal.Gen.V_main_arg1 m c, KernelMergeIdeal.Gen.V_main_arg2 m c,
    KernelMergeIdeal.Gen.V_main_arg3 m c, KernelMergeIdeal.Gen.V_main_arg4 m c⟩

theorem frame_p : Cert.quiescent_KernelMerge := fun m ρ _ => Cert.KernelMerge.Gen.frame m ρ

theorem frame_pi : Cert.quiescent_KernelMergeIdeal := fun m ρ _ => Cert.KernelMergeIdeal.Gen.frame m ρ

theorem frame_ri : Cert.quiescent_ReferenceMergeIdeal := fun m ρ _ =>
  (θ_run Cert.ReferenceMergeIdeal.defs _ _).mono (fun r h => ⟨fun c => (h c).2.2,
    Idealize.ShloMosaic.sem_eq_zero_of_no_sems (by decide) r.2⟩) (Cert.ReferenceMergeIdeal.Value.run m ρ)

theorem preserves : Cert.preserves_KernelMerge_KernelMergeIdeal := trivial

set_option maxHeartbeats 2000000 in
theorem algebraic : Cert.algebraic_KernelMergeIdeal_ReferenceMergeIdeal := by
  intro m ρ m' ρ' _ hagree
  refine ⟨_, _, (θ_run Cert.KernelMergeIdeal.defs _ _).mono (fun r h c => ⟨(h c).1, (h c).2.1, (h c).2.2.2⟩)
    (Cert.KernelMergeIdeal.Value.run_blocks m ρ), ?_⟩
  refine (θ_run Cert.ReferenceMergeIdeal.defs _ _).mono (fun r h c => ⟨(h c).1.trans ?_, (h c).2.1.trans ?_, (h c).2.2⟩)
    (Cert.ReferenceMergeIdeal.Value.run m' ρ')
  · refine (Cert.ReferenceMergeIdeal.Read.val_main_v107_eq (F := Ideal) _).trans ?_
    obtain ⟨h0, h1, h2, h3, h4, h5, h6, h7, h8, h9, h10, h11, h12, -⟩ := hagree c
    obtain ⟨g0, g1, g2, g3, g4⟩ := given m c
    show Cert.ReferenceMergeIdeal.Read.val_main_v107 (F := Ideal) (m' ((c.tc : Thread Cert.ReferenceMergeIdeal.nD Cert.ReferenceMergeIdeal.τ).loc Cert.ReferenceMergeIdeal.main_arg0)) (m' ((c.tc : Thread Cert.ReferenceMergeIdeal.nD Cert.ReferenceMergeIdeal.τ).loc Cert.ReferenceMergeIdeal.main_arg1)) (m' ((c.tc : Thread Cert.ReferenceMergeIdeal.nD Cert.ReferenceMergeIdeal.τ).loc Cert.ReferenceMergeIdeal.main_arg2)) (m' ((c.tc : Thread Cert.ReferenceMergeIdeal.nD Cert.ReferenceMergeIdeal.τ).loc Cert.ReferenceMergeIdeal.main_arg3)) (m' ((c.tc : Thread Cert.ReferenceMergeIdeal.nD Cert.ReferenceMergeIdeal.τ).loc Cert.ReferenceMergeIdeal.main_arg4)) (m' ((c.tc : Thread Cert.ReferenceMergeIdeal.nD Cert.ReferenceMergeIdeal.τ).loc Cert.ReferenceMergeIdeal.main_arg5)) (m' ((c.tc : Thread Cert.ReferenceMergeIdeal.nD Cert.ReferenceMergeIdeal.τ).loc Cert.ReferenceMergeIdeal.main_arg6)) (m' ((c.tc : Thread Cert.ReferenceMergeIdeal.nD Cert.ReferenceMergeIdeal.τ).loc Cert.ReferenceMergeIdeal.main_arg7)) (m' ((c.tc : Thread Cert.ReferenceMergeIdeal.nD Cert.ReferenceMergeIdeal.τ).loc Cert.ReferenceMergeIdeal.main_arg8)) (m' ((c.tc : Thread Cert.ReferenceMergeIdeal.nD Cert.ReferenceMergeIdeal.τ).loc Cert.ReferenceMergeIdeal.main_arg9)) (m' ((c.tc : Thread Cert.ReferenceMergeIdeal.nD Cert.ReferenceMergeIdeal.τ).loc Cert.ReferenceMergeIdeal.main_arg10)) (m' ((c.tc : Thread Cert.ReferenceMergeIdeal.nD Cert.ReferenceMergeIdeal.τ).loc Cert.ReferenceMergeIdeal.main_arg11)) (m' ((c.tc : Thread Cert.ReferenceMergeIdeal.nD Cert.ReferenceMergeIdeal.τ).loc Cert.ReferenceMergeIdeal.main_arg12)) = _
    rw [h0, h1, h2, h3, h4, h5, h6, h7, h8, h9, h10, h11, h12, final15, g0, g1, g2, g3, g4, held5, held6, held7, held8, held9, held10, held11, held12]
    funext y
    obtain ⟨r, j, rfl⟩ : ∃ (r : Fin 17408) (j : Fin 1024), y = ix2 r j := ⟨y 0, y 1, eq_ix2 (n0 := 17408) (n1 := 1024) y⟩
    generalize m ((c.tc : Thread Cert.KernelMergeIdeal.nD Cert.KernelMergeIdeal.τ).loc Cert.KernelMergeIdeal.main_arg0) = X
    generalize m ((c.tc : Thread Cert.KernelMergeIdeal.nD Cert.KernelMergeIdeal.τ).loc Cert.KernelMergeIdeal.main_arg1) = M
    generalize m ((c.tc : Thread Cert.KernelMergeIdeal.nD Cert.KernelMergeIdeal.τ).loc Cert.KernelMergeIdeal.main_arg2) = OA
    generalize m ((c.tc : Thread Cert.KernelMergeIdeal.nD Cert.KernelMergeIdeal.τ).loc Cert.KernelMergeIdeal.main_arg3) = OB
    generalize m ((c.tc : Thread Cert.KernelMergeIdeal.nD Cert.KernelMergeIdeal.τ).loc Cert.KernelMergeIdeal.main_arg4) = OC
    generalize m ((c.tc : Thread Cert.KernelMergeIdeal.nD Cert.KernelMergeIdeal.τ).loc Cert.KernelMergeIdeal.main_arg5) = W
    generalize m ((c.tc : Thread Cert.KernelMergeIdeal.nD Cert.KernelMergeIdeal.τ).loc Cert.KernelMergeIdeal.main_arg6) = B
    generalize m ((c.tc : Thread Cert.KernelMergeIdeal.nD Cert.KernelMergeIdeal.τ).loc Cert.KernelMergeIdeal.main_arg7) = WA
    generalize m ((c.tc : Thread Cert.KernelMergeIdeal.nD Cert.KernelMergeIdeal.τ).loc Cert.KernelMergeIdeal.main_arg8) = WB
    generalize m ((c.tc : Thread Cert.KernelMergeIdeal.nD Cert.KernelMergeIdeal.τ).loc Cert.KernelMergeIdeal.main_arg9) = WC
    generalize m ((c.tc : Thread Cert.KernelMergeIdeal.nD Cert.KernelMergeIdeal.τ).loc Cert.KernelMergeIdeal.main_arg10) = WO
    generalize m ((c.tc : Thread Cert.KernelMergeIdeal.nD Cert.KernelMergeIdeal.τ).loc Cert.KernelMergeIdeal.main_arg11) = LG
    generalize m ((c.tc : Thread Cert.KernelMergeIdeal.nD Cert.KernelMergeIdeal.τ).loc Cert.KernelMergeIdeal.main_arg12) = LB
    exact (Cert.ReferenceMergeIdeal.Result.first X M OA OB OC W B WA WB WC WO LG LB r j).trans (first X M OA OB OC W B WA WB WC WO LG LB r j).symm
  · refine (Cert.ReferenceMergeIdeal.Read.val_main_v147_eq (F := Ideal) _).trans ?_
    obtain ⟨h0, h1, h2, h3, h4, h5, h6, h7, h8, h9, h10, h11, h12, -⟩ := hagree c
    obtain ⟨g0, g1, g2, g3, g4⟩ := given m c
    show Cert.ReferenceMergeIdeal.Read.val_main_v147 (F := Ideal) (m' ((c.tc : Thread Cert.ReferenceMergeIdeal.nD Cert.ReferenceMergeIdeal.τ).loc Cert.ReferenceMergeIdeal.main_arg0)) (m' ((c.tc : Thread Cert.ReferenceMergeIdeal.nD Cert.ReferenceMergeIdeal.τ).loc Cert.ReferenceMergeIdeal.main_arg1)) (m' ((c.tc : Thread Cert.ReferenceMergeIdeal.nD Cert.ReferenceMergeIdeal.τ).loc Cert.ReferenceMergeIdeal.main_arg2)) (m' ((c.tc : Thread Cert.ReferenceMergeIdeal.nD Cert.ReferenceMergeIdeal.τ).loc Cert.ReferenceMergeIdeal.main_arg3)) (m' ((c.tc : Thread Cert.ReferenceMergeIdeal.nD Cert.ReferenceMergeIdeal.τ).loc Cert.ReferenceMergeIdeal.main_arg4)) (m' ((c.tc : Thread Cert.ReferenceMergeIdeal.nD Cert.ReferenceMergeIdeal.τ).loc Cert.ReferenceMergeIdeal.main_arg5)) (m' ((c.tc : Thread Cert.ReferenceMergeIdeal.nD Cert.ReferenceMergeIdeal.τ).loc Cert.ReferenceMergeIdeal.main_arg6)) (m' ((c.tc : Thread Cert.ReferenceMergeIdeal.nD Cert.ReferenceMergeIdeal.τ).loc Cert.ReferenceMergeIdeal.main_arg7)) (m' ((c.tc : Thread Cert.ReferenceMergeIdeal.nD Cert.ReferenceMergeIdeal.τ).loc Cert.ReferenceMergeIdeal.main_arg8)) (m' ((c.tc : Thread Cert.ReferenceMergeIdeal.nD Cert.ReferenceMergeIdeal.τ).loc Cert.ReferenceMergeIdeal.main_arg9)) (m' ((c.tc : Thread Cert.ReferenceMergeIdeal.nD Cert.ReferenceMergeIdeal.τ).loc Cert.ReferenceMergeIdeal.main_arg10)) (m' ((c.tc : Thread Cert.ReferenceMergeIdeal.nD Cert.ReferenceMergeIdeal.τ).loc Cert.ReferenceMergeIdeal.main_arg11)) (m' ((c.tc : Thread Cert.ReferenceMergeIdeal.nD Cert.ReferenceMergeIdeal.τ).loc Cert.ReferenceMergeIdeal.main_arg12)) = _
    rw [h0, h1, h2, h3, h4, h5, h6, h7, h8, h9, h10, h11, h12, final16, g0, g1, g2, g3, g4, held5, held6, held7, held8, held9, held10, held11, held12]
    funext y
    obtain ⟨r, j, rfl⟩ : ∃ (r : Fin 17408) (j : Fin 1024), y = ix2 r j := ⟨y 0, y 1, eq_ix2 (n0 := 17408) (n1 := 1024) y⟩
    generalize m ((c.tc : Thread Cert.KernelMergeIdeal.nD Cert.KernelMergeIdeal.τ).loc Cert.KernelMergeIdeal.main_arg0) = X
    generalize m ((c.tc : Thread Cert.KernelMergeIdeal.nD Cert.KernelMergeIdeal.τ).loc Cert.KernelMergeIdeal.main_arg1) = M
    generalize m ((c.tc : Thread Cert.KernelMergeIdeal.nD Cert.KernelMergeIdeal.τ).loc Cert.KernelMergeIdeal.main_arg2) = OA
    generalize m ((c.tc : Thread Cert.KernelMergeIdeal.nD Cert.KernelMergeIdeal.τ).loc Cert.KernelMergeIdeal.main_arg3) = OB
    generalize m ((c.tc : Thread Cert.KernelMergeIdeal.nD Cert.KernelMergeIdeal.τ).loc Cert.KernelMergeIdeal.main_arg4) = OC
    generalize m ((c.tc : Thread Cert.KernelMergeIdeal.nD Cert.KernelMergeIdeal.τ).loc Cert.KernelMergeIdeal.main_arg5) = W
    generalize m ((c.tc : Thread Cert.KernelMergeIdeal.nD Cert.KernelMergeIdeal.τ).loc Cert.KernelMergeIdeal.main_arg6) = B
    generalize m ((c.tc : Thread Cert.KernelMergeIdeal.nD Cert.KernelMergeIdeal.τ).loc Cert.KernelMergeIdeal.main_arg7) = WA
    generalize m ((c.tc : Thread Cert.KernelMergeIdeal.nD Cert.KernelMergeIdeal.τ).loc Cert.KernelMergeIdeal.main_arg8) = WB
    generalize m ((c.tc : Thread Cert.KernelMergeIdeal.nD Cert.KernelMergeIdeal.τ).loc Cert.KernelMergeIdeal.main_arg9) = WC
    generalize m ((c.tc : Thread Cert.KernelMergeIdeal.nD Cert.KernelMergeIdeal.τ).loc Cert.KernelMergeIdeal.main_arg10) = WO
    generalize m ((c.tc : Thread Cert.KernelMergeIdeal.nD Cert.KernelMergeIdeal.τ).loc Cert.KernelMergeIdeal.main_arg11) = LG
    generalize m ((c.tc : Thread Cert.KernelMergeIdeal.nD Cert.KernelMergeIdeal.τ).loc Cert.KernelMergeIdeal.main_arg12) = LB
    exact (Cert.ReferenceMergeIdeal.Result.second X M OA OB OC W B WA WB WC WO LG LB r j).trans (second X M OA OB OC W B WA WB WC WO LG LB r j).symm

end Cert.Merge

end
-- ==== Proof.Named.lean ====
/-
  The experts' precondition read: every block's word is below the number of experts, and so every block of weights that
  a word names lies inside its array.
-/
module

public import proofs.«01_k».proof.Defs
public import proofs.«01_k».proof.Proof.Gen.Pre_named
public import proofs.«01_k».proof.Proof.Gen.KernelExperts.Frame
public import proofs.«01_k».proof.Proof.Gen.KernelExpertsIdeal.Frame
public import Idealize.ShloMosaic.Lib.Pointwise

@[expose] public section

set_option maxRecDepth 16384

noncomputable section

open Idealize.ShloMosaic Idealize.ShloMosaic.TcCoe Idealize.SL.Sem

namespace Cert.Experts

/-- Each word, from the predicate. -/
theorem word_lt {F : FTy → Type} [FloatOps F] (x0 : IVec Cert.Pre_named.S168 32) (x1 : FVec F Cert.Pre_named.S43008x1024 .f32)
    (x2 x3 : FVec F Cert.Pre_named.S32x1024x512 .f32) (x4 : FVec F Cert.Pre_named.S32x512x1024 .f32)
    (h : Cert.Pre_named.fn (F := F) x0 x1 x2 x3 x4 = fun _ => 1#1) (y : Cert.Pre_named.S168.Idx) : (x0 y).toNat < 32 := by
  have andi_one (a b : BitVec 1) : IntOp.andi a b = 1#1 ↔ a = 1#1 ∧ b = 1#1 := by revert a b; decide
  have pre := congrFun h y
  simp only [Cert.Pre_named.fn, constantI, broadcastInDim, cmpi, andi, andi_one] at pre
  obtain ⟨h0, h1⟩ := pre
  generalize x0 y = v at h0 h1 ⊢
  have of_one (b : Bool) : BitVec.ofBool b = 1#1 ↔ b = true := by cases b <;> decide
  simp only [IntOp.cmpi, of_one, BitVec.sle, BitVec.slt, decide_eq_true_eq, BitVec.toInt, BitVec.toNat_ofNat] at h0 h1
  have hv := v.isLt
  split at h0 <;> split at h1 <;> omega

end Cert.Experts

namespace Cert.KernelExperts.Named

open Cert.KernelExperts Cert.KernelExperts.Gen

theorem ok_of_pre (m : (ℓ : Loc nD τ sig) → Buf (Elt Bits) ℓ) (h : Cert.Pre_KernelExperts m) : Ok (F := Bits) m := by
  have hw : ∀ y, ((show IVec S168 32 from tbl m 0) y).toNat < 32 := fun y => Cert.Experts.word_lt _ _ _ _ _ (h 0) y
  have a1 : ∀ v : BitVec 32, v.toNat < 32 → ∀ a : Fin 3, ((![v.toNat, 0, 0] : Fin 3 → Nat) a + 1) * S1x1024x512.size a ≤ S32x1024x512.size a := by
    intro v hv a
    fin_cases a
    · show (v.toNat + 1) * 1 ≤ 32; omega
    · exact le_rfl
    · exact le_rfl
  have a2 : ∀ v : BitVec 32, v.toNat < 32 → ∀ a : Fin 3, ((![v.toNat, 0, 0] : Fin 3 → Nat) a + 1) * S1x512x1024.size a ≤ S32x512x1024.size a := by
    intro v hv a
    fin_cases a
    · show (v.toNat + 1) * 1 ≤ 32; omega
    · exact le_rfl
    · exact le_rfl
  exact ⟨fun i => ⟨a1 _ (hw _), Or.inl rfl⟩, fun i => ⟨a1 _ (hw _), Or.inl rfl⟩, fun i => ⟨a2 _ (hw _), Or.inl rfl⟩⟩

end Cert.KernelExperts.Named

namespace Cert.KernelExpertsIdeal.Named

open Cert.KernelExpertsIdeal Cert.KernelExpertsIdeal.Gen

theorem ok_of_pre (m : (ℓ : Loc nD τ sig) → Buf (Elt Ideal) ℓ) (h : Cert.Pre_KernelExpertsIdeal m) : Ok (F := Ideal) m := by
  have hw : ∀ y, ((show IVec S168 32 from tbl m 0) y).toNat < 32 := fun y => Cert.Experts.word_lt _ _ _ _ _ (h 0) y
  have a1 : ∀ v : BitVec 32, v.toNat < 32 → ∀ a : Fin 3, ((![v.toNat, 0, 0] : Fin 3 → Nat) a + 1) * S1x1024x512.size a ≤ S32x1024x512.size a := by
    intro v hv a
    fin_cases a
    · show (v.toNat + 1) * 1 ≤ 32; omega
    · exact le_rfl
    · exact le_rfl
  have a2 : ∀ v : BitVec 32, v.toNat < 32 → ∀ a : Fin 3, ((![v.toNat, 0, 0] : Fin 3 → Nat) a + 1) * S1x512x1024.size a ≤ S32x512x1024.size a := by
    intro v hv a
    fin_cases a
    · show (v.toNat + 1) * 1 ≤ 32; omega
    · exact le_rfl
    · exact le_rfl
  exact ⟨fun i => ⟨a1 _ (hw _), Or.inl rfl⟩, fun i => ⟨a1 _ (hw _), Or.inl rfl⟩, fun i => ⟨a2 _ (hw _), Or.inl rfl⟩⟩

end Cert.KernelExpertsIdeal.Named

end
-- ==== Proof.Expert.lean ====
/-
  One row through the expert its block names, in plain formulas.
-/
module

public import Idealize.ShloMosaic.Lib.Pointwise

@[expose] public section

noncomputable section

open Idealize.ShloMosaic Idealize.ShloMosaic.TcCoe Idealize.SL.Sem

namespace Cert.Experts

/-- One hidden lane: the gated product. -/
def gated (a c : EReal) : EReal := a * Ideal.logistic a * c

/-- Column `j` of one row through one expert. -/
def expert (x : Fin 1024 → EReal) (w1 w3 : Fin 1024 → Fin 512 → EReal) (w2 : Fin 512 → Fin 1024 → EReal) (j : Fin 1024) : EReal :=
  ∑ e, gated (∑ l, x l * w1 l e) (∑ l, x l * w3 l e) * w2 e j

/-- The expert a word names. -/
def which (w : BitVec 32) : Fin 32 := ⟨min w.toNat 31, by omega⟩

/-- The block of 256 rows a row lies in. -/
def tile (r : Fin 43008) : Fin 168 := ⟨r.val / 256, by omega⟩

/-- Column `j` of row `r`, through the expert its block names. -/
def routed (T : IVec ⟨1, ![168]⟩ 32) (X : FVec Ideal ⟨2, ![43008, 1024]⟩ .f32) (W1 W3 : FVec Ideal ⟨3, ![32, 1024, 512]⟩ .f32)
    (W2 : FVec Ideal ⟨3, ![32, 512, 1024]⟩ .f32) (r : Fin 43008) (j : Fin 1024) : EReal :=
  expert (fun l => X (ix2 r l)) (fun l e => W1 (ix3 (which (T (ix1 (tile r)))) l e))
    (fun l e => W3 (ix3 (which (T (ix1 (tile r)))) l e)) (fun e j => W2 (ix3 (which (T (ix1 (tile r)))) e j)) j

end Cert.Experts

end
-- ==== Proof.ExpertsBlock.lean ====
/-
  An expert's block: what one grid point leaves in its output, row by row.
-/
module

public import proofs.«01_k».proof.Proof.Gen.KernelExpertsIdeal.Frame
public import proofs.«01_k».proof.Proof.Expert
public import Idealize.ShloMosaic.Lib.Pipeline.ValueKit

@[expose] public section

set_option maxRecDepth 16384

noncomputable section

open Idealize.ShloMosaic Idealize.ShloMosaic.TcCoe Idealize.SL.Sem

namespace Cert.KernelExpertsIdeal.Block

open Cert.KernelExpertsIdeal Cert.KernelExpertsIdeal.Gen Cert.Experts

theorem pay (x : FVec Ideal S256x1024 .f32) (w1 w3 : FVec Ideal S1x1024x512 .f32) (w2 : FVec Ideal S1x512x1024 .f32)
    (r : Fin 256) (j : Fin 1024) :
    k0_pay1 (F := Ideal) x w1 w3 w2 (ix2 r j)
      = expert (fun l => x (ix2 r l)) (fun l e => w1 (ix3 0 l e)) (fun l e => w3 (ix3 0 l e)) (fun e j => w2 (ix3 0 e j)) j := by
  pointwise [k0_pay1]
  rfl

theorem out (c : Dev nD) (i : grid0.Coords) (arg2 : Memref sig .tc .vmem S256x1024 .f32) (harg2 : arg2.IsWhole)
    (arg3 : Memref sig .tc .vmem S1x1024x512 .f32) (harg3 : arg3.IsWhole) (arg4 : Memref sig .tc .vmem S1x1024x512 .f32) (harg4 : arg4.IsWhole)
    (arg5 : Memref sig .tc .vmem S1x512x1024 .f32) (harg5 : arg5.IsWhole) (arg6 : Memref sig .tc .vmem S256x1024 .f32) (harg6 : arg6.IsWhole)
    (x0 : Vec Ideal S256x1024 .f32) (x1 : Vec Ideal S1x1024x512 .f32) (x2 : Vec Ideal S1x1024x512 .f32) (x3 : Vec Ideal S1x512x1024 .f32)
    (xt0 : TbBuf0 (F := Ideal) c tbM0_0) :
    out0_A_4 (F := Ideal) c i arg2 harg2 arg3 harg3 arg4 harg4 arg5 harg5 arg6 harg6 x0 x1 x2 x3 xt0
      = k0_pay1 (F := Ideal) x0 x1 x2 x3 := by
  have hz2 : (![0, 0] : Fin 2 → ℕ) = fun _ => 0 := funext fun a => by fin_cases a <;> rfl
  have hz3 : (![0, 0, 0] : Fin 3 → ℕ) = fun _ => 0 := funext fun a => by fin_cases a <;> rfl
  have e2 : View.readAt (Elt Ideal) arg2.view (Rect.unit ![0, 0] S256x1024.size inb_S256x1024_S256x1024_0_0).toLoadRect (harg2.unread x0) = x0 := by
    rw [View.readAt_eq_ld, harg2.read_unread]; exact View.ld_unit_zero (S := S256x1024) hz2 _ _
  have e3 : View.readAt (Elt Ideal) arg3.view (Rect.unit ![0, 0, 0] S1x1024x512.size inb_S1x1024x512_S1x1024x512_0_0_0).toLoadRect (harg3.unread x1) = x1 := by
    rw [View.readAt_eq_ld, harg3.read_unread]; exact View.ld_unit_zero (S := S1x1024x512) hz3 _ _
  have e4 : View.readAt (Elt Ideal) arg4.view (Rect.unit ![0, 0, 0] S1x1024x512.size inb_S1x1024x512_S1x1024x512_0_0_0).toLoadRect (harg4.unread x2) = x2 := by
    rw [View.readAt_eq_ld, harg4.read_unread]; exact View.ld_unit_zero (S := S1x1024x512) hz3 _ _
  have e5 : View.readAt (Elt Ideal) arg5.view (Rect.unit ![0, 0, 0] S1x512x1024.size inb_S1x512x1024_S1x512x1024_0_0_0).toLoadRect (harg5.unread x3) = x3 := by
    rw [View.readAt_eq_ld, harg5.read_unread]; exact View.ld_unit_zero (S := S1x512x1024) hz3 _ _
  unfold out0_A_4
  rw [View.read_writes_junk_eq_canon]
  unfold kernelRun0_A
  rw [View.canon_unit_zero (S := S256x1024) hz2, e2, e3, e4, e5]

end Cert.KernelExpertsIdeal.Block

end
-- ==== Proof.ExpertsArray.lean ====
/-
  The array the experts' call leaves: every row through the expert its block names.
-/
module

public import proofs.«01_k».proof.Proof.ExpertsBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelExpertsIdeal.Array

open Cert.KernelExpertsIdeal Cert.KernelExpertsIdeal.Gen Cert.KernelExpertsIdeal.Block Cert.Experts

variable (m : (ℓ : Loc nD τ sig) → Buf (Elt Ideal) ℓ) (hO : Ok m) (c : Dev nD)

abbrev aT : IVec S168 32 := V m c main_arg0
abbrev aX : FVec Ideal S43008x1024 .f32 := V m c main_arg1
abbrev aW1 : FVec Ideal S32x1024x512 .f32 := V m c main_arg2
abbrev aW3 : FVec Ideal S32x1024x512 .f32 := V m c main_arg3
abbrev aW2 : FVec Ideal S32x512x1024 .f32 := V m c main_arg4

theorem coord : ∀ t : Fin grid0.N, (grid0.coords t 0).val = t.val := by decide +kernel

theorem same : ∀ t : Fin grid0.N, cc0_transform_0 (grid0.coords t) = ![t.val, 0] ∧ cc0_transform_4 (grid0.coords t) = ![t.val, 0] := by decide +kernel

theorem off : ∀ t : Fin grid0.N, k0_off1 (grid0.coords t) = ![t.val] := by decide +kernel

theorem lt168 (t : Fin grid0.N) : t.val < 168 := lt_of_lt_of_eq t.isLt N_0

/-- The word a point reads. -/
theorem word (c : Dev nD) (t : Fin grid0.N) (o : Fin 1 → ℕ) (ho : o = ![t.val]) (inb) (h1) (k : Fin 168) (hk : k.val = t.val) :
    (show BitVec 32 from (tbl m).at 0 (Rect.unit (s := S168) o S1.size inb) h1) = aT m c (ix1 k) := by
  subst ho
  obtain rfl : c = 0 := Subsingleton.elim _ _
  refine congrArg (aT m 0) (funext fun a => ?_)
  match a with
  | ⟨0, _⟩ => exact Fin.ext (by show t.val + 1 * 0 = k.val; omega)

theorem named1 (c : Dev nD) (t : Fin grid0.N) (k : Fin 168) (hk : k.val = t.val) :
    cc0_transform_1 k0_off1_inb numel1_S1 (tbl m) (grid0.coords t) = ![(aT m c (ix1 k)).toNat, 0, 0] := by
  rw [← word m c t _ (off t) (k0_off1_inb _) numel1_S1 k hk]
  rfl

theorem named2 (c : Dev nD) (t : Fin grid0.N) (k : Fin 168) (hk : k.val = t.val) :
    cc0_transform_2 k0_off1_inb numel1_S1 (tbl m) (grid0.coords t) = ![(aT m c (ix1 k)).toNat, 0, 0] := by
  rw [← word m c t _ (off t) (k0_off1_inb _) numel1_S1 k hk]
  rfl

theorem named3 (c : Dev nD) (t : Fin grid0.N) (k : Fin 168) (hk : k.val = t.val) :
    cc0_transform_3 k0_off1_inb numel1_S1 (tbl m) (grid0.coords t) = ![(aT m c (ix1 k)).toNat, 0, 0] := by
  rw [← word m c t _ (off t) (k0_off1_inb _) numel1_S1 k hk]
  rfl

theorem index0 (t : Fin (cfgM m hO).N) : ((cfgM m hO).win 0).index t = ![t.val, 0] := (same t).1
theorem index4 (t : Fin (cfgM m hO).N) : ((cfgM m hO).win 4).index t = ![t.val, 0] := (same t).2
theorem index1 (t : Fin (cfgM m hO).N) (k : Fin 168) (hk : k.val = t.val) : ((cfgM m hO).win 1).index t = ![(aT m c (ix1 k)).toNat, 0, 0] := named1 m c t k hk
theorem index2 (t : Fin (cfgM m hO).N) (k : Fin 168) (hk : k.val = t.val) : ((cfgM m hO).win 2).index t = ![(aT m c (ix1 k)).toNat, 0, 0] := named2 m c t k hk
theorem index3 (t : Fin (cfgM m hO).N) (k : Fin 168) (hk : k.val = t.val) : ((cfgM m hO).win 3).index t = ![(aT m c (ix1 k)).toNat, 0, 0] := named3 m c t k hk

theorem blk0 (t : Fin (cfgM m hO).N) (r : Fin 256) (l : Fin 1024) (b : Fin 43008) (hb : b.val = t.val * 256 + r.val) :
    (show FVec Ideal S256x1024 .f32 from iblk m hO c 0 t) (ix2 r l) = aX m c (ix2 b l) := by
  have e0 := index0 m hO t
  blk_ext [iblk, e0]

theorem blk1 (t : Fin (cfgM m hO).N) (k : Fin 168) (hk : k.val = t.val) (l : Fin 1024) (e : Fin 512) (x : Fin 32) (hx : x.val = (aT m c (ix1 k)).toNat) :
    (show FVec Ideal S1x1024x512 .f32 from iblk m hO c 1 t) (ix3 0 l e) = aW1 m c (ix3 x l e) := by
  have e0 := index1 m hO c t k hk
  rw [← hx] at e0
  blk_ext [iblk, e0]

theorem blk2 (t : Fin (cfgM m hO).N) (k : Fin 168) (hk : k.val = t.val) (l : Fin 1024) (e : Fin 512) (x : Fin 32) (hx : x.val = (aT m c (ix1 k)).toNat) :
    (show FVec Ideal S1x1024x512 .f32 from iblk m hO c 2 t) (ix3 0 l e) = aW3 m c (ix3 x l e) := by
  have e0 := index2 m hO c t k hk
  rw [← hx] at e0
  blk_ext [iblk, e0]

theorem blk3 (t : Fin (cfgM m hO).N) (k : Fin 168) (hk : k.val = t.val) (l : Fin 512) (e : Fin 1024) (x : Fin 32) (hx : x.val = (aT m c (ix1 k)).toNat) :
    (show FVec Ideal S1x512x1024 .f32 from iblk m hO c 3 t) (ix3 0 l e) = aW2 m c (ix3 x l e) := by
  have e0 := index3 m hO c t k hk
  rw [← hx] at e0
  blk_ext [iblk, e0]

/-- A point's element, at its row and column. -/
theorem point (hT : ∀ y, (aT m c y).toNat < 32) (t : Fin (cfgM m hO).N) (r : Fin 256) (j : Fin 1024) (b : Fin 43008)
    (hb : b.val = t.val * 256 + r.val) :
    k0_pay1 (F := Ideal) (iblk m hO c 0 t) (iblk m hO c 1 t) (iblk m hO c 2 t) (iblk m hO c 3 t) (ix2 r j)
      = routed (aT m c) (aX m c) (aW1 m c) (aW3 m c) (aW2 m c) b j := by
  have hr := r.isLt
  have ht : (tile b).val = t.val := by show b.val / 256 = t.val; omega
  have hx : (which (aT m c (ix1 (tile b)))).val = (aT m c (ix1 (tile b))).toNat := by
    have := hT (ix1 (tile b))
    show min _ 31 = _
    omega
  refine (pay _ _ _ _ r j).trans ?_
  unfold routed
  rw [show (fun l => (show FVec Ideal S256x1024 .f32 from iblk m hO c 0 t) (ix2 r l)) = (fun l => aX m c (ix2 b l)) from
      funext fun l => blk0 m hO c t r l b hb,
    show (fun l e => (show FVec Ideal S1x1024x512 .f32 from iblk m hO c 1 t) (ix3 0 l e)) = (fun l e => aW1 m c (ix3 (which (aT m c (ix1 (tile b)))) l e)) from
      funext fun l => funext fun e => blk1 m hO c t _ ht l e _ hx,
    show (fun l e => (show FVec Ideal S1x1024x512 .f32 from iblk m hO c 2 t) (ix3 0 l e)) = (fun l e => aW3 m c (ix3 (which (aT m c (ix1 (tile b)))) l e)) from
      funext fun l => funext fun e => blk2 m hO c t _ ht l e _ hx,
    show (fun e j => (show FVec Ideal S1x512x1024 .f32 from iblk m hO c 3 t) (ix3 0 e j)) = (fun e j => aW2 m c (ix3 (which (aT m c (ix1 (tile b)))) e j)) from
      funext fun e => funext fun j => blk3 m hO c t _ ht e j _ hx]

def result : FVec Ideal S43008x1024 .f32 := fun y => routed (aT m c) (aX m c) (aW1 m c) (aW3 m c) (aW2 m c) (y 0) (y 1)

theorem after (t : Fin (cfgM m hO).N) :
    (dats m hO 0 c).after 4 t = k0_pay1 (F := Ideal) (iblk m hO c 0 t) (iblk m hO c 1 t) (iblk m hO c 2 t) (iblk m hO c 3 t) := by
  rw [after0_4]
  unfold outsAt0
  exact out c _ _ _ _ _ _ _ _ _ _ _ _ _ _ _ _

theorem placed (hT : ∀ y, (aT m c y).toNat < 32) (t : Fin (cfgM m hO).N) (r : Fin 256) (j : Fin 1024) (z : S43008x1024.Idx)
    (h0 : (z 0).val = t.val * 256 + r.val) (h1 : (z 1).val = j.val) :
    k0_pay1 (F := Ideal) (iblk m hO c 0 t) (iblk m hO c 1 t) (iblk m hO c 2 t) (iblk m hO c 3 t) (ix2 r j) = result m c z := by
  obtain rfl : z 1 = j := Fin.ext h1
  exact point m hO c hT t r _ _ h0

theorem flushes (t : Fin (cfgM m hO).N) : ((cfgM m hO).win 4).flush t = true := by
  have ht := lt168 t
  have hN : grid0.N = 168 := N_0
  show (true && (decide (t.val + 1 = grid0.N) || decide (∃ h : t.val + 1 < grid0.N, ((cfgM m hO).win 4).index ⟨t.val + 1, h⟩ ≠ ((cfgM m hO).win 4).index t))) = true
  rw [Bool.true_and, Bool.or_eq_true]
  by_cases hl : t.val + 1 = grid0.N
  · exact Or.inl (decide_eq_true hl)
  · refine Or.inr (decide_eq_true ⟨by omega, fun he => ?_⟩)
    rw [index4, index4] at he
    have h0 := congrFun he (0 : Fin 2)
    change t.val + 1 = t.val at h0
    omega

theorem cover : ((cfgM m hO).win 4).Covers := by
  refine ⟨(by decide : ∀ a : Fin 2, 0 < S256x1024.size a), fun β => ?_⟩
  have hN : grid0.N = 168 := N_0
  have hb : (β (0 : Fin 2)).val < (43008 + 256 - 1) / 256 := (β (0 : Fin 2)).isLt
  have hc : (β (1 : Fin 2)).val < (1024 + 1024 - 1) / 1024 := (β (1 : Fin 2)).isLt
  refine ⟨(⟨(β (0 : Fin 2)).val, by omega⟩ : Fin grid0.N), flushes m hO _, fun a => ⟨?_, Or.inl ?_⟩⟩
  · rw [index4]
    revert a
    refine (fun (a : Fin 2) => ?_)
    match a with
    | ⟨0, _⟩ => rfl
    | ⟨1, _⟩ =>
      show 0 = (β (1 : Fin 2)).val
      omega
  · rfl

theorem emb0 (t : Fin (cfgM m hO).N) (r : Fin 256) (j : Fin 1024) :
    ((show S43008x1024.Idx from (((cfgM m hO).win 4).blk t).view.emb (ix2 r j : S256x1024.Idx)) 0).val = t.val * 256 + r.val := by
  have e4 := index4 m hO t
  blk_simp [e4]

theorem emb1 (t : Fin (cfgM m hO).N) (r : Fin 256) (j : Fin 1024) :
    ((show S43008x1024.Idx from (((cfgM m hO).win 4).blk t).view.emb (ix2 r j : S256x1024.Idx)) 1).val = j.val := by
  have e4 := index4 m hO t
  blk_simp [e4]

theorem final (hT : ∀ y, (aT m c y).toNat < 32) : (dats m hO 0 c).arrAt 4 (cfgM m hO).N = result m c := by
  refine (dats m hO 0 c).arrAt_eq_of_covers 4 _ (cover m hO) fun t _ (y : S256x1024.Idx) => ?_
  obtain ⟨r, j, rfl⟩ : ∃ (r : Fin 256) (j : Fin 1024), y = ix2 r j := ⟨y 0, y 1, eq_ix2 (n0 := 256) (n1 := 1024) y⟩
  blk_simp
  rw [after]
  exact placed m hO c hT t r j _ (emb0 m hO t r j) (emb1 m hO t r j)

end Cert.KernelExpertsIdeal.Array

end
-- ==== Proof.ExpertsRef.lean ====
/-
  The experts' reference, element by element, in plain formulas.
-/
module

public import proofs.«01_k».proof.Proof.Gen.ReferenceExpertsIdeal.Read
public import proofs.«01_k».proof.Proof.Expert
public import Idealize.ShloMosaic.Lib.Pointwise

@[expose] public section

set_option maxRecDepth 16384

noncomputable section

open Idealize.ShloMosaic Idealize.ShloMosaic.TcCoe Idealize.SL.Sem

namespace Cert.Experts

/-- Whole slabs taken by number: operand `[N, A, B]`, numbers `[n, 1]`, result `[n, A, B]`. -/
abbrev slabs (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem slab {α : Type} {N A B n w : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (b : Fin n) (l : Fin A) (e : Fin B) (k : Fin N)
    (hk : k.val = min (idx (ix2 b 0)).toInt.toNat (N - 1)) :
    Host.gather (slabs N A B n wf) x idx (ix3 b l e) = x (ix3 k l e) := by
  unfold Host.gather
  refine congrArg x (funext fun a => Fin.ext ?_)
  show (slabs N A B n wf).start (ix3 b l e) idx a + (slabs N A B n wf).batchCoord (ix3 b l e) a
      + (slabs N A B n wf).offCoord (ix3 b l e) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabs N A B n wf).startIndexMap from List.mem_singleton.mpr rfl)]
    have hsi : (slabs N A B n wf).siIdx (ix3 b l e) ⟨List.idxOf (0 : Fin 3) (slabs N A B n wf).startIndexMap,
        List.idxOf_lt_length_iff.2 (List.mem_singleton.mpr rfl)⟩ = ix2 b 0 := by
      funext q; refine Fin.ext ?_
      match q with
      | ⟨0, _⟩ => rfl
      | ⟨1, _⟩ => rfl
    rw [hsi]
    exact hk.symm
  · unfold GatherDims.start
    rw [dif_neg (show ¬ (1 : Fin 3) ∈ (slabs N A B n wf).startIndexMap from (by decide : ¬ (1 : Fin 3) ∈ [(0 : Fin 3)])), Nat.zero_add]
    rfl
  · unfold GatherDims.start
    rw [dif_neg (show ¬ (2 : Fin 3) ∈ (slabs N A B n wf).startIndexMap from (by decide : ¬ (2 : Fin 3) ∈ [(0 : Fin 3)])), Nat.zero_add]
    rfl

end Cert.Experts

namespace Cert.ReferenceExpertsIdeal.Result

open Cert.ReferenceExpertsIdeal Cert.ReferenceExpertsIdeal.Gen Cert.ReferenceExpertsIdeal.Read Cert.Experts

variable (x0 : IVec S168 32) (x1 : FVec Ideal S43008x1024 .f32) (x2 x3 : FVec Ideal S32x1024x512 .f32)
  (x4 : FVec Ideal S32x512x1024 .f32)

/-- A word below 32 is read as it is: it is not negative, and no clamp moves it. -/
theorem plain_word (w : BitVec 32) (h : w.toNat < 32) :
    (which w).val = min (Scalar.select (IntOp.cmpi .slt w 0#32) (IntOp.addi w 32#32) w).toInt.toNat (32 - 1) := by
  have e : IntOp.cmpi .slt w 0#32 = 0#1 := by
    have : BitVec.slt w 0#32 = false := by
      simp only [BitVec.slt, BitVec.toInt, BitVec.toNat_ofNat, decide_eq_false_iff_not]
      split <;> omega
    simp only [IntOp.cmpi, this]; rfl
  rw [e]
  show min w.toNat 31 = min (BitVec.toInt w).toNat 31
  have : w.toInt = (w.toNat : Int) := by
    simp only [BitVec.toInt]; split <;> omega
  rw [this, Int.toNat_natCast]

theorem first (b : Fin 168) (h : (x0 (ix1 b)).toNat < 32) (l : Fin 1024) (e : Fin 512) :
    val_main_v7 (F := Ideal) x0 x2 (ix3 b l e) = x2 (ix3 (which (x0 (ix1 b))) l e) :=
  slab _ _ _ _ _ _ _ ((plain_word _ h).trans (by pointwise [val_main_v6, val_main_v5, val_main_v4, val_main_v3, val_main_v2, val_main_v1, val_main_c, val_main_c_0]))

theorem second (b : Fin 168) (h : (x0 (ix1 b)).toNat < 32) (l : Fin 1024) (e : Fin 512) :
    val_main_v15 (F := Ideal) x0 x3 (ix3 b l e) = x3 (ix3 (which (x0 (ix1 b))) l e) :=
  slab _ _ _ _ _ _ _ ((plain_word _ h).trans (by pointwise [val_main_v14, val_main_v13, val_main_v12, val_main_v11, val_main_v10, val_main_v9, val_main_c_1, val_main_c_2]))

theorem third (b : Fin 168) (h : (x0 (ix1 b)).toNat < 32) (e : Fin 512) (l : Fin 1024) :
    val_main_v25 (F := Ideal) x0 x4 (ix3 b e l) = x4 (ix3 (which (x0 (ix1 b))) e l) :=
  slab _ _ _ _ _ _ _ ((plain_word _ h).trans (by pointwise [val_main_v24, val_main_v23, val_main_v22, val_main_v21, val_main_v20, val_main_v19, val_main_c_3, val_main_c_4]))

theorem mixed (b : Fin 168) (r : Fin 256) (j : Fin 1024) (R : Fin 43008) (hR : R.val = b.val * 256 + r.val) :
    val_main_v26 (F := Ideal) x0 x1 x2 x3 x4 (ix3 b r j)
      = expert (fun l => x1 (ix2 R l)) (fun l e => val_main_v7 (F := Ideal) x0 x2 (ix3 b l e))
          (fun l e => val_main_v15 (F := Ideal) x0 x3 (ix3 b l e)) (fun e j => val_main_v25 (F := Ideal) x0 x4 (ix3 b e j)) j := by
  have row : ∀ l, val_main_v0 (F := Ideal) x1 (ix3 b r l) = x1 (ix2 R l) := fun l => by
    rw [val_main_v0_apply]
    refine congrArg x1 (funext fun a => Fin.ext ?_)
    have hb := b.isLt
    have hr := r.isLt
    have hl := l.isLt
    match a with
    | ⟨0, _⟩ => show ((b.val * 256 + r.val) * 1024 + l.val) / 1024 = R.val; omega
    | ⟨1, _⟩ => show ((b.val * 256 + r.val) * 1024 + l.val) % 1024 = l.val; omega
  rw [show (fun l => x1 (ix2 R l)) = fun l => val_main_v0 (F := Ideal) x1 (ix3 b r l) from funext fun l => (row l).symm]
  unfold val_main_v26 val_main_v18 val_main_v17 val_main_call0_v5 val_main_call0_v4 val_main_call0_v3 val_main_call0_v2 val_main_call0_v1 val_main_call0_v0 val_main_v16 val_main_v8
  generalize val_main_v7 (F := Ideal) x0 x2 = u1
  generalize val_main_v15 (F := Ideal) x0 x3 = u3
  generalize val_main_v25 (F := Ideal) x0 x4 = u2
  generalize val_main_v0 (F := Ideal) x1 = y
  pointwise [val_main_call0_cst, val_main_call0_cst_0]
  rfl

theorem whole (hT : ∀ y, (x0 y).toNat < 32) (r : Fin 43008) (j : Fin 1024) :
    val_main_v27 (F := Ideal) x0 x1 x2 x3 x4 (ix2 r j) = routed x0 x1 x2 x3 x4 r j := by
  rw [val_main_v27_apply]
  have hr := r.isLt
  have hj := j.isLt
  have e : idx_main_v27 (ix2 r j) = ix3 (tile r) (⟨r.val % 256, by omega⟩ : Fin 256) j := by
    funext a
    refine Fin.ext ?_
    match a with
    | ⟨0, _⟩ => show (r.val * 1024 + j.val) / 262144 = r.val / 256; omega
    | ⟨1, _⟩ => show (r.val * 1024 + j.val) / 1024 % 256 = r.val % 256; omega
    | ⟨2, _⟩ => show (r.val * 1024 + j.val) % 1024 = j.val; omega
  rw [e, mixed x0 x1 x2 x3 x4 (tile r) _ j r (by show r.val = r.val / 256 * 256 + r.val % 256; omega)]
  unfold routed
  rw [show (fun l e => val_main_v7 (F := Ideal) x0 x2 (ix3 (tile r) l e)) = fun l e => x2 (ix3 (which (x0 (ix1 (tile r)))) l e) from
      funext fun l => funext fun e => first x0 x2 (tile r) (hT _) l e,
    show (fun l e => val_main_v15 (F := Ideal) x0 x3 (ix3 (tile r) l e)) = fun l e => x3 (ix3 (which (x0 (ix1 (tile r)))) l e) from
      funext fun l => funext fun e => second x0 x3 (tile r) (hT _) l e,
    show (fun e j => val_main_v25 (F := Ideal) x0 x4 (ix3 (tile r) e j)) = fun e j => x4 (ix3 (which (x0 (ix1 (tile r)))) e j) from
      funext fun e => funext fun j => third x0 x4 (tile r) (hT _) e j]

end Cert.ReferenceExpertsIdeal.Result

end
-- ==== Proof.Experts.lean ====
/-
  The experts' claims.
-/
module

public import proofs.«01_k».proof.Defs
public import proofs.«01_k».proof.Proof.Named
public import proofs.«01_k».proof.Proof.ExpertsArray
public import proofs.«01_k».proof.Proof.ExpertsRef
public import proofs.«01_k».proof.Proof.Gen.Pre_named
public import proofs.«01_k».proof.Proof.Gen.KernelExperts.Frame
public import proofs.«01_k».proof.Proof.Gen.KernelExpertsIdeal.Frame
public import proofs.«01_k».proof.Proof.Gen.ReferenceExpertsIdeal.Run

@[expose] public section

set_option maxRecDepth 16384

noncomputable section

open Idealize.ShloMosaic Idealize.ShloMosaic.TcCoe Idealize.SL.Sem

namespace Cert.Experts

open Cert.KernelExpertsIdeal.Array

section
open Cert.KernelExpertsIdeal Cert.KernelExpertsIdeal.Gen

/-- The call leaves its arguments as they were and its result at the routed rows. -/
theorem run (m : (ℓ : Loc nD τ sig) → Buf (Elt Ideal) ℓ) (ρ : Dev nD → PrngReg) (hO : Ok m)
    (hT : ∀ c y, (aT m c y).toNat < 32) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (final m hO c (hT c)), h.2 c⟩)
    (θ_run_and (run_main m ρ hO) (unchanged m ρ hO))

end

theorem frame_p : Cert.quiescent_KernelExperts := fun m ρ h =>
  Cert.KernelExperts.Gen.frame m ρ (Cert.KernelExperts.Named.ok_of_pre m h)

theorem frame_pi : Cert.quiescent_KernelExpertsIdeal := fun m ρ h =>
  Cert.KernelExpertsIdeal.Gen.frame m ρ (Cert.KernelExpertsIdeal.Named.ok_of_pre m h)

theorem frame_ri : Cert.quiescent_ReferenceExpertsIdeal := fun m ρ _ =>
  (θ_run Cert.ReferenceExpertsIdeal.defs _ _).mono (fun r h => ⟨fun c => (h c).2,
    Idealize.ShloMosaic.sem_eq_zero_of_no_sems (by decide) r.2⟩) (Cert.ReferenceExpertsIdeal.Value.run m ρ)

theorem frame_ri_pre : Cert.quiescent_ReferenceExpertsIdeal_pre_named := fun m ρ _ =>
  (θ_run Cert.ReferenceExpertsIdeal.defs _ _).mono (fun r h => ⟨fun c => (h c).2,
    Idealize.ShloMosaic.sem_eq_zero_of_no_sems (by decide) r.2⟩) (Cert.ReferenceExpertsIdeal.Value.run m ρ)

theorem preserves : Cert.preserves_KernelExperts_KernelExpertsIdeal := trivial

set_option maxHeartbeats 2000000 in
theorem algebraic : Cert.algebraic_KernelExpertsIdeal_ReferenceExpertsIdeal := by
  intro m ρ m' ρ' hpre hagree
  have hT : ∀ c y, (aT m c y).toNat < 32 := fun c y => word_lt _ _ _ _ _ (hpre c) y
  refine ⟨fun c => result m c, run m ρ (Cert.KernelExpertsIdeal.Named.ok_of_pre m hpre) hT, ?_⟩
  refine (θ_run Cert.ReferenceExpertsIdeal.defs _ _).mono (fun r h c => ⟨(h c).1.trans ?_, (h c).2⟩)
    (Cert.ReferenceExpertsIdeal.Value.run m' ρ')
  refine (Cert.ReferenceExpertsIdeal.Read.val_main_v27_eq (F := Ideal) _ _ _ _ _).trans ?_
  obtain ⟨h0, h1, h2, h3, h4⟩ := hagree c
  rw [h0, h1, h2, h3, h4]
  funext y
  obtain ⟨r, j, rfl⟩ : ∃ (r : Fin 43008) (j : Fin 1024), y = ix2 r j := ⟨y 0, y 1, eq_ix2 (n0 := 43008) (n1 := 1024) y⟩
  exact Cert.ReferenceExpertsIdeal.Result.whole (aT m c) (aX m c) (aW1 m c) (aW3 m c) (aW2 m c) (hT c) r j

end Cert.Experts

end
-- ==== Proof.ModBlock.lean ====
/-
  The modulation vectors' block: what one grid point leaves in its output, row by row.
-/
module

public import proofs.«01_k».proof.Proof.Gen.KernelModIdeal.Frame
public import proofs.«01_k».proof.Proof.Gen.KernelModIdeal.Value
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Rows

/-- A number times its logistic. -/
def silu (a : EReal) : EReal := a * Ideal.logistic a

theorem silu_zero : silu 0 = 0 := zero_mul _

/-- The eight rows of conditions: four batches', the context's, and three of zeros. -/
def condition (C : Fin 4 → Fin 1024 → EReal) (D : Fin 1024 → EReal) (r : Fin 8) (l : Fin 1024) : EReal :=
  if h : r.val < 4 then C ⟨r.val, h⟩ l else if r.val = 4 then D l else 0

end Cert.Rows

namespace Cert.KernelModIdeal.Block

open Cert.KernelModIdeal Cert.KernelModIdeal.Gen Cert.Rows

theorem row (x : FVec Ideal S8x1024 .f32) (w : FVec Ideal S1x1024x1024 .f32) (b : FVec Ideal S1x1x1024 .f32)
    (r : Fin 8) (j : Fin 1024) :
    k0_pay1 (F := Ideal) x w b (ix3 0 r j)
      = dense (fun l => silu (x (ix2 r l))) (fun l => w (ix3 0 l j)) (b (ix3 0 0 j)) := by
  pointwise [k0_pay1]
  rfl

theorem out3 (x : FVec Ideal S8x1024 .f32) (w : FVec Ideal S1x1024x1024 .f32) (b : FVec Ideal S1x1x1024 .f32)
    (r : Fin 8) (j : Fin 1024) :
    out0_3 (F := Ideal) x w b (ix3 0 r j)
      = dense (fun l => silu (x (ix2 r l))) (fun l => w (ix3 0 l j)) (b (ix3 0 0 j)) := by
  unfold out0_3
  rw [View.canon_unit_zero (S := S1x8x1024) (funext fun a => by fin_cases a <;> rfl),
    View.ld_unit_zero (S := S8x1024) (funext fun a => by fin_cases a <;> rfl),
    View.ld_unit_zero (S := S1x1024x1024) (funext fun a => by fin_cases a <;> rfl),
    View.ld_unit_zero (S := S1x1x1024) (funext fun a => by fin_cases a <;> rfl)]
  exact row x w b r j

end Cert.KernelModIdeal.Block

end
-- ==== Proof.ModArray.lean ====
/-
  The array of modulation vectors: every element as one column of the product of its condition's row.
-/
module

public import proofs.«01_k».proof.Proof.ModBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelModIdeal.Array

open Cert.KernelModIdeal Cert.KernelModIdeal.Gen Cert.KernelModIdeal.Block Cert.Rows

/-- Column `d` of layer `a`'s product of condition `r`. -/
def product (X : FVec Ideal S8x1024 .f32) (W : FVec Ideal S2x1024x6144 .f32) (B : FVec Ideal S2x1x6144 .f32)
    (a : Fin 2) (r : Fin 8) (d : Fin 6144) : EReal :=
  dense (fun l => silu (X (ix2 r l))) (fun l => W (ix3 a l d)) (B (ix3 a 0 d))

def all3 (X : FVec Ideal S8x1024 .f32) (W : FVec Ideal S2x1024x6144 .f32) (B : FVec Ideal S2x1x6144 .f32) :
    FVec Ideal S2x8x6144 .f32 := fun y => product X W B (y 0) (y 1) (y 2)

/-- Every window's block at every grid point. -/
theorem idx : ∀ t : Fin cfg0.N, win0_0.index t = ![0, 0]
    ∧ win0_1.index t = ![t.val / 6, 0, t.val % 6]
    ∧ win0_2.index t = ![t.val / 6, 0, t.val % 6]
    ∧ win0_3.index t = ![t.val / 6, 0, t.val % 6] :=
  (by decide +kernel : ∀ t : Fin grid0.N, _)

variable (m : (ℓ : Loc nD τ sig) → Buf (Elt Ideal) ℓ) (c : Dev nD)

abbrev aX : FVec Ideal S8x1024 .f32 := V m c main_v4
abbrev aW : FVec Ideal S2x1024x6144 .f32 := V m c main_arg2
abbrev aB : FVec Ideal S2x1x6144 .f32 := V m c main_v5

theorem blk0 (t : Fin cfg0.N) : (iblk m c 0 t) = aX m c := by
  obtain ⟨e0, -⟩ := idx t
  funext y
  blk_ext [iblk, e0]

theorem blk1 (t : Fin cfg0.N) (l j : Fin 1024) (a : Fin 2) (d : Fin 6144) (ha : a.val = t.val / 6)
    (hd : d.val = t.val % 6 * 1024 + j.val) :
    (show FVec Ideal S1x1024x1024 .f32 from iblk m c 1 t) (ix3 0 l j) = aW m c (ix3 a l d) := by
  obtain ⟨-, e1, -⟩ := idx t
  blk_ext [iblk, e1]

theorem blk2 (t : Fin cfg0.N) (j : Fin 1024) (a : Fin 2) (d : Fin 6144) (ha : a.val = t.val / 6)
    (hd : d.val = t.val % 6 * 1024 + j.val) :
    (show FVec Ideal S1x1x1024 .f32 from iblk m c 2 t) (ix3 0 0 j) = aB m c (ix3 a 0 d) := by
  obtain ⟨-, -, e2, -⟩ := idx t
  blk_ext [iblk, e2]

theorem placed (t : Fin cfg0.N) (r : Fin 8) (j : Fin 1024) (z : S2x8x6144.Idx)
    (h0 : (z 0).val = t.val / 6) (h1 : (z 1).val = r.val) (h2 : (z 2).val = t.val % 6 * 1024 + j.val) :
    out0_3 (F := Ideal) (iblk m c 0 t) (iblk m c 1 t) (iblk m c 2 t) (ix3 0 r j) = all3 (aX m c) (aW m c) (aB m c) z := by
  refine (out3 _ _ _ r j).trans ?_
  unfold all3 product
  rw [blk0, show z 1 = r from Fin.ext h1]
  exact congrArg₂ (dense _) (funext fun l => blk1 m c t l j _ _ h0 h2) (blk2 m c t j _ _ h0 h2)

theorem final : (dats m 0 c).arrAt 3 cfg0.N = all3 (aX m c) (aW m c) (aB m c) := by
  refine (dats m 0 c).arrAt_eq_of_covers 3 _ (by decide +kernel) fun t _ (y : S1x8x1024.Idx) => ?_
  obtain ⟨-, -, -, e3⟩ := idx t
  blk_simp
  rw [after0_3]
  obtain ⟨r, j, rfl⟩ : ∃ (r : Fin 8) (j : Fin 1024), y = (ix3 0 r j : S1x8x1024.Idx) :=
    ⟨y 1, y 2, (eq_ix3 (n0 := 1) (n1 := 8) (n2 := 1024) y).trans
      (congrArg (fun k : Fin 1 => ix3 k (y 1) (y 2)) (Subsingleton.elim _ _))⟩
  have h0 : ((win0_3.blk t).view.emb (ix3 0 r j : S1x8x1024.Idx) 0).val = t.val / 6 := by
    blk_simp [e3]
    exact Nat.add_zero _
  have h1 : ((win0_3.blk t).view.emb (ix3 0 r j : S1x8x1024.Idx) 1).val = r.val := by
    blk_simp [e3]
  have h2 : ((win0_3.blk t).view.emb (ix3 0 r j : S1x8x1024.Idx) 2).val = t.val % 6 * 1024 + j.val := by
    blk_simp [e3]
  exact placed m c t r j _ h0 h1 h2

end Cert.KernelModIdeal.Array

end
-- ==== Proof.ModTables.lean ====
/-
  The rows the host code lays for the modulation vectors: the batches' conditions, the context's, and zeros.
-/
module

public import proofs.«01_k».proof.Proof.ModArray
public import Idealize.ShloMosaic.Lib.Routing.OpsSet
public import Idealize.ShloMosaic.Lib.Routing.OpsPair
public import Idealize.ShloMosaic.Lib.StableHlo.RunRead

@[expose] public section

set_option maxRecDepth 16384

noncomputable section

open Idealize.ShloMosaic Idealize.ShloMosaic.TcCoe Idealize.SL.Sem

namespace Cert.KernelModIdeal.Tables

open Cert.KernelModIdeal Cert.KernelModIdeal.Gen Cert.KernelModIdeal.Array Cert.Rows Idealize.ShloMosaic.Routing

/-- Where an update of four rows lands: its own row, counted from the index word. -/
theorem rows_land (i : IVec S1 32) (h : (i (ix1 0)).toInt = 0) (p : Fin 4) (q l : Fin 1024) (r : Fin 8) :
    scatter_S8x1024_S1_S4x1024_01_n_0_0.resultIdx? (ix2 p q) i = some (ix2 r l) ↔ p.val = r.val ∧ q = l := by
  have w0 : scatter_S8x1024_S1_S4x1024_01_n_0_0.window (ix2 p q) 0 = p.val := rfl
  have w1 : scatter_S8x1024_S1_S4x1024_01_n_0_0.window (ix2 p q) 1 = q.val := rfl
  have s0 : scatter_S8x1024_S1_S4x1024_01_n_0_0.start (ix2 p q) i 0 = 0 := by
    refine Eq.trans ?_ h
    unfold ScatterDims.start
    rw [dif_pos (by decide)]
    exact congrArg (fun k => (i k).toInt) (funext fun b => match b with
      | ⟨0, _⟩ => Subsingleton.elim (α := Fin 1) _ _)
  have s1 : scatter_S8x1024_S1_S4x1024_01_n_0_0.start (ix2 p q) i 1 = 0 := rfl
  refine (resultIdx?_ix2 (R := 8) (C := 1024) _ _ i r l).trans ?_
  rw [w0, w1, s0, s1, Fin.ext_iff]
  omega

/-- Where an update of one row lands: the row the index word names. -/
theorem row_lands (i : IVec S1 32) (h : (i (ix1 0)).toInt = 4) (q l : Fin 1024) (r : Fin 8) :
    scatter_S8x1024_S1_S1024_0_0_0_0.resultIdx? (ix1 q) i = some (ix2 r l) ↔ r.val = 4 ∧ q = l := by
  have w0 : scatter_S8x1024_S1_S1024_0_0_0_0.window (ix1 q) 0 = 0 := rfl
  have w1 : scatter_S8x1024_S1_S1024_0_0_0_0.window (ix1 q) 1 = q.val := rfl
  have s0 : scatter_S8x1024_S1_S1024_0_0_0_0.start (ix1 q) i 0 = 4 := by
    refine Eq.trans ?_ h
    unfold ScatterDims.start
    rw [dif_pos (by decide)]
    exact congrArg (fun k => (i k).toInt) (funext fun b => match b with
      | ⟨0, _⟩ => Subsingleton.elim (α := Fin 1) _ _)
  have s1 : scatter_S8x1024_S1_S1024_0_0_0_0.start (ix1 q) i 1 = 0 := rfl
  refine (resultIdx?_ix2 (R := 8) (C := 1024) _ _ i r l).trans ?_
  rw [w0, w1, s0, s1, Fin.ext_iff]
  omega

/-- The conditions laid in eight rows, as the host code lays them. -/
def lay (C : FVec Ideal S4x1024 .f32) (D : FVec Ideal S1024 .f32) : FVec Ideal S8x1024 .f32 :=
  Host.scatter scatter_S8x1024_S1_S1024_0_0_0_0 (fun _ b => b)
    (Host.scatter scatter_S8x1024_S1_S4x1024_01_n_0_0 (fun _ b => b)
      (broadcastInDim S8x1024 ![] bcast_S_S8x1024 (constant S_ .f32 0x00000000#32))
      (broadcastInDim S1 ![] bcast_S_S1 (constantI S_ 32 0#32)) C)
    (broadcastInDim S1 ![] bcast_S_S1 (constantI S_ 32 4#32)) D

theorem lay_at (C : FVec Ideal S4x1024 .f32) (D : FVec Ideal S1024 .f32) (r : Fin 8) (l : Fin 1024) :
    lay C D (ix2 r l) = condition (fun r l => C (ix2 r l)) (fun l => D (ix1 l)) r l := by
  have i0 : ((broadcastInDim S1 ![] bcast_S_S1 (constantI S_ 32 0#32) : IVec S1 32) (ix1 0)).toInt = 0 := rfl
  have i4 : ((broadcastInDim S1 ![] bcast_S_S1 (constantI S_ 32 4#32) : IVec S1 32) (ix1 0)).toInt = 4 := rfl
  have z : ∀ y, (broadcastInDim S8x1024 ![] bcast_S_S8x1024 (constant S_ .f32 0x00000000#32) : FVec Ideal S8x1024 .f32) y = 0 :=
    fun y => show Ideal.ofBits .f32 0#32 = 0 by simp [Ideal.ofBits, Ideal.ieee]
  unfold lay condition
  generalize (broadcastInDim S1 ![] bcast_S_S1 (constantI S_ 32 0#32) : IVec S1 32) = i at i0 ⊢
  generalize (broadcastInDim S1 ![] bcast_S_S1 (constantI S_ 32 4#32) : IVec S1 32) = j at i4 ⊢
  generalize (broadcastInDim S8x1024 ![] bcast_S_S8x1024 (constant S_ .f32 0x00000000#32) : FVec Ideal S8x1024 .f32) = o at z ⊢
  by_cases h4 : r.val = 4
  · rw [dif_neg (by omega), if_pos h4]
    refine scatter_set_hit _ _ _ _ _ _ (fun k hk => ?_) (ix1 l) ((row_lands j i4 l l r).2 ⟨h4, rfl⟩)
    obtain ⟨q, rfl⟩ : ∃ q : Fin 1024, k = ix1 q := ⟨k 0, eq_ix1 (n0 := 1024) k⟩
    rw [((row_lands j i4 q l r).1 hk).2]
  · rw [scatter_set_miss _ _ _ _ _ fun k hk => by
      obtain ⟨q, rfl⟩ : ∃ q : Fin 1024, k = ix1 q := ⟨k 0, eq_ix1 (n0 := 1024) k⟩
      exact h4 ((row_lands j i4 q l r).1 hk).1]
    by_cases h : r.val < 4
    · rw [dif_pos h]
      refine scatter_set_hit _ _ _ _ _ _ (fun k hk => ?_) (ix2 ⟨r.val, h⟩ l) ((rows_land i i0 ⟨r.val, h⟩ l l r).2 ⟨rfl, rfl⟩)
      obtain ⟨p, q, rfl⟩ : ∃ (p : Fin 4) (q : Fin 1024), k = ix2 p q := ⟨k 0, k 1, eq_ix2 (n0 := 4) (n1 := 1024) k⟩
      obtain ⟨hp, hq⟩ := (rows_land i i0 p q l r).1 hk
      rw [hq, show p = ⟨r.val, h⟩ from Fin.ext hp]
    · rw [dif_neg h, if_neg h4, scatter_set_miss _ _ _ _ _ fun k hk => by
        obtain ⟨p, q, rfl⟩ : ∃ (p : Fin 4) (q : Fin 1024), k = ix2 p q := ⟨k 0, k 1, eq_ix2 (n0 := 4) (n1 := 1024) k⟩
        have := ((rows_land i i0 p q l r).1 hk).1
        omega]
      exact z _

variable (m : (ℓ : Loc nD τ sig) → Buf (Elt Ideal) ℓ) (c : Dev nD)

theorem conditions : aX m c = lay (m ((c : Thread nD τ).loc main_arg0)) (m ((c : Thread nD τ).loc main_arg1)) := by
  show StableHlo.after hostOps0 (fun b => m (c, b)) (Proc.devRef .tc main_v4) = _
  generalize hr : lay _ _ = r
  after_reads_simp
  exact hr

theorem biases (a : Fin 2) (d : Fin 6144) :
    aB m c (ix3 a 0 d) = (show FVec Ideal S2x6144 .f32 from m ((c : Thread nD τ).loc main_arg3)) (ix2 a d) := by
  have e : aB m c = shapeCast S2x1x6144 (show FVec Ideal S2x6144 .f32 from m ((c : Thread nD τ).loc main_arg3)) shapeCasts_S2x6144_S2x1x6144 := by
    show StableHlo.after hostOps0 (fun b => m (c, b)) (Proc.devRef .tc main_v5) = _
    generalize hr : shapeCast _ _ _ = r
    after_reads_simp
    exact hr
  rw [e]
  generalize (show FVec Ideal S2x6144 .f32 from m ((c : Thread nD τ).loc main_arg3)) = w
  pointwise

end Cert.KernelModIdeal.Tables

end
-- ==== Proof.ModRef.lean ====
/-
  The modulation vectors' reference, element by element, in plain formulas.
-/
module

public import proofs.«01_k».proof.Proof.Gen.ReferenceModIdeal.Read
public import proofs.«01_k».proof.Proof.ModBlock

@[expose] public section

set_option maxRecDepth 16384

noncomputable section

open Idealize.ShloMosaic Idealize.ShloMosaic.TcCoe Idealize.SL.Sem

namespace Cert.ReferenceModIdeal.Result

open Cert.ReferenceModIdeal Cert.ReferenceModIdeal.Read Cert.Rows

variable (x0 : FVec Ideal S4x1024 .f32) (x1 : FVec Ideal S1024 .f32) (x2 : FVec Ideal S2x1024x6144 .f32)
  (x3 : FVec Ideal S2x6144 .f32)

theorem act0 (r : Fin 4) (l : Fin 1024) : val_main_v0 (F := Ideal) x0 (ix2 r l) = silu (x0 (ix2 r l)) := by
  pointwise [val_main_v0, val_main_call0_v5, val_main_call0_v4, val_main_call0_cst_0, val_main_call0_v3, val_main_call0_v2, val_main_call0_cst, val_main_call0_v1, val_main_call0_v0]
  rfl

theorem act1 (l : Fin 1024) : val_main_v6 (F := Ideal) x1 (ix1 l) = silu (x1 (ix1 l)) := by
  pointwise [val_main_v6, val_main_call1_v5, val_main_call1_v4, val_main_call1_cst_0, val_main_call1_v3, val_main_call1_v2, val_main_call1_cst, val_main_call1_v1, val_main_call1_v0]
  rfl

theorem batches (a : Fin 2) (r : Fin 4) (d : Fin 6144) :
    val_main_v5 (F := Ideal) x0 x2 x3 (ix3 a r d)
      = dense (fun l => silu (x0 (ix2 r l))) (fun l => x2 (ix3 a l d)) (x3 (ix2 a d)) := by
  have e : val_main_v5 (F := Ideal) x0 x2 x3 (ix3 a r d)
      = (∑ l, x2 (ix3 a l d) * val_main_v0 (F := Ideal) x0 (ix2 r l)) + x3 (ix2 a d) := by
    unfold val_main_v5 val_main_v4 val_main_v3 val_main_v2 val_main_v1
    generalize val_main_v0 (F := Ideal) x0 = h
    pointwise
  rw [e]
  unfold dense
  exact congrArg (· + _) (Finset.sum_congr rfl fun l _ => by rw [act0, mul_comm])

theorem context (a : Fin 2) (d : Fin 6144) :
    val_main_v9 (F := Ideal) x1 x2 x3 (ix3 a 0 d)
      = dense (fun l => silu (x1 (ix1 l))) (fun l => x2 (ix3 a l d)) (x3 (ix2 a d)) := by
  have e : val_main_v9 (F := Ideal) x1 x2 x3 (ix3 a 0 d)
      = (∑ l, val_main_v6 (F := Ideal) x1 (ix1 l) * x2 (ix3 a l d)) + x3 (ix2 a d) := by
    unfold val_main_v9 val_main_v8 val_main_v7
    generalize val_main_v6 (F := Ideal) x1 = h
    pointwise
  rw [e]
  unfold dense
  exact congrArg (· + _) (Finset.sum_congr rfl fun l _ => by rw [act1])

theorem bias (a : Fin 2) (k : Fin 3) (d : Fin 6144) : val_main_v11 (F := Ideal) x3 (ix3 a k d) = x3 (ix2 a d) := by
  pointwise [val_main_v11, val_main_v10]

theorem whole (a : Fin 2) (r : Fin 8) (d : Fin 6144) :
    val_main_v12 (F := Ideal) x0 x1 x2 x3 (ix3 a r d)
      = dense (fun l => silu (condition (fun r l => x0 (ix2 r l)) (fun l => x1 (ix1 l)) r l)) (fun l => x2 (ix3 a l d)) (x3 (ix2 a d)) := by
  have e : val_main_v12 (F := Ideal) x0 x1 x2 x3 (ix3 a r d)
      = if h : r.val < 4 then val_main_v5 (F := Ideal) x0 x2 x3 (ix3 a ⟨r.val, h⟩ d)
        else if h : r.val = 4 then val_main_v9 (F := Ideal) x1 x2 x3 (ix3 a 0 d)
        else val_main_v11 (F := Ideal) x3 (ix3 a ⟨r.val - 5, by omega⟩ d) := by
    unfold val_main_v12
    generalize val_main_v5 (F := Ideal) x0 x2 x3 = u
    generalize val_main_v9 (F := Ideal) x1 x2 x3 = v
    generalize val_main_v11 (F := Ideal) x3 = w
    pointwise
    split
    · rfl
    · split
      · rw [dif_pos (by omega)]
        exact congrArg (fun k => v (ix3 a k d)) (Subsingleton.elim _ _)
      · rw [dif_neg (by omega)]
        exact congrArg (fun k => w (ix3 a k d)) (Fin.ext (by dsimp only; omega))
  rw [e]
  unfold condition
  by_cases h : r.val < 4
  · simp only [dif_pos h]
    exact batches x0 x2 x3 a _ d
  · by_cases h' : r.val = 4
    · simp only [dif_neg h, dif_pos h', if_pos h']
      exact context x1 x2 x3 a d
    · simp only [dif_neg h, dif_neg h', if_neg h']
      rw [bias]
      unfold dense
      rw [Finset.sum_eq_zero fun l _ => by rw [silu_zero, zero_mul], zero_add]

end Cert.ReferenceModIdeal.Result

end
-- ==== Proof.Mod.lean ====
/-
  The modulation vectors' claims.
-/
module

public import proofs.«01_k».proof.Defs
public import proofs.«01_k».proof.Proof.ModTables
public import proofs.«01_k».proof.Proof.ModRef
public import proofs.«01_k».proof.Proof.Gen.KernelMod.Frame
public import proofs.«01_k».proof.Proof.Gen.ReferenceModIdeal.Run

@[expose] public section

set_option maxRecDepth 16384

noncomputable section

open Idealize.ShloMosaic Idealize.ShloMosaic.TcCoe Idealize.SL.Sem

namespace Cert.Mod

open Cert.Rows Cert.KernelModIdeal.Array Cert.KernelModIdeal.Tables

theorem frame_p : Cert.quiescent_KernelMod := fun m ρ _ => Cert.KernelMod.Gen.frame m ρ

theorem frame_pi : Cert.quiescent_KernelModIdeal := fun m ρ _ => Cert.KernelModIdeal.Gen.frame m ρ

theorem frame_ri : Cert.quiescent_ReferenceModIdeal := fun m ρ _ =>
  (θ_run Cert.ReferenceModIdeal.defs _ _).mono (fun r h => ⟨fun c => (h c).2,
    Idealize.ShloMosaic.sem_eq_zero_of_no_sems (by decide) r.2⟩) (Cert.ReferenceModIdeal.Value.run m ρ)

theorem preserves : Cert.preserves_KernelMod_KernelModIdeal := trivial

/-- The two arrays, of the same arguments. -/
theorem same (C : FVec Ideal KernelModIdeal.S4x1024 .f32) (D : FVec Ideal KernelModIdeal.S1024 .f32)
    (W : FVec Ideal KernelModIdeal.S2x1024x6144 .f32) (B : FVec Ideal KernelModIdeal.S2x6144 .f32)
    (B' : FVec Ideal KernelModIdeal.S2x1x6144 .f32) (h : ∀ a d, B' (ix3 a 0 d) = B (ix2 a d)) :
    ReferenceModIdeal.Read.val_main_v12 (F := Ideal) C D W B = all3 (lay C D) W B' := by
  funext y
  obtain ⟨a, r, d, rfl⟩ : ∃ (a : Fin 2) (r : Fin 8) (d : Fin 6144), y = ix3 a r d :=
    ⟨y 0, y 1, y 2, eq_ix3 (n0 := 2) (n1 := 8) (n2 := 6144) y⟩
  refine (ReferenceModIdeal.Result.whole C D W B a r d).trans ?_
  show _ = product (lay C D) W B' a r d
  unfold product
  rw [h]
  exact congrArg (fun x => dense x _ _) (funext fun l => congrArg silu (lay_at C D r l).symm)

theorem algebraic : Cert.algebraic_KernelModIdeal_ReferenceModIdeal := by
  intro m ρ m' ρ' _ hagree
  refine ⟨_, Cert.KernelModIdeal.Value.run_blocks m ρ, ?_⟩
  refine (θ_run Cert.ReferenceModIdeal.defs _ _).mono (fun r h c => ⟨(h c).1.trans ?_, (h c).2⟩)
    (Cert.ReferenceModIdeal.Value.run m' ρ')
  refine (Cert.ReferenceModIdeal.Read.val_main_v12_eq (F := Ideal) _ _ _ _).trans ?_
  obtain ⟨h0, h1, h2, h3⟩ := hagree c
  rw [h0, h1, h2, h3, final, conditions]
  unfold aW
  rw [Cert.KernelModIdeal.Gen.V_main_arg2]
  exact same _ _ _ _ _ (biases m c)

end Cert.Mod

end
-- ==== Proof.NaPlain.lean ====
/-
  The neighbourhood attention in plain formulas: the softmax average over a window's places and the context, and the same average
  taken over whole rows of which only the window's places count.
-/
module

public import proofs.«01_k».proof.Proof.Lanes

@[expose] public section

noncomputable section

open Idealize.ShloMosaic

namespace Cert.Near

open Cert.Plain Cert.Lanes Cert.KernelIdeal.Block

/-- The first row of the grid in the window of row `r`. -/
def start (r : ℕ) : ℕ := min (r - 4) 56

/-- The first column of the grid in the window of column `w`. -/
def left (w : ℕ) : ℕ := min (w - 8) 48

/-- Two rows of scores one after the other. -/
def join {a b c : ℕ} (h : a + b = c) (s : Fin a → EReal) (t : Fin b → EReal) (i : Fin c) : EReal :=
  if hi : i.val < a then s ⟨i.val, hi⟩ else t ⟨i.val - a, by omega⟩

/-- Values of two kinds averaged with one softmax of all the scores. -/
def attend2 {a b c : ℕ} (h : a + b = c) (s v : Fin a → EReal) (t w : Fin b → EReal) : EReal :=
  ∑ i, Ideal.div (Ideal.exp (s i - peak (join h s t))) (∑ u, Ideal.exp (join h s t u - peak (join h s t))) * v i
    + ∑ i, w i * Ideal.div (Ideal.exp (t i - peak (join h s t))) (∑ u, Ideal.exp (join h s t u - peak (join h s t)))

/-- The same with the division last. -/
def mix2 {a b : ℕ} (s v : Fin a → EReal) (t w : Fin b → EReal) : EReal :=
  Ideal.div (∑ i, Ideal.exp (s i - max (top s) (top t)) * v i + ∑ i, Ideal.exp (t i - max (top s) (top t)) * w i)
    (∑ i, Ideal.exp (s i - max (top s) (top t)) + ∑ i, Ideal.exp (t i - max (top s) (top t)))

theorem top_sup {n : ℕ} (s : Fin n → EReal) : top s = Finset.univ.sup s := by
  unfold top
  rw [word_bot]
  rfl

theorem peak_sup {n : ℕ} (s : Fin n → EReal) : peak s = Finset.univ.sup s := by
  unfold peak
  rw [word_bot, max_eq_right bot_le]
  rfl

theorem join_left {a b c : ℕ} (h : a + b = c) (s : Fin a → EReal) (t : Fin b → EReal) (i : Fin a) :
    join h s t ⟨i.val, by omega⟩ = s i := by
  unfold join
  rw [dif_pos i.isLt]

theorem join_right {a b c : ℕ} (h : a + b = c) (s : Fin a → EReal) (t : Fin b → EReal) (i : Fin b) :
    join h s t ⟨a + i.val, by omega⟩ = t i := by
  unfold join
  rw [dif_neg (by dsimp only; omega)]
  exact congrArg t (Fin.ext (by dsimp only; omega))

theorem peak_join {a b c : ℕ} (h : a + b = c) (s : Fin a → EReal) (t : Fin b → EReal) :
    peak (join h s t) = max (top s) (top t) := by
  rw [peak_sup, top_sup, top_sup]
  apply le_antisymm
  · refine Finset.sup_le fun i _ => ?_
    unfold join
    split
    · exact le_max_of_le_left (Finset.le_sup (f := s) (Finset.mem_univ _))
    · exact le_max_of_le_right (Finset.le_sup (f := t) (Finset.mem_univ _))
  · refine max_le (Finset.sup_le fun i _ => ?_) (Finset.sup_le fun i _ => ?_)
    · exact (join_left h s t i).symm.le.trans (Finset.le_sup (f := join h s t) (Finset.mem_univ _))
    · exact (join_right h s t i).symm.le.trans (Finset.le_sup (f := join h s t) (Finset.mem_univ _))

theorem sum_join {a b c : ℕ} (h : a + b = c) (s : Fin a → EReal) (t : Fin b → EReal) (f : EReal → EReal) :
    ∑ u, f (join h s t u) = ∑ i, f (s i) + ∑ i, f (t i) := by
  subst h
  rw [Fin.sum_univ_add]
  congr 1
  · exact Finset.sum_congr rfl fun i _ => congrArg f (join_left rfl s t i)
  · exact Finset.sum_congr rfl fun i _ => congrArg f (join_right rfl s t i)

/-- Where all the scores are finite, the two ways of dividing agree. -/
theorem mix2_eq {a b c : ℕ} (h : a + b = c) (ha : 0 < a) (hb : 0 < b) (s v : Fin a → EReal) (t w : Fin b → EReal) (hs : ∀ i, IsNum (s i))
    (ht : ∀ i, IsNum (t i)) : mix2 s v t w = attend2 h s v t w := by
  unfold attend2 mix2
  rw [sum_join h s t (fun x => Ideal.exp (x - peak (join h s t))), peak_join]
  obtain ⟨p, hp⟩ : IsNum (max (top s) (top t)) := by
    rcases max_choice (top s) (top t) with e | e
    · rw [e]; exact top_num ha s hs
    · rw [e]; exact top_num hb t ht
  rw [hp]
  choose r hr using hs
  choose q hq using ht
  have he : ∀ i, Ideal.exp (s i - p) = ((Real.exp (r i - p) : ℝ) : EReal) := fun i => by
    rw [hr i, ← EReal.coe_sub]
    rfl
  have hf : ∀ i, Ideal.exp (t i - p) = ((Real.exp (q i - p) : ℝ) : EReal) := fun i => by
    rw [hq i, ← EReal.coe_sub]
    rfl
  simp only [he, hf, coe_sum, ← EReal.coe_add]
  have hL : 0 < ∑ i, Real.exp (r i - p) + ∑ i, Real.exp (q i - p) :=
    add_pos_of_pos_of_nonneg (Finset.sum_pos (fun i _ => Real.exp_pos _) ⟨⟨0, ha⟩, Finset.mem_univ _⟩)
      (Finset.sum_nonneg fun i _ => (Real.exp_pos _).le)
  simp only [Ideal.div_coe hL.ne']
  rw [EReal.right_distrib_of_nonneg_of_ne_top (by exact_mod_cast (by positivity : (0:ℝ) ≤ 1 / _)) (EReal.coe_ne_top _),
    ← sum_mul_coe _ _ _ (by positivity), ← sum_mul_coe _ _ _ (by positivity)]
  congr 1
  · exact Finset.sum_congr rfl fun i _ => mul_right_comm _ _ _
  · exact Finset.sum_congr rfl fun i _ => by rw [mul_comm (Real.exp (q i - p) : EReal) (w i), mul_assoc]

/-- Scores of whole rows, of which all but a window's are no scores, weigh as the window's do. -/
theorem mix2_window {n a b : ℕ} (g : Fin a → Fin n) (hg : Function.Injective g) (S V : Fin n → EReal) (s v : Fin a → EReal)
    (t w : Fin b → EReal) (hin : ∀ i, S (g i) = s i) (hv : ∀ i, V (g i) = v i) (hout : ∀ x, x ∉ Set.range g → S x = ⊥) :
    mix2 S V t w = mix2 s v t w := by
  have ht : top S = top s := by
    rw [top_sup, top_sup]
    apply le_antisymm
    · refine Finset.sup_le fun x _ => ?_
      by_cases hx : x ∈ Set.range g
      · obtain ⟨i, rfl⟩ := hx
        rw [hin]
        exact Finset.le_sup (f := s) (Finset.mem_univ _)
      · rw [hout x hx]
        exact bot_le
    · exact Finset.sup_le fun i _ => (hin i).symm.le.trans (Finset.le_sup (f := S) (Finset.mem_univ _))
  have h0 : ∀ m x, x ∉ Set.range g → Ideal.exp (S x - m) = 0 := fun m x hx => by
    rw [hout x hx, EReal.bot_sub]
    rfl
  unfold mix2
  rw [ht]
  have e1 : ∀ m, ∑ x, Ideal.exp (S x - m) = ∑ i, Ideal.exp (s i - m) := fun m =>
    (Fintype.sum_of_injective g hg _ _ (fun x hx => h0 m x hx) fun i => by rw [hin]).symm
  have e2 : ∀ m, ∑ x, Ideal.exp (S x - m) * V x = ∑ i, Ideal.exp (s i - m) * v i := fun m =>
    (Fintype.sum_of_injective g hg _ _ (fun x hx => by rw [h0 m x hx, zero_mul]) fun i => by rw [hin, hv]).symm
  rw [e1, e2]

/-- The sum over the lanes of one head of eight. -/
theorem sum_head (f : Fin 512 → EReal) (h : Fin 8) :
    ∑ l : Fin 512, (if l.val / 64 = h.val then f l else 0) = ∑ e : Fin 64, f ⟨h.val * 64 + e.val, by omega⟩ := by
  rw [← Finset.sum_filter]
  symm
  refine Finset.sum_nbij' (fun e : Fin 64 => (⟨h.val * 64 + e.val, by omega⟩ : Fin 512)) (fun l => ⟨l.val % 64, Nat.mod_lt _ (by omega)⟩)
    ?_ ?_ ?_ ?_ ?_
  · intro e _
    rw [Finset.mem_filter]
    exact ⟨Finset.mem_univ _, by dsimp only; omega⟩
  · intro l _
    exact Finset.mem_univ _
  · intro e _
    exact Fin.ext (by dsimp only; omega)
  · intro l hl
    rw [Finset.mem_filter] at hl
    exact Fin.ext (by dsimp only; omega)
  · intro e _
    rfl

end Cert.Near

end
-- ==== Proof.NaBlock.lean ====
/-
  What the neighbourhood attention's blocks compute, element by element.
-/
module

public import proofs.«01_k».proof.Proof.NaPlain
public import proofs.«01_k».proof.Proof.Gen.KernelNaIdeal.Value
public import Idealize.ShloMosaic.Lib.Pipeline.ValueKit

@[expose] public section

set_option maxRecDepth 16384

noncomputable section

open Idealize.ShloMosaic Idealize.ShloMosaic.TcCoe Idealize.SL.Sem

namespace Cert.KernelNaIdeal.Block

open Cert.KernelNaIdeal Cert.KernelNaIdeal.Gen Cert.Near Cert.Lanes
open Cert.KernelIdeal.Block (top mix)

/-- A lane's head, as a word. -/
theorem head_word (j : Fin 512) : k0_pay9 (ix2 0 j) = BitVec.ofNat 32 (j.val / 64) := by
  have e : k0_pay9 (ix2 0 j) = k0_pay9 (ix2 0 ⟨j.val, j.isLt⟩) := rfl
  revert j
  decide +kernel

theorem eq_word (a : ℕ) (ha : a < 8) (b : ℕ) (hb : b < 8) :
    IntOp.cmpi .eq (BitVec.ofNat 32 a) (BitVec.ofNat 32 b) = if a = b then 1#1 else 0#1 := by
  have : ∀ a b : Fin 8, IntOp.cmpi .eq (BitVec.ofNat 32 a.val) (BitVec.ofNat 32 b.val) = if a.val = b.val then 1#1 else 0#1 := by
    decide +kernel
  exact this ⟨a, ha⟩ ⟨b, hb⟩

theorem sel (l : Fin 512) (b : ℕ) (hb : b < 8) (x y : EReal) :
    Scalar.select (IntOp.cmpi .eq (k0_pay9 (ix2 0 l)) (BitVec.ofNat 32 b)) x y = if l.val / 64 = b then x else y := by
  rw [head_word, eq_word _ (by omega) b hb]
  split <;> rfl

theorem ix2_congr {a b : ℕ} {i i' : Fin a} {j j' : Fin b} (hi : i = i') (hj : j = j') :
    (ix2 i j : (⟨2, ![a, b]⟩ : Shape).Idx) = ix2 i' j' := by rw [hi, hj]

theorem pick (q : FVec Ideal S64x512 .bf16) (R l : Fin 512) (b a : ℕ) (ha : a < 64) (hb : R.val / 64 = b) (h : a = R.val % 64) :
    (if l.val / 64 = b then q (ix2 ⟨a, ha⟩ l) else (0 : EReal))
      = if l.val / 64 = R.val / 64 then q (ix2 ⟨R.val % 64, Nat.mod_lt _ (by omega)⟩ l) else 0 := by
  subst hb
  subst h
  rfl

/-- The stacked queries: one copy of the block for each head, with the other heads' lanes zero. -/
abbrev qs (q : FVec Ideal S64x512 .bf16) : FVec Ideal S512x512 .bf16 :=
  k0_pay1 (F := Ideal) k0_pay9 q (k0_pay10 (F := Ideal)) (k0_pay11 (F := Ideal) q) (k0_pay12 (F := Ideal) q) (k0_pay13 (F := Ideal) q) k0_pay14

set_option maxHeartbeats 2000000 in
theorem stacked (q : FVec Ideal S64x512 .bf16) (R l : Fin 512) :
    qs q (ix2 R l) = if l.val / 64 = R.val / 64 then q (ix2 ⟨R.val % 64, Nat.mod_lt _ (by omega)⟩ l) else 0 := by
  unfold qs
  pointwise [k0_pay1, k0_pay10, k0_pay11, k0_pay12, k0_pay13, k0_pay14]
  simp only [sel _ _ (show 0 < 8 by omega), sel _ 1 (by omega), sel _ 2 (by omega), sel _ 3 (by omega), sel _ 4 (by omega),
    sel _ 5 (by omega), sel _ 6 (by omega), sel _ 7 (by omega)]
  have hR := R.isLt
  split
  · exact pick q R l 0 _ _ (by omega) (by omega)
  split
  · exact pick q R l 1 _ _ (by omega) (by omega)
  split
  · exact pick q R l 2 _ _ (by omega) (by omega)
  split
  · exact pick q R l 3 _ _ (by omega) (by omega)
  split
  · exact pick q R l 4 _ _ (by omega) (by omega)
  split
  · exact pick q R l 5 _ _ (by omega) (by omega)
  split
  · exact pick q R l 6 _ _ (by omega) (by omega)
  · exact pick q R l 7 _ _ (by omega) (by omega)

/-- Of eight row blocks, the one of a lane's head. -/
theorem choose_head (o : FVec Ideal S512x512 .f32) (w : Fin 64) (j : Fin 512) :
    (if j.val / 64 = 0 then o (ix2 ⟨w.val, by omega⟩ j) else if j.val / 64 = 1 then o (ix2 ⟨64 + w.val, by omega⟩ j)
      else if j.val / 64 = 2 then o (ix2 ⟨128 + w.val, by omega⟩ j) else if j.val / 64 = 3 then o (ix2 ⟨192 + w.val, by omega⟩ j)
      else if j.val / 64 = 4 then o (ix2 ⟨256 + w.val, by omega⟩ j) else if j.val / 64 = 5 then o (ix2 ⟨320 + w.val, by omega⟩ j)
      else if j.val / 64 = 6 then o (ix2 ⟨384 + w.val, by omega⟩ j) else o (ix2 ⟨448 + w.val, by omega⟩ j))
      = o (ix2 ⟨j.val / 64 * 64 + w.val, by omega⟩ j) := by
  have hj := j.isLt
  have hw := w.isLt
  repeat' split
  all_goals exact congrArg o (ix2_congr (Fin.ext (by dsimp only; omega)) rfl)

set_option maxHeartbeats 2000000 in
theorem merged (o : FVec Ideal S512x512 .f32) (w : Fin 64) (j : Fin 512) :
    k0_pay4 (F := Ideal) k0_pay9 o (ix2 w j) = o (ix2 ⟨j.val / 64 * 64 + w.val, by omega⟩ j) := by
  pointwise [k0_pay4]
  simp only [sel _ _ (show 0 < 8 by omega), sel _ 1 (by omega), sel _ 2 (by omega), sel _ 3 (by omega), sel _ 4 (by omega),
    sel _ 5 (by omega), sel _ 6 (by omega)]
  exact choose_head o w j

theorem merged_context (v : FVec Ideal S256x512 .bf16) (s : FVec Ideal S512x256 .f32) (w : Fin 64) (j : Fin 512) :
    k0_pay3 (F := Ideal) (k0_pay5 (F := Ideal) v s) (k0_pay6 (F := Ideal) k0_pay9 v s) (k0_pay7 k0_pay9) (ix2 w j)
      = k0_pay5 (F := Ideal) v s (ix2 ⟨j.val / 64 * 64 + w.val, by omega⟩ j) := by
  unfold k0_pay6
  generalize k0_pay5 (F := Ideal) v s = o
  pointwise [k0_pay3, k0_pay7]
  simp only [sel _ _ (show 0 < 8 by omega), sel _ 1 (by omega), sel _ 2 (by omega), sel _ 3 (by omega), sel _ 4 (by omega),
    sel _ 5 (by omega), sel _ 6 (by omega)]
  exact choose_head o w j

set_option maxHeartbeats 2000000 in
theorem mixed (v : FVec Ideal S256x512 .bf16) (s : FVec Ideal S512x256 .f32) (R j : Fin 512) :
    k0_pay5 (F := Ideal) v s (ix2 R j) = mix (fun u : Fin 256 => s (ix2 R u)) (fun u => v (ix2 u j)) := by
  pointwise [k0_pay5]
  rfl

set_option maxHeartbeats 2000000 in
theorem mixed2 (qq : FVec Ideal S512x512 .bf16) (vc : FVec Ideal S256x512 .bf16) (s : FVec Ideal S512x256 .f32)
    (kw vw : FVec Ideal S512x512 .bf16) (bias : FVec Ideal S1x512x512 .f32) (R j : Fin 512) :
    k0_pay8 (F := Ideal) qq vc s kw vw bias (ix2 R j)
      = mix2 (fun u : Fin 512 => (∑ l : Fin 512, qq (ix2 R l) * kw (ix2 u l)) * Ideal.ofBits .f32 0x3E000000#32 + bias (ix3 0 R u))
          (fun u => vw (ix2 u j)) (fun u : Fin 256 => s (ix2 R u)) (fun u => vc (ix2 u j)) := by
  pointwise [k0_pay8]
  rfl

set_option maxHeartbeats 2000000 in
theorem scored (q : FVec Ideal S64x512 .bf16) (k : FVec Ideal S256x512 .bf16) (R : Fin 512) (u : Fin 256) :
    k0_pay2 (F := Ideal) k0_pay9 q (k0_pay10 (F := Ideal)) (k0_pay11 (F := Ideal) q) (k0_pay12 (F := Ideal) q) (k0_pay13 (F := Ideal) q) k0_pay14 k (ix2 R u)
      = (∑ l : Fin 512, qs q (ix2 R l) * k (ix2 u l)) * Ideal.ofBits .f32 0x3E000000#32 := by
  pointwise [k0_pay2]

/-- One head's score of a query against a key, scaled. -/
def dot64 (q k : Fin 512 → EReal) (h : Fin 8) : EReal :=
  (∑ e : Fin 64, q ⟨h.val * 64 + e.val, by omega⟩ * k ⟨h.val * 64 + e.val, by omega⟩) * Ideal.ofBits .f32 0x3E000000#32

/-- A lane's head. -/
abbrev hd (j : Fin 512) : Fin 8 := ⟨j.val / 64, by omega⟩

/-- The stacked queries' score is the head's. -/
theorem stacked_dot {n : ℕ} (q : FVec Ideal S64x512 .bf16) (k : (⟨2, ![n, 512]⟩ : Shape).Idx → EReal) (w : Fin 64) (h : Fin 8) (u : Fin n) :
    (∑ l : Fin 512, qs q (ix2 ⟨h.val * 64 + w.val, by omega⟩ l) * k (ix2 u l)) * Ideal.ofBits .f32 0x3E000000#32
      = dot64 (fun l => q (ix2 w l)) (fun l => k (ix2 u l)) h := by
  unfold dot64
  rw [← sum_head (fun l => q (ix2 w l) * k (ix2 u l)) h]
  congr 1
  refine Finset.sum_congr rfl fun l _ => ?_
  rw [stacked, show (h.val * 64 + w.val) / 64 = h.val by omega, ite_mul, zero_mul]
  split
  · exact congrArg (· * k (ix2 u l)) (congrArg q (ix2_congr (Fin.ext (by dsimp only; omega)) rfl))
  · rfl

/-- A context row's element. -/
def ctxRow (q : Fin 512 → EReal) (kc vc : Fin 256 → Fin 512 → EReal) (j : Fin 512) : EReal :=
  mix (fun u => dot64 q (kc u) (hd j)) fun u => vc u j

/-- A latent row's element. -/
def latRow (q : Fin 512 → EReal) (kc vc : Fin 256 → Fin 512 → EReal) (kw vw : Fin 512 → Fin 512 → EReal) (b : Fin 512 → EReal)
    (j : Fin 512) : EReal :=
  mix2 (fun u => dot64 q (kw u) (hd j) + b u) (fun u => vw u j) (fun u => dot64 q (kc u) (hd j)) fun u => vc u j

/-- The block of a context row's outputs. -/
theorem block_A (q : FVec Ideal S64x512 .bf16) (kc vc : FVec Ideal S256x512 .bf16) (w : Fin 64) (j : Fin 512) :
    k0_pay3 (F := Ideal) (k0_pay5 (F := Ideal) vc (k0_pay2 (F := Ideal) k0_pay9 q (k0_pay10 (F := Ideal)) (k0_pay11 (F := Ideal) q) (k0_pay12 (F := Ideal) q) (k0_pay13 (F := Ideal) q) k0_pay14 kc))
        (k0_pay6 (F := Ideal) k0_pay9 vc (k0_pay2 (F := Ideal) k0_pay9 q (k0_pay10 (F := Ideal)) (k0_pay11 (F := Ideal) q) (k0_pay12 (F := Ideal) q) (k0_pay13 (F := Ideal) q) k0_pay14 kc))
        (k0_pay7 k0_pay9) (ix2 w j)
      = ctxRow (fun l => q (ix2 w l)) (fun u l => kc (ix2 u l)) (fun u l => vc (ix2 u l)) j := by
  rw [merged_context, mixed]
  unfold ctxRow
  congr 1
  funext u
  rw [scored]
  exact stacked_dot q kc w (hd j) u

/-- The block of a latent row's outputs. -/
theorem block_B (q : FVec Ideal S64x512 .bf16) (kc vc : FVec Ideal S256x512 .bf16) (kw vw : FVec Ideal S512x512 .bf16)
    (bias : FVec Ideal S1x512x512 .f32) (w : Fin 64) (j : Fin 512) :
    k0_pay4 (F := Ideal) k0_pay9 (k0_pay8 (F := Ideal) (qs q) vc (k0_pay2 (F := Ideal) k0_pay9 q (k0_pay10 (F := Ideal)) (k0_pay11 (F := Ideal) q) (k0_pay12 (F := Ideal) q) (k0_pay13 (F := Ideal) q) k0_pay14 kc) kw vw bias) (ix2 w j)
      = latRow (fun l => q (ix2 w l)) (fun u l => kc (ix2 u l)) (fun u l => vc (ix2 u l)) (fun u l => kw (ix2 u l)) (fun u l => vw (ix2 u l))
          (fun u => bias (ix3 0 ⟨j.val / 64 * 64 + w.val, by omega⟩ u)) j := by
  rw [merged, mixed2]
  unfold latRow
  congr 1
  · funext u
    rw [stacked_dot q kw w (hd j) u]
  · funext u
    rw [scored]
    exact stacked_dot q kc w (hd j) u

end Cert.KernelNaIdeal.Block

end
-- ==== Proof.NaArray.lean ====
/-
  The neighbourhood attention's whole output, from its blocks.
-/
module

public import proofs.«01_k».proof.Proof.NaBlock

@[expose] public section

set_option maxRecDepth 16384

noncomputable section

open Idealize.ShloMosaic Idealize.ShloMosaic.TcCoe Idealize.SL.Sem
open Idealize.ShloMosaic.Pipeline (Dat)

namespace Cert.KernelNaIdeal.Array

open Cert.KernelNaIdeal Cert.KernelNaIdeal.Gen Cert.KernelNaIdeal.Block Cert.Near

/-- Every window's block at every grid point. -/
theorem idx : ∀ t : Fin cfg0.N, win0_0.index t = ![t.val, 0]
    ∧ win0_1.index t = ![t.val / 68, 1]
    ∧ win0_2.index t = ![t.val / 68, 2]
    ∧ win0_3.index t = ![0, 0, 0]
    ∧ win0_4.index t = ![t.val, 0] :=
  (by decide +kernel : ∀ t : Fin grid0.N, _)

/-- Where the window begins, and which of the mask's tables it takes. -/
theorem offs : ∀ t : Fin cfg0.N, 4 ≤ t.val % 68 → k0_off1 (grid0.coords t) = ![256 + start (t.val % 68 - 4) * 64, 0]
    ∧ k0_off2 (grid0.coords t) = ![t.val % 68 - 4 - start (t.val % 68 - 4), 0, 0] :=
  (by decide +kernel : ∀ t : Fin grid0.N, _)

theorem load_ctx (u : Fin 256) (l : Fin 512) :
    (Rect.unit (s := S4352x512) ![0, 0] ![256, 512] inb_S4352x512_S256x512_0_0).idx (ix2 u l) = ix2 ⟨u.val, by omega⟩ l := by
  funext a
  apply Fin.ext
  match a with
  | ⟨0, _⟩ => show 0 + 1 * u.val = u.val; omega
  | ⟨1, _⟩ => show 0 + 1 * l.val = l.val; omega

theorem load_win (i : grid0.Coords) (h : k0_cond2 i = 1#1) (n : ℕ) (e : k0_off1 i = ![n, 0]) (u l : Fin 512) (hn : n + u.val < 4352) :
    (Rect.unit (s := S4352x512) (k0_off1 i) S512x512.size (k0_off1_inb i h)).idx (ix2 u l) = ix2 ⟨n + u.val, hn⟩ l := by
  funext a
  apply Fin.ext
  match a with
  | ⟨0, _⟩ => show k0_off1 i 0 + 1 * u.val = n + u.val; rw [e]; simp
  | ⟨1, _⟩ => show k0_off1 i 1 + 1 * l.val = l.val; rw [e]; simp

theorem load_tab (i : grid0.Coords) (h : k0_cond2 i = 1#1) (n : Fin 8) (e : k0_off2 i = ![n.val, 0, 0]) (u l : Fin 512) :
    (Rect.unit (s := S8x512x512) (k0_off2 i) S1x512x512.size (k0_off2_inb i h)).idx (ix3 0 u l) = ix3 n u l := by
  funext a
  apply Fin.ext
  match a with
  | ⟨0, _⟩ => show k0_off2 i 0 + 1 * 0 = n.val; rw [e]; simp
  | ⟨1, _⟩ => show k0_off2 i 1 + 1 * u.val = u.val; rw [e]; simp
  | ⟨2, _⟩ => show k0_off2 i 2 + 1 * l.val = l.val; rw [e]; simp

section
variable (c : Dev nD) (i : grid0.Coords) (arg2 : Memref sig .tc .vmem S64x512 .bf16) (harg2 : arg2.IsWhole) (arg3 : Memref sig .tc .vmem S4352x512 .bf16) (harg3 : arg3.IsWhole) (arg4 : Memref sig .tc .vmem S4352x512 .bf16) (harg4 : arg4.IsWhole) (arg5 : Memref sig .tc .vmem S8x512x512 .f32) (harg5 : arg5.IsWhole) (arg6 : Memref sig .tc .vmem S64x512 .bf16) (harg6 : arg6.IsWhole)
  (x0 : FVec Ideal S64x512 .bf16) (x1 x2 : FVec Ideal S4352x512 .bf16) (x3 : FVec Ideal S8x512x512 .f32)

set_option maxHeartbeats 2000000 in
/-- What a point of the context's rows leaves. -/
theorem out_A (hc0 : cond0_0 i) (hc1 : ¬cond0_1 i) (w : Fin 64) (j : Fin 512) :
    out0_A_4 (F := Ideal) c i arg2 harg2 arg3 harg3 arg4 harg4 arg5 harg5 arg6 harg6 hc0 hc1 x0 x1 x2 x3 (ix2 w j)
      = ctxRow (fun l => x0 (ix2 w l)) (fun u l => x1 (ix2 ⟨u.val, by omega⟩ l)) (fun u l => x2 (ix2 ⟨u.val, by omega⟩ l)) j := by
  frame_out
  refine (block_A _ _ _ w j).trans ?_
  refine congrArg₂ (fun k v => ctxRow (fun l => x0 (ix2 w l)) k v j) (funext fun u => funext fun l => ?_) (funext fun u => funext fun l => ?_)
  · exact congrArg x1 (load_ctx u l)
  · exact congrArg x2 (load_ctx u l)

set_option maxHeartbeats 2000000 in
/-- What a point of the other rows leaves. -/
theorem out_B (hc0 : ¬cond0_0 i) (hc1 : cond0_1 i) (n : ℕ) (hn : n + 512 ≤ 4352) (p : Fin 8) (e1 : k0_off1 i = ![n, 0])
    (e2 : k0_off2 i = ![p.val, 0, 0]) (w : Fin 64) (j : Fin 512) :
    out0_B_4 (F := Ideal) c i arg2 harg2 arg3 harg3 arg4 harg4 arg5 harg5 arg6 harg6 hc0 hc1 x0 x1 x2 x3 (ix2 w j)
      = latRow (fun l => x0 (ix2 w l)) (fun u l => x1 (ix2 ⟨u.val, by omega⟩ l)) (fun u l => x2 (ix2 ⟨u.val, by omega⟩ l))
          (fun u l => x1 (ix2 ⟨n + u.val, by omega⟩ l)) (fun u l => x2 (ix2 ⟨n + u.val, by omega⟩ l))
          (fun u => x3 (ix3 p ⟨j.val / 64 * 64 + w.val, by omega⟩ u)) j := by
  frame_out
  refine (block_B _ _ _ _ _ _ w j).trans ?_
  have a1 : (fun (u : Fin 256) l => x1 ((Rect.unit (s := S4352x512) ![0, 0] ![256, 512] inb_S4352x512_S256x512_0_0).idx (ix2 u l)))
      = fun u l => x1 (ix2 ⟨u.val, by omega⟩ l) := funext fun u => funext fun l => congrArg x1 (load_ctx u l)
  have a2 : (fun (u : Fin 256) l => x2 ((Rect.unit (s := S4352x512) ![0, 0] ![256, 512] inb_S4352x512_S256x512_0_0).idx (ix2 u l)))
      = fun u l => x2 (ix2 ⟨u.val, by omega⟩ l) := funext fun u => funext fun l => congrArg x2 (load_ctx u l)
  have a3 : (fun (u : Fin 512) l => x1 ((Rect.unit (s := S4352x512) (k0_off1 i) S512x512.size (k0_off1_inb i hc1)).idx (ix2 u l)))
      = fun u l => x1 (ix2 ⟨n + u.val, by omega⟩ l) := funext fun u => funext fun l => congrArg x1 (load_win i hc1 n e1 u l (by omega))
  have a4 : (fun (u : Fin 512) l => x2 ((Rect.unit (s := S4352x512) (k0_off1 i) S512x512.size (k0_off1_inb i hc1)).idx (ix2 u l)))
      = fun u l => x2 (ix2 ⟨n + u.val, by omega⟩ l) := funext fun u => funext fun l => congrArg x2 (load_win i hc1 n e1 u l (by omega))
  have a5 : (fun (u : Fin 512) => x3 ((Rect.unit (s := S8x512x512) (k0_off2 i) S1x512x512.size (k0_off2_inb i hc1)).idx (ix3 0 ⟨j.val / 64 * 64 + w.val, by omega⟩ u)))
      = fun u => x3 (ix3 p ⟨j.val / 64 * 64 + w.val, by omega⟩ u) := funext fun u => congrArg x3 (load_tab i hc1 p e2 _ u)
  rw [← a1, ← a2, ← a3, ← a4, ← a5]

end

section
variable (Z : FVec Ideal S17408x1536 .bf16) (T : FVec Ideal S8x512x512 .f32)

/-- The whole output. -/
def all : FVec Ideal S17408x512 .bf16 := fun y =>
  let b : Fin 17408 := y 0
  let j : Fin 512 := y 1
  let kc : Fin 256 → Fin 512 → EReal := fun u l => Z (ix2 ⟨b.val / 4352 * 4352 + u.val, by omega⟩ ⟨512 + l.val, by omega⟩)
  let vc : Fin 256 → Fin 512 → EReal := fun u l => Z (ix2 ⟨b.val / 4352 * 4352 + u.val, by omega⟩ ⟨1024 + l.val, by omega⟩)
  let q : Fin 512 → EReal := fun l => Z (ix2 b ⟨l.val, by omega⟩)
  if b.val % 4352 < 256 then ctxRow q kc vc j
  else
    let r := (b.val % 4352 - 256) / 64
    let kw : Fin 512 → Fin 512 → EReal := fun u l =>
      Z (ix2 ⟨b.val / 4352 * 4352 + 256 + start r * 64 + u.val, by have : start r ≤ 56 := Nat.min_le_right _ _; omega⟩ ⟨512 + l.val, by omega⟩)
    let vw : Fin 512 → Fin 512 → EReal := fun u l =>
      Z (ix2 ⟨b.val / 4352 * 4352 + 256 + start r * 64 + u.val, by have : start r ≤ 56 := Nat.min_le_right _ _; omega⟩ ⟨1024 + l.val, by omega⟩)
    latRow q kc vc kw vw
      (fun u => T (ix3 ⟨r - start r, by unfold start; omega⟩ ⟨j.val / 64 * 64 + b.val % 64, by omega⟩ u)) j

end

variable (m : (ℓ : Loc nD τ sig) → Buf (Elt Ideal) ℓ) (c : Dev nD)

abbrev aZ : FVec Ideal S17408x1536 .bf16 := V m c main_arg0
abbrev aT : FVec Ideal S8x512x512 .f32 := V m c main_v13

theorem lt272 (t : Fin cfg0.N) : t.val < 272 := lt_of_lt_of_eq t.isLt (show cfg0.N = 272 from N_0)

theorem blk0 (t : Fin cfg0.N) (w : Fin 64) (l : Fin 512) (b : Fin 17408) (hb : b.val = t.val * 64 + w.val) :
    (show FVec Ideal S64x512 .bf16 from iblk m c 0 t) (ix2 w l) = aZ m c (ix2 b ⟨l.val, by omega⟩) := by
  obtain ⟨e0, -⟩ := idx t
  blk_ext [iblk, e0]

theorem blk1 (t : Fin cfg0.N) (u : Fin 4352) (l : Fin 512) (b : Fin 17408) (hb : b.val = t.val / 68 * 4352 + u.val) :
    (show FVec Ideal S4352x512 .bf16 from iblk m c 1 t) (ix2 u l) = aZ m c (ix2 b ⟨512 + l.val, by omega⟩) := by
  obtain ⟨-, e1, -⟩ := idx t
  blk_ext [iblk, e1]

theorem blk2 (t : Fin cfg0.N) (u : Fin 4352) (l : Fin 512) (b : Fin 17408) (hb : b.val = t.val / 68 * 4352 + u.val) :
    (show FVec Ideal S4352x512 .bf16 from iblk m c 2 t) (ix2 u l) = aZ m c (ix2 b ⟨1024 + l.val, by omega⟩) := by
  obtain ⟨-, -, e2, -⟩ := idx t
  blk_ext [iblk, e2]

theorem blk3 (t : Fin cfg0.N) : (iblk m c 3 t) = aT m c := by
  obtain ⟨-, -, -, e3, -⟩ := idx t
  funext y
  blk_ext [iblk, e3]

set_option maxHeartbeats 1000000 in
theorem placed_A (t : Fin cfg0.N) (h0 : t.val % 68 ≤ 3) (w : Fin 64) (j : Fin 512) (b : Fin 17408) (hb : b.val = t.val * 64 + w.val) :
    ctxRow (fun l => (show FVec Ideal S64x512 .bf16 from iblk m c 0 t) (ix2 w l))
        (fun u l => (show FVec Ideal S4352x512 .bf16 from iblk m c 1 t) (ix2 ⟨u.val, by omega⟩ l))
        (fun u l => (show FVec Ideal S4352x512 .bf16 from iblk m c 2 t) (ix2 ⟨u.val, by omega⟩ l)) j
      = all (aZ m c) (aT m c) (ix2 b j) := by
  have ht := lt272 t
  have hw := w.isLt
  have h : b.val % 4352 < 256 := by omega
  refine Eq.trans ?_ (if_pos h).symm
  rw [show (fun l => (show FVec Ideal S64x512 .bf16 from iblk m c 0 t) (ix2 w l)) = _ from funext fun l => blk0 m c t w l b hb,
    show (fun (u : Fin 256) l => (show FVec Ideal S4352x512 .bf16 from iblk m c 1 t) (ix2 ⟨u.val, by omega⟩ l)) = _ from
      funext fun u => funext fun l => blk1 m c t ⟨u.val, by omega⟩ l ⟨b.val / 4352 * 4352 + u.val, by omega⟩ (by dsimp only; omega),
    show (fun (u : Fin 256) l => (show FVec Ideal S4352x512 .bf16 from iblk m c 2 t) (ix2 ⟨u.val, by omega⟩ l)) = _ from
      funext fun u => funext fun l => blk2 m c t ⟨u.val, by omega⟩ l ⟨b.val / 4352 * 4352 + u.val, by omega⟩ (by dsimp only; omega)]
  rfl

set_option maxHeartbeats 1000000 in
theorem placed_B (t : Fin cfg0.N) (h0 : 4 ≤ t.val % 68) (w : Fin 64) (j : Fin 512) (b : Fin 17408) (hb : b.val = t.val * 64 + w.val)
    (n : ℕ) (hn : n + 512 ≤ 4352) (p : Fin 8) (en : n = 256 + start (t.val % 68 - 4) * 64) (ep : p.val = t.val % 68 - 4 - start (t.val % 68 - 4)) :
    latRow (fun l => (show FVec Ideal S64x512 .bf16 from iblk m c 0 t) (ix2 w l))
        (fun u l => (show FVec Ideal S4352x512 .bf16 from iblk m c 1 t) (ix2 ⟨u.val, by omega⟩ l))
        (fun u l => (show FVec Ideal S4352x512 .bf16 from iblk m c 2 t) (ix2 ⟨u.val, by omega⟩ l))
        (fun u l => (show FVec Ideal S4352x512 .bf16 from iblk m c 1 t) (ix2 ⟨n + u.val, by omega⟩ l))
        (fun u l => (show FVec Ideal S4352x512 .bf16 from iblk m c 2 t) (ix2 ⟨n + u.val, by omega⟩ l))
        (fun u => (show FVec Ideal S8x512x512 .f32 from iblk m c 3 t) (ix3 p ⟨j.val / 64 * 64 + w.val, by omega⟩ u)) j
      = all (aZ m c) (aT m c) (ix2 b j) := by
  have ht := lt272 t
  have hw := w.isLt
  have h : ¬b.val % 4352 < 256 := by omega
  have hr : t.val % 68 - 4 = (b.val % 4352 - 256) / 64 := by omega
  rw [hr] at en ep
  have hs : start ((b.val % 4352 - 256) / 64) ≤ 56 := Nat.min_le_right _ _
  refine Eq.trans ?_ (if_neg h).symm
  rw [show (fun l => (show FVec Ideal S64x512 .bf16 from iblk m c 0 t) (ix2 w l)) = _ from funext fun l => blk0 m c t w l b hb,
    show (fun (u : Fin 256) l => (show FVec Ideal S4352x512 .bf16 from iblk m c 1 t) (ix2 ⟨u.val, by omega⟩ l)) = _ from
      funext fun u => funext fun l => blk1 m c t ⟨u.val, by omega⟩ l ⟨b.val / 4352 * 4352 + u.val, by omega⟩ (by dsimp only; omega),
    show (fun (u : Fin 256) l => (show FVec Ideal S4352x512 .bf16 from iblk m c 2 t) (ix2 ⟨u.val, by omega⟩ l)) = _ from
      funext fun u => funext fun l => blk2 m c t ⟨u.val, by omega⟩ l ⟨b.val / 4352 * 4352 + u.val, by omega⟩ (by dsimp only; omega),
    show (fun (u : Fin 512) l => (show FVec Ideal S4352x512 .bf16 from iblk m c 1 t) (ix2 ⟨n + u.val, by omega⟩ l)) = _ from
      funext fun u => funext fun l => blk1 m c t ⟨n + u.val, by omega⟩ l
        ⟨b.val / 4352 * 4352 + 256 + start ((b.val % 4352 - 256) / 64) * 64 + u.val, by omega⟩ (by dsimp only; omega),
    show (fun (u : Fin 512) l => (show FVec Ideal S4352x512 .bf16 from iblk m c 2 t) (ix2 ⟨n + u.val, by omega⟩ l)) = _ from
      funext fun u => funext fun l => blk2 m c t ⟨n + u.val, by omega⟩ l
        ⟨b.val / 4352 * 4352 + 256 + start ((b.val % 4352 - 256) / 64) * 64 + u.val, by omega⟩ (by dsimp only; omega),
    blk3]
  have ew : w.val = b.val % 64 := by omega
  obtain ⟨w, hw'⟩ := w
  obtain ⟨p, hp'⟩ := p
  dsimp only at ew ep
  subst ew
  subst ep
  rfl

theorem final : (dats m 0 c).arrAt 4 cfg0.N = all (aZ m c) (aT m c) := by
  refine (dats m 0 c).arrAt_eq_of_covers 4 _ (by decide +kernel) fun t _ (y : S64x512.Idx) => ?_
  obtain ⟨-, -, -, -, e4⟩ := idx t
  blk_simp
  rw [after0_4]
  have ht := lt272 t
  obtain ⟨w, j, rfl⟩ : ∃ (w : Fin 64) (j : Fin 512), y = ix2 w j := ⟨y 0, y 1, eq_ix2 (n0 := 64) (n1 := 512) y⟩
  have hw := w.isLt
  have h0 : ((win0_4.blk t).view.emb (ix2 w j : S64x512.Idx) 0).val = t.val * 64 + w.val := by
    blk_simp [e4]
  have h1 : ((win0_4.blk t).view.emb (ix2 w j : S64x512.Idx) 1).val = j.val := by
    blk_simp [e4]
  have hz : ((win0_4.blk t).view.emb (ix2 w j : S64x512.Idx)) = (ix2 ⟨t.val * 64 + w.val, by omega⟩ j : S17408x512.Idx) := by
    funext a
    apply Fin.ext
    match a with
    | ⟨0, _⟩ => exact h0
    | ⟨1, _⟩ => exact h1
  by_cases hc : 4 ≤ t.val % 68
  · obtain ⟨e1, e2⟩ := offs t hc
    have hs : start (t.val % 68 - 4) ≤ 56 := Nat.min_le_right _ _
    rw [outsAt0_B m c t (by omega) hc]
    refine (out_B c _ _ _ _ _ _ _ _ _ _ _ _ _ _ _ _ _ (256 + start (t.val % 68 - 4) * 64) (by omega)
      ⟨t.val % 68 - 4 - start (t.val % 68 - 4), by unfold start; omega⟩ e1 e2 w j).trans ?_
    exact (placed_B m c t hc w j ⟨t.val * 64 + w.val, by omega⟩ rfl _ (by omega) _ rfl rfl).trans (congrArg _ hz.symm)
  · rw [outsAt0_A m c t (by omega) hc]
    refine (out_A c _ _ _ _ _ _ _ _ _ _ _ _ _ _ _ _ _ w j).trans ?_
    exact (placed_A m c t (by omega) w j ⟨t.val * 64 + w.val, by omega⟩ rfl).trans (congrArg _ hz.symm)

end Cert.KernelNaIdeal.Array

end
-- ==== Proof.NaTables.lean ====
/-
  What the neighbourhood attention's table of relative biases and window masks holds.
-/
module

public import proofs.«01_k».proof.Proof.NaArray
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.KernelNaIdeal.Tables

open Cert.KernelNaIdeal Cert.KernelNaIdeal.Gen Cert.KernelNaIdeal.Array Cert.Near

/-- Rows of relative biases taken by number. -/
theorem rows_taken {α : Type} (x : S8x15x31.Idx → α) (idx : IVec S8x8x1 32) (h p k : Fin 8) (e : Fin 31) (r : Fin 15)
    (hr : r.val = min (idx (ix3 p k 0)).toInt.toNat 14) :
    Host.gather gather_S8x15x31_S8x8x1_S8x8x8x31_03_1_n_n_1_2_8131 x idx (ix4 h p k e) = x (ix3 h r e) := by
  unfold Host.gather
  refine congrArg x (funext fun a => Fin.ext ?_)
  generalize hG : gather_S8x15x31_S8x8x1_S8x8x8x31_03_1_n_n_1_2_8131 = G
  show G.start (ix4 h p k e) idx a + G.batchCoord (ix4 h p k e) a + G.offCoord (ix4 h p k e) a = _
  subst hG
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show ¬ (0 : Fin 3) ∈ GatherDims.startIndexMap gather_S8x15x31_S8x8x1_S8x8x8x31_03_1_n_n_1_2_8131 from
      (by decide : ¬ (0 : Fin 3) ∈ [(1 : Fin 3)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ GatherDims.startIndexMap gather_S8x15x31_S8x8x1_S8x8x8x31_03_1_n_n_1_2_8131 from List.mem_singleton.mpr rfl)]
    refine Eq.trans ?_ hr.symm
    refine congrArg (fun q => min (idx q).toInt.toNat 14) (funext fun q => Fin.ext ?_)
    match q with
    | ⟨0, _⟩ => rfl
    | ⟨1, _⟩ => rfl
    | ⟨2, _⟩ => rfl
  · unfold GatherDims.start
    rw [dif_neg (show ¬ (2 : Fin 3) ∈ GatherDims.startIndexMap gather_S8x15x31_S8x8x1_S8x8x8x31_03_1_n_n_1_2_8131 from
      (by decide : ¬ (2 : Fin 3) ∈ [(1 : Fin 3)])), Nat.zero_add]
    rfl

/-- Columns of relative biases taken by number. -/
theorem cols_taken {α : Type} (x : S8x8x8x31.Idx → α) (idx : IVec S64x64x1 32) (h p k : Fin 8) (w col : Fin 64) (e : Fin 31)
    (he : e.val = min (idx (ix3 w col 0)).toInt.toNat 30) :
    Host.gather gather_S8x8x8x31_S64x64x1_S8x8x8x64x64_012_3_n_n_3_2_8881 x idx (ix5 h p k w col) = x (ix4 h p k e) := by
  unfold Host.gather
  refine congrArg x (funext fun a => Fin.ext ?_)
  generalize hG : gather_S8x8x8x31_S64x64x1_S8x8x8x64x64_012_3_n_n_3_2_8881 = G
  show G.start (ix5 h p k w col) idx a + G.batchCoord (ix5 h p k w col) a + G.offCoord (ix5 h p k w col) a = _
  subst hG
  rw [GatherDims.batchCoord_eq_zero _ _ _ List.not_mem_nil, Nat.add_zero]
  have h0123 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · unfold GatherDims.start
    rw [dif_neg (show ¬ (0 : Fin 4) ∈ GatherDims.startIndexMap gather_S8x8x8x31_S64x64x1_S8x8x8x64x64_012_3_n_n_3_2_8881 from
      (by decide : ¬ (0 : Fin 4) ∈ [(3 : Fin 4)])), Nat.zero_add]
    rfl
  · unfold GatherDims.start
    rw [dif_neg (show ¬ (1 : Fin 4) ∈ GatherDims.startIndexMap gather_S8x8x8x31_S64x64x1_S8x8x8x64x64_012_3_n_n_3_2_8881 from
      (by decide : ¬ (1 : Fin 4) ∈ [(3 : Fin 4)])), Nat.zero_add]
    rfl
  · unfold GatherDims.start
    rw [dif_neg (show ¬ (2 : Fin 4) ∈ GatherDims.startIndexMap gather_S8x8x8x31_S64x64x1_S8x8x8x64x64_012_3_n_n_3_2_8881 from
      (by decide : ¬ (2 : Fin 4) ∈ [(3 : Fin 4)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (3 : Fin 4) ∈ GatherDims.startIndexMap gather_S8x8x8x31_S64x64x1_S8x8x8x64x64_012_3_n_n_3_2_8881 from List.mem_singleton.mpr rfl)]
    refine Eq.trans ?_ he.symm
    refine congrArg (fun q => min (idx q).toInt.toNat 30) (funext fun q => Fin.ext ?_)
    match q with
    | ⟨0, _⟩ => rfl
    | ⟨1, _⟩ => rfl
    | ⟨2, _⟩ => rfl

/-- The numbers of the rows. -/
theorem row_words : ∀ p k : Fin 8, (lit0 (S8x8.rowMajor (ix2 p k))).toInt.toNat = 7 + k.val - p.val := by
  decide +kernel

/-- The columns inside a window. -/
theorem mask_words : ∀ w col : Fin 64, lit2 (S64x64.rowMajor (ix2 w col))
    = if left w.val ≤ col.val ∧ col.val < left w.val + 16 then 1#1 else 0#1 := by
  decide +kernel

/-- The numbers of the columns inside a window. -/
theorem col_words : ∀ w col : Fin 64, left w.val ≤ col.val ∧ col.val < left w.val + 16 →
    (lit1 (S64x64.rowMajor (ix2 w col))).toInt.toNat = col.val + 15 - w.val := by
  decide +kernel

/-- The table as the program prepares it. -/
def packT (rpb : FVec Ideal S8x15x31 .f32) : FVec Ideal S8x512x512 .f32 :=
  shapeCast S8x512x512 (transpose S8x8x64x8x64 [1, 0, 3, 2, 4]
    (select (broadcastInDim S8x8x8x64x64 ![0, 1, 2, 3, 4] bcast_S1x1x1x64x64_S8x8x8x64x64_0_1_2_3_4
        (broadcastInDim S1x1x1x64x64 ![3, 4] bcast_S64x64_S1x1x1x64x64_3_4 (fun i => lit2 (S64x64.rowMajor i) : IVec S64x64 1)))
      (Host.gather gather_S8x8x8x31_S64x64x1_S8x8x8x64x64_012_3_n_n_3_2_8881
        (Host.gather gather_S8x15x31_S8x8x1_S8x8x8x31_03_1_n_n_1_2_8131 rpb
          (broadcastInDim S8x8x1 ![0, 1] bcast_S8x8_S8x8x1_0_1
            (select (constantI S8x8 1 0#1) (addi (fun i => lit0 (S8x8.rowMajor i) : IVec S8x8 32) (broadcastInDim S8x8 ![] bcast_S_S8x8 (constantI S_ 32 15#32)))
              (fun i => lit0 (S8x8.rowMajor i) : IVec S8x8 32))))
        (broadcastInDim S64x64x1 ![0, 1] bcast_S64x64_S64x64x1_0_1
          (select (constantI S64x64 1 0#1) (addi (fun i => lit1 (S64x64.rowMajor i) : IVec S64x64 32) (broadcastInDim S64x64 ![] bcast_S_S64x64 (constantI S_ 32 31#32)))
            (fun i => lit1 (S64x64.rowMajor i) : IVec S64x64 32))))
      (broadcastInDim S8x8x8x64x64 ![] bcast_S_S8x8x8x64x64 (constant S_ .f32 0xFF800000#32 : FVec Ideal S_ .f32)))
    transposes_S8x8x8x64x64_S8x8x64x8x64_1_0_3_2_4) shapeCasts_S8x8x64x8x64_S8x512x512

variable (m : (ℓ : Loc nD τ sig) → Buf (Elt Ideal) ℓ) (c : Dev nD)

theorem held : aT m c = packT (m ((c : Thread nD τ).loc main_arg1)) := by
  show StableHlo.after (List.flatten [hostOps0, hostOps0_1, hostOps0_2]) (fun b => m (c, b)) (Proc.devRef .tc main_v13) = _
  generalize hr : packT _ = r
  after_reads_simp
  exact hr

theorem ix2_congr {a b : ℕ} {i i' : Fin a} {j j' : Fin b} (hi : i = i') (hj : j = j') :
    (ix2 i j : (⟨2, ![a, b]⟩ : Shape).Idx) = ix2 i' j' := by rw [hi, hj]

/-- An entry of the table: a relative bias inside the column's window, and none outside it. -/
theorem packT_at (rpb : FVec Ideal S8x15x31 .f32) (p h : Fin 8) (w : Fin 64) (k : Fin 8) (col : Fin 64) (R U : Fin 512)
    (hR : R.val = h.val * 64 + w.val) (hU : U.val = k.val * 64 + col.val) :
    packT rpb (ix3 p R U) = if left w.val ≤ col.val ∧ col.val < left w.val + 16 then
      rpb (ix3 h ⟨7 + k.val - p.val, by omega⟩ ⟨min (col.val + 15 - w.val) 30, by omega⟩) else ⊥ := by
  have hw := w.isLt
  have hc := col.isLt
  unfold packT
  generalize hg : Host.gather gather_S8x8x8x31_S64x64x1_S8x8x8x64x64_012_3_n_n_3_2_8881 _ _ = g
  pointwise
  rw [show (⟨R.val / 64, by omega⟩ : Fin 8) = h from Fin.ext (by dsimp only; omega),
    show (⟨U.val / 64, by omega⟩ : Fin 8) = k from Fin.ext (by dsimp only; omega),
    show (⟨R.val % 64, by omega⟩ : Fin 64) = w from Fin.ext (by dsimp only; omega),
    show (⟨U.val % 64, by omega⟩ : Fin 64) = col from Fin.ext (by dsimp only; omega), mask_words]
  split
  · rename_i hin
    refine (show Scalar.select (1#1) (g (ix5 h p k w col)) (Ideal.ofBits .f32 4286578688#32) = g (ix5 h p k w col) from rfl).trans ?_
    rw [← hg]
    refine (cols_taken _ _ h p k w col ⟨min (col.val + 15 - w.val) 30, by omega⟩ ?_).trans
      (rows_taken _ _ h p k _ ⟨7 + k.val - p.val, by omega⟩ ?_)
    · exact (congrArg (fun n => min n 30) (col_words w col hin)).symm
    · have e := row_words p k
      show 7 + k.val - p.val = min (lit0 (S8x8.rowMajor (ix2 p k))).toInt.toNat 14
      rw [e]
      omega
  · refine (show Scalar.select (0#1) (g (ix5 h p k w col)) (Ideal.ofBits .f32 4286578688#32) = Ideal.ofBits .f32 4286578688#32 from rfl).trans ?_
    exact Cert.Lanes.word_bot

end Cert.KernelNaIdeal.Tables

end
-- ==== Proof.NaTaken.lean ====
/-
  The neighbourhood attention's reference: which keys, values and biases a place of the grid takes.
-/
module

public import proofs.«01_k».proof.Proof.NaPlain
public import proofs.«01_k».proof.Proof.Gen.ReferenceNaIdeal.Read
public import Idealize.ShloMosaic.Lib.Pointwise
public import Idealize.ShloMosaic.Lib.ValueIdxRank6

@[expose] public section

set_option maxRecDepth 16384

noncomputable section

open Idealize.ShloMosaic Idealize.ShloMosaic.TcCoe Idealize.SL.Sem

namespace Cert.ReferenceNaIdeal.Taken

open Cert.ReferenceNaIdeal Cert.ReferenceNaIdeal.Gen Cert.ReferenceNaIdeal.Read Cert.Near

/-- Rows of a grid taken by number. -/
theorem rows_of {α : Type} (x : S4x64x64x512.Idx → α) (idx : IVec S512x1 32) (b : Fin 4) (n : Fin 512) (j : Fin 64) (d : Fin 512) (k : Fin 64)
    (hk : k.val = min (idx (ix2 n 0)).toInt.toNat 63) :
    Host.gather gather_S4x64x64x512_S512x1_S4x512x64x512_023_1_n_n_1_1_4164512 x idx (ix4 b n j d) = x (ix4 b k j d) := by
  unfold Host.gather
  refine congrArg x (funext fun a => Fin.ext ?_)
  show GatherDims.start gather_S4x64x64x512_S512x1_S4x512x64x512_023_1_n_n_1_1_4164512 (ix4 b n j d) idx a + GatherDims.batchCoord gather_S4x64x64x512_S512x1_S4x512x64x512_023_1_n_n_1_1_4164512 (ix4 b n j d) a + GatherDims.offCoord gather_S4x64x64x512_S512x1_S4x512x64x512_023_1_n_n_1_1_4164512 (ix4 b n j d) a = _
  rw [GatherDims.batchCoord_eq_zero _ _ _ List.not_mem_nil, Nat.add_zero]
  have hall : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hall with rfl | rfl | rfl | rfl
  · unfold GatherDims.start
    rw [dif_neg (show ¬ (0 : Fin 4) ∈ GatherDims.startIndexMap gather_S4x64x64x512_S512x1_S4x512x64x512_023_1_n_n_1_1_4164512 from
      (by decide : ¬ (0 : Fin 4) ∈ [(1 : Fin 4)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 4) ∈ GatherDims.startIndexMap gather_S4x64x64x512_S512x1_S4x512x64x512_023_1_n_n_1_1_4164512 from List.mem_singleton.mpr rfl)]
    refine Eq.trans ?_ hk.symm
    refine congrArg (fun q => min (idx q).toInt.toNat 63) (funext fun q => Fin.ext ?_)
    match q with
    | ⟨0, _⟩ => rfl
    | ⟨1, _⟩ => rfl
  · unfold GatherDims.start
    rw [dif_neg (show ¬ (2 : Fin 4) ∈ GatherDims.startIndexMap gather_S4x64x64x512_S512x1_S4x512x64x512_023_1_n_n_1_1_4164512 from
      (by decide : ¬ (2 : Fin 4) ∈ [(1 : Fin 4)])), Nat.zero_add]
    rfl
  · unfold GatherDims.start
    rw [dif_neg (show ¬ (3 : Fin 4) ∈ GatherDims.startIndexMap gather_S4x64x64x512_S512x1_S4x512x64x512_023_1_n_n_1_1_4164512 from
      (by decide : ¬ (3 : Fin 4) ∈ [(1 : Fin 4)])), Nat.zero_add]
    rfl

/-- Columns of a grid taken by number. -/
theorem cols_of {α : Type} (x : S4x512x64x512.Idx → α) (idx : IVec S1024x1 32) (b : Fin 4) (i : Fin 512) (n : Fin 1024) (d : Fin 512) (k : Fin 64)
    (hk : k.val = min (idx (ix2 n 0)).toInt.toNat 63) :
    Host.gather gather_S4x512x64x512_S1024x1_S4x512x1024x512_013_2_n_n_2_1_45121512 x idx (ix4 b i n d) = x (ix4 b i k d) := by
  unfold Host.gather
  refine congrArg x (funext fun a => Fin.ext ?_)
  show GatherDims.start gather_S4x512x64x512_S1024x1_S4x512x1024x512_013_2_n_n_2_1_45121512 (ix4 b i n d) idx a + GatherDims.batchCoord gather_S4x512x64x512_S1024x1_S4x512x1024x512_013_2_n_n_2_1_45121512 (ix4 b i n d) a + GatherDims.offCoord gather_S4x512x64x512_S1024x1_S4x512x1024x512_013_2_n_n_2_1_45121512 (ix4 b i n d) a = _
  rw [GatherDims.batchCoord_eq_zero _ _ _ List.not_mem_nil, Nat.add_zero]
  have hall : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hall with rfl | rfl | rfl | rfl
  · unfold GatherDims.start
    rw [dif_neg (show ¬ (0 : Fin 4) ∈ GatherDims.startIndexMap gather_S4x512x64x512_S1024x1_S4x512x1024x512_013_2_n_n_2_1_45121512 from
      (by decide : ¬ (0 : Fin 4) ∈ [(2 : Fin 4)])), Nat.zero_add]
    rfl
  · unfold GatherDims.start
    rw [dif_neg (show ¬ (1 : Fin 4) ∈ GatherDims.startIndexMap gather_S4x512x64x512_S1024x1_S4x512x1024x512_013_2_n_n_2_1_45121512 from
      (by decide : ¬ (1 : Fin 4) ∈ [(2 : Fin 4)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin 4) ∈ GatherDims.startIndexMap gather_S4x512x64x512_S1024x1_S4x512x1024x512_013_2_n_n_2_1_45121512 from List.mem_singleton.mpr rfl)]
    refine Eq.trans ?_ hk.symm
    refine congrArg (fun q => min (idx q).toInt.toNat 63) (funext fun q => Fin.ext ?_)
    match q with
    | ⟨0, _⟩ => rfl
    | ⟨1, _⟩ => rfl
  · unfold GatherDims.start
    rw [dif_neg (show ¬ (3 : Fin 4) ∈ GatherDims.startIndexMap gather_S4x512x64x512_S1024x1_S4x512x1024x512_013_2_n_n_2_1_45121512 from
      (by decide : ¬ (3 : Fin 4) ∈ [(2 : Fin 4)])), Nat.zero_add]
    rfl

/-- Rows of relative biases taken by number. -/
theorem rows_of_bias {α : Type} (x : S8x15x31.Idx → α) (idx : IVec S512x1 32) (b : Fin 8) (n : Fin 512) (j : Fin 31) (k : Fin 15)
    (hk : k.val = min (idx (ix2 n 0)).toInt.toNat 14) :
    Host.gather gather_S8x15x31_S512x1_S8x512x31_02_1_n_n_1_1_8131 x idx (ix3 b n j) = x (ix3 b k j) := by
  unfold Host.gather
  refine congrArg x (funext fun a => Fin.ext ?_)
  show GatherDims.start gather_S8x15x31_S512x1_S8x512x31_02_1_n_n_1_1_8131 (ix3 b n j) idx a + GatherDims.batchCoord gather_S8x15x31_S512x1_S8x512x31_02_1_n_n_1_1_8131 (ix3 b n j) a + GatherDims.offCoord gather_S8x15x31_S512x1_S8x512x31_02_1_n_n_1_1_8131 (ix3 b n j) a = _
  rw [GatherDims.batchCoord_eq_zero _ _ _ List.not_mem_nil, Nat.add_zero]
  have hall : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hall with rfl | rfl | rfl
  · unfold GatherDims.start
    rw [dif_neg (show ¬ (0 : Fin 3) ∈ GatherDims.startIndexMap gather_S8x15x31_S512x1_S8x512x31_02_1_n_n_1_1_8131 from
      (by decide : ¬ (0 : Fin 3) ∈ [(1 : Fin 3)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ GatherDims.startIndexMap gather_S8x15x31_S512x1_S8x512x31_02_1_n_n_1_1_8131 from List.mem_singleton.mpr rfl)]
    refine Eq.trans ?_ hk.symm
    refine congrArg (fun q => min (idx q).toInt.toNat 14) (funext fun q => Fin.ext ?_)
    match q with
    | ⟨0, _⟩ => rfl
    | ⟨1, _⟩ => rfl
  · unfold GatherDims.start
    rw [dif_neg (show ¬ (2 : Fin 3) ∈ GatherDims.startIndexMap gather_S8x15x31_S512x1_S8x512x31_02_1_n_n_1_1_8131 from
      (by decide : ¬ (2 : Fin 3) ∈ [(1 : Fin 3)])), Nat.zero_add]
    rfl

/-- Columns of relative biases taken by number. -/
theorem cols_of_bias {α : Type} (x : S8x512x31.Idx → α) (idx : IVec S1024x1 32) (b : Fin 8) (i : Fin 512) (n : Fin 1024) (k : Fin 31)
    (hk : k.val = min (idx (ix2 n 0)).toInt.toNat 30) :
    Host.gather gather_S8x512x31_S1024x1_S8x512x1024_01_2_n_n_2_1_85121 x idx (ix3 b i n) = x (ix3 b i k) := by
  unfold Host.gather
  refine congrArg x (funext fun a => Fin.ext ?_)
  show GatherDims.start gather_S8x512x31_S1024x1_S8x512x1024_01_2_n_n_2_1_85121 (ix3 b i n) idx a + GatherDims.batchCoord gather_S8x512x31_S1024x1_S8x512x1024_01_2_n_n_2_1_85121 (ix3 b i n) a + GatherDims.offCoord gather_S8x512x31_S1024x1_S8x512x1024_01_2_n_n_2_1_85121 (ix3 b i n) a = _
  rw [GatherDims.batchCoord_eq_zero _ _ _ List.not_mem_nil, Nat.add_zero]
  have hall : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hall with rfl | rfl | rfl
  · unfold GatherDims.start
    rw [dif_neg (show ¬ (0 : Fin 3) ∈ GatherDims.startIndexMap gather_S8x512x31_S1024x1_S8x512x1024_01_2_n_n_2_1_85121 from
      (by decide : ¬ (0 : Fin 3) ∈ [(2 : Fin 3)])), Nat.zero_add]
    rfl
  · unfold GatherDims.start
    rw [dif_neg (show ¬ (1 : Fin 3) ∈ GatherDims.startIndexMap gather_S8x512x31_S1024x1_S8x512x1024_01_2_n_n_2_1_85121 from
      (by decide : ¬ (1 : Fin 3) ∈ [(2 : Fin 3)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (2 : Fin 3) ∈ GatherDims.startIndexMap gather_S8x512x31_S1024x1_S8x512x1024_01_2_n_n_2_1_85121 from List.mem_singleton.mpr rfl)]
    refine Eq.trans ?_ hk.symm
    refine congrArg (fun q => min (idx q).toInt.toNat 30) (funext fun q => Fin.ext ?_)
    match q with
    | ⟨0, _⟩ => rfl
    | ⟨1, _⟩ => rfl

theorem row_words : ∀ n : Fin 512, (val_main_v51 (F := Ideal) (ix2 n 0)).toInt.toNat = start (n.val / 8) + n.val % 8 := by
  decide +kernel

theorem row_words' : ∀ n : Fin 512, (val_main_v73 (F := Ideal) (ix2 n 0)).toInt.toNat = start (n.val / 8) + n.val % 8 := by
  decide +kernel

theorem col_words : ∀ n : Fin 1024, (val_main_v59 (F := Ideal) (ix2 n 0)).toInt.toNat = left (n.val / 16) + n.val % 16 := by
  decide +kernel

theorem col_words' : ∀ n : Fin 1024, (val_main_v81 (F := Ideal) (ix2 n 0)).toInt.toNat = left (n.val / 16) + n.val % 16 := by
  decide +kernel

theorem row_bias_words : ∀ n : Fin 512, (val_main_v92 (F := Ideal) (ix2 n 0)).toInt.toNat = start (n.val / 8) + n.val % 8 + 7 - n.val / 8 := by
  decide +kernel

theorem col_bias_words : ∀ n : Fin 1024, (val_main_v100 (F := Ideal) (ix2 n 0)).toInt.toNat = left (n.val / 16) + n.val % 16 + 15 - n.val / 16 := by
  decide +kernel

theorem ix2_congr {a b : ℕ} {i i' : Fin a} {j j' : Fin b} (hi : i = i') (hj : j = j') :
    (ix2 i j : (⟨2, ![a, b]⟩ : Shape).Idx) = ix2 i' j' := by rw [hi, hj]

theorem keys_grid (x0 : FVec Ideal S17408x1536 .bf16) (b : Fin 4) (i j : Fin 64) (d : Fin 512) :
    val_main_v44 (F := Ideal) x0 (ix4 b i j d) = x0 (ix2 ⟨b.val * 4352 + (256 + (i.val * 64 + j.val)), by omega⟩ ⟨512 + d.val, by omega⟩) := by
  pointwise [val_main_v44, val_main_v43, val_main_v42, val_main_v1, val_main_v0]

/-- The keys of a place's window. -/
theorem keys_win (x0 : FVec Ideal S17408x1536 .bf16) (b : Fin 4) (n : Fin 4096) (p : Fin 128) (h : Fin 8) (e : Fin 64) :
    val_main_v63 (F := Ideal) x0 (ix5 b n p h e)
      = x0 (ix2 ⟨b.val * 4352 + (256 + ((start (n.val / 64) + p.val / 16) * 64 + (left (n.val % 64) + p.val % 16))), by unfold start left; omega⟩
          ⟨512 + (h.val * 64 + e.val), by omega⟩) := by
  have hs : start (n.val / 64) ≤ 56 := Nat.min_le_right _ _
  have hl : left (n.val % 64) ≤ 48 := Nat.min_le_right _ _
  have hn := n.isLt
  have hp := p.isLt
  unfold val_main_v63 val_main_v62 val_main_v61
  generalize hg : val_main_v60 (F := Ideal) x0 = g
  pointwise
  rw [← hg]
  refine (cols_of _ _ b _ _ _ ⟨left (n.val % 64) + p.val % 16, by omega⟩ ?_).trans
    ((rows_of _ _ b _ _ _ ⟨start (n.val / 64) + p.val / 16, by omega⟩ ?_).trans (keys_grid x0 b _ _ _))
  · rw [col_words]
    dsimp only
    rw [show (n.val % 64 * 16 + p.val % 16) / 16 = n.val % 64 by omega, show (n.val % 64 * 16 + p.val % 16) % 16 = p.val % 16 by omega]
    omega
  · rw [row_words]
    dsimp only
    rw [show (n.val / 64 * 8 + p.val / 16) / 8 = n.val / 64 by omega, show (n.val / 64 * 8 + p.val / 16) % 8 = p.val / 16 by omega]
    omega

theorem vals_grid (x0 : FVec Ideal S17408x1536 .bf16) (b : Fin 4) (i j : Fin 64) (d : Fin 512) :
    val_main_v66 (F := Ideal) x0 (ix4 b i j d) = x0 (ix2 ⟨b.val * 4352 + (256 + (i.val * 64 + j.val)), by omega⟩ ⟨1024 + d.val, by omega⟩) := by
  pointwise [val_main_v66, val_main_v65, val_main_v64, val_main_v1, val_main_v0]

/-- The values of a place's window. -/
theorem vals_win (x0 : FVec Ideal S17408x1536 .bf16) (b : Fin 4) (n : Fin 4096) (p : Fin 128) (h : Fin 8) (e : Fin 64) :
    val_main_v85 (F := Ideal) x0 (ix5 b n p h e)
      = x0 (ix2 ⟨b.val * 4352 + (256 + ((start (n.val / 64) + p.val / 16) * 64 + (left (n.val % 64) + p.val % 16))), by unfold start left; omega⟩
          ⟨1024 + (h.val * 64 + e.val), by omega⟩) := by
  have hs : start (n.val / 64) ≤ 56 := Nat.min_le_right _ _
  have hl : left (n.val % 64) ≤ 48 := Nat.min_le_right _ _
  have hn := n.isLt
  have hp := p.isLt
  unfold val_main_v85 val_main_v84 val_main_v83
  generalize hg : val_main_v82 (F := Ideal) x0 = g
  pointwise
  rw [← hg]
  refine (cols_of _ _ b _ _ _ ⟨left (n.val % 64) + p.val % 16, by omega⟩ ?_).trans
    ((rows_of _ _ b _ _ _ ⟨start (n.val / 64) + p.val / 16, by omega⟩ ?_).trans (vals_grid x0 b _ _ _))
  · rw [col_words']
    dsimp only
    rw [show (n.val % 64 * 16 + p.val % 16) / 16 = n.val % 64 by omega, show (n.val % 64 * 16 + p.val % 16) % 16 = p.val % 16 by omega]
    omega
  · rw [row_words']
    dsimp only
    rw [show (n.val / 64 * 8 + p.val / 16) / 8 = n.val / 64 by omega, show (n.val / 64 * 8 + p.val / 16) % 8 = p.val / 16 by omega]
    omega

/-- The relative biases of a place's window. -/
theorem bias_win (x1 : FVec Ideal S8x15x31 .f32) (n : Fin 4096) (p : Fin 128) (h : Fin 8) :
    val_main_v104 (F := Ideal) x1 (ix3 h n p)
      = x1 (ix3 h ⟨start (n.val / 64) + p.val / 16 + 7 - n.val / 64, by unfold start; omega⟩
          ⟨left (n.val % 64) + p.val % 16 + 15 - n.val % 64, by unfold left; omega⟩) := by
  have hs : start (n.val / 64) + 8 ≤ n.val / 64 + 8 := by unfold start; omega
  have hl : left (n.val % 64) ≤ n.val % 64 := by unfold left; omega
  have hn := n.isLt
  have hp := p.isLt
  unfold val_main_v104 val_main_v103 val_main_v102
  generalize hg : val_main_v101 (F := Ideal) x1 = g
  pointwise
  rw [← hg]
  refine (cols_of_bias _ _ h _ _ ⟨left (n.val % 64) + p.val % 16 + 15 - n.val % 64, by unfold left; omega⟩ ?_).trans
    (rows_of_bias _ _ h _ _ ⟨start (n.val / 64) + p.val / 16 + 7 - n.val / 64, by unfold start; omega⟩ ?_)
  · rw [col_bias_words]
    dsimp only
    rw [show (n.val % 64 * 16 + p.val % 16) / 16 = n.val % 64 by omega, show (n.val % 64 * 16 + p.val % 16) % 16 = p.val % 16 by omega]
    omega
  · rw [row_bias_words]
    dsimp only
    rw [show (n.val / 64 * 8 + p.val / 16) / 8 = n.val / 64 by omega, show (n.val / 64 * 8 + p.val / 16) % 8 = p.val / 16 by omega]
    omega

end Cert.ReferenceNaIdeal.Taken

end
-- ==== Proof.NaRef.lean ====
/-
  The neighbourhood attention's reference, element by element, in plain formulas.
-/
module

public import proofs.«01_k».proof.Proof.NaTaken

@[expose] public section

set_option maxRecDepth 16384

noncomputable section

open Idealize.ShloMosaic Idealize.ShloMosaic.TcCoe Idealize.SL.Sem

namespace Cert.ReferenceNaIdeal.Result

open Cert.ReferenceNaIdeal Cert.ReferenceNaIdeal.Gen Cert.ReferenceNaIdeal.Read Cert.ReferenceNaIdeal.Taken Cert.Near Cert.Plain

variable (x0 : FVec Ideal S17408x1536 .bf16) (x1 : FVec Ideal S8x15x31 .f32)

theorem raw_qc (b : Fin 4) (t : Fin 256) (h : Fin 8) (d : Fin 64) :
    val_main_v4 (F := Ideal) x0 (ix4 b t h d) = x0 (ix2 ⟨b.val * 4352 + t.val, by omega⟩ ⟨h.val * 64 + d.val, by omega⟩) := by
  pointwise [val_main_v4, val_main_v3, val_main_v2, val_main_v1, val_main_v0]

theorem raw_kc (b : Fin 4) (t : Fin 256) (h : Fin 8) (d : Fin 64) :
    val_main_v7 (F := Ideal) x0 (ix4 b t h d) = x0 (ix2 ⟨b.val * 4352 + t.val, by omega⟩ ⟨512 + (h.val * 64 + d.val), by omega⟩) := by
  pointwise [val_main_v7, val_main_v6, val_main_v5, val_main_v1, val_main_v0]

theorem raw_vc (b : Fin 4) (t : Fin 256) (h : Fin 8) (d : Fin 64) :
    val_main_v10 (F := Ideal) x0 (ix4 b t h d) = x0 (ix2 ⟨b.val * 4352 + t.val, by omega⟩ ⟨1024 + (h.val * 64 + d.val), by omega⟩) := by
  pointwise [val_main_v10, val_main_v9, val_main_v8, val_main_v1, val_main_v0]

theorem raw_q (b : Fin 4) (t : Fin 4096) (h : Fin 8) (d : Fin 64) :
    val_main_v13 (F := Ideal) x0 (ix4 b t h d) = x0 (ix2 ⟨b.val * 4352 + (256 + t.val), by omega⟩ ⟨h.val * 64 + d.val, by omega⟩) := by
  pointwise [val_main_v13, val_main_v12, val_main_v11, val_main_v1, val_main_v0]

theorem score_win (b : Fin 4) (h : Fin 8) (n : Fin 4096) (p : Fin 128) :
    val_main_v110 (F := Ideal) x0 x1 (ix4 b h n p)
      = (∑ e, val_main_v13 (F := Ideal) x0 (ix4 b n h e) * val_main_v63 (F := Ideal) x0 (ix5 b n p h e)) * Ideal.ofBits .f32 1040187392#32
        + val_main_v104 (F := Ideal) x1 (ix3 h n p) := by
  unfold val_main_v110 val_main_v109 val_main_v108 val_main_v107 val_main_v106 val_main_v105
  generalize val_main_v13 (F := Ideal) x0 = y
  generalize val_main_v63 (F := Ideal) x0 = z
  generalize val_main_v104 (F := Ideal) x1 = u
  pointwise [val_main_cst]

theorem score_far (b : Fin 4) (h : Fin 8) (n : Fin 4096) (p : Fin 256) :
    val_main_v113 (F := Ideal) x0 (ix4 b h n p)
      = (∑ e, val_main_v13 (F := Ideal) x0 (ix4 b n h e) * val_main_v7 (F := Ideal) x0 (ix4 b p h e)) * Ideal.ofBits .f32 1040187392#32 := by
  unfold val_main_v113 val_main_v112 val_main_v111
  generalize val_main_v13 (F := Ideal) x0 = y
  generalize val_main_v7 (F := Ideal) x0 = z
  pointwise [val_main_cst_19]

theorem score_ctx (b : Fin 4) (h : Fin 8) (n : Fin 256) (p : Fin 256) :
    val_main_v135 (F := Ideal) x0 (ix4 b h n p)
      = (∑ e, val_main_v4 (F := Ideal) x0 (ix4 b n h e) * val_main_v7 (F := Ideal) x0 (ix4 b p h e)) * Ideal.ofBits .f32 1040187392#32 := by
  unfold val_main_v135 val_main_v134 val_main_v133
  generalize val_main_v4 (F := Ideal) x0 = y
  generalize val_main_v7 (F := Ideal) x0 = z
  pointwise [val_main_cst_23]

theorem scores (b : Fin 4) (h : Fin 8) (n : Fin 4096) (u : Fin 384) :
    val_main_v114 (F := Ideal) x0 x1 (ix4 b h n u)
      = join (rfl : 128 + 256 = 384) (fun p => val_main_v110 (F := Ideal) x0 x1 (ix4 b h n p))
          (fun p => val_main_v113 (F := Ideal) x0 (ix4 b h n p)) u := by
  unfold val_main_v114 join
  generalize val_main_v110 (F := Ideal) x0 x1 = y
  generalize val_main_v113 (F := Ideal) x0 = z
  pointwise

theorem top_lat (b : Fin 4) (h : Fin 8) (n : Fin 4096) :
    val_main_v115 (F := Ideal) x0 x1 (ix3 b h n)
      = Finset.fold max (Ideal.ofBits .f32 4286578688#32) (fun t => val_main_v114 (F := Ideal) x0 x1 (ix4 b h n t)) Finset.univ := by
  unfold val_main_v115
  generalize val_main_v114 (F := Ideal) x0 x1 = y
  pointwise [val_main_cst_20]

theorem gap_lat (b : Fin 4) (h : Fin 8) (n : Fin 4096) (t : Fin 384) :
    val_main_v121 (F := Ideal) x0 x1 (ix4 b h n t)
      = Ideal.exp (val_main_v114 (F := Ideal) x0 x1 (ix4 b h n t) - peak fun t => val_main_v114 (F := Ideal) x0 x1 (ix4 b h n t)) := by
  rw [val_main_v121_apply, val_main_v120_apply, val_main_v119_apply, val_main_v118_apply, val_main_v117_apply, val_main_v116_apply,
    show idx_main_v118 (idx_main_v119 (ix4 b h n t)) = ix3 b h n from
      funext fun a => match a with | ⟨0, _⟩ => rfl | ⟨1, _⟩ => rfl | ⟨2, _⟩ => rfl,
    top_lat]
  unfold peak
  generalize (Finset.fold max (Ideal.ofBits .f32 4286578688#32) _ _ : EReal) = z
  generalize val_main_v114 (F := Ideal) x0 x1 (ix4 b h n t) = y
  rfl

theorem weight_lat (b : Fin 4) (h : Fin 8) (n : Fin 4096) (t : Fin 384) :
    val_main_v125 (F := Ideal) x0 x1 (ix4 b h n t) = Ideal.div (val_main_v121 (F := Ideal) x0 x1 (ix4 b h n t))
      (∑ t, val_main_v121 (F := Ideal) x0 x1 (ix4 b h n t)) := by
  unfold val_main_v125 val_main_v124 val_main_v123 val_main_v122
  generalize val_main_v121 (F := Ideal) x0 x1 = y
  pointwise [val_main_cst_22]

theorem top_ctx (b : Fin 4) (h : Fin 8) (n : Fin 256) :
    val_main_v136 (F := Ideal) x0 (ix3 b h n)
      = Finset.fold max (Ideal.ofBits .f32 4286578688#32) (fun t => val_main_v135 (F := Ideal) x0 (ix4 b h n t)) Finset.univ := by
  unfold val_main_v136
  generalize val_main_v135 (F := Ideal) x0 = y
  pointwise [val_main_cst_24]

theorem gap_ctx (b : Fin 4) (h : Fin 8) (n : Fin 256) (t : Fin 256) :
    val_main_v142 (F := Ideal) x0 (ix4 b h n t)
      = Ideal.exp (val_main_v135 (F := Ideal) x0 (ix4 b h n t) - peak fun t => val_main_v135 (F := Ideal) x0 (ix4 b h n t)) := by
  rw [val_main_v142_apply, val_main_v141_apply, val_main_v140_apply, val_main_v139_apply, val_main_v138_apply, val_main_v137_apply,
    show idx_main_v139 (idx_main_v140 (ix4 b h n t)) = ix3 b h n from
      funext fun a => match a with | ⟨0, _⟩ => rfl | ⟨1, _⟩ => rfl | ⟨2, _⟩ => rfl,
    top_ctx]
  unfold peak
  generalize (Finset.fold max (Ideal.ofBits .f32 4286578688#32) _ _ : EReal) = z
  generalize val_main_v135 (F := Ideal) x0 (ix4 b h n t) = y
  rfl

theorem weight_ctx (b : Fin 4) (h : Fin 8) (n : Fin 256) (t : Fin 256) :
    val_main_v146 (F := Ideal) x0 (ix4 b h n t) = Ideal.div (val_main_v142 (F := Ideal) x0 (ix4 b h n t))
      (∑ t, val_main_v142 (F := Ideal) x0 (ix4 b h n t)) := by
  unfold val_main_v146 val_main_v145 val_main_v144 val_main_v143
  generalize val_main_v142 (F := Ideal) x0 = y
  pointwise [val_main_cst_26]

theorem out_lat (b : Fin 4) (n : Fin 4096) (j : Fin 512) :
    val_main_v132 (F := Ideal) x0 x1 (ix3 b n j)
      = ∑ p : Fin 128, val_main_v125 (F := Ideal) x0 x1 (ix4 b ⟨j.val / 64, by omega⟩ n ⟨p.val, by omega⟩)
            * val_main_v85 (F := Ideal) x0 (ix5 b n p ⟨j.val / 64, by omega⟩ ⟨j.val % 64, by omega⟩)
        + ∑ p : Fin 256, val_main_v10 (F := Ideal) x0 (ix4 b p ⟨j.val / 64, by omega⟩ ⟨j.val % 64, by omega⟩)
            * val_main_v125 (F := Ideal) x0 x1 (ix4 b ⟨j.val / 64, by omega⟩ n ⟨128 + p.val, by omega⟩) := by
  unfold val_main_v132 val_main_v131 val_main_v130 val_main_v129 val_main_v128 val_main_v127 val_main_v126
  generalize val_main_v125 (F := Ideal) x0 x1 = y
  generalize val_main_v85 (F := Ideal) x0 = z
  generalize val_main_v10 (F := Ideal) x0 = u
  pointwise

theorem out_ctx (b : Fin 4) (n : Fin 256) (j : Fin 512) :
    val_main_v149 (F := Ideal) x0 (ix3 b n j)
      = ∑ p : Fin 256, val_main_v10 (F := Ideal) x0 (ix4 b p ⟨j.val / 64, by omega⟩ ⟨j.val % 64, by omega⟩)
            * val_main_v146 (F := Ideal) x0 (ix4 b ⟨j.val / 64, by omega⟩ n p) := by
  unfold val_main_v149 val_main_v148 val_main_v147
  generalize val_main_v146 (F := Ideal) x0 = y
  generalize val_main_v10 (F := Ideal) x0 = u
  pointwise

theorem whole (r : Fin 17408) (j : Fin 512) :
    val_main_v152 (F := Ideal) x0 x1 (ix2 r j)
      = if h : r.val % 4352 < 256 then val_main_v149 (F := Ideal) x0 (ix3 ⟨r.val / 4352, by omega⟩ ⟨r.val % 4352, h⟩ j)
        else val_main_v132 (F := Ideal) x0 x1 (ix3 ⟨r.val / 4352, by omega⟩ ⟨r.val % 4352 - 256, by omega⟩ j) := by
  unfold val_main_v152 val_main_v151 val_main_v150
  generalize val_main_v132 (F := Ideal) x0 x1 = y
  generalize val_main_v149 (F := Ideal) x0 = z
  pointwise

/-- A latent row's element. -/
theorem lat (b : Fin 4) (n : Fin 4096) (j : Fin 512) :
    val_main_v132 (F := Ideal) x0 x1 (ix3 b n j)
      = attend2 (rfl : 128 + 256 = 384) (fun p => val_main_v110 (F := Ideal) x0 x1 (ix4 b ⟨j.val / 64, by omega⟩ n p))
          (fun p => val_main_v85 (F := Ideal) x0 (ix5 b n p ⟨j.val / 64, by omega⟩ ⟨j.val % 64, by omega⟩))
          (fun p => val_main_v113 (F := Ideal) x0 (ix4 b ⟨j.val / 64, by omega⟩ n p))
          (fun p => val_main_v10 (F := Ideal) x0 (ix4 b p ⟨j.val / 64, by omega⟩ ⟨j.val % 64, by omega⟩)) := by
  rw [out_lat]
  unfold attend2
  simp only [weight_lat, gap_lat, scores]
  congr 1

/-- A context row's element. -/
theorem ctx (b : Fin 4) (n : Fin 256) (j : Fin 512) :
    val_main_v149 (F := Ideal) x0 (ix3 b n j)
      = attend (fun p => val_main_v135 (F := Ideal) x0 (ix4 b ⟨j.val / 64, by omega⟩ n p))
          (fun p => val_main_v10 (F := Ideal) x0 (ix4 b p ⟨j.val / 64, by omega⟩ ⟨j.val % 64, by omega⟩)) := by
  rw [out_ctx]
  unfold attend
  simp only [weight_ctx, gap_ctx]

end Cert.ReferenceNaIdeal.Result

end
-- ==== Proof.NaEquation.lean ====
/-
  The neighbourhood attention's output is the reference's.
-/
module

public import proofs.«01_k».proof.Proof.NaTables
public import proofs.«01_k».proof.Proof.NaRef

@[expose] public section

set_option maxRecDepth 16384

noncomputable section

open Idealize.ShloMosaic Idealize.ShloMosaic.TcCoe Idealize.SL.Sem

namespace Cert.Near

open Cert.Plain Cert.Lanes Cert.KernelNaIdeal.Block Cert.KernelNaIdeal.Array Cert.KernelNaIdeal.Tables
open Cert.ReferenceNaIdeal.Read Cert.ReferenceNaIdeal.Result Cert.ReferenceNaIdeal.Taken
open Cert.ReferenceNaIdeal (S17408x1536 S8x15x31)

variable (Z : FVec Ideal S17408x1536 .bf16) (B : FVec Ideal S8x15x31 .f32)

theorem at_congr {i i' : Fin 17408} {j j' : Fin 1536} (hi : i.val = i'.val) (hj : j.val = j'.val) : Z (ix2 i j) = Z (ix2 i' j') := by
  rw [Fin.ext hi, Fin.ext hj]

theorem word_num : IsNum (Ideal.ofBits .f32 1040187392#32) := ⟨_, rfl⟩

/-- A score of finite lanes is finite. -/
theorem dot_num (q k : Fin 64 → EReal) (hq : ∀ e, IsNum (q e)) (hk : ∀ e, IsNum (k e)) :
    IsNum ((∑ e, q e * k e) * Ideal.ofBits .f32 1040187392#32) :=
  (IsNum.sum fun e => (hq e).mul (hk e)).mul word_num

/-- The place of a window's entry among the whole rows. -/
def place (w : ℕ) (p : Fin 128) : Fin 512 := ⟨p.val / 16 * 64 + (left w + p.val % 16), by unfold left; omega⟩

theorem place_inj (w : ℕ) : Function.Injective (place w) := fun p q e => by
  have e := congrArg Fin.val e
  unfold place left at e
  dsimp only at e
  exact Fin.ext (by omega)

section
variable (hZ : ∀ (r : Fin 17408) (l : Fin 1536), l.val < 1024 → IsNum (Z (ix2 r l))) (hB : ∀ y, IsNum (B y))
include hZ

theorem ctx_num (b : Fin 4) (h : Fin 8) (n p : Fin 256) : IsNum (val_main_v135 (F := Ideal) Z (ix4 b h n p)) := by
  rw [score_ctx]
  refine dot_num _ _ (fun e => ?_) (fun e => ?_)
  · rw [raw_qc]
    exact hZ _ _ (by dsimp only; omega)
  · rw [raw_kc]
    exact hZ _ _ (by dsimp only; omega)

theorem far_num (b : Fin 4) (h : Fin 8) (n : Fin 4096) (p : Fin 256) : IsNum (val_main_v113 (F := Ideal) Z (ix4 b h n p)) := by
  rw [score_far]
  refine dot_num _ _ (fun e => ?_) (fun e => ?_)
  · rw [raw_q]
    exact hZ _ _ (by dsimp only; omega)
  · rw [raw_kc]
    exact hZ _ _ (by dsimp only; omega)

include hB in
theorem win_num (b : Fin 4) (h : Fin 8) (n : Fin 4096) (p : Fin 128) : IsNum (val_main_v110 (F := Ideal) Z B (ix4 b h n p)) := by
  rw [score_win]
  refine (dot_num _ _ (fun e => ?_) (fun e => ?_)).add ?_
  · rw [raw_q]
    exact hZ _ _ (by dsimp only; omega)
  · rw [keys_win]
    exact hZ _ _ (by dsimp only; omega)
  · rw [bias_win]
    exact hB _

/-- A context row. -/
theorem eq_ctx (r : Fin 17408) (j : Fin 512) (h : r.val % 4352 < 256) :
    all Z (packT B) (ix2 r j) = val_main_v152 (F := Ideal) Z B (ix2 r j) := by
  have hj := j.isLt
  refine (if_pos h).trans ?_
  rw [Cert.ReferenceNaIdeal.Result.whole, dif_pos h, ctx, ← mix_eq (by omega) _ _ (fun p => ctx_num Z hZ _ _ _ p)]
  unfold ctxRow
  refine congrArg₂ Cert.KernelIdeal.Block.mix (funext fun p => ?_) (funext fun p => ?_)
  · rw [score_ctx]
    unfold dot64
    refine congrArg (· * Ideal.ofBits .f32 1040187392#32) (Finset.sum_congr rfl fun e _ => ?_)
    rw [raw_qc, raw_kc]
    refine congrArg₂ (· * ·) (at_congr Z ?_ rfl) (at_congr Z rfl rfl)
    show r.val = r.val / 4352 * 4352 + r.val % 4352
    omega
  · rw [raw_vc]
    refine at_congr Z rfl ?_
    show 1024 + j.val = 1024 + (j.val / 64 * 64 + j.val % 64)
    omega

include hB in
set_option maxHeartbeats 1000000 in
/-- A row of the grid. -/
theorem eq_lat (r : Fin 17408) (j : Fin 512) (h : ¬r.val % 4352 < 256) :
    all Z (packT B) (ix2 r j) = val_main_v152 (F := Ideal) Z B (ix2 r j) := by
  have hj := j.isLt
  have hr := r.isLt
  refine (if_neg h).trans ?_
  rw [Cert.ReferenceNaIdeal.Result.whole, dif_neg h, lat,
    ← mix2_eq (rfl : 128 + 256 = 384) (by omega) (by omega) _ _ _ _ (fun p => win_num Z B hZ hB _ _ _ p) (fun p => far_num Z hZ _ _ _ p)]
  unfold latRow
  have hw : (r.val % 4352 - 256) % 64 = r.val % 64 := by omega
  have hs : start ((r.val % 4352 - 256) / 64) ≤ 56 := Nat.min_le_right _ _
  have hs' : start ((r.val % 4352 - 256) / 64) ≤ (r.val % 4352 - 256) / 64 := by unfold start; omega
  have hs2 : (r.val % 4352 - 256) / 64 - start ((r.val % 4352 - 256) / 64) < 8 := by unfold start; omega
  have hl : left (r.val % 64) ≤ 48 := Nat.min_le_right _ _
  have hl' : left (r.val % 64) ≤ r.val % 64 := by unfold left; omega
  have hl2 : r.val % 64 < left (r.val % 64) + 16 := by unfold left; omega
  have ht : (fun u : Fin 256 => dot64 (fun l : Fin 512 => Z (ix2 r ⟨l.val, by omega⟩))
      (fun l => Z (ix2 ⟨r.val / 4352 * 4352 + u.val, by omega⟩ ⟨512 + l.val, by omega⟩)) (hd j))
      = fun p => val_main_v113 (F := Ideal) Z (ix4 ⟨r.val / 4352, by omega⟩ ⟨j.val / 64, by omega⟩ ⟨r.val % 4352 - 256, by omega⟩ p) := by
    funext p
    rw [score_far]
    unfold dot64
    refine congrArg (· * Ideal.ofBits .f32 1040187392#32) (Finset.sum_congr rfl fun e _ => ?_)
    rw [raw_q, raw_kc]
    refine congrArg₂ (· * ·) (at_congr Z ?_ rfl) (at_congr Z rfl rfl)
    show r.val = r.val / 4352 * 4352 + (256 + (r.val % 4352 - 256))
    omega
  have hv : (fun u : Fin 256 => Z (ix2 ⟨r.val / 4352 * 4352 + u.val, by omega⟩ ⟨1024 + j.val, by omega⟩))
      = fun p => val_main_v10 (F := Ideal) Z (ix4 ⟨r.val / 4352, by omega⟩ p ⟨j.val / 64, by omega⟩ ⟨j.val % 64, by omega⟩) := by
    funext p
    rw [raw_vc]
    refine at_congr Z rfl ?_
    show 1024 + j.val = 1024 + (j.val / 64 * 64 + j.val % 64)
    omega
  refine Eq.trans (congrArg₂ (fun t w => mix2 _ _ t w) ht hv) ?_
  refine mix2_window (place (r.val % 64)) (place_inj _) _ _ _ _ _ _ (fun p => ?_) (fun p => ?_) (fun u hu => ?_)
  · have hp := p.isLt
    rw [score_win, bias_win]
    refine congrArg₂ (· + ·) ?_ ?_
    · unfold dot64
      refine congrArg (· * Ideal.ofBits .f32 1040187392#32) (Finset.sum_congr rfl fun e _ => ?_)
      rw [raw_q, keys_win]
      refine congrArg₂ (· * ·) (at_congr Z ?_ rfl) (at_congr Z ?_ rfl)
      · show r.val = r.val / 4352 * 4352 + (256 + (r.val % 4352 - 256))
        omega
      · show r.val / 4352 * 4352 + 256 + start ((r.val % 4352 - 256) / 64) * 64 + (p.val / 16 * 64 + (left (r.val % 64) + p.val % 16))
          = r.val / 4352 * 4352 + (256 + ((start ((r.val % 4352 - 256) / 64) + p.val / 16) * 64 + (left ((r.val % 4352 - 256) % 64) + p.val % 16)))
        rw [hw]
        omega
    · refine (packT_at B _ ⟨j.val / 64, by omega⟩ ⟨r.val % 64, by omega⟩ ⟨p.val / 16, by omega⟩ ⟨left (r.val % 64) + p.val % 16, by omega⟩
        _ (place (r.val % 64) p) rfl rfl).trans ((if_pos ⟨by dsimp only; omega, by dsimp only; omega⟩).trans ?_)
      refine congrArg B (funext fun a => Fin.ext ?_)
      match a with
      | ⟨0, _⟩ => rfl
      | ⟨1, _⟩ =>
        show 7 + p.val / 16 - ((r.val % 4352 - 256) / 64 - start ((r.val % 4352 - 256) / 64))
          = start ((r.val % 4352 - 256) / 64) + p.val / 16 + 7 - (r.val % 4352 - 256) / 64
        omega
      | ⟨2, _⟩ =>
        show min (left (r.val % 64) + p.val % 16 + 15 - r.val % 64) 30
          = left ((r.val % 4352 - 256) % 64) + p.val % 16 + 15 - (r.val % 4352 - 256) % 64
        rw [hw]
        omega
  · rw [vals_win]
    refine at_congr Z ?_ ?_
    · show r.val / 4352 * 4352 + 256 + start ((r.val % 4352 - 256) / 64) * 64 + (p.val / 16 * 64 + (left (r.val % 64) + p.val % 16))
        = r.val / 4352 * 4352 + (256 + ((start ((r.val % 4352 - 256) / 64) + p.val / 16) * 64 + (left ((r.val % 4352 - 256) % 64) + p.val % 16)))
      rw [hw]
      omega
    · show 1024 + j.val = 1024 + (j.val / 64 * 64 + j.val % 64)
      omega
  · have hu' := u.isLt
    refine (congrArg _ ((packT_at B _ ⟨j.val / 64, by omega⟩ ⟨r.val % 64, by omega⟩ ⟨u.val / 64, by omega⟩ ⟨u.val % 64, by omega⟩
        _ u rfl (by dsimp only; omega)).trans (if_neg fun hin => hu ⟨⟨u.val / 64 * 16 + (u.val % 64 - left (r.val % 64)), ?_⟩, Fin.ext ?_⟩))).trans
      (EReal.add_bot _)
    · have := hin.1
      have := hin.2
      dsimp only at *
      omega
    · have := hin.1
      have := hin.2
      dsimp only at *
      show (u.val / 64 * 16 + (u.val % 64 - left (r.val % 64))) / 16 * 64 + (left (r.val % 64) + (u.val / 64 * 16 + (u.val % 64 - left (r.val % 64))) % 16) = u.val
      omega

end

end Cert.Near

end
-- ==== Proof.Na.lean ====
/-
  The claims about the neighbourhood attention.
-/
module

public import proofs.«01_k».proof.Defs
public import proofs.«01_k».proof.Proof.Gen.KernelNa.Frame
public import proofs.«01_k».proof.Proof.Gen.KernelNaIdeal.Frame
public import proofs.«01_k».proof.Proof.Gen.KernelNaIdeal.Value
public import proofs.«01_k».proof.Proof.Gen.ReferenceNaIdeal.Run
public import proofs.«01_k».proof.Proof.Gen.Pre_near
public import proofs.«01_k».proof.Proof.NaEquation
public import proofs.«01_k».proof.Proof.Finite

@[expose] public section

set_option maxRecDepth 16384

noncomputable section

open Idealize.ShloMosaic Idealize.ShloMosaic.TcCoe Idealize.SL.Sem

namespace Cert.Na

open Cert.Lanes

theorem frame_p : Cert.quiescent_KernelNa := fun m ρ _ => Cert.KernelNa.Gen.frame m ρ

theorem frame_pi : Cert.quiescent_KernelNaIdeal := fun m ρ _ => Cert.KernelNaIdeal.Gen.frame m ρ

theorem frame_pi_pre : Cert.quiescent_KernelNaIdeal_pre_near := fun m ρ _ => Cert.KernelNaIdeal.Gen.frame m ρ

theorem frame_ri : Cert.quiescent_ReferenceNaIdeal := fun m ρ _ =>
  (θ_run Cert.ReferenceNaIdeal.defs _ _).mono
    (fun r h => ⟨fun c => (h c).2, Idealize.ShloMosaic.sem_eq_zero_of_no_sems (by decide) r.2⟩) (Cert.ReferenceNaIdeal.Value.run m ρ)

theorem frame_ri_pre : Cert.quiescent_ReferenceNaIdeal_pre_near := fun m ρ _ => frame_ri m ρ trivial

theorem preserves : Cert.preserves_KernelNa_KernelNaIdeal := trivial

section
variable (Z : FVec Ideal Cert.Pre_near.S17408x1536 .bf16) (B : FVec Ideal Cert.Pre_near.S8x15x31 .f32)

/-- Queries and keys are finite. -/
theorem tokens (h : (Cert.Pre_near.fn (F := Ideal) Z B).1 = fun _ => 1#1) (r : Fin 17408) (l : Fin 1536) (hl : l.val < 1024) :
    IsNum (Z (ix2 r l)) := by
  have e := congrFun h (ix2 r ⟨l.val, hl⟩)
  refine Cert.Finite.num_of_lt _ (Eq.trans ?_ e)
  pointwise [Cert.Pre_near.fn]
  rfl

/-- The position bias is finite. -/
theorem bias (h : (Cert.Pre_near.fn (F := Ideal) Z B).2 = fun _ => 1#1) (y : Cert.Pre_near.S8x15x31.Idx) : IsNum (B y) := by
  have e := congrFun h y
  refine Cert.Finite.num_of_lt _ (Eq.trans ?_ e)
  pointwise [Cert.Pre_near.fn]
  rfl

end

section
open Cert.KernelNaIdeal Cert.KernelNaIdeal.Gen Cert.KernelNaIdeal.Array

variable (m : (ℓ : Loc nD τ sig) → Buf (Elt Ideal) ℓ)

/-- The run, with the array it leaves. -/
theorem run (ρ : Dev nD → PrngReg) : θ_run defs (onTc (τ := τ) (main (F := Ideal))) ⟨m, fun _ => 0, ρ⟩ fun r => ∀ c : Dev nD,
      r.2.mem ((c.tc : Thread nD τ).loc main_v14) = all (aZ m c) (aT m c)
      ∧ (r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    have := h c
    rw [final] at this
    exact this) (Value.run_blocks m ρ)

/-- What the kernel leaves, from its arguments alone. -/
theorem whole (c : Dev nD) (hpre : Cert.Pre_KernelNaIdeal_near m) (r : Fin 17408) (j : Fin 512) :
    all (aZ m c) (aT m c) (ix2 r j)
      = Cert.ReferenceNaIdeal.Read.val_main_v152 (F := Ideal) (m ((c.tc : Thread nD τ).loc main_arg0)) (m ((c.tc : Thread nD τ).loc main_arg1)) (ix2 r j) := by
  have hz : aZ m c = m ((c.tc : Thread nD τ).loc main_arg0) := V_main_arg0 m c
  rw [hz, Tables.held]
  have nZ := fun r l hl => tokens _ _ (hpre c).1 r l hl
  have nB := fun y => bias _ _ (hpre c).2 y
  by_cases h : r.val % 4352 < 256
  · exact Cert.Near.eq_ctx _ _ nZ r j h
  · exact Cert.Near.eq_lat _ _ nZ nB r j h

end

theorem algebraic : Cert.algebraic_KernelNaIdeal_ReferenceNaIdeal_pre_near := by
  intro m ρ m' ρ' hpre hagree
  refine ⟨_, run m ρ, ?_⟩
  refine (θ_run Cert.ReferenceNaIdeal.defs _ _).mono (fun r h c => ⟨(h c).1.trans ?_, (h c).2⟩) (Cert.ReferenceNaIdeal.Value.run m' ρ')
  refine (Cert.ReferenceNaIdeal.Read.val_main_v152_eq (F := Ideal) _).trans ?_
  obtain ⟨h0, h1⟩ := hagree c
  show Cert.ReferenceNaIdeal.Read.val_main_v152 (F := Ideal) (m' ((c.tc : Thread Cert.ReferenceNaIdeal.nD Cert.ReferenceNaIdeal.τ).loc Cert.ReferenceNaIdeal.main_arg0)) (m' ((c.tc : Thread Cert.ReferenceNaIdeal.nD Cert.ReferenceNaIdeal.τ).loc Cert.ReferenceNaIdeal.main_arg1)) = _
  rw [h0, h1]
  funext y
  obtain ⟨r, j, rfl⟩ : ∃ (r : Fin 17408) (j : Fin 512), y = ix2 r j := ⟨y 0, y 1, eq_ix2 (n0 := 17408) (n1 := 512) y⟩
  exact (whole m c hpre r j).symm

end Cert.Na

end
-- ==== Proof.RouteRow.lean ====
/-
  One row of the routing table: the lane of a row's greatest entry, and the table the kernel makes of a row of logits.
-/
module

public import proofs.«01_k».proof.Proof.Lanes
public import Idealize.ShloMosaic.Lib.SortNet.Extract
public import Idealize.ShloMosaic.Lib.Pointwise

@[expose] public section

set_option maxRecDepth 16384

noncomputable section

open Idealize.ShloMosaic

namespace Cert.Route

open Cert.Lanes

/-- Place `k` holds the greatest entry, and is the first to. -/
def IsTop {n : ℕ} (f : Fin n → EReal) (k : Fin n) : Prop := (∀ j, f j ≤ f k) ∧ ∀ j, j < k → f j < f k

theorem exists_top {n : ℕ} (hn : 0 < n) (f : Fin n → EReal) : ∃ k, IsTop f k := by
  haveI : Nonempty (Fin n) := ⟨⟨0, hn⟩⟩
  obtain ⟨k0, h0⟩ := Finite.exists_max f
  obtain ⟨k, hk, hm⟩ := Finset.exists_min_image (Finset.univ.filter fun j => f j = f k0) id ⟨k0, by simp⟩
  have hk' : f k = f k0 := by simpa using hk
  refine ⟨k, fun j => hk' ▸ h0 j, fun j hj => lt_of_le_of_ne (hk' ▸ h0 j) fun e => ?_⟩
  exact absurd (hm j (by simp [e, hk'])) (not_le.mpr hj)

/-- A row's greatest entry. -/
def peak {n : ℕ} (f : Fin n → EReal) : EReal := Finset.fold max (Ideal.ofBits .f32 4286578688#32) f Finset.univ

theorem peak_eq {n : ℕ} (f : Fin n → EReal) (k : Fin n) (h : IsTop f k) : peak f = f k := by
  unfold peak
  rw [word_bot]
  exact le_antisymm (Finset.sup_le fun j _ => h.1 j) (Finset.le_sup (f := f) (Finset.mem_univ k))

/-- The first lane of a row's greatest entry. -/
def lane (f : Fin 128 → EReal) : BitVec 32 :=
  Finset.fold IntOp.minsi 2147483647#32 (fun c => Scalar.select (BitVec.ofBool (decide (f c = peak f))) (BitVec.ofNat 32 c.val) 1048576#32) Finset.univ

theorem fold_min (w : Fin 128 → BitVec 32) (b : BitVec 32) (k : Fin 128) (hb : (w k).toInt ≤ b.toInt) (h : ∀ c, (w k).toInt ≤ (w c).toInt) :
    Finset.fold IntOp.minsi b w Finset.univ = w k := by
  have key : ∀ s : Finset (Fin 128), (w k).toInt ≤ (s.fold IntOp.minsi b w).toInt := fun s => by
    induction s using Finset.induction_on with
    | empty => exact hb
    | insert a s ha ih =>
      rw [Finset.fold_insert ha, SortNet.toInt_minsi]
      exact le_min (h a) ih
  rw [← Finset.insert_erase (Finset.mem_univ k), Finset.fold_insert (Finset.notMem_erase k _)]
  refine BitVec.eq_of_toInt_eq ?_
  rw [SortNet.toInt_minsi, min_eq_left (key _)]

theorem word_int : ∀ c : Fin 128, (BitVec.ofNat 32 c.val).toInt = (c.val : ℤ) := by decide +kernel

theorem lane_eq (f : Fin 128 → EReal) (k : Fin 128) (h : IsTop f k) : lane f = BitVec.ofNat 32 k.val := by
  unfold lane
  rw [peak_eq f k h]
  have e : ∀ c : Fin 128, Scalar.select (BitVec.ofBool (decide (f c = f k))) (BitVec.ofNat 32 c.val) 1048576#32
      = if f c = f k then BitVec.ofNat 32 c.val else 1048576#32 := fun c => by
    by_cases hc : f c = f k <;> simp [Scalar.select, hc]
  simp only [e]
  have ek : (if f k = f k then BitVec.ofNat 32 k.val else 1048576#32) = BitVec.ofNat 32 k.val := if_pos rfl
  have hk := k.isLt
  refine (fold_min _ _ k ?_ fun c => ?_).trans ek
  · rw [ek, word_int]
    show (k.val : ℤ) ≤ 2147483647
    omega
  · rw [ek, word_int]
    by_cases hc : f c = f k
    · rw [if_pos hc, word_int]
      have : ¬ c < k := fun hlt => absurd hc (h.2 c hlt).ne
      have := Fin.not_lt.mp this
      exact_mod_cast this
    · rw [if_neg hc]
      show (k.val : ℤ) ≤ 1048576
      omega

/-- A row that holds another at some lanes and nothing elsewhere has its top there too. -/
theorem lift {n : ℕ} (f : Fin n → EReal) (F : Fin 128 → EReal) (o : ℕ) (ho : o + n ≤ 128)
    (hin : ∀ i : Fin n, F ⟨o + i.val, by omega⟩ = f i) (hout : ∀ c : Fin 128, (c.val < o ∨ o + n ≤ c.val) → F c = ⊥)
    (k : Fin n) (h : IsTop f k) (hk : f k ≠ ⊥) : IsTop F ⟨o + k.val, by omega⟩ := by
  have at' : ∀ c : Fin 128, F c = ⊥ ∨ ∃ i : Fin n, c.val = o + i.val ∧ F c = f i := fun c => by
    by_cases hc : c.val < o ∨ o + n ≤ c.val
    · exact Or.inl (hout c hc)
    · obtain ⟨i, hi⟩ : ∃ i : Fin n, c.val = o + i.val := ⟨⟨c.val - o, by omega⟩, by show c.val = o + (c.val - o); omega⟩
      exact Or.inr ⟨i, hi, by rw [← hin i]; exact congrArg F (Fin.ext hi)⟩
  refine ⟨fun c => ?_, fun c hc => ?_⟩
  · rw [hin]
    rcases at' c with e | ⟨i, -, e⟩
    · rw [e]; exact bot_le
    · rw [e]; exact h.1 i
  · rw [hin]
    rcases at' c with e | ⟨i, hi, e⟩
    · rw [e]; exact bot_lt_iff_ne_bot.mpr hk
    · rw [e]
      refine h.2 i ?_
      have : c.val < o + k.val := hc
      exact Fin.lt_def.mpr (by omega)

/-- The lanes of the groups' logits. -/
def low (L : Fin 128 → EReal) (c : Fin 128) : EReal :=
  Scalar.select (IntOp.cmpi .slt (BitVec.ofNat 32 c.val) 4#32) (L c) (Ideal.ofBits .f32 4286578688#32)

/-- The lanes of one group's experts. -/
def span (L : Fin 128 → EReal) (w : BitVec 32) (c : Fin 128) : EReal :=
  Scalar.select (IntOp.andi (IntOp.cmpi .sge (BitVec.ofNat 32 c.val) (IntOp.addi 4#32 (IntOp.muli w 8#32)))
    (IntOp.cmpi .slt (BitVec.ofNat 32 c.val) (IntOp.addi (IntOp.addi 4#32 (IntOp.muli w 8#32)) 8#32))) (L c) (Ideal.ofBits .f32 4286578688#32)

/-- A row without one lane. -/
def drop (f : Fin 128 → EReal) (w : BitVec 32) (c : Fin 128) : EReal :=
  Scalar.select (IntOp.cmpi .eq (BitVec.ofNat 32 c.val) w) (Ideal.ofBits .f32 4286578688#32) (f c)

def chosen (L : Fin 128 → EReal) : Fin 128 → EReal := span L (lane (low L))
def rest (L : Fin 128 → EReal) : Fin 128 → EReal := drop (chosen L) (lane (chosen L))
def share (L : Fin 128 → EReal) : EReal := Ideal.div 1 (∑ x, Ideal.exp (low L x - peak (low L)))
def ratio (L : Fin 128 → EReal) : EReal := Ideal.exp (peak (rest L) - peak (chosen L))

/-- A row of the table, as the kernel makes it. -/
def table (L : Fin 128 → EReal) (c : Fin 128) : EReal :=
  Scalar.select (IntOp.cmpi .eq (BitVec.ofNat 32 c.val) 0#32) (FloatOps.sitofp (F := Ideal) .f32 (IntOp.subi (lane (chosen L)) 4#32))
    (Scalar.select (IntOp.cmpi .eq (BitVec.ofNat 32 c.val) 1#32) (FloatOps.sitofp (F := Ideal) .f32 (IntOp.subi (lane (rest L)) 4#32))
      (Scalar.select (IntOp.cmpi .eq (BitVec.ofNat 32 c.val) 2#32) (Ideal.div (share L) (1 + ratio L))
        (Scalar.select (IntOp.cmpi .eq (BitVec.ofNat 32 c.val) 3#32) (Ideal.div (share L * ratio L) (1 + ratio L)) 0)))

/-- A row of the table, from the groups' logits, the experts' logits and the places of the greatest. -/
def entry (G : Fin 4 → EReal) (E : Fin 4 → Fin 8 → EReal) (g : Fin 4) (a b : Fin 8) (c : Fin 128) : EReal :=
  if c.val = 0 then FloatOps.sitofp (F := Ideal) .f32 (IntOp.addi (IntOp.muli (BitVec.ofNat 32 g.val) 8#32) (BitVec.ofNat 32 a.val))
  else if c.val = 1 then FloatOps.sitofp (F := Ideal) .f32 (IntOp.addi (IntOp.muli (BitVec.ofNat 32 g.val) 8#32) (BitVec.ofNat 32 b.val))
  else if c.val = 2 then Ideal.div (Ideal.div 1 (∑ j, Ideal.exp (G j - G g))) (1 + Ideal.exp (E g b - E g a))
  else if c.val = 3 then Ideal.div (Ideal.div 1 (∑ j, Ideal.exp (G j - G g)) * Ideal.exp (E g b - E g a)) (1 + Ideal.exp (E g b - E g a))
  else 0

theorem low_word : ∀ c : Fin 128, IntOp.cmpi .slt (BitVec.ofNat 32 c.val) 4#32 = BitVec.ofBool (decide (c.val < 4)) := by decide +kernel

theorem span_word : ∀ (g : Fin 4) (c : Fin 128),
    IntOp.andi (IntOp.cmpi .sge (BitVec.ofNat 32 c.val) (IntOp.addi 4#32 (IntOp.muli (BitVec.ofNat 32 g.val) 8#32)))
      (IntOp.cmpi .slt (BitVec.ofNat 32 c.val) (IntOp.addi (IntOp.addi 4#32 (IntOp.muli (BitVec.ofNat 32 g.val) 8#32)) 8#32))
      = BitVec.ofBool (decide (4 + 8 * g.val ≤ c.val ∧ c.val < 4 + 8 * g.val + 8)) := by decide +kernel

theorem same_word : ∀ (k c : Fin 128), IntOp.cmpi .eq (BitVec.ofNat 32 c.val) (BitVec.ofNat 32 k.val) = BitVec.ofBool (decide (c = k)) := by
  decide +kernel

theorem number_word : ∀ (g : Fin 4) (a : Fin 8), IntOp.subi (BitVec.ofNat 32 (4 + 8 * g.val + a.val)) 4#32
    = IntOp.addi (IntOp.muli (BitVec.ofNat 32 g.val) 8#32) (BitVec.ofNat 32 a.val) := by decide +kernel

theorem pick {α : Type} (p : Prop) [Decidable p] (x y : α) : Scalar.select (BitVec.ofBool (decide p)) x y = if p then x else y := by
  by_cases h : p <;> simp [Scalar.select, h]

theorem low_eq (L : Fin 128 → EReal) (c : Fin 128) : low L c = if c.val < 4 then L c else ⊥ := by
  unfold low
  rw [low_word, pick, word_bot]

theorem span_eq (L : Fin 128 → EReal) (g : Fin 4) (c : Fin 128) :
    span L (BitVec.ofNat 32 g.val) c = if 4 + 8 * g.val ≤ c.val ∧ c.val < 4 + 8 * g.val + 8 then L c else ⊥ := by
  unfold span
  rw [span_word, pick, word_bot]

theorem drop_eq (f : Fin 128 → EReal) (k c : Fin 128) : drop f (BitVec.ofNat 32 k.val) c = if c = k then ⊥ else f c := by
  unfold drop
  rw [same_word, pick, word_bot]

theorem num_ne {x : EReal} (h : IsNum x) : x ≠ ⊥ := by
  obtain ⟨r, rfl⟩ := h
  exact EReal.coe_ne_bot r

/-- The kernel's row of the table is the row of the greatest logits. -/
theorem table_eq (L : Fin 128 → EReal) (G : Fin 4 → EReal) (E : Fin 4 → Fin 8 → EReal)
    (hG : ∀ j : Fin 4, L ⟨j.val, by omega⟩ = G j) (hE : ∀ (j : Fin 4) (i : Fin 8), L ⟨4 + 8 * j.val + i.val, by omega⟩ = E j i)
    (nG : ∀ j, IsNum (G j)) (nE : ∀ j i, IsNum (E j i)) (g : Fin 4) (a b : Fin 8) (hg : IsTop G g) (ha : IsTop (E g) a)
    (hb : IsTop (fun i => if i = a then ⊥ else E g i) b) (c : Fin 128) : table L c = entry G E g a b c := by
  have hba : b ≠ a := fun e => by
    obtain ⟨i, hi⟩ : ∃ i : Fin 8, i ≠ a := ⟨if a = 0 then 1 else 0, by split <;> simp_all [eq_comm]⟩
    have := hb.1 i
    simp only [if_neg hi, if_pos e, le_bot_iff] at this
    exact num_ne (nE g i) this
  have t1 : IsTop (low L) ⟨0 + g.val, by omega⟩ :=
    lift G (low L) 0 (by omega) (fun i => by
      rw [low_eq, if_pos (by show 0 + i.val < 4; omega), ← hG i]
      exact congrArg L (Fin.ext (Nat.zero_add _)))
      (fun c hc => by rw [low_eq, if_neg (by omega)]) g hg (num_ne (nG g))
  have l1 : lane (low L) = BitVec.ofNat 32 g.val := (lane_eq _ _ t1).trans (congrArg _ (Nat.zero_add _))
  have p1 : peak (low L) = G g := by
    rw [peak_eq _ _ t1, low_eq, if_pos (by show 0 + g.val < 4; omega), ← hG g]
    exact congrArg L (Fin.ext (Nat.zero_add _))
  have c1 : ∀ i : Fin 8, chosen L ⟨4 + 8 * g.val + i.val, by omega⟩ = E g i := fun i => by
    unfold chosen
    rw [l1, span_eq, if_pos ⟨by dsimp only; omega, by dsimp only; omega⟩, hE]
  have c2 : ∀ c : Fin 128, (c.val < 4 + 8 * g.val ∨ 4 + 8 * g.val + 8 ≤ c.val) → chosen L c = ⊥ := fun c hc => by
    unfold chosen
    rw [l1, span_eq, if_neg (by omega)]
  have t2 : IsTop (chosen L) ⟨4 + 8 * g.val + a.val, by omega⟩ :=
    lift (E g) (chosen L) (4 + 8 * g.val) (by omega) c1 c2 a ha (num_ne (nE g a))
  have l2 := lane_eq _ _ t2
  have p2 : peak (chosen L) = E g a := (peak_eq _ _ t2).trans (c1 a)
  have r1 : ∀ i : Fin 8, rest L ⟨4 + 8 * g.val + i.val, by omega⟩ = if i = a then ⊥ else E g i := fun i => by
    unfold rest
    rw [l2, drop_eq, c1]
    refine if_congr ⟨fun h => Fin.ext ?_, fun h => by rw [h]⟩ rfl rfl
    have := congrArg Fin.val h
    dsimp only at this
    omega
  have r2 : ∀ c : Fin 128, (c.val < 4 + 8 * g.val ∨ 4 + 8 * g.val + 8 ≤ c.val) → rest L c = ⊥ := fun c hc => by
    unfold rest
    rw [l2, drop_eq, c2 c hc, ite_self]
  have t3 : IsTop (rest L) ⟨4 + 8 * g.val + b.val, by omega⟩ :=
    lift (fun i => if i = a then ⊥ else E g i) (rest L) (4 + 8 * g.val) (by omega) r1 r2 b hb
      (by simp only [if_neg hba]; exact num_ne (nE g b))
  have l3 := lane_eq _ _ t3
  have p3 : peak (rest L) = E g b := (peak_eq _ _ t3).trans ((r1 b).trans (if_neg hba))
  have hs : share L = Ideal.div 1 (∑ j, Ideal.exp (G j - G g)) := by
    unfold share
    rw [p1]
    refine congrArg _ ?_
    refine (Fin.sum_univ_add (a := 4) (b := 124) _).trans ?_
    have z : ∀ x : Fin 124, Ideal.exp (low L (Fin.natAdd 4 x) - G g) = 0 := fun x => by
      obtain ⟨r, hr⟩ := nG g
      rw [low_eq, if_neg (by show ¬ 4 + x.val < 4; omega), hr]
      rfl
    rw [Finset.sum_eq_zero (fun x _ => z x), add_zero]
    refine Finset.sum_congr rfl fun j _ => ?_
    rw [low_eq, if_pos (by show j.val < 4; omega), ← hG j]
    rfl
  have hr : ratio L = Ideal.exp (E g b - E g a) := by
    unfold ratio
    rw [p3, p2]
  unfold table entry
  rw [l2, l3, number_word, number_word, hs, hr]
  have q : ∀ k : Fin 128, IntOp.cmpi .eq (BitVec.ofNat 32 c.val) (BitVec.ofNat 32 k.val) = BitVec.ofBool (decide (c.val = k.val)) := fun k => by
    rw [same_word]
    exact congrArg BitVec.ofBool (decide_eq_decide.mpr ⟨fun h => congrArg Fin.val h, Fin.ext⟩)
  have q0 := q 0
  have q1 := q 1
  have q2 := q 2
  have q3 := q 3
  simp only [show (((0 : Fin 128) : ℕ)) = 0 from rfl, show (((1 : Fin 128) : ℕ)) = 1 from rfl, show (((2 : Fin 128) : ℕ)) = 2 from rfl, show (((3 : Fin 128) : ℕ)) = 3 from rfl] at q0 q1 q2 q3
  rw [q0, q1, q2, q3, pick, pick, pick, pick]

end Cert.Route

end
-- ==== Proof.RouteBlock.lean ====
/-
  The routing table's block: what one grid point leaves in its third output, row by row.
-/
module

public import proofs.«01_k».proof.Proof.MergeBlock
public import proofs.«01_k».proof.Proof.RouteRow

@[expose] public section

set_option maxRecDepth 16384

noncomputable section

open Idealize.ShloMosaic Idealize.ShloMosaic.TcCoe Idealize.SL.Sem

namespace Cert.KernelMergeIdeal.Block

open Cert.KernelMergeIdeal Cert.KernelMergeIdeal.Gen Cert.Rows Cert.Route

theorem logits (h : FVec Ideal S256x1024 .f32) (sh : FVec Ideal S1x1024 .f32) (sc : FVec Ideal S1x1x1024 .f32) (w : FVec Ideal S1024x128 .f32)
    (b : FVec Ideal S1x128 .f32) (r : Fin 256) (c : Fin 128) :
    k0_pay9 (F := Ideal) h sh sc w b (ix2 r c)
      = dense (fun l => k0_pay8 (F := Ideal) h sh sc (ix2 r l)) (fun l => w (ix2 l c)) (b (ix2 0 c)) := by
  unfold k0_pay9
  generalize k0_pay8 (F := Ideal) h sh sc = g
  pointwise
  rfl

section
variable (h : FVec Ideal S256x1024 .f32) (sh : FVec Ideal S1x1024 .f32) (sc : FVec Ideal S1x1x1024 .f32) (w : FVec Ideal S1024x128 .f32)
    (b : FVec Ideal S1x128 .f32) (r : Fin 256)

theorem lows (c : Fin 128) :
    k0_pay10 (F := Ideal) h sh sc w b (ix2 r c) = low (fun c => k0_pay9 (F := Ideal) h sh sc w b (ix2 r c)) c := by
  unfold k0_pay10
  generalize k0_pay9 (F := Ideal) h sh sc w b = g
  pointwise
  rfl

theorem peaks : k0_pay11 (F := Ideal) h sh sc w b (ix2 r 0) = peak (fun c => k0_pay10 (F := Ideal) h sh sc w b (ix2 r c)) := by
  unfold k0_pay11
  generalize k0_pay10 (F := Ideal) h sh sc w b = g
  pointwise
  rfl

theorem marks (c : Fin 128) : k0_pay12 (F := Ideal) h sh sc w b (ix2 r c)
    = BitVec.ofBool (decide (k0_pay10 (F := Ideal) h sh sc w b (ix2 r c) = peak (fun c => k0_pay10 (F := Ideal) h sh sc w b (ix2 r c)))) := by
  unfold k0_pay12 k0_pay11
  generalize k0_pay10 (F := Ideal) h sh sc w b = g
  pointwise
  rfl

end

theorem shares (v : FVec Ideal S256x128 .f32) (e : FVec Ideal S256x1 .f32) (r : Fin 256) :
    k0_pay14 (F := Ideal) v e (ix2 r 0) = Ideal.div 1 (∑ x, Ideal.exp (v (ix2 r x) - e (ix2 r 0))) := by
  pointwise [k0_pay14]

theorem big (r : Fin 256) (c : Fin 128) : k0_pay13 (ix2 r c) = 1048576#32 := by
  pointwise [k0_pay13]

theorem count (r : Fin 256) (c : Fin 128) : iota .tc S256x128 32 [1] iota_S256x128_d1_w32 (ix2 r c) = BitVec.ofNat 32 c.val := by
  pointwise

section
variable (L : FVec Ideal S256x128 .f32) (I : IVec S256x128 32) (M : IVec S256x128 1) (T : IVec S256x128 32) (r : Fin 256)
  (hI : ∀ c, I (ix2 r c) = BitVec.ofNat 32 c.val) (hM : ∀ c, M (ix2 r c) = BitVec.ofBool (decide (low (fun c => L (ix2 r c)) c = peak (low (fun c => L (ix2 r c))))))
  (hT : ∀ c, T (ix2 r c) = 1048576#32)
include hI hM hT

theorem chosens (c : Fin 128) : k0_pay15 (F := Ideal) L I M T (ix2 r c) = chosen (fun c => L (ix2 r c)) c := by
  pointwise [k0_pay15]
  simp only [hI, hM, hT]
  rfl

theorem chosen_peak : k0_pay16 (F := Ideal) L I M T (ix2 r 0) = peak (chosen (fun c => L (ix2 r c))) := by
  have e := funext (chosens L I M T r hI hM hT)
  unfold k0_pay16
  rw [← e]
  generalize k0_pay15 (F := Ideal) L I M T = g
  pointwise
  rfl

theorem chosen_lane : k0_pay17 (F := Ideal) L I M T (ix2 r 0) = lane (chosen (fun c => L (ix2 r c))) := by
  have e := funext (chosens L I M T r hI hM hT)
  have p := chosen_peak L I M T r hI hM hT
  unfold k0_pay17
  rw [← e] at p ⊢
  generalize k0_pay16 (F := Ideal) L I M T = q at p ⊢
  generalize k0_pay15 (F := Ideal) L I M T = g at p ⊢
  pointwise
  unfold lane
  simp only [hI, p, pick]

theorem rests (c : Fin 128) : k0_pay18 (F := Ideal) L I M T (ix2 r c) = rest (fun c => L (ix2 r c)) c := by
  have e := funext (chosens L I M T r hI hM hT)
  have p := chosen_lane L I M T r hI hM hT
  unfold k0_pay18 rest
  rw [← p, ← e]
  generalize k0_pay17 (F := Ideal) L I M T = q
  generalize k0_pay15 (F := Ideal) L I M T = g
  pointwise
  simp only [hI]
  rfl

theorem rest_peak : k0_pay19 (F := Ideal) L I M T (ix2 r 0) = peak (rest (fun c => L (ix2 r c))) := by
  have e := funext (rests L I M T r hI hM hT)
  unfold k0_pay19
  rw [← e]
  generalize k0_pay18 (F := Ideal) L I M T = g
  pointwise
  rfl

theorem rest_lane : k0_pay20 (F := Ideal) L I M T (ix2 r 0) = lane (rest (fun c => L (ix2 r c))) := by
  have e := funext (rests L I M T r hI hM hT)
  have p := rest_peak L I M T r hI hM hT
  unfold k0_pay20
  rw [← e] at p ⊢
  generalize k0_pay19 (F := Ideal) L I M T = q at p ⊢
  generalize k0_pay18 (F := Ideal) L I M T = g at p ⊢
  pointwise
  unfold lane
  simp only [hI, p, pick]

theorem ratios : k0_pay21 (F := Ideal) L I M T (ix2 r 0) = ratio (fun c => L (ix2 r c)) := by
  have p := chosen_peak L I M T r hI hM hT
  have q := rest_peak L I M T r hI hM hT
  unfold k0_pay21 ratio
  rw [← p, ← q]
  generalize k0_pay16 (F := Ideal) L I M T = a
  generalize k0_pay19 (F := Ideal) L I M T = b
  pointwise

end

theorem lines (I : IVec S256x128 32) (p : FVec Ideal S256x1 .f32) (a b : IVec S256x1 32) (e : FVec Ideal S256x1 .f32) (r : Fin 256) (c : Fin 128)
    (hI : I (ix2 r c) = BitVec.ofNat 32 c.val) (L : Fin 128 → EReal) (hp : p (ix2 r 0) = share L) (ha : a (ix2 r 0) = lane (chosen L))
    (hb : b (ix2 r 0) = lane (rest L)) (he : e (ix2 r 0) = ratio L) :
    k0_pay1 (F := Ideal) I p a b e (Scalar.ofBits .f32 0x3F800000#32) (ix2 r c) = table L c := by
  pointwise [k0_pay1]
  rw [hI, hp, ha, hb, he]
  rfl

variable (x0 : FVec Ideal S256x1024 .f32) (x1 : FVec Ideal S1x6x1024 .f32) (x2 x3 x4 : FVec Ideal S256x512 .bf16)
  (x5 : FVec Ideal S1024x3072 .bf16) (x6 : FVec Ideal S1x3072 .f32) (x7 x8 x9 : FVec Ideal S512x1024 .bf16)
  (x10 : FVec Ideal S1024x1024 .bf16) (x11 x12 : FVec Ideal S1x1024 .f32) (x13 : FVec Ideal S1024x128 .f32) (x14 : FVec Ideal S1x128 .f32)

/-- One row of logits, from the point's blocks. -/
def scores (r : Fin 256) (c : Fin 128) : EReal :=
  dense (modulate (cell x0 x1 x2 x3 x4 x5 x6 x7 x8 x9 x10 x11 x12 r) (fun e => x1 (ix3 0 3 e)) (fun e => x1 (ix3 0 4 e)))
    (fun l => x13 (ix2 l c)) (x14 (ix2 0 c))

theorem scored (r : Fin 256) (c : Fin 128) :
    k0_pay26 (F := Ideal) x0 x1 x2 x3 x4 x5 x6 x7 x8 x9 x10 x11 x12 x13 x14 (ix2 r c)
      = scores x0 x1 x2 x3 x4 x5 x6 x7 x8 x9 x10 x11 x12 x13 x14 r c := by
  unfold k0_pay26 k0_pay24 scores
  rw [logits, View.ld_unit_zero (S := S1024x128) hz, View.ld_unit_zero (S := S1x128) hz]
  refine congrArg (fun f => dense f _ _) (funext fun l => ?_)
  rw [again,
    show (fun e => k0_pay23 (F := Ideal) x0 x1 x2 x3 x4 x5 x6 x7 x8 x9 x10 x11 x12 x13 x14 (ix2 r e)) = cell x0 x1 x2 x3 x4 x5 x6 x7 x8 x9 x10 x11 x12 r from
      funext (joined x0 x1 x2 x3 x4 x5 x6 x7 x8 x9 x10 x11 x12 x13 x14 r)]
  exact congrArg₂ (fun a b => modulate _ a b l) (funext (ldm x1 3 (by omega) _)) (funext (ldm x1 4 (by omega) _))

theorem out17 (r : Fin 256) (c : Fin 128) :
    out0_17 (F := Ideal) x0 x1 x2 x3 x4 x5 x6 x7 x8 x9 x10 x11 x12 x13 x14 (ix2 r c)
      = table (scores x0 x1 x2 x3 x4 x5 x6 x7 x8 x9 x10 x11 x12 x13 x14 r) c := by
  have hs := funext (scored x0 x1 x2 x3 x4 x5 x6 x7 x8 x9 x10 x11 x12 x13 x14 r)
  have hl := fun c => lows (k0_pay23 (F := Ideal) x0 x1 x2 x3 x4 x5 x6 x7 x8 x9 x10 x11 x12 x13 x14) (k0_pay24 x0 x1 x2 x3 x4 x5 x6 x7 x8 x9 x10 x11 x12 x13 x14) (View.ld (Val := Elt Ideal) (e' := .f32) x1 r0_15) (View.ld (Val := Elt Ideal) (e' := .f32) x13 r0_16) (View.ld (Val := Elt Ideal) (e' := .f32) x14 r0_17) r c
  have hi : ∀ c, k0_pay25 (F := Ideal) x0 x1 x2 x3 x4 x5 x6 x7 x8 x9 x10 x11 x12 x13 x14 (ix2 r c) = BitVec.ofNat 32 c.val := fun c => count r c
  have hm := fun c => marks (k0_pay23 (F := Ideal) x0 x1 x2 x3 x4 x5 x6 x7 x8 x9 x10 x11 x12 x13 x14) (k0_pay24 x0 x1 x2 x3 x4 x5 x6 x7 x8 x9 x10 x11 x12 x13 x14) (View.ld (Val := Elt Ideal) (e' := .f32) x1 r0_15) (View.ld (Val := Elt Ideal) (e' := .f32) x13 r0_16) (View.ld (Val := Elt Ideal) (e' := .f32) x14 r0_17) r c
  have hp := peaks (k0_pay23 (F := Ideal) x0 x1 x2 x3 x4 x5 x6 x7 x8 x9 x10 x11 x12 x13 x14) (k0_pay24 x0 x1 x2 x3 x4 x5 x6 x7 x8 x9 x10 x11 x12 x13 x14) (View.ld (Val := Elt Ideal) (e' := .f32) x1 r0_15) (View.ld (Val := Elt Ideal) (e' := .f32) x13 r0_16) (View.ld (Val := Elt Ideal) (e' := .f32) x14 r0_17) r
  have hl' := funext hl
  rw [hl'] at hp
  simp only [hl] at hm
  have hM : ∀ c, k0_pay27 (F := Ideal) x0 x1 x2 x3 x4 x5 x6 x7 x8 x9 x10 x11 x12 x13 x14 (ix2 r c) = _ := hm
  have hT : ∀ c, k0_pay28 (F := Ideal) x0 x1 x2 x3 x4 x5 x6 x7 x8 x9 x10 x11 x12 x13 x14 (ix2 r c) = 1048576#32 := fun c => big r c
  unfold out0_17
  rw [View.canon_unit_zero (S := S256x128) hz, ← hs]
  refine lines _ _ _ _ _ r c (hi c) _ ?_ ?_ ?_ ?_
  · rw [shares, hp]
    simp only [hl]
    rfl
  · exact chosen_lane _ _ _ _ r hi hM hT
  · exact rest_lane _ _ _ _ r hi hM hT
  · exact ratios _ _ _ _ r hi hM hT

end Cert.KernelMergeIdeal.Block

end
-- ==== Proof.RouteArray.lean ====
/-
The merge's routing table: its window's blocks make up the whole array, a row of logits a token.
-/
module

public import proofs.«01_k».proof.Proof.MergeTables
public import proofs.«01_k».proof.Proof.RouteBlock

@[expose] public section

set_option maxRecDepth 16384

noncomputable section

open Idealize.ShloMosaic Idealize.ShloMosaic.TcCoe Idealize.SL.Sem
open Idealize.ShloMosaic.Pipeline (Dat)

namespace Cert.KernelMergeIdeal.Array

open Cert.KernelMergeIdeal Cert.KernelMergeIdeal.Gen Cert.KernelMergeIdeal.Block Cert.Rows Cert.Route

/-- The table, from the array of merged rows' logits. -/
def all17 (X : FVec Ideal S17408x1024 .f32) (M : FVec Ideal S8x6x1024 .f32) (OA OB OC : FVec Ideal S17408x512 .bf16)
    (WG : FVec Ideal S1024x3072 .bf16) (BG : FVec Ideal S1x3072 .f32) (WA WB WC : FVec Ideal S512x1024 .bf16)
    (WO : FVec Ideal S1024x1024 .bf16) (LG LB : FVec Ideal S1x1024 .f32) (WR : FVec Ideal S1024x128 .f32) (BR : FVec Ideal S1x128 .f32) :
    FVec Ideal S17408x128 .f32 := fun y =>
  table (fun k => dense (modulate (row X M OA OB OC WG BG WA WB WC WO LG LB (y 0)) (fun e => M (ix3 (group (y 0)) 3 e)) (fun e => M (ix3 (group (y 0)) 4 e)))
    (fun l => WR (ix2 l k)) (BR (ix2 0 k))) (y 1)

/-- The blocks of the three windows that serve the table. -/
theorem idxR : ∀ t : Fin cfg0.N, win0_13.index t = ![0, 0] ∧ win0_14.index t = ![0, 0] ∧ win0_17.index t = ![t.val, 0] :=
  (by decide +kernel : ∀ t : Fin grid0.N, _)

variable (m : (ℓ : Loc nD τ sig) → Buf (Elt Ideal) ℓ) (c : Dev nD)

abbrev a13 : FVec Ideal S1024x128 .f32 := V m c main_v17
abbrev a14 : FVec Ideal S1x128 .f32 := V m c main_v20

theorem blk13 (t : Fin cfg0.N) : (iblk m c 13 t) = a13 m c := by
  obtain ⟨e, -, -⟩ := idxR t
  funext y
  blk_ext [iblk, e]

theorem blk14 (t : Fin cfg0.N) : (iblk m c 14 t) = a14 m c := by
  obtain ⟨-, e, -⟩ := idxR t
  funext y
  blk_ext [iblk, e]

theorem placed17 (t : Fin cfg0.N) (r : Fin 256) (j : Fin 128) (z : S17408x128.Idx)
    (h0 : (z 0).val = t.val * 256 + r.val) (h1 : (z 1).val = j.val) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j)
      = all17 (a0 m c) (a1 m c) (a2 m c) (a3 m c) (a4 m c) (a5 m c) (a6 m c) (a7 m c) (a8 m c) (a9 m c) (a10 m c) (a11 m c) (a12 m c) (a13 m c) (a14 m c) z := by
  refine (out17 _ _ _ _ _ _ _ _ _ _ _ _ _ _ _ r j).trans ?_
  rw [show j = z 1 from Fin.ext h1.symm]
  unfold all17
  refine congrArg (fun L => table L (z 1)) (funext fun k => ?_)
  unfold scores
  rw [point m c t r (z 0) h0]
  have e3 : (fun e => (show FVec Ideal S1x6x1024 .f32 from iblk m c 1 t) (ix3 0 3 e)) = (fun e => a1 m c (ix3 (group (z 0)) 3 e)) :=
    mods m c t r (z 0) h0 3
  have e4 : (fun e => (show FVec Ideal S1x6x1024 .f32 from iblk m c 1 t) (ix3 0 4 e)) = (fun e => a1 m c (ix3 (group (z 0)) 4 e)) :=
    mods m c t r (z 0) h0 4
  rw [e3, e4, blk13, blk14]

theorem final17 : (dats m 0 c).arrAt 17 cfg0.N = all17 (a0 m c) (a1 m c) (a2 m c) (a3 m c) (a4 m c) (a5 m c) (a6 m c) (a7 m c) (a8 m c) (a9 m c) (a10 m c) (a11 m c) (a12 m c) (a13 m c) (a14 m c) := by
  refine (dats m 0 c).arrAt_eq_of_covers 17 _ (by decide +kernel) fun t _ y => ?_
  obtain ⟨-, -, e⟩ := idxR t
  blk_simp
  rw [after0_17]
  obtain ⟨r, j, rfl⟩ : ∃ (r : Fin 256) (j : Fin 128), y = (ix2 r j : S256x128.Idx) := ⟨y 0, y 1, eq_ix2 (n0 := 256) (n1 := 128) y⟩
  have h0 : ((win0_17.blk t).view.emb (ix2 r j : S256x128.Idx) 0).val = t.val * 256 + r.val := by
    blk_simp [e]
  have h1 : ((win0_17.blk t).view.emb (ix2 r j : S256x128.Idx) 1).val = j.val := by
    blk_simp [e]
  exact placed17 m c t r j _ h0 h1

end Cert.KernelMergeIdeal.Array

namespace Cert.KernelMergeIdeal.Tables

open Cert.KernelMergeIdeal Cert.KernelMergeIdeal.Gen Cert.KernelMergeIdeal.Array

/-- The routing weights: the groups' four columns, the experts' thirty-two, then zeros. -/
def packR (w : FVec Ideal S1024x4 .f32) (u : FVec Ideal S1024x32 .f32) : FVec Ideal S1024x128 .f32 :=
  concatenate S1024x128 1 [⟨S1024x4, w⟩, ⟨S1024x32, u⟩,
    ⟨S1024x92, broadcastInDim S1024x92 ![] bcast_S_S1024x92 (constant S_ .f32 0x00000000#32)⟩]
    concatenates_S1024x4_S1024x32_S1024x92_S1024x128_d1

/-- The routing biases laid alike. -/
def packS (w : FVec Ideal S4 .f32) (u : FVec Ideal S32 .f32) : FVec Ideal S1x128 .f32 :=
  shapeCast S1x128 (concatenate S128 0 [⟨S4, w⟩, ⟨S32, u⟩,
    ⟨S92, broadcastInDim S92 ![] bcast_S_S92 (constant S_ .f32 0x00000000#32)⟩]
    concatenates_S4_S32_S92_S128_d0) shapeCasts_S128_S1x128

variable (w : FVec Ideal S1024x4 .f32) (u : FVec Ideal S1024x32 .f32) (w' : FVec Ideal S4 .f32) (u' : FVec Ideal S32 .f32)

theorem packR_lo (l : Fin 1024) (k : Fin 128) (j : Fin 4) (h : k.val = j.val) : packR w u (ix2 l k) = w (ix2 l j) := by
  pointwise [packR]
  rw [dif_pos (by omega)]
  exact congrArg (fun s => w (ix2 l s)) (Fin.ext h)

theorem packR_hi (l : Fin 1024) (k : Fin 128) (j : Fin 32) (h : k.val = 4 + j.val) : packR w u (ix2 l k) = u (ix2 l j) := by
  pointwise [packR]
  rw [dif_neg (by omega), dif_pos (by omega)]
  exact congrArg (fun s => u (ix2 l s)) (Fin.ext (by dsimp only; omega))

theorem packS_lo (k : Fin 128) (j : Fin 4) (h : k.val = j.val) : packS w' u' (ix2 0 k) = w' (ix1 j) := by
  pointwise [packS]
  rw [dif_pos (by omega)]
  exact congrArg (fun s => w' (ix1 s)) (Fin.ext h)

theorem packS_hi (k : Fin 128) (j : Fin 32) (h : k.val = 4 + j.val) : packS w' u' (ix2 0 k) = u' (ix1 j) := by
  pointwise [packS]
  rw [dif_neg (by omega), dif_pos (by omega)]
  exact congrArg (fun s => u' (ix1 s)) (Fin.ext (by dsimp only; omega))

variable (m : (ℓ : Loc nD τ sig) → Buf (Elt Ideal) ℓ) (c : Dev nD)

theorem held13 : a13 m c = packR (m ((c : Thread nD τ).loc main_arg13)) (m ((c : Thread nD τ).loc main_arg15)) := by
  show StableHlo.after hostOps0 (fun b => m (c, b)) (Proc.devRef .tc main_v17) = _
  generalize hr : packR _ _ = r
  after_reads_simp
  exact hr

theorem held14 : a14 m c = packS (m ((c : Thread nD τ).loc main_arg14)) (m ((c : Thread nD τ).loc main_arg16)) := by
  show StableHlo.after hostOps0 (fun b => m (c, b)) (Proc.devRef .tc main_v20) = _
  generalize hr : packS _ _ = r
  after_reads_simp
  exact hr

end Cert.KernelMergeIdeal.Tables

end
-- ==== Proof.RouteNum.lean ====
/-
Where the arguments are numbers, the logits are numbers.
-/
module

public import proofs.«01_k».proof.Proof.Rows
public import proofs.«01_k».proof.Proof.Lanes

@[expose] public section

set_option maxRecDepth 16384

noncomputable section

open Idealize.ShloMosaic Idealize.ShloMosaic.TcCoe Idealize.SL.Sem

namespace Cert.Rows

open Cert.Lanes

theorem word_1024 : Ideal.ofBits .f32 0x44800000#32 = ((1024 : ℝ) : EReal) := by
  simp [Ideal.ofBits, Ideal.ieee]
  rw [← EReal.coe_mul]
  norm_num

theorem num_one : IsNum 1 := ⟨1, rfl⟩

theorem num_dense {n : ℕ} (h w : Fin n → EReal) (b : EReal) (hh : ∀ l, IsNum (h l)) (hw : ∀ l, IsNum (w l)) (hb : IsNum b) : IsNum (dense h w b) :=
  (IsNum.sum fun l => (hh l).mul (hw l)).add hb

theorem square_top {y : EReal} (h : ¬IsNum y) : y * y = ⊤ := by
  induction y with
  | bot => exact EReal.bot_mul_bot
  | top => exact EReal.top_mul_top
  | coe r => exact absurd ⟨r, rfl⟩ h

theorem square_pos (y : EReal) : 0 ≤ y * y := by
  by_cases h : IsNum y
  · obtain ⟨r, rfl⟩ := h
    rw [← EReal.coe_mul]
    exact EReal.coe_nonneg.mpr (mul_self_nonneg r)
  · rw [square_top h]
    exact le_top

theorem less_wild {x m : EReal} (h : ¬IsNum x) : ¬IsNum (x - m) := by
  rintro ⟨r, hr⟩
  induction x with
  | bot => simp at hr
  | top =>
    induction m with
    | bot => simp at hr
    | top => simp at hr
    | coe s => simp at hr
  | coe s => exact h ⟨s, rfl⟩

theorem num_center_num (x : Fin 1024 → EReal) (hx : ∀ l, IsNum (x l)) (j : Fin 1024) : IsNum (center x j) := by
  choose f hf using hx
  obtain ⟨e, he, hw⟩ := word_eps
  have hm : mean x = (((∑ l, f l) * (1 / 1024) : ℝ) : EReal) := by
    unfold mean
    simp only [hf]
    rw [coe_sum, word_1024, Ideal.div_coe (by norm_num)]
    norm_cast
  generalize (∑ l, f l) * (1 / 1024) = μ at hm
  have hv : Ideal.div (∑ l, (x l - mean x) * (x l - mean x)) (Ideal.ofBits .f32 0x44800000#32) + Ideal.ofBits .f32 0x358637BD#32
      = (((∑ l, (f l - μ) * (f l - μ)) * (1 / 1024) + e : ℝ) : EReal) := by
    simp only [hf, hm, ← EReal.coe_sub, ← EReal.coe_mul]
    rw [coe_sum, word_1024, Ideal.div_coe (by norm_num), hw]
    norm_cast
  unfold center
  rw [hv, hf j, hm, ← EReal.coe_sub]
  have pos : 0 < (∑ l, (f l - μ) * (f l - μ)) * (1 / 1024) + e :=
    add_pos_of_nonneg_of_pos (mul_nonneg (Finset.sum_nonneg fun l _ => mul_self_nonneg _) (by norm_num)) he
  refine IsNum.mul ⟨_, rfl⟩ ⟨(Real.sqrt ((∑ l, (f l - μ) * (f l - μ)) * (1 / 1024) + e))⁻¹, ?_⟩
  show (if _ < (0:ℝ) then (⊥ : EReal) else if _ = (0:ℝ) then ⊤ else _) = _
  rw [if_neg (not_lt.mpr pos.le), if_neg pos.ne']

/-- A centered row has numbers only: where the row has an infinite entry, its variance is infinite and the row is zero. -/
theorem num_center (x : Fin 1024 → EReal) (j : Fin 1024) : IsNum (center x j) := by
  by_cases hx : ∀ l, IsNum (x l)
  · exact num_center_num x hx j
  obtain ⟨l, hl⟩ := not_forall.mp hx
  obtain ⟨e, he, hw⟩ := word_eps
  have hs : ∑ l, (x l - mean x) * (x l - mean x) = ⊤ :=
    top_le_iff.mp ((square_top (less_wild hl)).ge.trans
      (Finset.single_le_sum (f := fun l => (x l - mean x) * (x l - mean x)) (fun i _ => square_pos _) (Finset.mem_univ l)))
  unfold center
  rw [hs, word_1024, Ideal.div_coe (by norm_num), hw, EReal.top_mul_coe_of_pos (by norm_num), EReal.top_add_coe]
  exact ⟨0, mul_zero _⟩

theorem num_modulate (x s c : Fin 1024 → EReal) (hs : ∀ l, IsNum (s l)) (hc : ∀ l, IsNum (c l)) (j : Fin 1024) :
    IsNum (modulate x s c j) :=
  ((num_center x j).mul (num_one.add (hc j))).add (hs j)

end Cert.Rows

end
-- ==== Proof.RouteSort.lean ====
/-
  The greatest entries of a row, in order: where a stable sort puts the first two.
-/
module

public import proofs.«01_k».proof.Proof.RouteRow
public import Idealize.ShloMosaic.Lib.SortPrefix

@[expose] public section

set_option maxRecDepth 16384

noncomputable section

open Idealize.ShloMosaic

namespace Cert.Route

open Cert.Lanes

theorem stable_alike {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Greater entries first. -/
def bigger {n : ℕ} (f : Fin n → EReal) (k k' : Fin n) : Bool := decide (f k' < f k)

/-- Greater entries first, and of equal ones the earlier. -/
def ranked {n : ℕ} (f : Fin n → EReal) (k k' : Fin n) : Bool := decide (f k' < f k) || (decide (f k = f k') && decide (k < k'))

theorem ranked_total {n : ℕ} (f : Fin n → EReal) : StrictTotalBefore (ranked f) :=
  StrictTotalBefore.of_key_then_position (fun a b : EReal => decide (b < a)) f (fun a => by simp)
    (fun a b c hab hbc => by simp only [decide_eq_true_eq] at *; exact hbc.trans hab)
    (fun a b => by simp only [decide_eq_true_eq]; rcases lt_trichotomy a b with h | h | h <;> simp [h])

theorem sorted_alike {n : ℕ} (f : Fin n → EReal) : sortedFrom (bigger f) = sortedFrom (ranked f) := by
  have e : sortPositions n (bigger f) = sortPositions n (ranked f) :=
    stable_alike _ _ _ ((List.pairwise_lt_finRange n).imp fun {a b} hab => by
      unfold bigger ranked
      rw [decide_eq_false (not_lt.mpr (le_of_lt hab) : ¬ b < a), Bool.and_false, Bool.or_false])
  funext k
  unfold sortedFrom
  rw [List.get_of_eq e]
  rfl

theorem not_ranked {n : ℕ} (f : Fin n → EReal) (k p : Fin n) (h1 : f p ≤ f k) (h2 : p < k → f p < f k) : ranked f p k = false := by
  unfold ranked
  rw [decide_eq_false (not_lt.mpr h1), Bool.false_or]
  by_cases hp : p < k
  · rw [decide_eq_false (h2 hp).ne, Bool.false_and]
  · rw [decide_eq_false hp, Bool.and_false]

theorem first_at {n : ℕ} (hn : 1 ≤ n) (f : Fin n → EReal) (a : Fin n) (ha : IsTop f a) (j : Fin 1) :
    sortedFrom (bigger f) (j.castLE hn) = a := by
  rw [sorted_alike]
  exact (ranked_total f).sortedFrom_eq_of_prefix hn (fun _ => a) (fun i j _ => Subsingleton.elim i j)
    (fun i j hij => absurd (Subsingleton.elim i j) hij.ne) (fun _ p _ => not_ranked f a p (ha.1 p) (ha.2 p)) j

theorem two_at {n : ℕ} (hn : 2 ≤ n) (f : Fin n → EReal) (a b : Fin n) (hba : b ≠ a) (ha : IsTop f a)
    (hb : IsTop (fun i => if i = a then ⊥ else f i) b) (j : Fin 2) :
    sortedFrom (bigger f) (j.castLE hn) = if j = 0 then a else b := by
  rw [sorted_alike]
  refine (ranked_total f).sortedFrom_eq_of_prefix hn (fun j => if j = 0 then a else b) ?_ ?_ ?_ j
  · intro i j hij
    fin_cases i <;> fin_cases j <;> simp_all [eq_comm]
  · intro i j hij
    fin_cases i <;> fin_cases j <;> first | exact absurd hij (by decide) | exact not_ranked f a b (ha.1 b) (ha.2 b)
  · intro i p hp
    have h0 : a ≠ p := hp 0
    have h1 := hb.1 p
    have h2 := hb.2 p
    simp only [if_neg hba, if_neg h0.symm] at h1 h2
    fin_cases i
    · exact not_ranked f a p (ha.1 p) (ha.2 p)
    · exact not_ranked f b p h1 h2

section
variable {N n k : ℕ} (x : (⟨2, ![N, n]⟩ : Shape).Idx → EReal) (h : (⟨2, ![N, n]⟩ : Shape).Slices (fun _ => 0) ⟨2, ![N, k]⟩)
  (hk : k ≤ n) (r : Fin N) (j : Fin k)

theorem fiber (r : Fin N) (l c : Fin n) : Shape.Idx.along (s := ⟨2, ![N, n]⟩) (ix2 r l) (1 : Fin 2) c = ix2 r c := funext fun a => match a with
  | ⟨0, _⟩ => rfl
  | ⟨1, _⟩ => rfl

theorem order : (fun a b : Fin n => FloatOps.cmpfTotal (F := Ideal) (φ := .f32) .gt (x (ix2 r a)) (x (ix2 r b)) == 1#1) = bigger fun c => x (ix2 r c) := by
  funext a b
  show (BitVec.ofBool (decide (x (ix2 r b) < x (ix2 r a))) == 1#1) = decide (x (ix2 r b) < x (ix2 r a))
  by_cases h : x (ix2 r b) < x (ix2 r a) <;> simp [h]

theorem values_at : (Host.topK ⟨2, ![N, k]⟩ 1 (FloatOps.cmpfTotal (F := Ideal) (φ := .f32) .gt) x h).1 (ix2 r j)
    = x (ix2 r (sortedFrom (bigger fun c => x (ix2 r c)) (j.castLE hk))) := by
  unfold Host.topK Host.sort2
  simp only
  rw [dif_pos (show 1 < 2 by decide)]
  refine (extractStridedSlice_apply _ _ h (ix2 r j) (ix2 r (j.castLE hk)) (fun a => match a with
    | ⟨0, _⟩ => (Nat.zero_add _).symm
    | ⟨1, _⟩ => (Nat.zero_add _).symm)).trans ?_
  show x (Shape.Idx.along (s := ⟨2, ![N, n]⟩) (ix2 r (j.castLE hk)) (1 : Fin 2) (sortedFrom (n := n) (fun a b =>
    FloatOps.cmpfTotal (F := Ideal) (φ := .f32) .gt (x (Shape.Idx.along (s := ⟨2, ![N, n]⟩) (ix2 r (j.castLE hk)) (1 : Fin 2) a))
      (x (Shape.Idx.along (s := ⟨2, ![N, n]⟩) (ix2 r (j.castLE hk)) (1 : Fin 2) b)) == 1#1) (j.castLE hk))) = _
  simp only [fiber]
  rw [order]

theorem places_at : (Host.topK ⟨2, ![N, k]⟩ 1 (FloatOps.cmpfTotal (F := Ideal) (φ := .f32) .gt) x h).2 (ix2 r j)
    = BitVec.ofNat 32 (sortedFrom (bigger fun c => x (ix2 r c)) (j.castLE hk)).val := by
  unfold Host.topK Host.sort2
  simp only
  rw [dif_pos (show 1 < 2 by decide)]
  refine (extractStridedSlice_apply _ _ h (ix2 r j) (ix2 r (j.castLE hk)) (fun a => match a with
    | ⟨0, _⟩ => (Nat.zero_add _).symm
    | ⟨1, _⟩ => (Nat.zero_add _).symm)).trans ?_
  show BitVec.ofNat 32 (Shape.Idx.along (s := ⟨2, ![N, n]⟩) (ix2 r (j.castLE hk)) (1 : Fin 2) (sortedFrom (n := n) (fun a b =>
    FloatOps.cmpfTotal (F := Ideal) (φ := .f32) .gt (x (Shape.Idx.along (s := ⟨2, ![N, n]⟩) (ix2 r (j.castLE hk)) (1 : Fin 2) a))
      (x (Shape.Idx.along (s := ⟨2, ![N, n]⟩) (ix2 r (j.castLE hk)) (1 : Fin 2) b)) == 1#1) (j.castLE hk)) 1).val = _
  simp only [fiber]
  rw [order]
  rfl

end

end Cert.Route

end
-- ==== Proof.RouteRef.lean ====
/-
The reference's routing, from the rows and the weights on: each step at one token.
-/
module

public import proofs.«01_k».proof.Proof.Gen.ReferenceRouteIdeal.Read
public import proofs.«01_k».proof.Proof.RouteSort
public import proofs.«01_k».proof.Proof.Rows

@[expose] public section

set_option maxRecDepth 16384

noncomputable section

open Idealize.ShloMosaic Idealize.ShloMosaic.TcCoe Idealize.SL.Sem

namespace Cert.ReferenceRouteIdeal.Step

open Cert.ReferenceRouteIdeal Cert.ReferenceRouteIdeal.Gen Cert.Rows Cert.Route Cert.Lanes

def logit4 (h : FVec Ideal S17408x1024 .f32) (w : FVec Ideal S1024x4 .f32) (b : FVec Ideal S4 .f32) : FVec Ideal S17408x4 .f32 :=
  addf (Host.dotGeneral dot_S17408x1024_S1024x4_S17408x4_1_0_0_1_n_n none h w)
    (broadcastInDim S17408x4 ![0, 1] bcast_S1x4_S17408x4_0_1 (broadcastInDim S1x4 ![1] bcast_S4_S1x4_1 b))

def logit32 (h : FVec Ideal S17408x1024 .f32) (w : FVec Ideal S1024x32 .f32) (b : FVec Ideal S32 .f32) : FVec Ideal S17408x32 .f32 :=
  addf (Host.dotGeneral dot_S17408x1024_S1024x32_S17408x32_1_0_0_1_n_n none h w)
    (broadcastInDim S17408x32 ![0, 1] bcast_S1x32_S17408x32_0_1 (broadcastInDim S1x32 ![1] bcast_S32_S1x32_1 b))

/-- The place of each token's greatest group logit. -/
def first (L : FVec Ideal S17408x4 .f32) : IVec S17408 32 :=
  shapeCast S17408 (Host.topK S17408x1 1 (FloatOps.cmpfTotal (F := Ideal) (φ := .f32) .gt) L sliceFits_S17408x4_S17408x1).2 shapeCasts_S17408x1_S17408

def exps4 (L : FVec Ideal S17408x4 .f32) : FVec Ideal S17408x4 .f32 :=
  Host.exp (subf L (broadcastInDim S17408x4 ![0, 1] bcast_S17408x1_S17408x4_0_1 (broadcastInDim S17408x1 ![0] bcast_S17408_S17408x1_0
    (maximumf (broadcastInDim S17408 ![] bcast_S_S17408 (constant S_ .f32 0xFF800000#32))
      (Host.reduce FloatOps.maximumf L (constant S_ .f32 0xFF800000#32) reducesTo_S17408x4_S17408_d1 h_S_)))))

def soft4 (L : FVec Ideal S17408x4 .f32) : FVec Ideal S17408x4 .f32 :=
  Host.divf (exps4 L) (broadcastInDim S17408x4 ![0, 1] bcast_S17408x1_S17408x4_0_1 (broadcastInDim S17408x1 ![0] bcast_S17408_S17408x1_0
    (Host.reduceAdd (exps4 L) (constant S_ .f32 0x00000000#32) reducesTo_S17408x4_S17408_d1 h_S_)))

/-- The greatest group's probability. -/
def prob (L : FVec Ideal S17408x4 .f32) : FVec Ideal S17408x1 .f32 :=
  broadcastInDim S17408x1 ![0] bcast_S17408_S17408x1_0 (Host.reduce FloatOps.maximumf (soft4 L) (constant S_ .f32 0xFF800000#32) reducesTo_S17408x4_S17408_d1 h_S_)

/-- The chosen group's eight logits. -/
def chosen8 (U : FVec Ideal S17408x32 .f32) (I : IVec S17408 32) : FVec Ideal S17408x8 .f32 :=
  Host.dotGeneral dot_S17408x4x8_S17408x4_S17408x8_1_1_2_n_0_0 none (shapeCast S17408x4x8 U shapeCasts_S17408x32_S17408x4x8)
    (uitofp .f32 (cmpi .eq (broadcastInDim S17408x4 ![0, 1] bcast_S17408x1_S17408x4_0_1 (broadcastInDim S17408x1 ![0] bcast_S17408_S17408x1_0 I))
      (broadcastInDim S17408x4 ![0, 1] bcast_S1x4_S17408x4_0_1 (iotaInDim S1x4 32 1))))

def exps2 (L : FVec Ideal S17408x2 .f32) : FVec Ideal S17408x2 .f32 :=
  Host.exp (subf L (broadcastInDim S17408x2 ![0, 1] bcast_S17408x1_S17408x2_0_1 (broadcastInDim S17408x1 ![0] bcast_S17408_S17408x1_0
    (maximumf (broadcastInDim S17408 ![] bcast_S_S17408 (constant S_ .f32 0xFF800000#32))
      (Host.reduce FloatOps.maximumf L (constant S_ .f32 0xFF800000#32) reducesTo_S17408x2_S17408_d1 h_S_)))))

def soft2 (L : FVec Ideal S17408x2 .f32) : FVec Ideal S17408x2 .f32 :=
  Host.divf (exps2 L) (broadcastInDim S17408x2 ![0, 1] bcast_S17408x1_S17408x2_0_1 (broadcastInDim S17408x1 ![0] bcast_S17408_S17408x1_0
    (Host.reduceAdd (exps2 L) (constant S_ .f32 0x00000000#32) reducesTo_S17408x2_S17408_d1 h_S_)))

/-- The table: the experts' numbers, their gates, zeros. -/
def lay (I : IVec S17408 32) (J : IVec S17408x2 32) (p : FVec Ideal S17408x1 .f32) (s : FVec Ideal S17408x2 .f32) : FVec Ideal S17408x128 .f32 :=
  concatenate S17408x128 1 [⟨S17408x2, sitofp .f32 (addi (broadcastInDim S17408x2 ![0, 1] bcast_S17408x1_S17408x2_0_1
      (muli (broadcastInDim S17408x1 ![0] bcast_S17408_S17408x1_0 I) (broadcastInDim S17408x1 ![] bcast_S_S17408x1 (constantI S_ 32 8#32)))) J)⟩,
    ⟨S17408x2, mulf (broadcastInDim S17408x2 ![0, 1] bcast_S17408x1_S17408x2_0_1 p) s⟩,
    ⟨S17408x124, broadcastInDim S17408x124 ![] bcast_S_S17408x124 (constant S_ .f32 0x00000000#32)⟩]
    concatenates_S17408x2_S17408x2_S17408x124_S17408x128_d1

def top2 (V : FVec Ideal S17408x8 .f32) := Host.topK S17408x2 1 (FloatOps.cmpfTotal (F := Ideal) (φ := .f32) .gt) V sliceFits_S17408x8_S17408x2

/-- All the steps from the rows on. -/
def steps (h : FVec Ideal S17408x1024 .f32) (w : FVec Ideal S1024x4 .f32) (b : FVec Ideal S4 .f32) (u : FVec Ideal S1024x32 .f32) (d : FVec Ideal S32 .f32) :
    FVec Ideal S17408x128 .f32 :=
  lay (first (logit4 h w b)) (top2 (chosen8 (logit32 h u d) (first (logit4 h w b)))).2 (prob (logit4 h w b))
    (soft2 (top2 (chosen8 (logit32 h u d) (first (logit4 h w b)))).1)

theorem steps_eq (x0 : FVec Ideal S17408x1024 .f32) (x1 : FVec Ideal S8x6x1024 .f32) (x2 x3 x4 : FVec Ideal S17408x512 .bf16)
    (x5 : FVec Ideal S1024x6944 .f32) (x6 : FVec Ideal S6944 .f32) (x7 x8 x9 : FVec Ideal S512x1024 .f32)
    (x10 : FVec Ideal S1024x1024 .f32) (x11 x12 : FVec Ideal S1024 .f32) (x13 : FVec Ideal S1024x4 .f32) (x14 : FVec Ideal S4 .f32)
    (x15 : FVec Ideal S1024x32 .f32) (x16 : FVec Ideal S32 .f32) :
    Cert.ReferenceRouteIdeal.Read.val_main_v193 (F := Ideal) x0 x1 x2 x3 x4 x5 x6 x7 x8 x9 x10 x11 x12 x13 x14 x15 x16
      = steps (Cert.ReferenceRouteIdeal.Read.val_main_v147 (F := Ideal) x0 x1 x2 x3 x4 x5 x6 x7 x8 x9 x10 x11 x12) x13 x14 x15 x16 := rfl

theorem logit4_at (h : FVec Ideal S17408x1024 .f32) (w : FVec Ideal S1024x4 .f32) (b : FVec Ideal S4 .f32) (r : Fin 17408) (j : Fin 4) :
    logit4 h w b (ix2 r j) = dense (fun l => h (ix2 r l)) (fun l => w (ix2 l j)) (b (ix1 j)) := by
  pointwise [logit4, dense]

theorem logit32_at (h : FVec Ideal S17408x1024 .f32) (w : FVec Ideal S1024x32 .f32) (b : FVec Ideal S32 .f32) (r : Fin 17408) (j : Fin 32) :
    logit32 h w b (ix2 r j) = dense (fun l => h (ix2 r l)) (fun l => w (ix2 l j)) (b (ix1 j)) := by
  pointwise [logit32, dense]

/-- The softmax of a few values, with the greatest taken off first. -/
def soft {n : ℕ} (f : Fin n → EReal) (j : Fin n) : EReal :=
  Ideal.div (Ideal.exp (f j - max (Ideal.ofBits .f32 4286578688#32) (peak f))) (∑ i, Ideal.exp (f i - max (Ideal.ofBits .f32 4286578688#32) (peak f)))

theorem exps4_at (L : FVec Ideal S17408x4 .f32) (r : Fin 17408) (j : Fin 4) :
    exps4 L (ix2 r j) = Ideal.exp (L (ix2 r j) - max (Ideal.ofBits .f32 4286578688#32) (peak fun c => L (ix2 r c))) := by
  pointwise [exps4, peak]

theorem exps2_at (L : FVec Ideal S17408x2 .f32) (r : Fin 17408) (j : Fin 2) :
    exps2 L (ix2 r j) = Ideal.exp (L (ix2 r j) - max (Ideal.ofBits .f32 4286578688#32) (peak fun c => L (ix2 r c))) := by
  pointwise [exps2, peak]

theorem soft4_at (L : FVec Ideal S17408x4 .f32) (r : Fin 17408) (j : Fin 4) : soft4 L (ix2 r j) = soft (fun c => L (ix2 r c)) j := by
  have e := exps4_at L r
  unfold soft4 soft
  generalize exps4 L = T at e ⊢
  simp only [← e]
  pointwise

theorem soft2_at (L : FVec Ideal S17408x2 .f32) (r : Fin 17408) (j : Fin 2) : soft2 L (ix2 r j) = soft (fun c => L (ix2 r c)) j := by
  have e := exps2_at L r
  unfold soft2 soft
  generalize exps2 L = T at e ⊢
  simp only [← e]
  pointwise

theorem prob_at (L : FVec Ideal S17408x4 .f32) (r : Fin 17408) : prob L (ix2 r 0) = peak (soft fun c => L (ix2 r c)) := by
  have e := funext (soft4_at L r)
  unfold prob
  rw [← e]
  generalize soft4 L = T
  pointwise [peak]

theorem first_ix (L : FVec Ideal S17408x4 .f32) (r : Fin 17408) (g : Fin 4) (hg : IsTop (fun c => L (ix2 r c)) g) :
    first L (ix1 r) = BitVec.ofNat 32 g.val := by
  have e : first L (ix1 r) = (Host.topK S17408x1 1 (FloatOps.cmpfTotal (F := Ideal) (φ := .f32) .gt) L sliceFits_S17408x4_S17408x1).2 (ix2 r 0) := by
    unfold first
    generalize (Host.topK S17408x1 1 (FloatOps.cmpfTotal (F := Ideal) (φ := .f32) .gt) L sliceFits_S17408x4_S17408x1).2 = T
    pointwise
  rw [e]
  refine (places_at L _ (by omega) r 0).trans ?_
  rw [first_at (by omega) _ g hg]

theorem same_word (g k : Fin 4) : FloatOps.uitofp (F := Ideal) .f32 (IntOp.cmpi .eq (BitVec.ofNat 32 g.val) (BitVec.ofNat 32 k.val)) = if k = g then 1 else 0 := by
  have h : ∀ g k : Fin 4, IntOp.cmpi .eq (BitVec.ofNat 32 g.val) (BitVec.ofNat 32 k.val) = if k = g then 1#1 else 0#1 := by decide +kernel
  rw [h]
  split
  · show (((1#1 : BitVec 1).toNat : ℝ) : EReal) = 1
    simp
  · show (((0#1 : BitVec 1).toNat : ℝ) : EReal) = 0
    simp

theorem chosen8_at (U : FVec Ideal S17408x32 .f32) (I : IVec S17408 32) (r : Fin 17408) (g : Fin 4) (hI : I (ix1 r) = BitVec.ofNat 32 g.val) (i : Fin 8) :
    chosen8 U I (ix2 r i) = U (ix2 r ⟨8 * g.val + i.val, by omega⟩) := by
  pointwise [chosen8]
  simp only [hI, same_word]
  rw [Finset.sum_eq_single g (fun x _ hx => by rw [if_neg hx, mul_zero]) (fun h => absurd (Finset.mem_univ _) h), if_pos rfl, mul_one]
  exact congrArg (fun k => U (ix2 r k)) (Fin.ext (by dsimp only; omega))

theorem lay_at (I : IVec S17408 32) (J : IVec S17408x2 32) (p : FVec Ideal S17408x1 .f32) (s : FVec Ideal S17408x2 .f32) (r : Fin 17408) (c : Fin 128) :
    lay I J p s (ix2 r c) = if h : c.val < 2 then FloatOps.sitofp (F := Ideal) .f32 (IntOp.addi (IntOp.muli (I (ix1 r)) 8#32) (J (ix2 r ⟨c.val, h⟩)))
      else if h' : c.val < 4 then p (ix2 r 0) * s (ix2 r ⟨c.val - 2, by omega⟩) else 0 := by
  pointwise [lay]
  split
  · rfl
  · split
    · rw [dif_pos (show c.val < 4 by omega)]
    · rw [dif_neg (show ¬c.val < 4 by omega)]

theorem soft_top {n : ℕ} (f : Fin n → EReal) (k : Fin n) (h : IsTop f k) (j : Fin n) :
    soft f j = Ideal.div (Ideal.exp (f j - f k)) (∑ i, Ideal.exp (f i - f k)) := by
  unfold soft
  rw [peak_eq f k h, Cert.Lanes.word_bot, max_eq_right bot_le]

/-- The sum of numbers' exponentials is a positive number. -/
theorem exps_num {n : ℕ} (f : Fin n → EReal) (k : Fin n) (hf : ∀ j, IsNum (f j)) :
    ∃ (s : ℝ) (e : Fin n → ℝ), 0 < s ∧ (∑ i, Ideal.exp (f i - f k)) = (s : EReal) ∧ (∀ i, Ideal.exp (f i - f k) = (e i : EReal))
      ∧ e k = 1 ∧ (∀ i, f i ≤ f k → e i ≤ 1) ∧ (∀ i, f i < f k → e i < 1) := by
  choose v hv using hf
  have he : ∀ i, Ideal.exp (f i - f k) = ((Real.exp (v i - v k) : ℝ) : EReal) := fun i => by
    rw [hv i, hv k, ← EReal.coe_sub, Ideal.exp_coe]
  refine ⟨∑ i, Real.exp (v i - v k), fun i => Real.exp (v i - v k), ?_, ?_, he, ?_, fun i h => ?_, fun i h => ?_⟩
  · exact Finset.sum_pos (fun i _ => Real.exp_pos _) ⟨k, Finset.mem_univ k⟩
  · rw [← Cert.Lanes.coe_sum]
    exact Finset.sum_congr rfl fun i _ => he i
  · simp
  · rw [hv i, hv k, EReal.coe_le_coe_iff] at h
    exact Real.exp_le_one_iff.mpr (by linarith)
  · rw [hv i, hv k, EReal.coe_lt_coe_iff] at h
    exact (Real.exp_lt_exp.mpr (by linarith)).trans_eq Real.exp_zero

theorem prob_top {n : ℕ} (f : Fin n → EReal) (k : Fin n) (hf : ∀ j, IsNum (f j)) (h : IsTop f k) :
    peak (soft f) = Ideal.div 1 (∑ i, Ideal.exp (f i - f k)) := by
  obtain ⟨s, e, hs, es, ee, e1, le, lt⟩ := exps_num f k hf
  have hp : ∀ j, soft f j = ((e j * (1 / s) : ℝ) : EReal) := fun j => by
    rw [soft_top f k h, es, ee, Ideal.div_coe hs.ne', EReal.coe_mul]
  have pos : 0 < 1 / s := one_div_pos.mpr hs
  rw [peak_eq (soft f) k ⟨fun j => ?_, fun j hj => ?_⟩, hp, e1, es, Ideal.div_coe hs.ne', one_mul, one_mul]
  · rw [hp, hp, EReal.coe_le_coe_iff, e1]
    exact mul_le_mul_of_nonneg_right (le j (h.1 j)) pos.le
  · rw [hp, hp, EReal.coe_lt_coe_iff, e1]
    exact mul_lt_mul_of_pos_right (lt j (h.2 j hj)) pos

/-- A token's row of the table. -/
theorem steps_at (h : FVec Ideal S17408x1024 .f32) (w : FVec Ideal S1024x4 .f32) (b : FVec Ideal S4 .f32) (u : FVec Ideal S1024x32 .f32) (d : FVec Ideal S32 .f32)
    (r : Fin 17408) (G : Fin 4 → EReal) (E : Fin 4 → Fin 8 → EReal)
    (hG : ∀ j, dense (fun l => h (ix2 r l)) (fun l => w (ix2 l j)) (b (ix1 j)) = G j)
    (hE : ∀ (j : Fin 4) (i : Fin 8), dense (fun l => h (ix2 r l)) (fun l => u (ix2 l ⟨8 * j.val + i.val, by omega⟩)) (d (ix1 ⟨8 * j.val + i.val, by omega⟩)) = E j i)
    (nG : ∀ j, IsNum (G j)) (nE : ∀ j i, IsNum (E j i)) (g : Fin 4) (a k : Fin 8) (hg : IsTop G g) (ha : IsTop (E g) a)
    (hk : IsTop (fun i => if i = a then ⊥ else E g i) k) (hka : k ≠ a) (c : Fin 128) :
    steps h w b u d (ix2 r c) = entry G E g a k c := by
  have eL : (fun j => logit4 h w b (ix2 r j)) = G := funext fun j => (logit4_at h w b r j).trans (hG j)
  have eI : first (logit4 h w b) (ix1 r) = BitVec.ofNat 32 g.val := first_ix _ r g (eL ▸ hg)
  have eV : (fun i => chosen8 (logit32 h u d) (first (logit4 h w b)) (ix2 r i)) = E g := funext fun i =>
    (chosen8_at _ _ r g eI i).trans ((logit32_at h u d r _).trans (hE g i))
  have eP : prob (logit4 h w b) (ix2 r 0) = Ideal.div 1 (∑ j, Ideal.exp (G j - G g)) := by
    rw [prob_at, eL, prob_top G g nG hg]
  unfold steps
  rw [lay_at, eI, eP]
  generalize chosen8 (logit32 h u d) (first (logit4 h w b)) = V at eV ⊢
  have eJ : ∀ j : Fin 2, (top2 V).2 (ix2 r j) = BitVec.ofNat 32 (if j = 0 then a else k).val := fun j => by
    refine (places_at V _ (by omega) r j).trans ?_
    rw [eV, two_at (by omega) (E g) a k hka ha hk j]
  have eS : (fun j => (top2 V).1 (ix2 r j)) = fun j : Fin 2 => E g (if j = 0 then a else k) := funext fun j => by
    refine (values_at V _ (by omega) r j).trans ((congrFun eV _).trans ?_)
    rw [eV, two_at (by omega) (E g) a k hka ha hk j]
  have ht : IsTop (fun j : Fin 2 => E g (if j = 0 then a else k)) 0 := ⟨fun j => ha.1 _, fun j hj => absurd hj (Nat.not_lt_zero _)⟩
  have eT : ∀ j : Fin 2, soft2 (top2 V).1 (ix2 r j)
      = Ideal.div (Ideal.exp (E g (if j = 0 then a else k) - E g a)) (1 + Ideal.exp (E g k - E g a)) := fun j => by
    rw [soft2_at, eS, soft_top _ 0 ht, Fin.sum_univ_two]
    obtain ⟨s, e, -, -, ee, e1, -, -⟩ := exps_num (fun _ : Fin 1 => E g a) 0 (fun _ => nE g a)
    have z : Ideal.exp (E g a - E g a) = 1 := (ee 0).trans (by rw [e1]; rfl)
    simp only [if_pos, z]
    rfl
  simp only [eJ, eT]
  obtain ⟨s, e, hs, es, ee, e1, le, lt⟩ := exps_num (fun j : Fin 2 => E g (if j = 0 then a else k)) 0 (fun j => nE g _)
  have e2 : Ideal.exp (E g k - E g a) = (e 1 : EReal) := ee 1
  have e0 : Ideal.exp (E g a - E g a) = 1 := (ee 0).trans (by rw [e1]; rfl)
  have ed : (1 + Ideal.exp (E g k - E g a)) = (s : EReal) := by
    rw [← es, Fin.sum_univ_two]
    show _ = Ideal.exp (E g a - E g a) + Ideal.exp (E g k - E g a)
    rw [e0]
  unfold entry
  rw [ed]
  generalize Ideal.div 1 (∑ j, Ideal.exp (G j - G g)) = p
  by_cases c0 : c.val = 0
  · rw [dif_pos (by omega), if_pos c0, if_pos (Fin.ext c0)]
  by_cases c1 : c.val = 1
  · rw [dif_pos (by omega), if_neg c0, if_pos c1, if_neg (fun q => c0 (congrArg Fin.val q))]
  by_cases c2 : c.val = 2
  · rw [dif_neg (by omega), dif_pos (by omega), if_neg c0, if_neg c1, if_pos c2, if_pos (Fin.ext (by show c.val - 2 = 0; omega)), e0,
      Ideal.div_coe hs.ne', Ideal.div_coe hs.ne', one_mul]
  by_cases c3 : c.val = 3
  · rw [dif_neg (by omega), dif_pos (by omega), if_neg c0, if_neg c1, if_neg c2, if_pos c3,
      if_neg (fun q => by have := congrArg Fin.val q; dsimp only at this; omega), Ideal.div_coe hs.ne', Ideal.div_coe hs.ne', mul_assoc]
  · rw [dif_neg (by omega), dif_neg (by omega), if_neg c0, if_neg c1, if_neg c2, if_neg c3]

end Cert.ReferenceRouteIdeal.Step

end
-- ==== Proof.RouteMeet.lean ====
/-
A token's row of the routing table: the kernel's and the reference's are the same, where the last shift and scale and the router's weights are numbers.
-/
module

public import proofs.«01_k».proof.Proof.Gen.Pre_sound
public import proofs.«01_k».proof.Proof.Finite
public import proofs.«01_k».proof.Proof.Merge
public import proofs.«01_k».proof.Proof.RouteArray
public import proofs.«01_k».proof.Proof.RouteNum
public import proofs.«01_k».proof.Proof.RouteRef

@[expose] public section

set_option maxRecDepth 16384

noncomputable section

open Idealize.ShloMosaic Idealize.ShloMosaic.TcCoe Idealize.SL.Sem

namespace Cert.Route

open Cert.Rows Cert.Lanes Cert.KernelMergeIdeal.Array Cert.KernelMergeIdeal.Tables

/-- Where an array's entries are finite. -/
def mark {s : Shape} (x : s.Idx → EReal) : IVec s 1 := fun y =>
  Ideal.cmp .olt (max (x y) (-(x y))) (Ideal.ofBits .f32 0x7F800000#32)

theorem mark_num {s : Shape} (x : s.Idx → EReal) (h : mark x = fun _ => 1#1) (y : s.Idx) : IsNum (x y) :=
  Cert.Finite.num_of_lt _ (congrFun h y)

section
variable (X : FVec Ideal KernelMergeIdeal.S17408x1024 .f32) (M : FVec Ideal KernelMergeIdeal.S8x6x1024 .f32)
  (OA OB OC : FVec Ideal KernelMergeIdeal.S17408x512 .bf16) (W : FVec Ideal KernelMergeIdeal.S1024x6944 .f32)
  (B : FVec Ideal KernelMergeIdeal.S6944 .f32) (WA WB WC : FVec Ideal KernelMergeIdeal.S512x1024 .f32)
  (WO : FVec Ideal KernelMergeIdeal.S1024x1024 .f32) (LG LB : FVec Ideal KernelMergeIdeal.S1024 .f32)
  (R : FVec Ideal KernelMergeIdeal.S1024x4 .f32) (S : FVec Ideal KernelMergeIdeal.S4 .f32)
  (U : FVec Ideal KernelMergeIdeal.S1024x32 .f32) (V : FVec Ideal KernelMergeIdeal.S32 .f32)

open Cert.Pre_sound Cert.Pre_sound.Gen in
/-- The precondition, output by output. -/
theorem fn_eq : Cert.Pre_sound.fn (F := Ideal) X M OA OB OC W B WA WB WC WO LG LB R S U V
    = (mark (extractStridedSlice S8x2x1024 ![0, 3, 0] M slices_S8x6x1024_S8x2x1024_0_3_0), mark R, mark S, mark U, mark V) := rfl

/-- The last shift and scale and the router's weights are numbers. -/
structure Sound : Prop where
  m : ∀ (g : Fin 8) (k : Fin 2) (e : Fin 1024), IsNum (M (ix3 g ⟨3 + k.val, by omega⟩ e))
  r : ∀ y, IsNum (R y)
  s : ∀ y, IsNum (S y)
  u : ∀ y, IsNum (U y)
  v : ∀ y, IsNum (V y)

theorem Sound.of (h : Cert.Pre_sound.fn (F := Ideal) X M OA OB OC W B WA WB WC WO LG LB R S U V
    = (fun _ => 1#1, fun _ => 1#1, fun _ => 1#1, fun _ => 1#1, fun _ => 1#1)) : Sound M R S U V := by
  rw [fn_eq] at h
  simp only [Prod.mk.injEq] at h
  obtain ⟨h0, h1, h2, h3, h4⟩ := h
  refine ⟨fun g k e => ?_, mark_num R h1, mark_num S h2, mark_num U h3, mark_num V h4⟩
  have q := mark_num _ h0 (ix3 g k e)
  refine Eq.mp (congrArg IsNum ?_) q
  pointwise

/-- Of a group's eight numbers, the second greatest is another than the greatest. -/
theorem other (f : Fin 8 → EReal) (a k : Fin 8) (hf : ∀ i, IsNum (f i)) (hk : IsTop (fun i => if i = a then ⊥ else f i) k) : k ≠ a := by
  intro h
  obtain ⟨i, hi⟩ : ∃ i : Fin 8, i ≠ a := exists_ne a
  have q := hk.1 i
  simp only [if_pos h, if_neg hi] at q
  exact num_ne (hf i) (le_bot_iff.mp q)

set_option maxHeartbeats 1000000 in
theorem meet (hs : Sound M R S U V) (t : Fin 17408) (c : Fin 128) :
    all17 X M OA OB OC (packG W) (packH B) (packM WA) (packM WB) (packM WC) (packO WO) (packV LG) (packV LB) (packR R U) (packS S V) (ix2 t c)
      = Cert.ReferenceRouteIdeal.Step.steps (Cert.ReferenceMergeIdeal.Read.val_main_v147 (F := Ideal) X M OA OB OC W B WA WB WC WO LG LB) R S U V (ix2 t c) := by
  have hrow := Cert.Merge.rows X M OA OB OC W B WA WB WC WO LG LB t
  have hsec := funext (Cert.ReferenceMergeIdeal.Result.second X M OA OB OC W B WA WB WC WO LG LB t)
  have hn : ∀ l, IsNum (modulate (Cert.ReferenceMergeIdeal.Result.row X M OA OB OC W B WA WB WC WO LG LB t) (fun e => M (ix3 (group t) 3 e)) (fun e => M (ix3 (group t) 4 e)) l) :=
    fun l => num_modulate _ _ _ (fun e => hs.m _ 0 e) (fun e => hs.m _ 1 e) l
  show table (fun k => dense (modulate (row X M OA OB OC (packG W) (packH B) (packM WA) (packM WB) (packM WC) (packO WO) (packV LG) (packV LB) t) (fun e => M (ix3 (group t) 3 e)) (fun e => M (ix3 (group t) 4 e)))
    (fun l => packR R U (ix2 l k)) (packS S V (ix2 0 k))) c = _
  rw [hrow]
  generalize Cert.ReferenceMergeIdeal.Read.val_main_v147 (F := Ideal) X M OA OB OC W B WA WB WC WO LG LB = Q at hsec ⊢
  generalize modulate (Cert.ReferenceMergeIdeal.Result.row X M OA OB OC W B WA WB WC WO LG LB t) (fun e => M (ix3 (group t) 3 e)) (fun e => M (ix3 (group t) 4 e)) = h at hsec hn ⊢
  obtain ⟨G, hG⟩ : ∃ G : Fin 4 → EReal, ∀ j, dense h (fun l => R (ix2 l j)) (S (ix1 j)) = G j := ⟨_, fun _ => rfl⟩
  obtain ⟨E, hE⟩ : ∃ E : Fin 4 → Fin 8 → EReal, ∀ (j : Fin 4) (i : Fin 8), dense h (fun l => U (ix2 l ⟨8 * j.val + i.val, by omega⟩)) (V (ix1 ⟨8 * j.val + i.val, by omega⟩)) = E j i :=
    ⟨fun j i => dense h (fun l => U (ix2 l ⟨8 * j.val + i.val, by omega⟩)) (V (ix1 ⟨8 * j.val + i.val, by omega⟩)), fun _ _ => rfl⟩
  have nG : ∀ j, IsNum (G j) := fun j => hG j ▸ num_dense _ _ _ hn (fun l => hs.r _) (hs.s _)
  have nE : ∀ j i, IsNum (E j i) := fun j i => hE j i ▸ num_dense _ _ _ hn (fun l => hs.u _) (hs.v _)
  obtain ⟨g, hg⟩ := exists_top (by omega) G
  obtain ⟨a, ha⟩ := exists_top (by omega) (E g)
  obtain ⟨k, hk⟩ := exists_top (by omega) (fun i => if i = a then ⊥ else E g i)
  refine (table_eq _ G E (fun j => ?_) (fun j i => ?_) nG nE g a k hg ha hk c).trans
    (Cert.ReferenceRouteIdeal.Step.steps_at Q R S U V t G E (fun j => ?_) (fun j i => ?_) nG nE g a k hg ha hk (other _ a k (nE g) hk) c).symm
  · rw [← hG j, packS_lo S V _ j rfl]
    exact congrArg (fun w => dense h w _) (funext fun l => packR_lo R U l _ j rfl)
  · rw [← hE j i, packS_hi S V _ ⟨8 * j.val + i.val, by omega⟩ (by dsimp only; omega)]
    exact congrArg (fun w => dense h w _) (funext fun l => packR_hi R U l _ ⟨8 * j.val + i.val, by omega⟩ (by dsimp only; omega))
  · rw [← hG j, hsec]
  · rw [← hE j i, hsec]

end

end Cert.Route

end
-- ==== Proof.Route.lean ====
/-
The claims about the routing table, the merge's third result.
-/
module

public import proofs.«01_k».proof.Defs
public import proofs.«01_k».proof.Proof.Gen.KernelRoute.Frame
public import proofs.«01_k».proof.Proof.Gen.KernelRouteIdeal.Frame
public import proofs.«01_k».proof.Proof.Gen.KernelRouteIdeal.Value
public import proofs.«01_k».proof.Proof.Gen.ReferenceRouteIdeal.Run
public import proofs.«01_k».proof.Proof.RouteMeet

@[expose] public section

set_option maxRecDepth 16384

noncomputable section

open Idealize.ShloMosaic Idealize.ShloMosaic.TcCoe Idealize.SL.Sem

namespace Cert.Route

open Cert.KernelMergeIdeal.Array Cert.KernelMergeIdeal.Tables

theorem frame_p : Cert.quiescent_KernelRoute := fun m ρ _ => Cert.KernelRoute.Gen.frame m ρ

theorem frame_pi : Cert.quiescent_KernelRouteIdeal := fun m ρ _ => Cert.KernelRouteIdeal.Gen.frame m ρ

theorem frame_pi_pre : Cert.quiescent_KernelRouteIdeal_pre_sound := fun m ρ _ => Cert.KernelRouteIdeal.Gen.frame m ρ

theorem frame_ri : Cert.quiescent_ReferenceRouteIdeal := fun m ρ _ =>
  (θ_run Cert.ReferenceRouteIdeal.defs _ _).mono
    (fun r h => ⟨fun c => (h c).2, Idealize.ShloMosaic.sem_eq_zero_of_no_sems (by decide) r.2⟩) (Cert.ReferenceRouteIdeal.Value.run m ρ)

theorem frame_ri_pre : Cert.quiescent_ReferenceRouteIdeal_pre_sound := fun m ρ _ => frame_ri m ρ trivial

theorem preserves : Cert.preserves_KernelRoute_KernelRouteIdeal := trivial

/-- The merge's run leaves the table in its third array. -/
theorem left (m : (ℓ : Loc KernelMergeIdeal.nD KernelMergeIdeal.τ KernelMergeIdeal.sig) → Buf (Elt Ideal) ℓ) (c : Dev KernelMergeIdeal.nD) :
    (Cert.KernelMergeIdeal.Gen.dats (F := Ideal) m 0 c).arrAt 17 Cert.KernelMergeIdeal.cfg0.N
      = all17 (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (packG (m ((c.tc : Thread Cert.KernelMergeIdeal.nD Cert.KernelMergeIdeal.τ).loc Cert.KernelMergeIdeal.main_arg5))) (packH (m ((c.tc : Thread Cert.KernelMergeIdeal.nD Cert.KernelMergeIdeal.τ).loc Cert.KernelMergeIdeal.main_arg6))) (packM (m ((c.tc : Thread Cert.KernelMergeIdeal.nD Cert.KernelMergeIdeal.τ).loc Cert.KernelMergeIdeal.main_arg7))) (packM (m ((c.tc : Thread Cert.KernelMergeIdeal.nD Cert.KernelMergeIdeal.τ).loc Cert.KernelMergeIdeal.main_arg8))) (packM (m ((c.tc : Thread Cert.KernelMergeIdeal.nD Cert.KernelMergeIdeal.τ).loc Cert.KernelMergeIdeal.main_arg9))) (packO (m ((c.tc : Thread Cert.KernelMergeIdeal.nD Cert.KernelMergeIdeal.τ).loc Cert.KernelMergeIdeal.main_arg10))) (packV (m ((c.tc : Thread Cert.KernelMergeIdeal.nD Cert.KernelMergeIdeal.τ).loc Cert.KernelMergeIdeal.main_arg11))) (packV (m ((c.tc : Thread Cert.KernelMergeIdeal.nD Cert.KernelMergeIdeal.τ).loc Cert.KernelMergeIdeal.main_arg12))) (packR (m ((c.tc : Thread Cert.KernelMergeIdeal.nD Cert.KernelMergeIdeal.τ).loc Cert.KernelMergeIdeal.main_arg13)) (m ((c.tc : Thread Cert.KernelMergeIdeal.nD Cert.KernelMergeIdeal.τ).loc Cert.KernelMergeIdeal.main_arg15))) (packS (m ((c.tc : Thread Cert.KernelMergeIdeal.nD Cert.KernelMergeIdeal.τ).loc Cert.KernelMergeIdeal.main_arg14)) (m ((c.tc : Thread Cert.KernelMergeIdeal.nD Cert.KernelMergeIdeal.τ).loc Cert.KernelMergeIdeal.main_arg16))) := by
  obtain ⟨g0, g1, g2, g3, g4⟩ := Cert.Merge.given m c
  rw [final17, g0, g1, g2, g3, g4, held5, held6, held7, held8, held9, held10, held11, held12, held13, held14]

/-- The two programs that call the merge run the same kernel. -/
theorem alike (m : (ℓ : Loc Cert.KernelRouteIdeal.nD Cert.KernelRouteIdeal.τ Cert.KernelRouteIdeal.sig) → Buf (Elt Ideal) ℓ) (c : Dev Cert.KernelRouteIdeal.nD) :
    (Cert.KernelRouteIdeal.Gen.dats m 0 c).arrAt 17 Cert.KernelRouteIdeal.cfg0.N
      = (Cert.KernelMergeIdeal.Gen.dats (F := Ideal) m 0 c).arrAt 17 Cert.KernelMergeIdeal.cfg0.N := rfl

theorem value (m : (ℓ : Loc Cert.KernelRouteIdeal.nD Cert.KernelRouteIdeal.τ Cert.KernelRouteIdeal.sig) → Buf (Elt Ideal) ℓ) (c : Dev Cert.KernelRouteIdeal.nD) :
    (Cert.KernelRouteIdeal.Gen.dats m 0 c).arrAt 17 Cert.KernelRouteIdeal.cfg0.N
      = all17 (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (packG (m ((c.tc : Thread Cert.KernelRouteIdeal.nD Cert.KernelRouteIdeal.τ).loc Cert.KernelRouteIdeal.main_arg5))) (packH (m ((c.tc : Thread Cert.KernelRouteIdeal.nD Cert.KernelRouteIdeal.τ).loc Cert.KernelRouteIdeal.main_arg6))) (packM (m ((c.tc : Thread Cert.KernelRouteIdeal.nD Cert.KernelRouteIdeal.τ).loc Cert.KernelRouteIdeal.main_arg7))) (packM (m ((c.tc : Thread Cert.KernelRouteIdeal.nD Cert.KernelRouteIdeal.τ).loc Cert.KernelRouteIdeal.main_arg8))) (packM (m ((c.tc : Thread Cert.KernelRouteIdeal.nD Cert.KernelRouteIdeal.τ).loc Cert.KernelRouteIdeal.main_arg9))) (packO (m ((c.tc : Thread Cert.KernelRouteIdeal.nD Cert.KernelRouteIdeal.τ).loc Cert.KernelRouteIdeal.main_arg10))) (packV (m ((c.tc : Thread Cert.KernelRouteIdeal.nD Cert.KernelRouteIdeal.τ).loc Cert.KernelRouteIdeal.main_arg11))) (packV (m ((c.tc : Thread Cert.KernelRouteIdeal.nD Cert.KernelRouteIdeal.τ).loc Cert.KernelRouteIdeal.main_arg12))) (packR (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg15))) (packS (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg16))) :=
  (alike m c).trans (left m c)

open Cert.ReferenceRouteIdeal in
/-- The two references make the same rows. -/
theorem before (x0 : FVec Ideal S17408x1024 .f32) (x1 : FVec Ideal S8x6x1024 .f32) (x2 x3 x4 : FVec Ideal S17408x512 .bf16)
    (x5 : FVec Ideal S1024x6944 .f32) (x6 : FVec Ideal S6944 .f32) (x7 x8 x9 : FVec Ideal S512x1024 .f32)
    (x10 : FVec Ideal S1024x1024 .f32) (x11 x12 : FVec Ideal S1024 .f32) :
    Cert.ReferenceRouteIdeal.Read.val_main_v147 (F := Ideal) x0 x1 x2 x3 x4 x5 x6 x7 x8 x9 x10 x11 x12 = Cert.ReferenceMergeIdeal.Read.val_main_v147 (F := Ideal) x0 x1 x2 x3 x4 x5 x6 x7 x8 x9 x10 x11 x12 := rfl

set_option maxHeartbeats 2000000 in
theorem algebraic : Cert.algebraic_KernelRouteIdeal_ReferenceRouteIdeal_pre_sound := by
  intro m ρ m' ρ' hpre hagree
  refine ⟨_, (θ_run Cert.KernelRouteIdeal.defs _ _).mono (fun r h c => ⟨(h c).2.2.1.trans (value m c), (h c).2.2.2⟩)
    (Cert.KernelRouteIdeal.Value.run_blocks m ρ), ?_⟩
  refine (θ_run Cert.ReferenceRouteIdeal.defs _ _).mono (fun r h c => ⟨(h c).1.trans ?_, (h c).2⟩)
    (Cert.ReferenceRouteIdeal.Value.run m' ρ')
  refine (Cert.ReferenceRouteIdeal.Read.val_main_v193_eq (F := Ideal) _).trans ?_
  obtain ⟨h0, h1, h2, h3, h4, h5, h6, h7, h8, h9, h10, h11, h12, h13, h14, h15, h16⟩ := hagree c
  obtain ⟨p0, p1, p2, p3, p4⟩ := hpre c
  have hs := Sound.of (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7)) (m ((c.tc : Thread Cert.KernelRouteIdeal.nD Cert.KernelRouteIdeal.τ).loc Cert.KernelRouteIdeal.main_arg8)) (m ((c.tc : Thread Cert.KernelRouteIdeal.nD Cert.KernelRouteIdeal.τ).loc Cert.KernelRouteIdeal.main_arg9)) (m ((c.tc : Thread Cert.KernelRouteIdeal.nD Cert.KernelRouteIdeal.τ).loc Cert.KernelRouteIdeal.main_arg10)) (m ((c.tc : Thread Cert.KernelRouteIdeal.nD Cert.KernelRouteIdeal.τ).loc Cert.KernelRouteIdeal.main_arg11)) (m ((c.tc : Thread Cert.KernelRouteIdeal.nD Cert.KernelRouteIdeal.τ).loc Cert.KernelRouteIdeal.main_arg12)) (m ((c.tc : Thread Cert.KernelRouteIdeal.nD Cert.KernelRouteIdeal.τ).loc Cert.KernelRouteIdeal.main_arg13)) (m ((c.tc : Thread Cert.KernelRouteIdeal.nD Cert.KernelRouteIdeal.τ).loc Cert.KernelRouteIdeal.main_arg14)) (m ((c.tc : Thread Cert.KernelRouteIdeal.nD Cert.KernelRouteIdeal.τ).loc Cert.KernelRouteIdeal.main_arg15)) (m ((c.tc : Thread Cert.KernelRouteIdeal.nD Cert.KernelRouteIdeal.τ).loc Cert.KernelRouteIdeal.main_arg16))
    (Prod.ext p0 (Prod.ext p1 (Prod.ext p2 (Prod.ext p3 p4))))
  show Cert.ReferenceRouteIdeal.Read.val_main_v193 (F := Ideal) (m' ((c.tc : Thread Cert.ReferenceRouteIdeal.nD Cert.ReferenceRouteIdeal.τ).loc Cert.ReferenceRouteIdeal.main_arg0)) (m' ((c.tc : Thread Cert.ReferenceRouteIdeal.nD Cert.ReferenceRouteIdeal.τ).loc Cert.ReferenceRouteIdeal.main_arg1)) (m' ((c.tc : Thread Cert.ReferenceRouteIdeal.nD Cert.ReferenceRouteIdeal.τ).loc Cert.ReferenceRouteIdeal.main_arg2)) (m' ((c.tc : Thread Cert.ReferenceRouteIdeal.nD Cert.ReferenceRouteIdeal.τ).loc Cert.ReferenceRouteIdeal.main_arg3)) (m' ((c.tc : Thread Cert.ReferenceRouteIdeal.nD Cert.ReferenceRouteIdeal.τ).loc Cert.ReferenceRouteIdeal.main_arg4)) (m' ((c.tc : Thread Cert.ReferenceRouteIdeal.nD Cert.ReferenceRouteIdeal.τ).loc Cert.ReferenceRouteIdeal.main_arg5)) (m' ((c.tc : Thread Cert.ReferenceRouteIdeal.nD Cert.ReferenceRouteIdeal.τ).loc Cert.ReferenceRouteIdeal.main_arg6)) (m' ((c.tc : Thread Cert.ReferenceRouteIdeal.nD Cert.ReferenceRouteIdeal.τ).loc Cert.ReferenceRouteIdeal.main_arg7)) (m' ((c.tc : Thread Cert.ReferenceRouteIdeal.nD Cert.ReferenceRouteIdeal.τ).loc Cert.ReferenceRouteIdeal.main_arg8)) (m' ((c.tc : Thread Cert.ReferenceRouteIdeal.nD Cert.ReferenceRouteIdeal.τ).loc Cert.ReferenceRouteIdeal.main_arg9)) (m' ((c.tc : Thread Cert.ReferenceRouteIdeal.nD Cert.ReferenceRouteIdeal.τ).loc Cert.ReferenceRouteIdeal.main_arg10)) (m' ((c.tc : Thread Cert.ReferenceRouteIdeal.nD Cert.ReferenceRouteIdeal.τ).loc Cert.ReferenceRouteIdeal.main_arg11)) (m' ((c.tc : Thread Cert.ReferenceRouteIdeal.nD Cert.ReferenceRouteIdeal.τ).loc Cert.ReferenceRouteIdeal.main_arg12)) (m' ((c.tc : Thread Cert.ReferenceRouteIdeal.nD Cert.ReferenceRouteIdeal.τ).loc Cert.ReferenceRouteIdeal.main_arg13)) (m' ((c.tc : Thread Cert.ReferenceRouteIdeal.nD Cert.ReferenceRouteIdeal.τ).loc Cert.ReferenceRouteIdeal.main_arg14)) (m' ((c.tc : Thread Cert.ReferenceRouteIdeal.nD Cert.ReferenceRouteIdeal.τ).loc Cert.ReferenceRouteIdeal.main_arg15)) (m' ((c.tc : Thread Cert.ReferenceRouteIdeal.nD Cert.ReferenceRouteIdeal.τ).loc Cert.ReferenceRouteIdeal.main_arg16)) = _
  rw [h0, h1, h2, h3, h4, h5, h6, h7, h8, h9, h10, h11, h12, h13, h14, h15, h16]
  clear p0 p1 p2 p3 p4 hpre hagree h0 h1 h2 h3 h4 h5 h6 h7 h8 h9 h10 h11 h12 h13 h14 h15 h16
  generalize m ((c.tc : Thread Cert.KernelRouteIdeal.nD Cert.KernelRouteIdeal.τ).loc Cert.KernelRouteIdeal.main_arg0) = X
  generalize m ((c.tc : Thread Cert.KernelRouteIdeal.nD Cert.KernelRouteIdeal.τ).loc Cert.KernelRouteIdeal.main_arg1) = M at hs ⊢
  generalize m ((c.tc : Thread Cert.KernelRouteIdeal.nD Cert.KernelRouteIdeal.τ).loc Cert.KernelRouteIdeal.main_arg2) = OA
  generalize m ((c.tc : Thread Cert.KernelRouteIdeal.nD Cert.KernelRouteIdeal.τ).loc Cert.KernelRouteIdeal.main_arg3) = OB
  generalize m ((c.tc : Thread Cert.KernelRouteIdeal.nD Cert.KernelRouteIdeal.τ).loc Cert.KernelRouteIdeal.main_arg4) = OC
  generalize m ((c.tc : Thread Cert.KernelRouteIdeal.nD Cert.KernelRouteIdeal.τ).loc Cert.KernelRouteIdeal.main_arg5) = W
  generalize m ((c.tc : Thread Cert.KernelRouteIdeal.nD Cert.KernelRouteIdeal.τ).loc Cert.KernelRouteIdeal.main_arg6) = B
  generalize m ((c.tc : Thread Cert.KernelRouteIdeal.nD Cert.KernelRouteIdeal.τ).loc Cert.KernelRouteIdeal.main_arg7) = WA
  generalize m ((c.tc : Thread Cert.KernelRouteIdeal.nD Cert.KernelRouteIdeal.τ).loc Cert.KernelRouteIdeal.main_arg8) = WB
  generalize m ((c.tc : Thread Cert.KernelRouteIdeal.nD Cert.KernelRouteIdeal.τ).loc Cert.KernelRouteIdeal.main_arg9) = WC
  generalize m ((c.tc : Thread Cert.KernelRouteIdeal.nD Cert.KernelRouteIdeal.τ).loc Cert.KernelRouteIdeal.main_arg10) = WO
  generalize m ((c.tc : Thread Cert.KernelRouteIdeal.nD Cert.KernelRouteIdeal.τ).loc Cert.KernelRouteIdeal.main_arg11) = LG
  generalize m ((c.tc : Thread Cert.KernelRouteIdeal.nD Cert.KernelRouteIdeal.τ).loc Cert.KernelRouteIdeal.main_arg12) = LB
  generalize m ((c.tc : Thread Cert.KernelRouteIdeal.nD Cert.KernelRouteIdeal.τ).loc Cert.KernelRouteIdeal.main_arg13) = R at hs ⊢
  generalize m ((c.tc : Thread Cert.KernelRouteIdeal.nD Cert.KernelRouteIdeal.τ).loc Cert.KernelRouteIdeal.main_arg14) = S at hs ⊢
  generalize m ((c.tc : Thread Cert.KernelRouteIdeal.nD Cert.KernelRouteIdeal.τ).loc Cert.KernelRouteIdeal.main_arg15) = U at hs ⊢
  generalize m ((c.tc : Thread Cert.KernelRouteIdeal.nD Cert.KernelRouteIdeal.τ).loc Cert.KernelRouteIdeal.main_arg16) = V at hs ⊢
  rw [Cert.ReferenceRouteIdeal.Step.steps_eq, before]
  funext y
  obtain ⟨t, j, rfl⟩ : ∃ (t : Fin 17408) (j : Fin 128), y = ix2 t j := ⟨y 0, y 1, eq_ix2 (n0 := 17408) (n1 := 128) y⟩
  exact (meet X M OA OB OC W B WA WB WC WO LG LB R S U V hs t j).symm

end Cert.Route

end
-- ==== Proof.lean ====
/- The claims, assembled behind the witnesses of the programs' stated facts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_named
public import proofs.«01_k».proof.Proof.Gen.Pre_near
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.ReferenceMergeIdeal.Read
public import proofs.«01_k».proof.Proof.Gen.KernelExperts
public import proofs.«01_k».proof.Proof.Gen.KernelExperts.Frame
public import proofs.«01_k».proof.Proof.Gen.KernelExpertsIdeal
public import proofs.«01_k».proof.Proof.Gen.KernelExpertsIdeal.Frame
public import proofs.«01_k».proof.Proof.Gen.ReferenceExpertsIdeal
public import proofs.«01_k».proof.Proof.Gen.ReferenceExpertsIdeal.Run
public import proofs.«01_k».proof.Proof.Gen.ReferenceExpertsIdeal.Read
public import proofs.«01_k».proof.Proof.Gen.KernelMod
public import proofs.«01_k».proof.Proof.Gen.KernelMod.Frame
public import proofs.«01_k».proof.Proof.Gen.KernelModIdeal
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.KernelNa
public import proofs.«01_k».proof.Proof.Gen.KernelNa.Frame
public import proofs.«01_k».proof.Proof.Gen.KernelNaIdeal
public import proofs.«01_k».proof.Proof.Gen.KernelNaIdeal.Frame
public import proofs.«01_k».proof.Proof.Gen.KernelNaIdeal.Value
public import proofs.«01_k».proof.Proof.Gen.ReferenceNaIdeal
public import proofs.«01_k».proof.Proof.Gen.ReferenceNaIdeal.Run
public import proofs.«01_k».proof.Proof.Gen.ReferenceNaIdeal.Read
public import proofs.«01_k».proof.Proof.Gen.KernelRoute
public import proofs.«01_k».proof.Proof.Gen.KernelRoute.Frame
public import proofs.«01_k».proof.Proof.Gen.KernelRouteIdeal
public import proofs.«01_k».proof.Proof.Gen.KernelRouteIdeal.Frame
public import proofs.«01_k».proof.Proof.Gen.KernelRouteIdeal.Value
public import proofs.«01_k».proof.Proof.Gen.ReferenceRouteIdeal
public import proofs.«01_k».proof.Proof.Gen.ReferenceRouteIdeal.Run
public import proofs.«01_k».proof.Proof.Gen.ReferenceRouteIdeal.Read
public import proofs.«01_k».proof.Proof.Gen.Pre_sound
public import proofs.«01_k».proof.Proof.Attention
public import proofs.«01_k».proof.Proof.In
public import proofs.«01_k».proof.Proof.Merge
public import proofs.«01_k».proof.Proof.Experts
public import proofs.«01_k».proof.Proof.Mod
public import proofs.«01_k».proof.Proof.Na
public import proofs.«01_k».proof.Proof.Route
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelMerge.Gen.facts, Cert.KernelMergeIdeal.Gen.facts, Cert.ReferenceMergeIdeal.Gen.facts,
    Cert.KernelExperts.Gen.facts, Cert.KernelExpertsIdeal.Gen.facts, Cert.ReferenceExpertsIdeal.Gen.facts,
    Cert.KernelMod.Gen.facts, Cert.KernelModIdeal.Gen.facts, Cert.ReferenceModIdeal.Gen.facts,
    Cert.KernelNa.Gen.facts, Cert.KernelNaIdeal.Gen.facts, Cert.ReferenceNaIdeal.Gen.facts,
    Cert.KernelRoute.Gen.facts, Cert.KernelRouteIdeal.Gen.facts, Cert.ReferenceRouteIdeal.Gen.facts,
    Cert.Pre_finite.Gen.facts, Cert.Pre_named.Gen.facts, Cert.Pre_near.Gen.facts, Cert.Pre_sound.Gen.facts,
    Attention.frame_p, Attention.frame_pi, Attention.frame_pi_pre, Attention.frame_ri, Attention.frame_ri_pre,
    In.frame_p, In.frame_pi, In.frame_ri, Merge.frame_p, Merge.frame_pi, Merge.frame_ri,
    Experts.frame_p, Experts.frame_pi, Experts.frame_ri, Experts.frame_ri_pre,
    Mod.frame_p, Mod.frame_pi, Mod.frame_ri,
    Na.frame_p, Na.frame_pi, Na.frame_pi_pre, Na.frame_ri, Na.frame_ri_pre,
    Route.frame_p, Route.frame_pi, Route.frame_pi_pre, Route.frame_ri, Route.frame_ri_pre,
    Attention.preserves, Attention.algebraic, In.preserves, In.algebraic, Merge.preserves, Merge.algebraic,
    Experts.preserves, Experts.algebraic, Mod.preserves, Mod.algebraic, Na.preserves, Na.algebraic,
    Route.preserves, Route.algebraic⟩

end Cert.Proof

end
